-- ==== Defs.lean ====
def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeIdeal_tables_and_gates [hPre_tables_and_gates : Cert.Pre_tables_and_gates.Facts] (m : (ℓ : Loc Cert.MoeIdeal.nD Cert.MoeIdeal.τ Cert.MoeIdeal.sig) → Buf (Elt Ideal) ℓ) : Prop :=
  ∀ c : Dev Cert.MoeIdeal.nD,
    (Cert.Pre_tables_and_gates.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables_and_gates [hPre_tables_and_gates : Cert.Pre_tables_and_gates.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_and_gates.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecRefIdeal (m : (ℓ : Loc Cert.DecRefIdeal.nD Cert.DecRefIdeal.τ Cert.DecRefIdeal.sig) → Buf (Elt Ideal) ℓ) : Prop :=
  True

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_tables_and_gates [hMoeIdeal : Cert.MoeIdeal.Facts] [hPre_tables_and_gates : Cert.Pre_tables_and_gates.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_tables_and_gates m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_tables_and_gates [hMoeRefIdeal : Cert.MoeRefIdeal.Facts] [hPre_tables_and_gates : Cert.Pre_tables_and_gates.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables_and_gates m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5)
      ∧ r.2.mem ((c.tc : Thread Cert.Next.nD Cert.Next.τ).loc Cert.Next.main_arg6) = m ((c.tc : Thread Cert.Next.nD Cert.Next.τ).loc Cert.Next.main_arg6)
      ∧ r.2.mem ((c.tc : Thread Cert.Next.nD Cert.Next.τ).loc Cert.Next.main_arg7) = m ((c.tc : Thread Cert.Next.nD Cert.Next.τ).loc Cert.Next.main_arg7)
      ∧ r.2.mem ((c.tc : Thread Cert.Next.nD Cert.Next.τ).loc Cert.Next.main_arg8) = m ((c.tc : Thread Cert.Next.nD Cert.Next.τ).loc Cert.Next.main_arg8)
      ∧ r.2.mem ((c.tc : Thread Cert.Next.nD Cert.Next.τ).loc Cert.Next.main_arg9) = m ((c.tc : Thread Cert.Next.nD Cert.Next.τ).loc Cert.Next.main_arg9))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
      ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
      ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
      ∧ r.2.mem ((c.tc : Thread Cert.NextIdeal.nD Cert.NextIdeal.τ).loc Cert.NextIdeal.main_arg8) = m ((c.tc : Thread Cert.NextIdeal.nD Cert.NextIdeal.τ).loc Cert.NextIdeal.main_arg8)
      ∧ r.2.mem ((c.tc : Thread Cert.NextIdeal.nD Cert.NextIdeal.τ).loc Cert.NextIdeal.main_arg9) = m ((c.tc : Thread Cert.NextIdeal.nD Cert.NextIdeal.τ).loc Cert.NextIdeal.main_arg9))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5)
      ∧ r.2.mem ((c.tc : Thread Cert.NextRefIdeal.nD Cert.NextRefIdeal.τ).loc Cert.NextRefIdeal.main_arg6) = m ((c.tc : Thread Cert.NextRefIdeal.nD Cert.NextRefIdeal.τ).loc Cert.NextRefIdeal.main_arg6)
      ∧ r.2.mem ((c.tc : Thread Cert.NextRefIdeal.nD Cert.NextRefIdeal.τ).loc Cert.NextRefIdeal.main_arg7) = m ((c.tc : Thread Cert.NextRefIdeal.nD Cert.NextRefIdeal.τ).loc Cert.NextRefIdeal.main_arg7)
      ∧ r.2.mem ((c.tc : Thread Cert.NextRefIdeal.nD Cert.NextRefIdeal.τ).loc Cert.NextRefIdeal.main_arg8) = m ((c.tc : Thread Cert.NextRefIdeal.nD Cert.NextRefIdeal.τ).loc Cert.NextRefIdeal.main_arg8)
      ∧ r.2.mem ((c.tc : Thread Cert.NextRefIdeal.nD Cert.NextRefIdeal.τ).loc Cert.NextRefIdeal.main_arg9) = m ((c.tc : Thread Cert.NextRefIdeal.nD Cert.NextRefIdeal.τ).loc Cert.NextRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5)
      ∧ r.2.mem ((c.tc : Thread Cert.Dec.nD Cert.Dec.τ).loc Cert.Dec.main_arg6) = m ((c.tc : Thread Cert.Dec.nD Cert.Dec.τ).loc Cert.Dec.main_arg6)
      ∧ r.2.mem ((c.tc : Thread Cert.Dec.nD Cert.Dec.τ).loc Cert.Dec.main_arg7) = m ((c.tc : Thread Cert.Dec.nD Cert.Dec.τ).loc Cert.Dec.main_arg7)
      ∧ r.2.mem ((c.tc : Thread Cert.Dec.nD Cert.Dec.τ).loc Cert.Dec.main_arg8) = m ((c.tc : Thread Cert.Dec.nD Cert.Dec.τ).loc Cert.Dec.main_arg8)
      ∧ r.2.mem ((c.tc : Thread Cert.Dec.nD Cert.Dec.τ).loc Cert.Dec.main_arg9) = m ((c.tc : Thread Cert.Dec.nD Cert.Dec.τ).loc Cert.Dec.main_arg9)
      ∧ r.2.mem ((c.tc : Thread Cert.Dec.nD Cert.Dec.τ).loc Cert.Dec.main_arg10) = m ((c.tc : Thread Cert.Dec.nD Cert.Dec.τ).loc Cert.Dec.main_arg10)
      ∧ r.2.mem ((c.tc : Thread Cert.Dec.nD Cert.Dec.τ).loc Cert.Dec.main_arg11) = m ((c.tc : Thread Cert.Dec.nD Cert.Dec.τ).loc Cert.Dec.main_arg11)
      ∧ r.2.mem ((c.tc : Thread Cert.Dec.nD Cert.Dec.τ).loc Cert.Dec.main_arg12) = m ((c.tc : Thread Cert.Dec.nD Cert.Dec.τ).loc Cert.Dec.main_arg12)
      ∧ r.2.mem ((c.tc : Thread Cert.Dec.nD Cert.Dec.τ).loc Cert.Dec.main_arg13) = m ((c.tc : Thread Cert.Dec.nD Cert.Dec.τ).loc Cert.Dec.main_arg13)
      ∧ r.2.mem ((c.tc : Thread Cert.Dec.nD Cert.Dec.τ).loc Cert.Dec.main_arg14) = m ((c.tc : Thread Cert.Dec.nD Cert.Dec.τ).loc Cert.Dec.main_arg14)
      ∧ r.2.mem ((c.tc : Thread Cert.Dec.nD Cert.Dec.τ).loc Cert.Dec.main_arg15) = m ((c.tc : Thread Cert.Dec.nD Cert.Dec.τ).loc Cert.Dec.main_arg15)
      ∧ r.2.mem ((c.tc : Thread Cert.Dec.nD Cert.Dec.τ).loc Cert.Dec.main_arg16) = m ((c.tc : Thread Cert.Dec.nD Cert.Dec.τ).loc Cert.Dec.main_arg16)
      ∧ r.2.mem ((c.tc : Thread Cert.Dec.nD Cert.Dec.τ).loc Cert.Dec.main_arg17) = m ((c.tc : Thread Cert.Dec.nD Cert.Dec.τ).loc Cert.Dec.main_arg17))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
      ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
      ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
      ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
      ∧ r.2.mem ((c.tc : Thread Cert.DecIdeal.nD Cert.DecIdeal.τ).loc Cert.DecIdeal.main_arg9) = m ((c.tc : Thread Cert.DecIdeal.nD Cert.DecIdeal.τ).loc Cert.DecIdeal.main_arg9)
      ∧ r.2.mem ((c.tc : Thread Cert.DecIdeal.nD Cert.DecIdeal.τ).loc Cert.DecIdeal.main_arg10) = m ((c.tc : Thread Cert.DecIdeal.nD Cert.DecIdeal.τ).loc Cert.DecIdeal.main_arg10)
      ∧ r.2.mem ((c.tc : Thread Cert.DecIdeal.nD Cert.DecIdeal.τ).loc Cert.DecIdeal.main_arg11) = m ((c.tc : Thread Cert.DecIdeal.nD Cert.DecIdeal.τ).loc Cert.DecIdeal.main_arg11)
      ∧ r.2.mem ((c.tc : Thread Cert.DecIdeal.nD Cert.DecIdeal.τ).loc Cert.DecIdeal.main_arg12) = m ((c.tc : Thread Cert.DecIdeal.nD Cert.DecIdeal.τ).loc Cert.DecIdeal.main_arg12)
      ∧ r.2.mem ((c.tc : Thread Cert.DecIdeal.nD Cert.DecIdeal.τ).loc Cert.DecIdeal.main_arg13) = m ((c.tc : Thread Cert.DecIdeal.nD Cert.DecIdeal.τ).loc Cert.DecIdeal.main_arg13)
      ∧ r.2.mem ((c.tc : Thread Cert.DecIdeal.nD Cert.DecIdeal.τ).loc Cert.DecIdeal.main_arg14) = m ((c.tc : Thread Cert.DecIdeal.nD Cert.DecIdeal.τ).loc Cert.DecIdeal.main_arg14)
      ∧ r.2.mem ((c.tc : Thread Cert.DecIdeal.nD Cert.DecIdeal.τ).loc Cert.DecIdeal.main_arg15) = m ((c.tc : Thread Cert.DecIdeal.nD Cert.DecIdeal.τ).loc Cert.DecIdeal.main_arg15)
      ∧ r.2.mem ((c.tc : Thread Cert.DecIdeal.nD Cert.DecIdeal.τ).loc Cert.DecIdeal.main_arg16) = m ((c.tc : Thread Cert.DecIdeal.nD Cert.DecIdeal.τ).loc Cert.DecIdeal.main_arg16)
      ∧ r.2.mem ((c.tc : Thread Cert.DecIdeal.nD Cert.DecIdeal.τ).loc Cert.DecIdeal.main_arg17) = m ((c.tc : Thread Cert.DecIdeal.nD Cert.DecIdeal.τ).loc Cert.DecIdeal.main_arg17))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m ((c.tc : Thread Cert.DecRefIdeal.nD Cert.DecRefIdeal.τ).loc Cert.DecRefIdeal.main_arg8)
      ∧ r.2.mem ((c.tc : Thread Cert.DecRefIdeal.nD Cert.DecRefIdeal.τ).loc Cert.DecRefIdeal.main_arg9) = m ((c.tc : Thread Cert.DecRefIdeal.nD Cert.DecRefIdeal.τ).loc Cert.DecRefIdeal.main_arg9)
      ∧ r.2.mem ((c.tc : Thread Cert.DecRefIdeal.nD Cert.DecRefIdeal.τ).loc Cert.DecRefIdeal.main_arg10) = m ((c.tc : Thread Cert.DecRefIdeal.nD Cert.DecRefIdeal.τ).loc Cert.DecRefIdeal.main_arg10)
      ∧ r.2.mem ((c.tc : Thread Cert.DecRefIdeal.nD Cert.DecRefIdeal.τ).loc Cert.DecRefIdeal.main_arg11) = m ((c.tc : Thread Cert.DecRefIdeal.nD Cert.DecRefIdeal.τ).loc Cert.DecRefIdeal.main_arg11)
      ∧ r.2.mem ((c.tc : Thread Cert.DecRefIdeal.nD Cert.DecRefIdeal.τ).loc Cert.DecRefIdeal.main_arg12) = m ((c.tc : Thread Cert.DecRefIdeal.nD Cert.DecRefIdeal.τ).loc Cert.DecRefIdeal.main_arg12)
      ∧ r.2.mem ((c.tc : Thread Cert.DecRefIdeal.nD Cert.DecRefIdeal.τ).loc Cert.DecRefIdeal.main_arg13) = m ((c.tc : Thread Cert.DecRefIdeal.nD Cert.DecRefIdeal.τ).loc Cert.DecRefIdeal.main_arg13)
      ∧ r.2.mem ((c.tc : Thread Cert.DecRefIdeal.nD Cert.DecRefIdeal.τ).loc Cert.DecRefIdeal.main_arg14) = m ((c.tc : Thread Cert.DecRefIdeal.nD Cert.DecRefIdeal.τ).loc Cert.DecRefIdeal.main_arg14)
      ∧ r.2.mem ((c.tc : Thread Cert.DecRefIdeal.nD Cert.DecRefIdeal.τ).loc Cert.DecRefIdeal.main_arg15) = m ((c.tc : Thread Cert.DecRefIdeal.nD Cert.DecRefIdeal.τ).loc Cert.DecRefIdeal.main_arg15)
      ∧ r.2.mem ((c.tc : Thread Cert.DecRefIdeal.nD Cert.DecRefIdeal.τ).loc Cert.DecRefIdeal.main_arg16) = m ((c.tc : Thread Cert.DecRefIdeal.nD Cert.DecRefIdeal.τ).loc Cert.DecRefIdeal.main_arg16)
      ∧ r.2.mem ((c.tc : Thread Cert.DecRefIdeal.nD Cert.DecRefIdeal.τ).loc Cert.DecRefIdeal.main_arg17) = m ((c.tc : Thread Cert.DecRefIdeal.nD Cert.DecRefIdeal.τ).loc Cert.DecRefIdeal.main_arg17))
      ∧ r.2.sem = fun _ => 0)

def preserves_Moe_MoeIdeal : Prop :=
  True

def algebraic_MoeIdeal_MoeRefIdeal_pre_tables_and_gates [hMoeIdeal : Cert.MoeIdeal.Facts] [hMoeRefIdeal : Cert.MoeRefIdeal.Facts] [hPre_tables_and_gates : Cert.Pre_tables_and_gates.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_tables_and_gates m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v262) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v2_0)) (v1 : (c : Dev Cert.TailIdeal.nD) → Buf (Elt Ideal) ((c.tc : Thread Cert.TailIdeal.nD Cert.TailIdeal.τ).loc Cert.TailIdeal.main_v2_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v2_0) = v0 c
          ∧ r.2.mem ((c.tc : Thread Cert.TailIdeal.nD Cert.TailIdeal.τ).loc Cert.TailIdeal.main_v2_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v27) = v0 c
          ∧ r.2.mem ((c.tc : Thread Cert.TailRefIdeal.nD Cert.TailRefIdeal.τ).loc Cert.TailRefIdeal.main_v28) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)) (v6 : (c : Dev Cert.ProjIdeal.nD) → Buf (Elt Ideal) ((c.tc : Thread Cert.ProjIdeal.nD Cert.ProjIdeal.τ).loc Cert.ProjIdeal.main_v3_6)) (v7 : (c : Dev Cert.ProjIdeal.nD) → Buf (Elt Ideal) ((c.tc : Thread Cert.ProjIdeal.nD Cert.ProjIdeal.τ).loc Cert.ProjIdeal.main_v3_7)) (v8 : (c : Dev Cert.ProjIdeal.nD) → Buf (Elt Ideal) ((c.tc : Thread Cert.ProjIdeal.nD Cert.ProjIdeal.τ).loc Cert.ProjIdeal.main_v3_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_v3_6) = v6 c
          ∧ r.2.mem ((c.tc : Thread Cert.ProjIdeal.nD Cert.ProjIdeal.τ).loc Cert.ProjIdeal.main_v3_7) = v7 c
          ∧ r.2.mem ((c.tc : Thread Cert.ProjIdeal.nD Cert.ProjIdeal.τ).loc Cert.ProjIdeal.main_v3_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v32) = v1 c
          ∧ r.2.mem ((c.tc : Thread Cert.ProjRefIdeal.nD Cert.ProjRefIdeal.τ).loc Cert.ProjRefIdeal.main_v29) = v2 c
          ∧ r.2.mem ((c.tc : Thread Cert.ProjRefIdeal.nD Cert.ProjRefIdeal.τ).loc Cert.ProjRefIdeal.main_v33) = v3 c
          ∧ r.2.mem ((c.tc : Thread Cert.ProjRefIdeal.nD Cert.ProjRefIdeal.τ).loc Cert.ProjRefIdeal.main_v34) = v4 c
          ∧ r.2.mem ((c.tc : Thread Cert.ProjRefIdeal.nD Cert.ProjRefIdeal.τ).loc Cert.ProjRefIdeal.main_v36) = v5 c
          ∧ r.2.mem ((c.tc : Thread Cert.ProjRefIdeal.nD Cert.ProjRefIdeal.τ).loc Cert.ProjRefIdeal.main_v38) = v6 c
          ∧ r.2.mem ((c.tc : Thread Cert.ProjRefIdeal.nD Cert.ProjRefIdeal.τ).loc Cert.ProjRefIdeal.main_v39) = v7 c
          ∧ r.2.mem ((c.tc : Thread Cert.ProjRefIdeal.nD Cert.ProjRefIdeal.τ).loc Cert.ProjRefIdeal.main_v40) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)
      ∧ m' ((c.tc : Thread Cert.NextRefIdeal.nD Cert.NextRefIdeal.τ).loc Cert.NextRefIdeal.main_arg6) = m ((c.tc : Thread Cert.NextIdeal.nD Cert.NextIdeal.τ).loc Cert.NextIdeal.main_arg6)
      ∧ m' ((c.tc : Thread Cert.NextRefIdeal.nD Cert.NextRefIdeal.τ).loc Cert.NextRefIdeal.main_arg7) = m ((c.tc : Thread Cert.NextIdeal.nD Cert.NextIdeal.τ).loc Cert.NextIdeal.main_arg7)
      ∧ m' ((c.tc : Thread Cert.NextRefIdeal.nD Cert.NextRefIdeal.τ).loc Cert.NextRefIdeal.main_arg8) = m ((c.tc : Thread Cert.NextIdeal.nD Cert.NextIdeal.τ).loc Cert.NextIdeal.main_arg8)
      ∧ m' ((c.tc : Thread Cert.NextRefIdeal.nD Cert.NextRefIdeal.τ).loc Cert.NextRefIdeal.main_arg9) = m ((c.tc : Thread Cert.NextIdeal.nD Cert.NextIdeal.τ).loc Cert.NextIdeal.main_arg9)) →
    ∃ (v0 : (c : Dev Cert.NextIdeal.nD) → Buf (Elt Ideal) ((c.tc : Thread Cert.NextIdeal.nD Cert.NextIdeal.τ).loc Cert.NextIdeal.main_v3_0)) (v1 : (c : Dev Cert.NextIdeal.nD) → Buf (Elt Ideal) ((c.tc : Thread Cert.NextIdeal.nD Cert.NextIdeal.τ).loc Cert.NextIdeal.main_v3_1)) (v2 : (c : Dev Cert.NextIdeal.nD) → Buf (Elt Ideal) ((c.tc : Thread Cert.NextIdeal.nD Cert.NextIdeal.τ).loc Cert.NextIdeal.main_v3_2)) (v3 : (c : Dev Cert.NextIdeal.nD) → Buf (Elt Ideal) ((c.tc : Thread Cert.NextIdeal.nD Cert.NextIdeal.τ).loc Cert.NextIdeal.main_v3_3)) (v4 : (c : Dev Cert.NextIdeal.nD) → Buf (Elt Ideal) ((c.tc : Thread Cert.NextIdeal.nD Cert.NextIdeal.τ).loc Cert.NextIdeal.main_v3_4)) (v5 : (c : Dev Cert.NextIdeal.nD) → Buf (Elt Ideal) ((c.tc : Thread Cert.NextIdeal.nD Cert.NextIdeal.τ).loc Cert.NextIdeal.main_v3_5)) (v6 : (c : Dev Cert.NextIdeal.nD) → Buf (Elt Ideal) ((c.tc : Thread Cert.NextIdeal.nD Cert.NextIdeal.τ).loc Cert.NextIdeal.main_v3_6)) (v7 : (c : Dev Cert.NextIdeal.nD) → Buf (Elt Ideal) ((c.tc : Thread Cert.NextIdeal.nD Cert.NextIdeal.τ).loc Cert.NextIdeal.main_v3_7)) (v8 : (c : Dev Cert.NextIdeal.nD) → Buf (Elt Ideal) ((c.tc : Thread Cert.NextIdeal.nD Cert.NextIdeal.τ).loc Cert.NextIdeal.main_v3_8)) (v9 : (c : Dev Cert.NextIdeal.nD) → Buf (Elt Ideal) ((c.tc : Thread Cert.NextIdeal.nD Cert.NextIdeal.τ).loc Cert.NextIdeal.main_v86)) (v10 : (c : Dev Cert.NextIdeal.nD) → Buf (Elt Ideal) ((c.tc : Thread Cert.NextIdeal.nD Cert.NextIdeal.τ).loc Cert.NextIdeal.main_v89)) (v11 : (c : Dev Cert.NextIdeal.nD) → Buf (Elt Ideal) ((c.tc : Thread Cert.NextIdeal.nD Cert.NextIdeal.τ).loc Cert.NextIdeal.main_v92)) (v12 : (c : Dev Cert.NextIdeal.nD) → Buf (Elt Ideal) ((c.tc : Thread Cert.NextIdeal.nD Cert.NextIdeal.τ).loc Cert.NextIdeal.main_v95)) (v13 : (c : Dev Cert.NextIdeal.nD) → Buf (Elt Ideal) ((c.tc : Thread Cert.NextIdeal.nD Cert.NextIdeal.τ).loc Cert.NextIdeal.main_v98)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v3_0) = v0 c
          ∧ r.2.mem ((c.tc : Thread Cert.NextIdeal.nD Cert.NextIdeal.τ).loc Cert.NextIdeal.main_v3_1) = v1 c
          ∧ r.2.mem ((c.tc : Thread Cert.NextIdeal.nD Cert.NextIdeal.τ).loc Cert.NextIdeal.main_v3_2) = v2 c
          ∧ r.2.mem ((c.tc : Thread Cert.NextIdeal.nD Cert.NextIdeal.τ).loc Cert.NextIdeal.main_v3_3) = v3 c
          ∧ r.2.mem ((c.tc : Thread Cert.NextIdeal.nD Cert.NextIdeal.τ).loc Cert.NextIdeal.main_v3_4) = v4 c
          ∧ r.2.mem ((c.tc : Thread Cert.NextIdeal.nD Cert.NextIdeal.τ).loc Cert.NextIdeal.main_v3_5) = v5 c
          ∧ r.2.mem ((c.tc : Thread Cert.NextIdeal.nD Cert.NextIdeal.τ).loc Cert.NextIdeal.main_v3_6) = v6 c
          ∧ r.2.mem ((c.tc : Thread Cert.NextIdeal.nD Cert.NextIdeal.τ).loc Cert.NextIdeal.main_v3_7) = v7 c
          ∧ r.2.mem ((c.tc : Thread Cert.NextIdeal.nD Cert.NextIdeal.τ).loc Cert.NextIdeal.main_v3_8) = v8 c
          ∧ r.2.mem ((c.tc : Thread Cert.NextIdeal.nD Cert.NextIdeal.τ).loc Cert.NextIdeal.main_v86) = v9 c
          ∧ r.2.mem ((c.tc : Thread Cert.NextIdeal.nD Cert.NextIdeal.τ).loc Cert.NextIdeal.main_v89) = v10 c
          ∧ r.2.mem ((c.tc : Thread Cert.NextIdeal.nD Cert.NextIdeal.τ).loc Cert.NextIdeal.main_v92) = v11 c
          ∧ r.2.mem ((c.tc : Thread Cert.NextIdeal.nD Cert.NextIdeal.τ).loc Cert.NextIdeal.main_v95) = v12 c
          ∧ r.2.mem ((c.tc : Thread Cert.NextIdeal.nD Cert.NextIdeal.τ).loc Cert.NextIdeal.main_v98) = v13 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
          ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
          ∧ r.2.mem ((c.tc : Thread Cert.NextIdeal.nD Cert.NextIdeal.τ).loc Cert.NextIdeal.main_arg7) = m ((c.tc : Thread Cert.NextIdeal.nD Cert.NextIdeal.τ).loc Cert.NextIdeal.main_arg7)
          ∧ r.2.mem ((c.tc : Thread Cert.NextIdeal.nD Cert.NextIdeal.τ).loc Cert.NextIdeal.main_arg8) = m ((c.tc : Thread Cert.NextIdeal.nD Cert.NextIdeal.τ).loc Cert.NextIdeal.main_arg8)
          ∧ r.2.mem ((c.tc : Thread Cert.NextIdeal.nD Cert.NextIdeal.τ).loc Cert.NextIdeal.main_arg9) = m ((c.tc : Thread Cert.NextIdeal.nD Cert.NextIdeal.τ).loc Cert.NextIdeal.main_arg9))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v26) = v0 c
          ∧ r.2.mem ((c.tc : Thread Cert.NextRefIdeal.nD Cert.NextRefIdeal.τ).loc Cert.NextRefIdeal.main_v40) = v1 c
          ∧ r.2.mem ((c.tc : Thread Cert.NextRefIdeal.nD Cert.NextRefIdeal.τ).loc Cert.NextRefIdeal.main_v31) = v2 c
          ∧ r.2.mem ((c.tc : Thread Cert.NextRefIdeal.nD Cert.NextRefIdeal.τ).loc Cert.NextRefIdeal.main_v41) = v3 c
          ∧ r.2.mem ((c.tc : Thread Cert.NextRefIdeal.nD Cert.NextRefIdeal.τ).loc Cert.NextRefIdeal.main_v42) = v4 c
          ∧ r.2.mem ((c.tc : Thread Cert.NextRefIdeal.nD Cert.NextRefIdeal.τ).loc Cert.NextRefIdeal.main_v47) = v5 c
          ∧ r.2.mem ((c.tc : Thread Cert.NextRefIdeal.nD Cert.NextRefIdeal.τ).loc Cert.NextRefIdeal.main_v52) = v6 c
          ∧ r.2.mem ((c.tc : Thread Cert.NextRefIdeal.nD Cert.NextRefIdeal.τ).loc Cert.NextRefIdeal.main_v32) = v7 c
          ∧ r.2.mem ((c.tc : Thread Cert.NextRefIdeal.nD Cert.NextRefIdeal.τ).loc Cert.NextRefIdeal.main_v33) = v8 c
          ∧ r.2.mem ((c.tc : Thread Cert.NextRefIdeal.nD Cert.NextRefIdeal.τ).loc Cert.NextRefIdeal.main_v65) = v9 c
          ∧ r.2.mem ((c.tc : Thread Cert.NextRefIdeal.nD Cert.NextRefIdeal.τ).loc Cert.NextRefIdeal.main_v78) = v10 c
          ∧ r.2.mem ((c.tc : Thread Cert.NextRefIdeal.nD Cert.NextRefIdeal.τ).loc Cert.NextRefIdeal.main_v87) = v11 c
          ∧ r.2.mem ((c.tc : Thread Cert.NextRefIdeal.nD Cert.NextRefIdeal.τ).loc Cert.NextRefIdeal.main_v94) = v12 c
          ∧ r.2.mem ((c.tc : Thread Cert.NextRefIdeal.nD Cert.NextRefIdeal.τ).loc Cert.NextRefIdeal.main_v101) = v13 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5)
          ∧ r.2.mem ((c.tc : Thread Cert.NextRefIdeal.nD Cert.NextRefIdeal.τ).loc Cert.NextRefIdeal.main_arg6) = m' ((c.tc : Thread Cert.NextRefIdeal.nD Cert.NextRefIdeal.τ).loc Cert.NextRefIdeal.main_arg6)
          ∧ r.2.mem ((c.tc : Thread Cert.NextRefIdeal.nD Cert.NextRefIdeal.τ).loc Cert.NextRefIdeal.main_arg7) = m' ((c.tc : Thread Cert.NextRefIdeal.nD Cert.NextRefIdeal.τ).loc Cert.NextRefIdeal.main_arg7)
          ∧ r.2.mem ((c.tc : Thread Cert.NextRefIdeal.nD Cert.NextRefIdeal.τ).loc Cert.NextRefIdeal.main_arg8) = m' ((c.tc : Thread Cert.NextRefIdeal.nD Cert.NextRefIdeal.τ).loc Cert.NextRefIdeal.main_arg8)
          ∧ r.2.mem ((c.tc : Thread Cert.NextRefIdeal.nD Cert.NextRefIdeal.τ).loc Cert.NextRefIdeal.main_arg9) = m' ((c.tc : Thread Cert.NextRefIdeal.nD Cert.NextRefIdeal.τ).loc Cert.NextRefIdeal.main_arg9))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v170) = v0 c
          ∧ r.2.mem ((c.tc : Thread Cert.MixRefIdeal.nD Cert.MixRefIdeal.τ).loc Cert.MixRefIdeal.main_v173) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Dec_DecIdeal : Prop :=
  True

def algebraic_DecIdeal_DecRefIdeal [hDecIdeal : Cert.DecIdeal.Facts] [hDecRefIdeal : Cert.DecRefIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)
      ∧ m' ((c.tc : Thread Cert.DecRefIdeal.nD Cert.DecRefIdeal.τ).loc Cert.DecRefIdeal.main_arg4) = m ((c.tc : Thread Cert.DecIdeal.nD Cert.DecIdeal.τ).loc Cert.DecIdeal.main_arg4)
      ∧ m' ((c.tc : Thread Cert.DecRefIdeal.nD Cert.DecRefIdeal.τ).loc Cert.DecRefIdeal.main_arg5) = m ((c.tc : Thread Cert.DecIdeal.nD Cert.DecIdeal.τ).loc Cert.DecIdeal.main_arg5)
      ∧ m' ((c.tc : Thread Cert.DecRefIdeal.nD Cert.DecRefIdeal.τ).loc Cert.DecRefIdeal.main_arg6) = m ((c.tc : Thread Cert.DecIdeal.nD Cert.DecIdeal.τ).loc Cert.DecIdeal.main_arg6)
      ∧ m' ((c.tc : Thread Cert.DecRefIdeal.nD Cert.DecRefIdeal.τ).loc Cert.DecRefIdeal.main_arg7) = m ((c.tc : Thread Cert.DecIdeal.nD Cert.DecIdeal.τ).loc Cert.DecIdeal.main_arg7)
      ∧ m' ((c.tc : Thread Cert.DecRefIdeal.nD Cert.DecRefIdeal.τ).loc Cert.DecRefIdeal.main_arg8) = m ((c.tc : Thread Cert.DecIdeal.nD Cert.DecIdeal.τ).loc Cert.DecIdeal.main_arg8)
      ∧ m' ((c.tc : Thread Cert.DecRefIdeal.nD Cert.DecRefIdeal.τ).loc Cert.DecRefIdeal.main_arg9) = m ((c.tc : Thread Cert.DecIdeal.nD Cert.DecIdeal.τ).loc Cert.DecIdeal.main_arg9)
      ∧ m' ((c.tc : Thread Cert.DecRefIdeal.nD Cert.DecRefIdeal.τ).loc Cert.DecRefIdeal.main_arg10) = m ((c.tc : Thread Cert.DecIdeal.nD Cert.DecIdeal.τ).loc Cert.DecIdeal.main_arg10)
      ∧ m' ((c.tc : Thread Cert.DecRefIdeal.nD Cert.DecRefIdeal.τ).loc Cert.DecRefIdeal.main_arg11) = m ((c.tc : Thread Cert.DecIdeal.nD Cert.DecIdeal.τ).loc Cert.DecIdeal.main_arg11)
      ∧ m' ((c.tc : Thread Cert.DecRefIdeal.nD Cert.DecRefIdeal.τ).loc Cert.DecRefIdeal.main_arg12) = m ((c.tc : Thread Cert.DecIdeal.nD Cert.DecIdeal.τ).loc Cert.DecIdeal.main_arg12)
      ∧ m' ((c.tc : Thread Cert.DecRefIdeal.nD Cert.DecRefIdeal.τ).loc Cert.DecRefIdeal.main_arg13) = m ((c.tc : Thread Cert.DecIdeal.nD Cert.DecIdeal.τ).loc Cert.DecIdeal.main_arg13)
      ∧ m' ((c.tc : Thread Cert.DecRefIdeal.nD Cert.DecRefIdeal.τ).loc Cert.DecRefIdeal.main_arg14) = m ((c.tc : Thread Cert.DecIdeal.nD Cert.DecIdeal.τ).loc Cert.DecIdeal.main_arg14)
      ∧ m' ((c.tc : Thread Cert.DecRefIdeal.nD Cert.DecRefIdeal.τ).loc Cert.DecRefIdeal.main_arg15) = m ((c.tc : Thread Cert.DecIdeal.nD Cert.DecIdeal.τ).loc Cert.DecIdeal.main_arg15)
      ∧ m' ((c.tc : Thread Cert.DecRefIdeal.nD Cert.DecRefIdeal.τ).loc Cert.DecRefIdeal.main_arg16) = m ((c.tc : Thread Cert.DecIdeal.nD Cert.DecIdeal.τ).loc Cert.DecIdeal.main_arg16)
      ∧ m' ((c.tc : Thread Cert.DecRefIdeal.nD Cert.DecRefIdeal.τ).loc Cert.DecRefIdeal.main_arg17) = m ((c.tc : Thread Cert.DecIdeal.nD Cert.DecIdeal.τ).loc Cert.DecIdeal.main_arg17)) →
    ∃ (v0 : (c : Dev Cert.DecIdeal.nD) → Buf (Elt Ideal) ((c.tc : Thread Cert.DecIdeal.nD Cert.DecIdeal.τ).loc Cert.DecIdeal.main_v7_5)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v7_5) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
          ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
          ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
          ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
          ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
          ∧ r.2.mem ((c.tc : Thread Cert.DecIdeal.nD Cert.DecIdeal.τ).loc Cert.DecIdeal.main_arg9) = m ((c.tc : Thread Cert.DecIdeal.nD Cert.DecIdeal.τ).loc Cert.DecIdeal.main_arg9)
          ∧ r.2.mem ((c.tc : Thread Cert.DecIdeal.nD Cert.DecIdeal.τ).loc Cert.DecIdeal.main_arg10) = m ((c.tc : Thread Cert.DecIdeal.nD Cert.DecIdeal.τ).loc Cert.DecIdeal.main_arg10)
          ∧ r.2.mem ((c.tc : Thread Cert.DecIdeal.nD Cert.DecIdeal.τ).loc Cert.DecIdeal.main_arg11) = m ((c.tc : Thread Cert.DecIdeal.nD Cert.DecIdeal.τ).loc Cert.DecIdeal.main_arg11)
          ∧ r.2.mem ((c.tc : Thread Cert.DecIdeal.nD Cert.DecIdeal.τ).loc Cert.DecIdeal.main_arg12) = m ((c.tc : Thread Cert.DecIdeal.nD Cert.DecIdeal.τ).loc Cert.DecIdeal.main_arg12)
          ∧ r.2.mem ((c.tc : Thread Cert.DecIdeal.nD Cert.DecIdeal.τ).loc Cert.DecIdeal.main_arg13) = m ((c.tc : Thread Cert.DecIdeal.nD Cert.DecIdeal.τ).loc Cert.DecIdeal.main_arg13)
          ∧ r.2.mem ((c.tc : Thread Cert.DecIdeal.nD Cert.DecIdeal.τ).loc Cert.DecIdeal.main_arg14) = m ((c.tc : Thread Cert.DecIdeal.nD Cert.DecIdeal.τ).loc Cert.DecIdeal.main_arg14)
          ∧ r.2.mem ((c.tc : Thread Cert.DecIdeal.nD Cert.DecIdeal.τ).loc Cert.DecIdeal.main_arg15) = m ((c.tc : Thread Cert.DecIdeal.nD Cert.DecIdeal.τ).loc Cert.DecIdeal.main_arg15)
          ∧ r.2.mem ((c.tc : Thread Cert.DecIdeal.nD Cert.DecIdeal.τ).loc Cert.DecIdeal.main_arg16) = m ((c.tc : Thread Cert.DecIdeal.nD Cert.DecIdeal.τ).loc Cert.DecIdeal.main_arg16)
          ∧ r.2.mem ((c.tc : Thread Cert.DecIdeal.nD Cert.DecIdeal.τ).loc Cert.DecIdeal.main_arg17) = m ((c.tc : Thread Cert.DecIdeal.nD Cert.DecIdeal.τ).loc Cert.DecIdeal.main_arg17))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v7) = v0 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
          ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4)
          ∧ r.2.mem ((c.tc : Thread Cert.DecRefIdeal.nD Cert.DecRefIdeal.τ).loc Cert.DecRefIdeal.main_arg5) = m' ((c.tc : Thread Cert.DecRefIdeal.nD Cert.DecRefIdeal.τ).loc Cert.DecRefIdeal.main_arg5)
          ∧ r.2.mem ((c.tc : Thread Cert.DecRefIdeal.nD Cert.DecRefIdeal.τ).loc Cert.DecRefIdeal.main_arg6) = m' ((c.tc : Thread Cert.DecRefIdeal.nD Cert.DecRefIdeal.τ).loc Cert.DecRefIdeal.main_arg6)
          ∧ r.2.mem ((c.tc : Thread Cert.DecRefIdeal.nD Cert.DecRefIdeal.τ).loc Cert.DecRefIdeal.main_arg7) = m' ((c.tc : Thread Cert.DecRefIdeal.nD Cert.DecRefIdeal.τ).loc Cert.DecRefIdeal.main_arg7)
          ∧ r.2.mem ((c.tc : Thread Cert.DecRefIdeal.nD Cert.DecRefIdeal.τ).loc Cert.DecRefIdeal.main_arg8) = m' ((c.tc : Thread Cert.DecRefIdeal.nD Cert.DecRefIdeal.τ).loc Cert.DecRefIdeal.main_arg8)
          ∧ r.2.mem ((c.tc : Thread Cert.DecRefIdeal.nD Cert.DecRefIdeal.τ).loc Cert.DecRefIdeal.main_arg9) = m' ((c.tc : Thread Cert.DecRefIdeal.nD Cert.DecRefIdeal.τ).loc Cert.DecRefIdeal.main_arg9)
          ∧ r.2.mem ((c.tc : Thread Cert.DecRefIdeal.nD Cert.DecRefIdeal.τ).loc Cert.DecRefIdeal.main_arg10) = m' ((c.tc : Thread Cert.DecRefIdeal.nD Cert.DecRefIdeal.τ).loc Cert.DecRefIdeal.main_arg10)
          ∧ r.2.mem ((c.tc : Thread Cert.DecRefIdeal.nD Cert.DecRefIdeal.τ).loc Cert.DecRefIdeal.main_arg11) = m' ((c.tc : Thread Cert.DecRefIdeal.nD Cert.DecRefIdeal.τ).loc Cert.DecRefIdeal.main_arg11)
          ∧ r.2.mem ((c.tc : Thread Cert.DecRefIdeal.nD Cert.DecRefIdeal.τ).loc Cert.DecRefIdeal.main_arg12) = m' ((c.tc : Thread Cert.DecRefIdeal.nD Cert.DecRefIdeal.τ).loc Cert.DecRefIdeal.main_arg12)
          ∧ r.2.mem ((c.tc : Thread Cert.DecRefIdeal.nD Cert.DecRefIdeal.τ).loc Cert.DecRefIdeal.main_arg13) = m' ((c.tc : Thread Cert.DecRefIdeal.nD Cert.DecRefIdeal.τ).loc Cert.DecRefIdeal.main_arg13)
          ∧ r.2.mem ((c.tc : Thread Cert.DecRefIdeal.nD Cert.DecRefIdeal.τ).loc Cert.DecRefIdeal.main_arg14) = m' ((c.tc : Thread Cert.DecRefIdeal.nD Cert.DecRefIdeal.τ).loc Cert.DecRefIdeal.main_arg14)
          ∧ r.2.mem ((c.tc : Thread Cert.DecRefIdeal.nD Cert.DecRefIdeal.τ).loc Cert.DecRefIdeal.main_arg15) = m' ((c.tc : Thread Cert.DecRefIdeal.nD Cert.DecRefIdeal.τ).loc Cert.DecRefIdeal.main_arg15)
          ∧ r.2.mem ((c.tc : Thread Cert.DecRefIdeal.nD Cert.DecRefIdeal.τ).loc Cert.DecRefIdeal.main_arg16) = m' ((c.tc : Thread Cert.DecRefIdeal.nD Cert.DecRefIdeal.τ).loc Cert.DecRefIdeal.main_arg16)
          ∧ r.2.mem ((c.tc : Thread Cert.DecRefIdeal.nD Cert.DecRefIdeal.τ).loc Cert.DecRefIdeal.main_arg17) = m' ((c.tc : Thread Cert.DecRefIdeal.nD Cert.DecRefIdeal.τ).loc Cert.DecRefIdeal.main_arg17))

def Claim : Prop :=
  ∃ (hMoe : Cert.Moe.Facts) (hMoeIdeal : Cert.MoeIdeal.Facts) (hMoeRefIdeal : Cert.MoeRefIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hNext : Cert.Next.Facts) (hNextIdeal : Cert.NextIdeal.Facts) (hNextRefIdeal : Cert.NextRefIdeal.Facts) (hMix : Cert.Mix.Facts) (hMixIdeal : Cert.MixIdeal.Facts) (hMixRefIdeal : Cert.MixRefIdeal.Facts) (hDec : Cert.Dec.Facts) (hDecIdeal : Cert.DecIdeal.Facts) (hDecRefIdeal : Cert.DecRefIdeal.Facts) (hPre_tables_in_range : Cert.Pre_tables_in_range.Facts) (hPre_tables_and_gates : Cert.Pre_tables_and_gates.Facts),
    quiescent_Moe (hMoe := hMoe) (hPre_tables_in_range := hPre_tables_in_range)
    ∧ quiescent_MoeIdeal (hMoeIdeal := hMoeIdeal) (hPre_tables_in_range := hPre_tables_in_range)
    ∧ quiescent_MoeIdeal_pre_tables_and_gates (hMoeIdeal := hMoeIdeal) (hPre_tables_and_gates := hPre_tables_and_gates)
    ∧ quiescent_MoeRefIdeal (hMoeRefIdeal := hMoeRefIdeal)
    ∧ quiescent_MoeRefIdeal_pre_tables_and_gates (hMoeRefIdeal := hMoeRefIdeal) (hPre_tables_and_gates := hPre_tables_and_gates)
    ∧ quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_Next (hNext := hNext)
    ∧ quiescent_NextIdeal (hNextIdeal := hNextIdeal)
    ∧ quiescent_NextRefIdeal (hNextRefIdeal := hNextRefIdeal)
    ∧ quiescent_Mix (hMix := hMix)
    ∧ quiescent_MixIdeal (hMixIdeal := hMixIdeal)
    ∧ quiescent_MixRefIdeal (hMixRefIdeal := hMixRefIdeal)
    ∧ quiescent_Dec (hDec := hDec)
    ∧ quiescent_DecIdeal (hDecIdeal := hDecIdeal)
    ∧ quiescent_DecRefIdeal (hDecRefIdeal := hDecRefIdeal)
    ∧ preserves_Moe_MoeIdeal
    ∧ algebraic_MoeIdeal_MoeRefIdeal_pre_tables_and_gates (hMoeIdeal := hMoeIdeal) (hMoeRefIdeal := hMoeRefIdeal) (hPre_tables_and_gates := hPre_tables_and_gates)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_Next_NextIdeal
    ∧ algebraic_NextIdeal_NextRefIdeal (hNextIdeal := hNextIdeal) (hNextRefIdeal := hNextRefIdeal)
    ∧ preserves_Mix_MixIdeal
    ∧ algebraic_MixIdeal_MixRefIdeal (hMixIdeal := hMixIdeal) (hMixRefIdeal := hMixRefIdeal)
    ∧ preserves_Dec_DecIdeal
    ∧ algebraic_DecIdeal_DecRefIdeal (hDecIdeal := hDecIdeal) (hDecRefIdeal := hDecRefIdeal)
-- ==== Pre_tables_and_gates.lean ====
abbrev S282 : Shape := ⟨1, ![282]⟩
abbrev S72192x1024 : Shape := ⟨2, ![72192, 1024]⟩
abbrev S72192 : Shape := ⟨1, ![72192]⟩
abbrev S16x1024x512 : Shape := ⟨3, ![16, 1024, 512]⟩
abbrev S16x512x1024 : Shape := ⟨3, ![16, 512, 1024]⟩
abbrev S_ : Shape := ⟨0, ![]⟩
abbrev S145230 : Shape := ⟨1, ![145230]⟩

class Facts : Prop where
  bcast_S_S282 : S_.BroadcastsInDim S282 (![] : Fin 0 → Fin S282.rank)
  bcast_S_S72192 : S_.BroadcastsInDim S72192 (![] : Fin 0 → Fin S72192.rank)
  concatenates_S282_S282_S282_S72192_S72192_S145230_d0 : Shape.Concatenates [S282, S282, S282, S72192, S72192] S145230 0

variable [Facts]

def fn_part1 {F : FTy → Type} [FloatOps F] (main_arg5 : FVec F S72192 .f32) (main_v4 : IVec S282 1) (main_v9 : IVec S282 1) (main_v11 : IVec S282 1) (main_v16 : IVec S72192 1) : IVec S145230 1 :=
  let main_cst_5 : FVec F S_ .f32 := constant S_ .f32 0x00000000#32
  let main_v17 : FVec F S72192 .f32 := broadcastInDim S72192 ![] bcast_S_S72192 main_cst_5
  let main_v18 : IVec S72192 1 := cmpf .oge main_arg5 main_v17
  let main_cst_6 : FVec F S_ .f32 := constant S_ .f32 0x7F800000#32
  let main_v19 : FVec F S72192 .f32 := broadcastInDim S72192 ![] bcast_S_S72192 main_cst_6
  let main_v20 : IVec S72192 1 := cmpf .olt main_arg5 main_v19
  let main_v21 : IVec S72192 1 := andi main_v18 main_v20
  let main_v22 : IVec S145230 1 := concatenate S145230 0 [⟨S282, main_v4⟩, ⟨S282, main_v9⟩, ⟨S282, main_v11⟩, ⟨S72192, main_v16⟩, ⟨S72192, main_v21⟩] concatenates_S282_S282_S282_S72192_S72192_S145230_d0
  main_v22

def fn {F : FTy → Type} [FloatOps F] (main_arg0 : IVec S282 32) (main_arg1 : IVec S282 32) (main_arg2 : IVec S282 32) (main_arg3 : FVec F S72192x1024 .bf16) (main_arg4 : FVec F S72192 .f32) (main_arg5 : FVec F S72192 .f32) (main_arg6 : FVec F S16x1024x512 .f32) (main_arg7 : FVec F S16x1024x512 .f32) (main_arg8 : FVec F S16x512x1024 .f32) : IVec S145230 1 :=
  let main_c : IVec S_ 32 := constantI S_ 32 0#32
  let main_v0 : IVec S282 32 := broadcastInDim S282 ![] bcast_S_S282 main_c
  let main_v1 : IVec S282 1 := cmpi .sge main_arg0 main_v0
  let main_c_0 : IVec S_ 32 := constantI S_ 32 16#32
  let main_v2 : IVec S282 32 := broadcastInDim S282 ![] bcast_S_S282 main_c_0
  let main_v3 : IVec S282 1 := cmpi .slt main_arg0 main_v2
  let main_v4 : IVec S282 1 := andi main_v1 main_v3
  let main_c_1 : IVec S_ 32 := constantI S_ 32 0#32
  let main_v5 : IVec S282 32 := broadcastInDim S282 ![] bcast_S_S282 main_c_1
  let main_v6 : IVec S282 1 := cmpi .sge main_arg1 main_v5
  let main_c_2 : IVec S_ 32 := constantI S_ 32 16#32
  let main_v7 : IVec S282 32 := broadcastInDim S282 ![] bcast_S_S282 main_c_2
  let main_v8 : IVec S282 1 := cmpi .slt main_arg1 main_v7
  let main_v9 : IVec S282 1 := andi main_v6 main_v8
  let main_c_3 : IVec S_ 32 := constantI S_ 32 0#32
  let main_v10 : IVec S282 32 := broadcastInDim S282 ![] bcast_S_S282 main_c_3
  let main_v11 : IVec S282 1 := cmpi .sge main_arg2 main_v10
  let main_cst : FVec F S_ .f32 := constant S_ .f32 0x00000000#32
  let main_v12 : FVec F S72192 .f32 := broadcastInDim S72192 ![] bcast_S_S72192 main_cst
  let main_v13 : IVec S72192 1 := cmpf .oge main_arg4 main_v12
  let main_cst_4 : FVec F S_ .f32 := constant S_ .f32 0x7F800000#32
  let main_v14 : FVec F S72192 .f32 := broadcastInDim S72192 ![] bcast_S_S72192 main_cst_4
  let main_v15 : IVec S72192 1 := cmpf .olt main_arg4 main_v14
  let main_v16 : IVec S72192 1 := andi main_v13 main_v15
  fn_part1 (F := F) main_arg5 main_v4 main_v9 main_v11 main_v16
-- ==== Pre_tables_in_range.lean ====
abbrev S282 : Shape := ⟨1, ![282]⟩
abbrev S72192x1024 : Shape := ⟨2, ![72192, 1024]⟩
abbrev S72192 : Shape := ⟨1, ![72192]⟩
abbrev S16x1024x512 : Shape := ⟨3, ![16, 1024, 512]⟩
abbrev S16x512x1024 : Shape := ⟨3, ![16, 512, 1024]⟩
abbrev S_ : Shape := ⟨0, ![]⟩
abbrev S846 : Shape := ⟨1, ![846]⟩

class Facts : Prop where
  bcast_S_S282 : S_.BroadcastsInDim S282 (![] : Fin 0 → Fin S282.rank)
  concatenates_S282_S282_S282_S846_d0 : Shape.Concatenates [S282, S282, S282] S846 0

variable [Facts]

def fn {F : FTy → Type} [FloatOps F] (main_arg0 : IVec S282 32) (main_arg1 : IVec S282 32) (main_arg2 : IVec S282 32) (main_arg3 : FVec F S72192x1024 .bf16) (main_arg4 : FVec F S72192 .f32) (main_arg5 : FVec F S72192 .f32) (main_arg6 : FVec F S16x1024x512 .f32) (main_arg7 : FVec F S16x1024x512 .f32) (main_arg8 : FVec F S16x512x1024 .f32) : IVec S846 1 :=
  let main_c : IVec S_ 32 := constantI S_ 32 0#32
  let main_v0 : IVec S282 32 := broadcastInDim S282 ![] bcast_S_S282 main_c
  let main_v1 : IVec S282 1 := cmpi .sge main_arg0 main_v0
  let main_c_0 : IVec S_ 32 := constantI S_ 32 16#32
  let main_v2 : IVec S282 32 := broadcastInDim S282 ![] bcast_S_S282 main_c_0
  let main_v3 : IVec S282 1 := cmpi .slt main_arg0 main_v2
  let main_v4 : IVec S282 1 := andi main_v1 main_v3
  let main_c_1 : IVec S_ 32 := constantI S_ 32 0#32
  let main_v5 : IVec S282 32 := broadcastInDim S282 ![] bcast_S_S282 main_c_1
  let main_v6 : IVec S282 1 := cmpi .sge main_arg1 main_v5
  let main_c_2 : IVec S_ 32 := constantI S_ 32 16#32
  let main_v7 : IVec S282 32 := broadcastInDim S282 ![] bcast_S_S282 main_c_2
  let main_v8 : IVec S282 1 := cmpi .slt main_arg1 main_v7
  let main_v9 : IVec S282 1 := andi main_v6 main_v8
  let main_c_3 : IVec S_ 32 := constantI S_ 32 0#32
  let main_v10 : IVec S282 32 := broadcastInDim S282 ![] bcast_S_S282 main_c_3
  let main_v11 : IVec S282 1 := cmpi .sge main_arg2 main_v10
  let main_v12 : IVec S846 1 := concatenate S846 0 [⟨S282, main_v4⟩, ⟨S282, main_v9⟩, ⟨S282, main_v11⟩] concatenates_S282_S282_S282_S846_d0
  main_v12
-- ==== Moe.lean ====
abbrev S282 : Shape := ⟨1, ![282]⟩
abbrev S72192x1024 : Shape := ⟨2, ![72192, 1024]⟩
abbrev S72192 : Shape := ⟨1, ![72192]⟩
abbrev S16x1024x512 : Shape := ⟨3, ![16, 1024, 512]⟩
abbrev S16x512x1024 : Shape := ⟨3, ![16, 512, 1024]⟩
abbrev S282x1x256 : Shape := ⟨3, ![282, 1, 256]⟩
abbrev S256x1024 : Shape := ⟨2, ![256, 1024]⟩
abbrev S1x1x256 : Shape := ⟨3, ![1, 1, 256]⟩
abbrev S1x1024x512 : Shape := ⟨3, ![1, 1024, 512]⟩
abbrev S1 : Shape := ⟨1, ![1]⟩
abbrev S1x512x1024 : Shape := ⟨3, ![1, 512, 1024]⟩
abbrev S1x256 : Shape := ⟨2, ![1, 256]⟩
abbrev S128x256 : Shape := ⟨2, ![128, 256]⟩
abbrev S256x128 : Shape := ⟨2, ![256, 128]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 12
  | .vmem => 20
  | .smem => 3
  | _ => 0

abbrev bufTy : (tb : Table) → Fin (tcTables nBuf tb) → BufTy
  | .hbm, ⟨0, _⟩ => ⟨S72192x1024, .bf16⟩
  | .hbm, ⟨1, _⟩ => ⟨S72192, .f32⟩
  | .hbm, ⟨2, _⟩ => ⟨S72192, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S16x1024x512, .bf16⟩
  | .hbm, ⟨7, _⟩ => ⟨S16x1024x512, .bf16⟩
  | .hbm, ⟨8, _⟩ => ⟨S16x512x1024, .bf16⟩
  | .hbm, ⟨9, _⟩ => ⟨S282x1x256, .f32⟩
  | .hbm, ⟨10, _⟩ => ⟨S282x1x256, .f32⟩
  | .hbm, ⟨11, _⟩ => ⟨S72192x1024, .f32⟩
  | .local _ .vmem, ⟨0, _⟩ => ⟨S256x1024, .bf16⟩
  | .local _ .vmem, ⟨1, _⟩ => ⟨S256x1024, .bf16⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x512x1024, .bf16⟩
  | .local _ .vmem, ⟨17, _⟩ => ⟨S1x512x1024, .bf16⟩
  | .local _ .vmem, ⟨18, _⟩ => ⟨S256x1024, .f32⟩
  | .local _ .vmem, ⟨19, _⟩ => ⟨S256x1024, .f32⟩
  | .local _ .smem, ⟨0, _⟩ => ⟨S282, .i32⟩
  | .local _ .smem, ⟨1, _⟩ => ⟨S282, .i32⟩
  | .local _ .smem, ⟨2, _⟩ => ⟨S282, .i32⟩
  | _, _ => ⟨S72192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![282], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1.size a ≤ S282.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S282) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S282.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S282) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S282.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S282) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S282.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S282) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S282.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S282) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S282.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S282) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MoeRefIdeal.lean ====
abbrev S282 : Shape := ⟨1, ![282]⟩
abbrev S72192x1024 : Shape := ⟨2, ![72192, 1024]⟩
abbrev S72192 : Shape := ⟨1, ![72192]⟩
abbrev S16x1024x512 : Shape := ⟨3, ![16, 1024, 512]⟩
abbrev S16x512x1024 : Shape := ⟨3, ![16, 512, 1024]⟩
abbrev S282x1 : Shape := ⟨2, ![282, 1]⟩
abbrev S282x256 : Shape := ⟨2, ![282, 256]⟩
abbrev S72192x1 : Shape := ⟨2, ![72192, 1]⟩
abbrev S72192x2 : Shape := ⟨2, ![72192, 2]⟩
abbrev S72192x2x1 : Shape := ⟨3, ![72192, 2, 1]⟩
abbrev S1x1x16 : Shape := ⟨3, ![1, 1, 16]⟩
abbrev S72192x2x16 : Shape := ⟨3, ![72192, 2, 16]⟩
abbrev S72192x16 : Shape := ⟨2, ![72192, 16]⟩
abbrev S_ : Shape := ⟨0, ![]⟩
abbrev S1x1024x512 : Shape := ⟨3, ![1, 1024, 512]⟩
abbrev S1024x512 : Shape := ⟨2, ![1024, 512]⟩
abbrev S72192x512 : Shape := ⟨2, ![72192, 512]⟩
abbrev S1x512x1024 : Shape := ⟨3, ![1, 512, 1024]⟩
abbrev S512x1024 : Shape := ⟨2, ![512, 1024]⟩

abbrev nBuf : Space → Nat
  | .hbm => 411
  | .vmem => 0
  | .smem => 0
  | _ => 0

abbrev hbmTy0_0 (i : Nat) : BufTy := match i % 128 with
  | 0 => ⟨S282, .i32⟩
  | 1 => ⟨S282, .i32⟩
  | 2 => ⟨S282, .i32⟩
  | 3 => ⟨S72192x1024, .bf16⟩
  | 4 => ⟨S72192, .f32⟩
  | 5 => ⟨S72192, .f32⟩
  | 6 => ⟨S16x1024x512, .f32⟩
  | 7 => ⟨S16x1024x512, .f32⟩
  | 8 => ⟨S16x512x1024, .f32⟩
  | 9 => ⟨S72192x1024, .f32⟩
  | 10 => ⟨S282x1, .i32⟩
  | 11 => ⟨S282x256, .i32⟩
  | 12 => ⟨S72192, .i32⟩
  | 13 => ⟨S282x1, .i32⟩
  | 14 => ⟨S282x256, .i32⟩
  | 15 => ⟨S72192, .i32⟩
  | 16 => ⟨S72192x1, .i32⟩
  | 17 => ⟨S72192x1, .i32⟩
  | 18 => ⟨S72192x2, .i32⟩
  | 19 => ⟨S72192x1, .f32⟩
  | 20 => ⟨S72192x1, .f32⟩
  | 21 => ⟨S72192x2, .f32⟩
  | 22 => ⟨S72192x2x1, .i32⟩
  | 23 => ⟨S1x1x16, .i32⟩
  | 24 => ⟨S72192x2x16, .i32⟩
  | 25 => ⟨S72192x2x16, .i32⟩
  | 26 => ⟨S72192x2x16, .i1⟩
  | 27 => ⟨S72192x2x16, .f32⟩
  | 28 => ⟨S72192x16, .f32⟩
  | 29 => ⟨S_, .f32⟩
  | 30 => ⟨S72192x1024, .f32⟩
  | 31 => ⟨S1x1024x512, .f32⟩
  | 32 => ⟨S1024x512, .f32⟩
  | 33 => ⟨S72192x512, .f32⟩
  | 34 => ⟨S72192x512, .f32⟩
  | 35 => ⟨S72192x512, .f32⟩
  | 36 => ⟨S_, .f32⟩
  | 37 => ⟨S72192x512, .f32⟩
  | 38 => ⟨S72192x512, .f32⟩
  | 39 => ⟨S_, .f32⟩
  | 40 => ⟨S72192x512, .f32⟩
  | 41 => ⟨S72192x512, .f32⟩
  | 42 => ⟨S72192x512, .f32⟩
  | 43 => ⟨S1x1024x512, .f32⟩
  | 44 => ⟨S1024x512, .f32⟩
  | 45 => ⟨S72192x512, .f32⟩
  | 46 => ⟨S72192x512, .f32⟩
  | 47 => ⟨S72192x1, .f32⟩
  | 48 => ⟨S1x512x1024, .f32⟩
  | 49 => ⟨S512x1024, .f32⟩
  | 50 => ⟨S72192x1024, .f32⟩
  | 51 => ⟨S72192x1024, .f32⟩
  | 52 => ⟨S72192x1024, .f32⟩
  | 53 => ⟨S72192x1024, .f32⟩
  | 54 => ⟨S1x1024x512, .f32⟩
  | 55 => ⟨S1024x512, .f32⟩
  | 56 => ⟨S72192x512, .f32⟩
  | 57 => ⟨S72192x512, .f32⟩
  | 58 => ⟨S72192x512, .f32⟩
  | 59 => ⟨S_, .f32⟩
  | 60 => ⟨S72192x512, .f32⟩
  | 61 => ⟨S72192x512, .f32⟩
  | 62 => ⟨S_, .f32⟩
  | 63 => ⟨S72192x512, .f32⟩
  | 64 => ⟨S72192x512, .f32⟩
  | 65 => ⟨S72192x512, .f32⟩
  | 66 => ⟨S1x1024x512, .f32⟩
  | 67 => ⟨S1024x512, .f32⟩
  | 68 => ⟨S72192x512, .f32⟩
  | 69 => ⟨S72192x512, .f32⟩
  | 70 => ⟨S72192x1, .f32⟩
  | 71 => ⟨S1x512x1024, .f32⟩
  | 72 => ⟨S512x1024, .f32⟩
  | 73 => ⟨S72192x1024, .f32⟩
  | 74 => ⟨S72192x1024, .f32⟩
  | 75 => ⟨S72192x1024, .f32⟩
  | 76 => ⟨S72192x1024, .f32⟩
  | 77 => ⟨S1x1024x512, .f32⟩
  | 78 => ⟨S1024x512, .f32⟩
  | 79 => ⟨S72192x512, .f32⟩
  | 80 => ⟨S72192x512, .f32⟩
  | 81 => ⟨S72192x512, .f32⟩
  | 82 => ⟨S_, .f32⟩
  | 83 => ⟨S72192x512, .f32⟩
  | 84 => ⟨S72192x512, .f32⟩
  | 85 => ⟨S_, .f32⟩
  | 86 => ⟨S72192x512, .f32⟩
  | 87 => ⟨S72192x512, .f32⟩
  | 88 => ⟨S72192x512, .f32⟩
  | 89 => ⟨S1x1024x512, .f32⟩
  | 90 => ⟨S1024x512, .f32⟩
  | 91 => ⟨S72192x512, .f32⟩
  | 92 => ⟨S72192x512, .f32⟩
  | 93 => ⟨S72192x1, .f32⟩
  | 94 => ⟨S1x512x1024, .f32⟩
  | 95 => ⟨S512x1024, .f32⟩
  | 96 => ⟨S72192x1024, .f32⟩
  | 97 => ⟨S72192x1024, .f32⟩
  | 98 => ⟨S72192x1024, .f32⟩
  | 99 => ⟨S72192x1024, .f32⟩
  | 100 => ⟨S1x1024x512, .f32⟩
  | 101 => ⟨S1024x512, .f32⟩
  | 102 => ⟨S72192x512, .f32⟩
  | 103 => ⟨S72192x512, .f32⟩
  | 104 => ⟨S72192x512, .f32⟩
  | 105 => ⟨S_, .f32⟩
  | 106 => ⟨S72192x512, .f32⟩
  | 107 => ⟨S72192x512, .f32⟩
  | 108 => ⟨S_, .f32⟩
  | 109 => ⟨S72192x512, .f32⟩
  | 110 => ⟨S72192x512, .f32⟩
  | 111 => ⟨S72192x512, .f32⟩
  | 112 => ⟨S1x1024x512, .f32⟩
  | 113 => ⟨S1024x512, .f32⟩
  | 114 => ⟨S72192x512, .f32⟩
  | 115 => ⟨S72192x512, .f32⟩
  | 116 => ⟨S72192x1, .f32⟩
  | 117 => ⟨S1x512x1024, .f32⟩
  | 118 => ⟨S512x1024, .f32⟩
  | 119 => ⟨S72192x1024, .f32⟩
  | 120 => ⟨S72192x1024, .f32⟩
  | 121 => ⟨S72192x1024, .f32⟩
  | 122 => ⟨S72192x1024, .f32⟩
  | 123 => ⟨S1x1024x512, .f32⟩
  | 124 => ⟨S1024x512, .f32⟩
  | 125 => ⟨S72192x512, .f32⟩
  | 126 => ⟨S72192x512, .f32⟩
  | 127 => ⟨S72192x512, .f32⟩
  | _ => ⟨S282, .i32⟩

abbrev hbmTy0_1 (i : Nat) : BufTy := match i % 128 with
  | 0 => ⟨S_, .f32⟩
  | 1 => ⟨S72192x512, .f32⟩
  | 2 => ⟨S72192x512, .f32⟩
  | 3 => ⟨S_, .f32⟩
  | 4 => ⟨S72192x512, .f32⟩
  | 5 => ⟨S72192x512, .f32⟩
  | 6 => ⟨S72192x512, .f32⟩
  | 7 => ⟨S1x1024x512, .f32⟩
  | 8 => ⟨S1024x512, .f32⟩
  | 9 => ⟨S72192x512, .f32⟩
  | 10 => ⟨S72192x512, .f32⟩
  | 11 => ⟨S72192x1, .f32⟩
  | 12 => ⟨S1x512x1024, .f32⟩
  | 13 => ⟨S512x1024, .f32⟩
  | 14 => ⟨S72192x1024, .f32⟩
  | 15 => ⟨S72192x1024, .f32⟩
  | 16 => ⟨S72192x1024, .f32⟩
  | 17 => ⟨S72192x1024, .f32⟩
  | 18 => ⟨S1x1024x512, .f32⟩
  | 19 => ⟨S1024x512, .f32⟩
  | 20 => ⟨S72192x512, .f32⟩
  | 21 => ⟨S72192x512, .f32⟩
  | 22 => ⟨S72192x512, .f32⟩
  | 23 => ⟨S_, .f32⟩
  | 24 => ⟨S72192x512, .f32⟩
  | 25 => ⟨S72192x512, .f32⟩
  | 26 => ⟨S_, .f32⟩
  | 27 => ⟨S72192x512, .f32⟩
  | 28 => ⟨S72192x512, .f32⟩
  | 29 => ⟨S72192x512, .f32⟩
  | 30 => ⟨S1x1024x512, .f32⟩
  | 31 => ⟨S1024x512, .f32⟩
  | 32 => ⟨S72192x512, .f32⟩
  | 33 => ⟨S72192x512, .f32⟩
  | 34 => ⟨S72192x1, .f32⟩
  | 35 => ⟨S1x512x1024, .f32⟩
  | 36 => ⟨S512x1024, .f32⟩
  | 37 => ⟨S72192x1024, .f32⟩
  | 38 => ⟨S72192x1024, .f32⟩
  | 39 => ⟨S72192x1024, .f32⟩
  | 40 => ⟨S72192x1024, .f32⟩
  | 41 => ⟨S1x1024x512, .f32⟩
  | 42 => ⟨S1024x512, .f32⟩
  | 43 => ⟨S72192x512, .f32⟩
  | 44 => ⟨S72192x512, .f32⟩
  | 45 => ⟨S72192x512, .f32⟩
  | 46 => ⟨S_, .f32⟩
  | 47 => ⟨S72192x512, .f32⟩
  | 48 => ⟨S72192x512, .f32⟩
  | 49 => ⟨S_, .f32⟩
  | 50 => ⟨S72192x512, .f32⟩
  | 51 => ⟨S72192x512, .f32⟩
  | 52 => ⟨S72192x512, .f32⟩
  | 53 => ⟨S1x1024x512, .f32⟩
  | 54 => ⟨S1024x512, .f32⟩
  | 55 => ⟨S72192x512, .f32⟩
  | 56 => ⟨S72192x512, .f32⟩
  | 57 => ⟨S72192x1, .f32⟩
  | 58 => ⟨S1x512x1024, .f32⟩
  | 59 => ⟨S512x1024, .f32⟩
  | 60 => ⟨S72192x1024, .f32⟩
  | 61 => ⟨S72192x1024, .f32⟩
  | 62 => ⟨S72192x1024, .f32⟩
  | 63 => ⟨S72192x1024, .f32⟩
  | 64 => ⟨S1x1024x512, .f32⟩
  | 65 => ⟨S1024x512, .f32⟩
  | 66 => ⟨S72192x512, .f32⟩
  | 67 => ⟨S72192x512, .f32⟩
  | 68 => ⟨S72192x512, .f32⟩
  | 69 => ⟨S_, .f32⟩
  | 70 => ⟨S72192x512, .f32⟩
  | 71 => ⟨S72192x512, .f32⟩
  | 72 => ⟨S_, .f32⟩
  | 73 => ⟨S72192x512, .f32⟩
  | 74 => ⟨S72192x512, .f32⟩
  | 75 => ⟨S72192x512, .f32⟩
  | 76 => ⟨S1x1024x512, .f32⟩
  | 77 => ⟨S1024x512, .f32⟩
  | 78 => ⟨S72192x512, .f32⟩
  | 79 => ⟨S72192x512, .f32⟩
  | 80 => ⟨S72192x1, .f32⟩
  | 81 => ⟨S1x512x1024, .f32⟩
  | 82 => ⟨S512x1024, .f32⟩
  | 83 => ⟨S72192x1024, .f32⟩
  | 84 => ⟨S72192x1024, .f32⟩
  | 85 => ⟨S72192x1024, .f32⟩
  | 86 => ⟨S72192x1024, .f32⟩
  | 87 => ⟨S1x1024x512, .f32⟩
  | 88 => ⟨S1024x512, .f32⟩
  | 89 => ⟨S72192x512, .f32⟩
  | 90 => ⟨S72192x512, .f32⟩
  | 91 => ⟨S72192x512, .f32⟩
  | 92 => ⟨S_, .f32⟩
  | 93 => ⟨S72192x512, .f32⟩
  | 94 => ⟨S72192x512, .f32⟩
  | 95 => ⟨S_, .f32⟩
  | 96 => ⟨S72192x512, .f32⟩
  | 97 => ⟨S72192x512, .f32⟩
  | 98 => ⟨S72192x512, .f32⟩
  | 99 => ⟨S1x1024x512, .f32⟩
  | 100 => ⟨S1024x512, .f32⟩
  | 101 => ⟨S72192x512, .f32⟩
  | 102 => ⟨S72192x512, .f32⟩
  | 103 => ⟨S72192x1, .f32⟩
  | 104 => ⟨S1x512x1024, .f32⟩
  | 105 => ⟨S512x1024, .f32⟩
  | 106 => ⟨S72192x1024, .f32⟩
  | 107 => ⟨S72192x1024, .f32⟩
  | 108 => ⟨S72192x1024, .f32⟩
  | 109 => ⟨S72192x1024, .f32⟩
  | 110 => ⟨S1x1024x512, .f32⟩
  | 111 => ⟨S1024x512, .f32⟩
  | 112 => ⟨S72192x512, .f32⟩
  | 113 => ⟨S72192x512, .f32⟩
  | 114 => ⟨S72192x512, .f32⟩
  | 115 => ⟨S_, .f32⟩
  | 116 => ⟨S72192x512, .f32⟩
  | 117 => ⟨S72192x512, .f32⟩
  | 118 => ⟨S_, .f32⟩
  | 119 => ⟨S72192x512, .f32⟩
  | 120 => ⟨S72192x512, .f32⟩
  | 121 => ⟨S72192x512, .f32⟩
  | 122 => ⟨S1x1024x512, .f32⟩
  | 123 => ⟨S1024x512, .f32⟩
  | 124 => ⟨S72192x512, .f32⟩
  | 125 => ⟨S72192x512, .f32⟩
  | 126 => ⟨S72192x1, .f32⟩
  | 127 => ⟨S1x512x1024, .f32⟩
  | _ => ⟨S282, .i32⟩

abbrev hbmTy0_2 (i : Nat) : BufTy := match i % 128 with
  | 0 => ⟨S512x1024, .f32⟩
  | 1 => ⟨S72192x1024, .f32⟩
  | 2 => ⟨S72192x1024, .f32⟩
  | 3 => ⟨S72192x1024, .f32⟩
  | 4 => ⟨S72192x1024, .f32⟩
  | 5 => ⟨S1x1024x512, .f32⟩
  | 6 => ⟨S1024x512, .f32⟩
  | 7 => ⟨S72192x512, .f32⟩
  | 8 => ⟨S72192x512, .f32⟩
  | 9 => ⟨S72192x512, .f32⟩
  | 10 => ⟨S_, .f32⟩
  | 11 => ⟨S72192x512, .f32⟩
  | 12 => ⟨S72192x512, .f32⟩
  | 13 => ⟨S_, .f32⟩
  | 14 => ⟨S72192x512, .f32⟩
  | 15 => ⟨S72192x512, .f32⟩
  | 16 => ⟨S72192x512, .f32⟩
  | 17 => ⟨S1x1024x512, .f32⟩
  | 18 => ⟨S1024x512, .f32⟩
  | 19 => ⟨S72192x512, .f32⟩
  | 20 => ⟨S72192x512, .f32⟩
  | 21 => ⟨S72192x1, .f32⟩
  | 22 => ⟨S1x512x1024, .f32⟩
  | 23 => ⟨S512x1024, .f32⟩
  | 24 => ⟨S72192x1024, .f32⟩
  | 25 => ⟨S72192x1024, .f32⟩
  | 26 => ⟨S72192x1024, .f32⟩
  | 27 => ⟨S72192x1024, .f32⟩
  | 28 => ⟨S1x1024x512, .f32⟩
  | 29 => ⟨S1024x512, .f32⟩
  | 30 => ⟨S72192x512, .f32⟩
  | 31 => ⟨S72192x512, .f32⟩
  | 32 => ⟨S72192x512, .f32⟩
  | 33 => ⟨S_, .f32⟩
  | 34 => ⟨S72192x512, .f32⟩
  | 35 => ⟨S72192x512, .f32⟩
  | 36 => ⟨S_, .f32⟩
  | 37 => ⟨S72192x512, .f32⟩
  | 38 => ⟨S72192x512, .f32⟩
  | 39 => ⟨S72192x512, .f32⟩
  | 40 => ⟨S1x1024x512, .f32⟩
  | 41 => ⟨S1024x512, .f32⟩
  | 42 => ⟨S72192x512, .f32⟩
  | 43 => ⟨S72192x512, .f32⟩
  | 44 => ⟨S72192x1, .f32⟩
  | 45 => ⟨S1x512x1024, .f32⟩
  | 46 => ⟨S512x1024, .f32⟩
  | 47 => ⟨S72192x1024, .f32⟩
  | 48 => ⟨S72192x1024, .f32⟩
  | 49 => ⟨S72192x1024, .f32⟩
  | 50 => ⟨S72192x1024, .f32⟩
  | 51 => ⟨S1x1024x512, .f32⟩
  | 52 => ⟨S1024x512, .f32⟩
  | 53 => ⟨S72192x512, .f32⟩
  | 54 => ⟨S72192x512, .f32⟩
  | 55 => ⟨S72192x512, .f32⟩
  | 56 => ⟨S_, .f32⟩
  | 57 => ⟨S72192x512, .f32⟩
  | 58 => ⟨S72192x512, .f32⟩
  | 59 => ⟨S_, .f32⟩
  | 60 => ⟨S72192x512, .f32⟩
  | 61 => ⟨S72192x512, .f32⟩
  | 62 => ⟨S72192x512, .f32⟩
  | 63 => ⟨S1x1024x512, .f32⟩
  | 64 => ⟨S1024x512, .f32⟩
  | 65 => ⟨S72192x512, .f32⟩
  | 66 => ⟨S72192x512, .f32⟩
  | 67 => ⟨S72192x1, .f32⟩
  | 68 => ⟨S1x512x1024, .f32⟩
  | 69 => ⟨S512x1024, .f32⟩
  | 70 => ⟨S72192x1024, .f32⟩
  | 71 => ⟨S72192x1024, .f32⟩
  | 72 => ⟨S72192x1024, .f32⟩
  | 73 => ⟨S72192x1024, .f32⟩
  | 74 => ⟨S1x1024x512, .f32⟩
  | 75 => ⟨S1024x512, .f32⟩
  | 76 => ⟨S72192x512, .f32⟩
  | 77 => ⟨S72192x512, .f32⟩
  | 78 => ⟨S72192x512, .f32⟩
  | 79 => ⟨S_, .f32⟩
  | 80 => ⟨S72192x512, .f32⟩
  | 81 => ⟨S72192x512, .f32⟩
  | 82 => ⟨S_, .f32⟩
  | 83 => ⟨S72192x512, .f32⟩
  | 84 => ⟨S72192x512, .f32⟩
  | 85 => ⟨S72192x512, .f32⟩
  | 86 => ⟨S1x1024x512, .f32⟩
  | 87 => ⟨S1024x512, .f32⟩
  | 88 => ⟨S72192x512, .f32⟩
  | 89 => ⟨S72192x512, .f32⟩
  | 90 => ⟨S72192x1, .f32⟩
  | 91 => ⟨S1x512x1024, .f32⟩
  | 92 => ⟨S512x1024, .f32⟩
  | 93 => ⟨S72192x1024, .f32⟩
  | 94 => ⟨S72192x1024, .f32⟩
  | 95 => ⟨S72192x1024, .f32⟩
  | 96 => ⟨S72192x1024, .f32⟩
  | 97 => ⟨S1x1024x512, .f32⟩
  | 98 => ⟨S1024x512, .f32⟩
  | 99 => ⟨S72192x512, .f32⟩
  | 100 => ⟨S72192x512, .f32⟩
  | 101 => ⟨S72192x512, .f32⟩
  | 102 => ⟨S_, .f32⟩
  | 103 => ⟨S72192x512, .f32⟩
  | 104 => ⟨S72192x512, .f32⟩
  | 105 => ⟨S_, .f32⟩
  | 106 => ⟨S72192x512, .f32⟩
  | 107 => ⟨S72192x512, .f32⟩
  | 108 => ⟨S72192x512, .f32⟩
  | 109 => ⟨S1x1024x512, .f32⟩
  | 110 => ⟨S1024x512, .f32⟩
  | 111 => ⟨S72192x512, .f32⟩
  | 112 => ⟨S72192x512, .f32⟩
  | 113 => ⟨S72192x1, .f32⟩
  | 114 => ⟨S1x512x1024, .f32⟩
  | 115 => ⟨S512x1024, .f32⟩
  | 116 => ⟨S72192x1024, .f32⟩
  | 117 => ⟨S72192x1024, .f32⟩
  | 118 => ⟨S72192x1024, .f32⟩
  | 119 => ⟨S72192x1024, .f32⟩
  | 120 => ⟨S1x1024x512, .f32⟩
  | 121 => ⟨S1024x512, .f32⟩
  | 122 => ⟨S72192x512, .f32⟩
  | 123 => ⟨S72192x512, .f32⟩
  | 124 => ⟨S72192x512, .f32⟩
  | 125 => ⟨S_, .f32⟩
  | 126 => ⟨S72192x512, .f32⟩
  | 127 => ⟨S72192x512, .f32⟩
  | _ => ⟨S282, .i32⟩

abbrev hbmTy0_3 (i : Nat) : BufTy := match i % 128 with
  | 0 => ⟨S_, .f32⟩
  | 1 => ⟨S72192x512, .f32⟩
  | 2 => ⟨S72192x512, .f32⟩
  | 3 => ⟨S72192x512, .f32⟩
  | 4 => ⟨S1x1024x512, .f32⟩
  | 5 => ⟨S1024x512, .f32⟩
  | 6 => ⟨S72192x512, .f32⟩
  | 7 => ⟨S72192x512, .f32⟩
  | 8 => ⟨S72192x1, .f32⟩
  | 9 => ⟨S1x512x1024, .f32⟩
  | 10 => ⟨S512x1024, .f32⟩
  | 11 => ⟨S72192x1024, .f32⟩
  | 12 => ⟨S72192x1024, .f32⟩
  | 13 => ⟨S72192x1024, .f32⟩
  | 14 => ⟨S72192x1024, .f32⟩
  | 15 => ⟨S282x1, .i32⟩
  | 16 => ⟨S282x256, .i32⟩
  | 17 => ⟨S72192, .i32⟩
  | 18 => ⟨S72192x1, .i32⟩
  | 19 => ⟨S_, .i32⟩
  | 20 => ⟨S72192x1, .i32⟩
  | 21 => ⟨S72192x1, .i1⟩
  | 22 => ⟨S_, .f32⟩
  | 23 => ⟨S_, .f32⟩
  | 24 => ⟨S72192x1024, .i1⟩
  | 25 => ⟨S72192x1024, .f32⟩
  | 26 => ⟨S72192x1024, .f32⟩
  | _ => ⟨S282, .i32⟩

abbrev hbmTy (i : Nat) : BufTy := match i / 128 with
  | 0 => hbmTy0_0 i
  | 1 => hbmTy0_1 i
  | 2 => hbmTy0_2 i
  | 3 => hbmTy0_3 i
  | _ => ⟨S282, .i32⟩

abbrev bufTy : (tb : Table) → Fin (tcTables nBuf tb) → BufTy
  | .hbm, ⟨i, _⟩ => hbmTy i
  | _, _ => ⟨S282, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call4_v0 : Ref sig .tc := ⟨.hbm, 103, rfl⟩
abbrev main_call4_v1 : Ref sig .tc := ⟨.hbm, 104, rfl⟩
abbrev main_call4_cst : Ref sig .tc := ⟨.hbm, 105, rfl⟩
abbrev main_call4_v2 : Ref sig .tc := ⟨.hbm, 106, rfl⟩
abbrev main_call4_v3 : Ref sig .tc := ⟨.hbm, 107, rfl⟩
abbrev main_call4_cst_0 : Ref sig .tc := ⟨.hbm, 108, rfl⟩
abbrev main_call4_v4 : Ref sig .tc := ⟨.hbm, 109, rfl⟩
abbrev main_call4_v5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_call5_v0 : Ref sig .tc := ⟨.hbm, 126, rfl⟩
abbrev main_call5_v1 : Ref sig .tc := ⟨.hbm, 127, rfl⟩
abbrev main_call5_cst : Ref sig .tc := ⟨.hbm, 128, rfl⟩
abbrev main_call5_v2 : Ref sig .tc := ⟨.hbm, 129, rfl⟩
abbrev main_call5_v3 : Ref sig .tc := ⟨.hbm, 130, rfl⟩
abbrev main_call5_cst_0 : Ref sig .tc := ⟨.hbm, 131, rfl⟩
abbrev main_call5_v4 : Ref sig .tc := ⟨.hbm, 132, rfl⟩
abbrev main_call5_v5 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_call6_v0 : Ref sig .tc := ⟨.hbm, 149, rfl⟩
abbrev main_call6_v1 : Ref sig .tc := ⟨.hbm, 150, rfl⟩
abbrev main_call6_cst : Ref sig .tc := ⟨.hbm, 151, rfl⟩
abbrev main_call6_v2 : Ref sig .tc := ⟨.hbm, 152, rfl⟩
abbrev main_call6_v3 : Ref sig .tc := ⟨.hbm, 153, rfl⟩
abbrev main_call6_cst_0 : Ref sig .tc := ⟨.hbm, 154, rfl⟩
abbrev main_call6_v4 : Ref sig .tc := ⟨.hbm, 155, rfl⟩
abbrev main_call6_v5 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_call7_v0 : Ref sig .tc := ⟨.hbm, 172, rfl⟩
abbrev main_call7_v1 : Ref sig .tc := ⟨.hbm, 173, rfl⟩
abbrev main_call7_cst : Ref sig .tc := ⟨.hbm, 174, rfl⟩
abbrev main_call7_v2 : Ref sig .tc := ⟨.hbm, 175, rfl⟩
abbrev main_call7_v3 : Ref sig .tc := ⟨.hbm, 176, rfl⟩
abbrev main_call7_cst_0 : Ref sig .tc := ⟨.hbm, 177, rfl⟩
abbrev main_call7_v4 : Ref sig .tc := ⟨.hbm, 178, rfl⟩
abbrev main_call7_v5 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_call8_v0 : Ref sig .tc := ⟨.hbm, 195, rfl⟩
abbrev main_call8_v1 : Ref sig .tc := ⟨.hbm, 196, rfl⟩
abbrev main_call8_cst : Ref sig .tc := ⟨.hbm, 197, rfl⟩
abbrev main_call8_v2 : Ref sig .tc := ⟨.hbm, 198, rfl⟩
abbrev main_call8_v3 : Ref sig .tc := ⟨.hbm, 199, rfl⟩
abbrev main_call8_cst_0 : Ref sig .tc := ⟨.hbm, 200, rfl⟩
abbrev main_call8_v4 : Ref sig .tc := ⟨.hbm, 201, rfl⟩
abbrev main_call8_v5 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_call9_v0 : Ref sig .tc := ⟨.hbm, 218, rfl⟩
abbrev main_call9_v1 : Ref sig .tc := ⟨.hbm, 219, rfl⟩
abbrev main_call9_cst : Ref sig .tc := ⟨.hbm, 220, rfl⟩
abbrev main_call9_v2 : Ref sig .tc := ⟨.hbm, 221, rfl⟩
abbrev main_call9_v3 : Ref sig .tc := ⟨.hbm, 222, rfl⟩
abbrev main_call9_cst_0 : Ref sig .tc := ⟨.hbm, 223, rfl⟩
abbrev main_call9_v4 : Ref sig .tc := ⟨.hbm, 224, rfl⟩
abbrev main_call9_v5 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_call10_v0 : Ref sig .tc := ⟨.hbm, 241, rfl⟩
abbrev main_call10_v1 : Ref sig .tc := ⟨.hbm, 242, rfl⟩
abbrev main_call10_cst : Ref sig .tc := ⟨.hbm, 243, rfl⟩
abbrev main_call10_v2 : Ref sig .tc := ⟨.hbm, 244, rfl⟩
abbrev main_call10_v3 : Ref sig .tc := ⟨.hbm, 245, rfl⟩
abbrev main_call10_cst_0 : Ref sig .tc := ⟨.hbm, 246, rfl⟩
abbrev main_call10_v4 : Ref sig .tc := ⟨.hbm, 247, rfl⟩
abbrev main_call10_v5 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_call11_v0 : Ref sig .tc := ⟨.hbm, 264, rfl⟩
abbrev main_call11_v1 : Ref sig .tc := ⟨.hbm, 265, rfl⟩
abbrev main_call11_cst : Ref sig .tc := ⟨.hbm, 266, rfl⟩
abbrev main_call11_v2 : Ref sig .tc := ⟨.hbm, 267, rfl⟩
abbrev main_call11_v3 : Ref sig .tc := ⟨.hbm, 268, rfl⟩
abbrev main_call11_cst_0 : Ref sig .tc := ⟨.hbm, 269, rfl⟩
abbrev main_call11_v4 : Ref sig .tc := ⟨.hbm, 270, rfl⟩
abbrev main_call11_v5 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_call12_v0 : Ref sig .tc := ⟨.hbm, 287, rfl⟩
abbrev main_call12_v1 : Ref sig .tc := ⟨.hbm, 288, rfl⟩
abbrev main_call12_cst : Ref sig .tc := ⟨.hbm, 289, rfl⟩
abbrev main_call12_v2 : Ref sig .tc := ⟨.hbm, 290, rfl⟩
abbrev main_call12_v3 : Ref sig .tc := ⟨.hbm, 291, rfl⟩
abbrev main_call12_cst_0 : Ref sig .tc := ⟨.hbm, 292, rfl⟩
abbrev main_call12_v4 : Ref sig .tc := ⟨.hbm, 293, rfl⟩
abbrev main_call12_v5 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_call13_v0 : Ref sig .tc := ⟨.hbm, 310, rfl⟩
abbrev main_call13_v1 : Ref sig .tc := ⟨.hbm, 311, rfl⟩
abbrev main_call13_cst : Ref sig .tc := ⟨.hbm, 312, rfl⟩
abbrev main_call13_v2 : Ref sig .tc := ⟨.hbm, 313, rfl⟩
abbrev main_call13_v3 : Ref sig .tc := ⟨.hbm, 314, rfl⟩
abbrev main_call13_cst_0 : Ref sig .tc := ⟨.hbm, 315, rfl⟩
abbrev main_call13_v4 : Ref sig .tc := ⟨.hbm, 316, rfl⟩
abbrev main_call13_v5 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_call14_v0 : Ref sig .tc := ⟨.hbm, 333, rfl⟩
abbrev main_call14_v1 : Ref sig .tc := ⟨.hbm, 334, rfl⟩
abbrev main_call14_cst : Ref sig .tc := ⟨.hbm, 335, rfl⟩
abbrev main_call14_v2 : Ref sig .tc := ⟨.hbm, 336, rfl⟩
abbrev main_call14_v3 : Ref sig .tc := ⟨.hbm, 337, rfl⟩
abbrev main_call14_cst_0 : Ref sig .tc := ⟨.hbm, 338, rfl⟩
abbrev main_call14_v4 : Ref sig .tc := ⟨.hbm, 339, rfl⟩
abbrev main_call14_v5 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_v226 : Ref sig .tc := ⟨.hbm, 353, rfl⟩
abbrev main_v227 : Ref sig .tc := ⟨.hbm, 354, rfl⟩
abbrev main_v228 : Ref sig .tc := ⟨.hbm, 355, rfl⟩
abbrev main_call15_v0 : Ref sig .tc := ⟨.hbm, 356, rfl⟩
abbrev main_call15_v1 : Ref sig .tc := ⟨.hbm, 357, rfl⟩
abbrev main_call15_cst : Ref sig .tc := ⟨.hbm, 358, rfl⟩
abbrev main_call15_v2 : Ref sig .tc := ⟨.hbm, 359, rfl⟩
abbrev main_call15_v3 : Ref sig .tc := ⟨.hbm, 360, rfl⟩
abbrev main_call15_cst_0 : Ref sig .tc := ⟨.hbm, 361, rfl⟩
abbrev main_call15_v4 : Ref sig .tc := ⟨.hbm, 362, rfl⟩
abbrev main_call15_v5 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_call16_v0 : Ref sig .tc := ⟨.hbm, 379, rfl⟩
abbrev main_call16_v1 : Ref sig .tc := ⟨.hbm, 380, rfl⟩
abbrev main_call16_cst : Ref sig .tc := ⟨.hbm, 381, rfl⟩
abbrev main_call16_v2 : Ref sig .tc := ⟨.hbm, 382, rfl⟩
abbrev main_call16_v3 : Ref sig .tc := ⟨.hbm, 383, rfl⟩
abbrev main_call16_cst_0 : Ref sig .tc := ⟨.hbm, 384, rfl⟩
abbrev main_call16_v4 : Ref sig .tc := ⟨.hbm, 385, rfl⟩
abbrev main_call16_v5 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_v254 : Ref sig .tc := ⟨.hbm, 397, rfl⟩
abbrev main_v255 : Ref sig .tc := ⟨.hbm, 398, rfl⟩
abbrev main_v256 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_c : Ref sig .tc := ⟨.hbm, 403, rfl⟩
abbrev main_v260 : Ref sig .tc := ⟨.hbm, 404, rfl⟩
abbrev main_v261 : Ref sig .tc := ⟨.hbm, 405, rfl⟩
abbrev main_cst_0 : Ref sig .tc := ⟨.hbm, 406, rfl⟩
abbrev main_call17_v0 : Ref sig .tc := ⟨.hbm, 407, rfl⟩
abbrev main_call17_v1 : Ref sig .tc := ⟨.hbm, 408, rfl⟩
abbrev main_call17_v2 : Ref sig .tc := ⟨.hbm, 409, rfl⟩
abbrev main_v262 : Ref sig .tc := ⟨.hbm, 410, rfl⟩

abbrev nD : Nat := 1
abbrev τ : Topo := Topo.v7x

variable {F : FTy → Type} [FloatOps F]
-- ==== Tail.lean ====
abbrev S66048x1024 : Shape := ⟨2, ![66048, 1024]⟩
abbrev S1024 : Shape := ⟨1, ![1024]⟩
abbrev S1x1024 : Shape := ⟨2, ![1, 1024]⟩
abbrev S65536x1024 : Shape := ⟨2, ![65536, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S66048x1024, .f32⟩
  | .hbm, ⟨1, _⟩ => ⟨S66048x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S65536x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== TailRefIdeal.lean ====
abbrev S66048x1024 : Shape := ⟨2, ![66048, 1024]⟩
abbrev S1024 : Shape := ⟨1, ![1024]⟩
abbrev S_ : Shape := ⟨0, ![]⟩
abbrev S66048 : Shape := ⟨1, ![66048]⟩
abbrev S66048x1 : Shape := ⟨2, ![66048, 1]⟩
abbrev S1x1024 : Shape := ⟨2, ![1, 1024]⟩
abbrev S65536x1024 : Shape := ⟨2, ![65536, 1024]⟩
abbrev S512x1024 : Shape := ⟨2, ![512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S66048x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S66048x1024, .f32⟩
  | .hbm, ⟨6, _⟩ => ⟨S66048x1024, .f32⟩
  | .hbm, ⟨7, _⟩ => ⟨S66048x1024, .f32⟩
  | .hbm, ⟨8, _⟩ => ⟨S_, .f32⟩
  | .hbm, ⟨9, _⟩ => ⟨S66048, .f32⟩
  | .hbm, ⟨10, _⟩ => ⟨S66048x1, .f32⟩
  | .hbm, ⟨11, _⟩ => ⟨S_, .f32⟩
  | .hbm, ⟨12, _⟩ => ⟨S66048x1, .f32⟩
  | .hbm, ⟨13, _⟩ => ⟨S66048x1, .f32⟩
  | .hbm, ⟨14, _⟩ => ⟨S66048x1024, .f32⟩
  | .hbm, ⟨15, _⟩ => ⟨S66048x1024, .f32⟩
  | .hbm, ⟨16, _⟩ => ⟨S66048x1024, .f32⟩
  | .hbm, ⟨17, _⟩ => ⟨S_, .f32⟩
  | .hbm, ⟨18, _⟩ => ⟨S66048, .f32⟩
  | .hbm, ⟨19, _⟩ => ⟨S66048x1, .f32⟩
  | .hbm, ⟨20, _⟩ => ⟨S_, .f32⟩
  | .hbm, ⟨21, _⟩ => ⟨S66048x1, .f32⟩
  | .hbm, ⟨22, _⟩ => ⟨S66048x1, .f32⟩
  | .hbm, ⟨23, _⟩ => ⟨S66048x1024, .f32⟩
  | .hbm, ⟨24, _⟩ => ⟨S66048x1024, .f32⟩
  | .hbm, ⟨25, _⟩ => ⟨S_, .f32⟩
  | .hbm, ⟨26, _⟩ => ⟨S66048x1, .f32⟩
  | .hbm, ⟨27, _⟩ => ⟨S66048x1, .f32⟩
  | .hbm, ⟨28, _⟩ => ⟨S66048x1, .f32⟩
  | .hbm, ⟨29, _⟩ => ⟨S66048x1024, .f32⟩
  | .hbm, ⟨30, _⟩ => ⟨S66048x1024, .f32⟩
  | .hbm, ⟨31, _⟩ => ⟨S1x1024, .f32⟩
  | .hbm, ⟨32, _⟩ => ⟨S66048x1024, .f32⟩
  | .hbm, ⟨33, _⟩ => ⟨S66048x1024, .f32⟩
  | .hbm, ⟨34, _⟩ => ⟨S1x1024, .f32⟩
  | .hbm, ⟨35, _⟩ => ⟨S66048x1024, .f32⟩
  | .hbm, ⟨36, _⟩ => ⟨S66048x1024, .f32⟩
  | .hbm, ⟨37, _⟩ => ⟨S65536x1024, .f32⟩
  | .hbm, ⟨38, _⟩ => ⟨S512x1024, .f32⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proj.lean ====
abbrev S512x1024 : Shape := ⟨2, ![512, 1024]⟩
abbrev S65536x1024 : Shape := ⟨2, ![65536, 1024]⟩
abbrev S1024 : Shape := ⟨1, ![1024]⟩
abbrev S1024x2048 : Shape := ⟨2, ![1024, 2048]⟩
abbrev S1x1024 : Shape := ⟨2, ![1, 1024]⟩
abbrev S66048x1024 : Shape := ⟨2, ![66048, 1024]⟩
abbrev S66048x512 : Shape := ⟨2, ![66048, 512]⟩
abbrev S32x2048x4x128 : Shape := ⟨4, ![32, 2048, 4, 128]⟩
abbrev S512x512 : Shape := ⟨2, ![512, 512]⟩
abbrev S1x512x4x128 : Shape := ⟨4, ![1, 512, 4, 128]⟩
abbrev S512 : Shape := ⟨1, ![512]⟩
abbrev S512x1 : Shape := ⟨2, ![512, 1]⟩
abbrev S1024x512 : Shape := ⟨2, ![1024, 512]⟩
abbrev S512x4x128 : Shape := ⟨3, ![512, 4, 128]⟩

abbrev nBuf : Space → Nat
  | .hbm => 17
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S65536x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S1x1024, .f32⟩
  | .hbm, ⟨6, _⟩ => ⟨S1x1024, .f32⟩
  | .hbm, ⟨7, _⟩ => ⟨S1024x2048, .bf16⟩
  | .hbm, ⟨8, _⟩ => ⟨S66048x1024, .f32⟩
  | .hbm, ⟨9, _⟩ => ⟨S66048x512, .bf16⟩
  | .hbm, ⟨10, _⟩ => ⟨S66048x512, .f32⟩
  | .hbm, ⟨11, _⟩ => ⟨S66048x512, .bf16⟩
  | .hbm, ⟨12, _⟩ => ⟨S66048x512, .bf16⟩
  | .hbm, ⟨13, _⟩ => ⟨S32x2048x4x128, .f32⟩
  | .hbm, ⟨14, _⟩ => ⟨S32x2048x4x128, .f32⟩
  | .hbm, ⟨15, _⟩ => ⟨S512x512, .f32⟩
  | .hbm, ⟨16, _⟩ => ⟨S512x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | .local _ .vmem, ⟨5, _⟩ => ⟨S1024x2048, .bf16⟩
  | .local _ .vmem, ⟨6, _⟩ => ⟨S512x1024, .f32⟩
  | .local _ .vmem, ⟨7, _⟩ => ⟨S512x1024, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x512x4x128, .f32⟩
  | .local _ .vmem, ⟨17, _⟩ => ⟨S1x512x4x128, .f32⟩
  | .local _ .vmem, ⟨18, _⟩ => ⟨S1x512x4x128, .f32⟩
  | .local _ .vmem, ⟨19, _⟩ => ⟨S1x512x4x128, .f32⟩
  | .local _ .vmem, ⟨20, _⟩ => ⟨S512x512, .f32⟩
  | .local _ .vmem, ⟨21, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ProjRefIdeal.lean ====
abbrev S512x1024 : Shape := ⟨2, ![512, 1024]⟩
abbrev S65536x1024 : Shape := ⟨2, ![65536, 1024]⟩
abbrev S1024 : Shape := ⟨1, ![1024]⟩
abbrev S1024x2048 : Shape := ⟨2, ![1024, 2048]⟩
abbrev S66048x1024 : Shape := ⟨2, ![66048, 1024]⟩
abbrev S_ : Shape := ⟨0, ![]⟩
abbrev S66048 : Shape := ⟨1, ![66048]⟩
abbrev S66048x1 : Shape := ⟨2, ![66048, 1]⟩
abbrev S1x1024 : Shape := ⟨2, ![1, 1024]⟩
abbrev S66048x2048 : Shape := ⟨2, ![66048, 2048]⟩
abbrev S66048x512 : Shape := ⟨2, ![66048, 512]⟩
abbrev S65536x512 : Shape := ⟨2, ![65536, 512]⟩
abbrev S32x2048x4x128 : Shape := ⟨4, ![32, 2048, 4, 128]⟩
abbrev S512x512 : Shape := ⟨2, ![512, 512]⟩

abbrev nBuf : Space → Nat
  | .hbm => 52
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S65536x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S66048x1024, .f32⟩
  | .hbm, ⟨6, _⟩ => ⟨S_, .f32⟩
  | .hbm, ⟨7, _⟩ => ⟨S66048, .f32⟩
  | .hbm, ⟨8, _⟩ => ⟨S66048x1, .f32⟩
  | .hbm, ⟨9, _⟩ => ⟨S_, .f32⟩
  | .hbm, ⟨10, _⟩ => ⟨S66048x1, .f32⟩
  | .hbm, ⟨11, _⟩ => ⟨S66048x1, .f32⟩
  | .hbm, ⟨12, _⟩ => ⟨S66048x1024, .f32⟩
  | .hbm, ⟨13, _⟩ => ⟨S66048x1024, .f32⟩
  | .hbm, ⟨14, _⟩ => ⟨S66048x1024, .f32⟩
  | .hbm, ⟨15, _⟩ => ⟨S_, .f32⟩
  | .hbm, ⟨16, _⟩ => ⟨S66048, .f32⟩
  | .hbm, ⟨17, _⟩ => ⟨S66048x1, .f32⟩
  | .hbm, ⟨18, _⟩ => ⟨S_, .f32⟩
  | .hbm, ⟨19, _⟩ => ⟨S66048x1, .f32⟩
  | .hbm, ⟨20, _⟩ => ⟨S66048x1, .f32⟩
  | .hbm, ⟨21, _⟩ => ⟨S66048x1024, .f32⟩
  | .hbm, ⟨22, _⟩ => ⟨S66048x1024, .f32⟩
  | .hbm, ⟨23, _⟩ => ⟨S_, .f32⟩
  | .hbm, ⟨24, _⟩ => ⟨S66048x1, .f32⟩
  | .hbm, ⟨25, _⟩ => ⟨S66048x1, .f32⟩
  | .hbm, ⟨26, _⟩ => ⟨S66048x1, .f32⟩
  | .hbm, ⟨27, _⟩ => ⟨S66048x1024, .f32⟩
  | .hbm, ⟨28, _⟩ => ⟨S66048x1024, .f32⟩
  | .hbm, ⟨29, _⟩ => ⟨S1x1024, .f32⟩
  | .hbm, ⟨30, _⟩ => ⟨S66048x1024, .f32⟩
  | .hbm, ⟨31, _⟩ => ⟨S66048x1024, .f32⟩
  | .hbm, ⟨32, _⟩ => ⟨S1x1024, .f32⟩
  | .hbm, ⟨33, _⟩ => ⟨S66048x1024, .f32⟩
  | .hbm, ⟨34, _⟩ => ⟨S66048x1024, .f32⟩
  | .hbm, ⟨35, _⟩ => ⟨S66048x2048, .f32⟩
  | .hbm, ⟨36, _⟩ => ⟨S66048x512, .f32⟩
  | .hbm, ⟨37, _⟩ => ⟨S66048x512, .f32⟩
  | .hbm, ⟨38, _⟩ => ⟨S66048x512, .f32⟩
  | .hbm, ⟨39, _⟩ => ⟨S66048x512, .f32⟩
  | .hbm, ⟨40, _⟩ => ⟨S_, .f32⟩
  | .hbm, ⟨41, _⟩ => ⟨S66048x512, .f32⟩
  | .hbm, ⟨42, _⟩ => ⟨S66048x512, .f32⟩
  | .hbm, ⟨43, _⟩ => ⟨S66048x512, .bf16⟩
  | .hbm, ⟨44, _⟩ => ⟨S66048x512, .bf16⟩
  | .hbm, ⟨45, _⟩ => ⟨S66048x512, .bf16⟩
  | .hbm, ⟨46, _⟩ => ⟨S65536x512, .f32⟩
  | .hbm, ⟨47, _⟩ => ⟨S32x2048x4x128, .f32⟩
  | .hbm, ⟨48, _⟩ => ⟨S65536x512, .f32⟩
  | .hbm, ⟨49, _⟩ => ⟨S32x2048x4x128, .f32⟩
  | .hbm, ⟨50, _⟩ => ⟨S512x512, .f32⟩
  | .hbm, ⟨51, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Next.lean ====
abbrev S66048x1024 : Shape := ⟨2, ![66048, 1024]⟩
abbrev S1024 : Shape := ⟨1, ![1024]⟩
abbrev S1024x2048 : Shape := ⟨2, ![1024, 2048]⟩
abbrev S2x32x2048x4x128 : Shape := ⟨5, ![2, 32, 2048, 4, 128]⟩
abbrev S512x512 : Shape := ⟨2, ![512, 512]⟩
abbrev S66048x512 : Shape := ⟨2, ![66048, 512]⟩
abbrev S1x1024 : Shape := ⟨2, ![1, 1024]⟩
abbrev S512x1024 : Shape := ⟨2, ![512, 1024]⟩
abbrev S1x1x512x4x128 : Shape := ⟨5, ![1, 1, 512, 4, 128]⟩
abbrev S512 : Shape := ⟨1, ![512]⟩
abbrev S512x1 : Shape := ⟨2, ![512, 1]⟩
abbrev S1024x512 : Shape := ⟨2, ![1024, 512]⟩
abbrev S512x4x128 : Shape := ⟨3, ![512, 4, 128]⟩
abbrev S16x512 : Shape := ⟨2, ![16, 512]⟩
abbrev S1x16x4x128 : Shape := ⟨4, ![1, 16, 4, 128]⟩
abbrev S32x16x4x128 : Shape := ⟨4, ![32, 16, 4, 128]⟩
abbrev S1x32x2048x4x128 : Shape := ⟨5, ![1, 32, 2048, 4, 128]⟩
abbrev S32x2048x4x128 : Shape := ⟨4, ![32, 2048, 4, 128]⟩
abbrev S32x2064x4x128 : Shape := ⟨4, ![32, 2064, 4, 128]⟩
abbrev S32 : Shape := ⟨1, ![32]⟩
abbrev S32x1 : Shape := ⟨2, ![32, 1]⟩
abbrev S_ : Shape := ⟨0, ![]⟩
abbrev S15 : Shape := ⟨1, ![15]⟩
abbrev S1x15 : Shape := ⟨2, ![1, 15]⟩
abbrev S32x15 : Shape := ⟨2, ![32, 15]⟩
abbrev S480 : Shape := ⟨1, ![480]⟩
abbrev S480x1 : Shape := ⟨2, ![480, 1]⟩
abbrev S480x512 : Shape := ⟨2, ![480, 512]⟩
abbrev S32x15x512 : Shape := ⟨3, ![32, 15, 512]⟩
abbrev S128x512 : Shape := ⟨2, ![128, 512]⟩
abbrev S8x16x4x128 : Shape := ⟨4, ![8, 16, 4, 128]⟩
abbrev S1x32x2064x4x128 : Shape := ⟨5, ![1, 32, 2064, 4, 128]⟩
abbrev S2x32x2064x4x128 : Shape := ⟨5, ![2, 32, 2064, 4, 128]⟩
abbrev S1x32x15x512 : Shape := ⟨4, ![1, 32, 15, 512]⟩
abbrev S2x32x15x512 : Shape := ⟨4, ![2, 32, 15, 512]⟩
abbrev S1x8x16x4x128 : Shape := ⟨5, ![1, 8, 16, 4, 128]⟩
abbrev S2x8x16x4x128 : Shape := ⟨5, ![2, 8, 16, 4, 128]⟩

abbrev nBuf : Space → Nat
  | .hbm => 129
  | .vmem => 23
  | .smem => 0
  | _ => 0

abbrev hbmTy0_0 (i : Nat) : BufTy := match i % 128 with
  | 0 => ⟨S66048x1024, .f32⟩
  | 1 => ⟨S66048x1024, .f32⟩
  | 2 => ⟨S1024, .f32⟩
  | 3 => ⟨S1024, .f32⟩
  | 4 => ⟨S1024x2048, .f32⟩
  | 5 => ⟨S2x32x2048x4x128, .f32⟩
  | 6 => ⟨S2x32x2048x4x128, .f32⟩
  | 7 => ⟨S512x512, .f32⟩
  | 8 => ⟨S512x512, .f32⟩
  | 9 => ⟨S66048x512, .f32⟩
  | 10 => ⟨S1x1024, .f32⟩
  | 11 => ⟨S1x1024, .f32⟩
  | 12 => ⟨S1024x2048, .bf16⟩
  | 13 => ⟨S66048x1024, .f32⟩
  | 14 => ⟨S66048x512, .bf16⟩
  | 15 => ⟨S66048x512, .f32⟩
  | 16 => ⟨S66048x512, .bf16⟩
  | 17 => ⟨S66048x512, .bf16⟩
  | 18 => ⟨S2x32x2048x4x128, .f32⟩
  | 19 => ⟨S2x32x2048x4x128, .f32⟩
  | 20 => ⟨S512x512, .f32⟩
  | 21 => ⟨S512x512, .f32⟩
  | 22 => ⟨S16x512, .f32⟩
  | 23 => ⟨S1x16x4x128, .f32⟩
  | 24 => ⟨S32x16x4x128, .f32⟩
  | 25 => ⟨S16x512, .f32⟩
  | 26 => ⟨S1x16x4x128, .f32⟩
  | 27 => ⟨S32x16x4x128, .f32⟩
  | 28 => ⟨S1x32x2048x4x128, .f32⟩
  | 29 => ⟨S32x2048x4x128, .f32⟩
  | 30 => ⟨S32x2064x4x128, .f32⟩
  | 31 => ⟨S1x32x2048x4x128, .f32⟩
  | 32 => ⟨S32x2048x4x128, .f32⟩
  | 33 => ⟨S32x2064x4x128, .f32⟩
  | 34 => ⟨S32, .i32⟩
  | 35 => ⟨S32x1, .i32⟩
  | 36 => ⟨S_, .i32⟩
  | 37 => ⟨S32x1, .i32⟩
  | 38 => ⟨S32x1, .i32⟩
  | 39 => ⟨S_, .i32⟩
  | 40 => ⟨S32x1, .i32⟩
  | 41 => ⟨S32x1, .i32⟩
  | 42 => ⟨S_, .i32⟩
  | 43 => ⟨S32x1, .i32⟩
  | 44 => ⟨S32x1, .i32⟩
  | 45 => ⟨S_, .i32⟩
  | 46 => ⟨S32x1, .i32⟩
  | 47 => ⟨S32x1, .i32⟩
  | 48 => ⟨S15, .i32⟩
  | 49 => ⟨S1x15, .i32⟩
  | 50 => ⟨S32x15, .i32⟩
  | 51 => ⟨S32x15, .i32⟩
  | 52 => ⟨S32x15, .i32⟩
  | 53 => ⟨S480, .i32⟩
  | 54 => ⟨S_, .i32⟩
  | 55 => ⟨S480, .i32⟩
  | 56 => ⟨S480, .i1⟩
  | 57 => ⟨S_, .i32⟩
  | 58 => ⟨S480, .i32⟩
  | 59 => ⟨S480, .i32⟩
  | 60 => ⟨S480, .i32⟩
  | 61 => ⟨S480x1, .i32⟩
  | 62 => ⟨S480x512, .f32⟩
  | 63 => ⟨S32x15x512, .f32⟩
  | 64 => ⟨S128x512, .f32⟩
  | 65 => ⟨S8x16x4x128, .f32⟩
  | 66 => ⟨S128x512, .f32⟩
  | 67 => ⟨S8x16x4x128, .f32⟩
  | 68 => ⟨S16x512, .f32⟩
  | 69 => ⟨S1x16x4x128, .f32⟩
  | 70 => ⟨S32x16x4x128, .f32⟩
  | 71 => ⟨S16x512, .f32⟩
  | 72 => ⟨S1x16x4x128, .f32⟩
  | 73 => ⟨S32x16x4x128, .f32⟩
  | 74 => ⟨S1x32x2048x4x128, .f32⟩
  | 75 => ⟨S32x2048x4x128, .f32⟩
  | 76 => ⟨S32x2064x4x128, .f32⟩
  | 77 => ⟨S1x32x2048x4x128, .f32⟩
  | 78 => ⟨S32x2048x4x128, .f32⟩
  | 79 => ⟨S32x2064x4x128, .f32⟩
  | 80 => ⟨S32, .i32⟩
  | 81 => ⟨S32x1, .i32⟩
  | 82 => ⟨S_, .i32⟩
  | 83 => ⟨S32x1, .i32⟩
  | 84 => ⟨S32x1, .i32⟩
  | 85 => ⟨S_, .i32⟩
  | 86 => ⟨S32x1, .i32⟩
  | 87 => ⟨S32x1, .i32⟩
  | 88 => ⟨S_, .i32⟩
  | 89 => ⟨S32x1, .i32⟩
  | 90 => ⟨S32x1, .i32⟩
  | 91 => ⟨S_, .i32⟩
  | 92 => ⟨S32x1, .i32⟩
  | 93 => ⟨S32x1, .i32⟩
  | 94 => ⟨S15, .i32⟩
  | 95 => ⟨S1x15, .i32⟩
  | 96 => ⟨S32x15, .i32⟩
  | 97 => ⟨S32x15, .i32⟩
  | 98 => ⟨S32x15, .i32⟩
  | 99 => ⟨S480, .i32⟩
  | 100 => ⟨S_, .i32⟩
  | 101 => ⟨S480, .i32⟩
  | 102 => ⟨S480, .i1⟩
  | 103 => ⟨S_, .i32⟩
  | 104 => ⟨S480, .i32⟩
  | 105 => ⟨S480, .i32⟩
  | 106 => ⟨S480, .i32⟩
  | 107 => ⟨S480x1, .i32⟩
  | 108 => ⟨S480x512, .f32⟩
  | 109 => ⟨S32x15x512, .f32⟩
  | 110 => ⟨S128x512, .f32⟩
  | 111 => ⟨S8x16x4x128, .f32⟩
  | 112 => ⟨S128x512, .f32⟩
  | 113 => ⟨S8x16x4x128, .f32⟩
  | 114 => ⟨S1x32x2064x4x128, .f32⟩
  | 115 => ⟨S1x32x2064x4x128, .f32⟩
  | 116 => ⟨S2x32x2064x4x128, .f32⟩
  | 117 => ⟨S1x32x2064x4x128, .f32⟩
  | 118 => ⟨S1x32x2064x4x128, .f32⟩
  | 119 => ⟨S2x32x2064x4x128, .f32⟩
  | 120 => ⟨S1x32x15x512, .f32⟩
  | 121 => ⟨S1x32x15x512, .f32⟩
  | 122 => ⟨S2x32x15x512, .f32⟩
  | 123 => ⟨S1x8x16x4x128, .f32⟩
  | 124 => ⟨S1x8x16x4x128, .f32⟩
  | 125 => ⟨S2x8x16x4x128, .f32⟩
  | 126 => ⟨S1x8x16x4x128, .f32⟩
  | 127 => ⟨S1x8x16x4x128, .f32⟩
  | _ => ⟨S66048x1024, .f32⟩

abbrev hbmTy0_1 (i : Nat) : BufTy := match i % 128 with
  | 0 => ⟨S2x8x16x4x128, .f32⟩
  | _ => ⟨S66048x1024, .f32⟩

abbrev hbmTy (i : Nat) : BufTy := match i / 128 with
  | 0 => hbmTy0_0 i
  | 1 => hbmTy0_1 i
  | _ => ⟨S66048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S1x1x512x4x128, .f32⟩
  | .local _ .vmem, ⟨18, _⟩ => ⟨S1x1x512x4x128, .f32⟩
  | .local _ .vmem, ⟨19, _⟩ => ⟨S1x1x512x4x128, .f32⟩
  | .local _ .vmem, ⟨20, _⟩ => ⟨S1x1x512x4x128, .f32⟩
  | .local _ .vmem, ⟨21, _⟩ => ⟨S512x512, .f32⟩
  | .local _ .vmem, ⟨22, _⟩ => ⟨S512x512, .f32⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_3 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_5 : Ref sig .tc := ⟨.hbm, 82, rfl⟩
abbrev main_v58 : Ref sig .tc := ⟨.hbm, 83, rfl⟩
abbrev main_v59 : Ref sig .tc := ⟨.hbm, 84, rfl⟩
abbrev main_c_6 : Ref sig .tc := ⟨.hbm, 85, rfl⟩
abbrev main_v60 : Ref sig .tc := ⟨.hbm, 86, rfl⟩
abbrev main_v61 : Ref sig .tc := ⟨.hbm, 87, rfl⟩
abbrev main_c_7 : Ref sig .tc := ⟨.hbm, 88, rfl⟩
abbrev main_v62 : Ref sig .tc := ⟨.hbm, 89, rfl⟩
abbrev main_v63 : Ref sig .tc := ⟨.hbm, 90, rfl⟩
abbrev main_c_8 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_9 : Ref sig .tc := ⟨.hbm, 100, rfl⟩
abbrev main_v72 : Ref sig .tc := ⟨.hbm, 101, rfl⟩
abbrev main_v73 : Ref sig .tc := ⟨.hbm, 102, rfl⟩
abbrev main_c_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let c0_i32_13 : BitVec 32 := 0#32
  let c0_i32_14 : BitVec 32 := 0#32
  let c0_i32_15 : BitVec 32 := 0#32
  ![c1_i32_12.toNat, v18.toNat, v28.toNat, c0_i32_13.toNat, c0_i32_14.toNat]

def cc0_transform_13 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let c0_i32_13 : BitVec 32 := 0#32
  let c0_i32_14 : BitVec 32 := 0#32
  let c0_i32_15 : BitVec 32 := 0#32
  ![c1_i32_12.toNat, v18.toNat, v28.toNat, c0_i32_13.toNat, c0_i32_14.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NextRefIdeal.lean ====
abbrev S66048x1024 : Shape := ⟨2, ![66048, 1024]⟩
abbrev S1024 : Shape := ⟨1, ![1024]⟩
abbrev S1024x2048 : Shape := ⟨2, ![1024, 2048]⟩
abbrev S2x32x2048x4x128 : Shape := ⟨5, ![2, 32, 2048, 4, 128]⟩
abbrev S512x512 : Shape := ⟨2, ![512, 512]⟩
abbrev S66048x512 : Shape := ⟨2, ![66048, 512]⟩
abbrev S_ : Shape := ⟨0, ![]⟩
abbrev S66048 : Shape := ⟨1, ![66048]⟩
abbrev S66048x1 : Shape := ⟨2, ![66048, 1]⟩
abbrev S1x1024 : Shape := ⟨2, ![1, 1024]⟩
abbrev S66048x2048 : Shape := ⟨2, ![66048, 2048]⟩
abbrev S65536x512 : Shape := ⟨2, ![65536, 512]⟩
abbrev S32x2048x4x128 : Shape := ⟨4, ![32, 2048, 4, 128]⟩
abbrev S1x32x2048x4x128 : Shape := ⟨5, ![1, 32, 2048, 4, 128]⟩
abbrev S16x512 : Shape := ⟨2, ![16, 512]⟩
abbrev S1x16x4x128 : Shape := ⟨4, ![1, 16, 4, 128]⟩
abbrev S32x16x4x128 : Shape := ⟨4, ![32, 16, 4, 128]⟩
abbrev S32x2064x4x128 : Shape := ⟨4, ![32, 2064, 4, 128]⟩
abbrev S1x32x2064x4x128 : Shape := ⟨5, ![1, 32, 2064, 4, 128]⟩
abbrev S2x32x2064x4x128 : Shape := ⟨5, ![2, 32, 2064, 4, 128]⟩
abbrev S32x2048x512 : Shape := ⟨3, ![32, 2048, 512]⟩
abbrev S32x15x512 : Shape := ⟨3, ![32, 15, 512]⟩
abbrev S1x32x15x512 : Shape := ⟨4, ![1, 32, 15, 512]⟩
abbrev S2x32x15x512 : Shape := ⟨4, ![2, 32, 15, 512]⟩
abbrev S128x512 : Shape := ⟨2, ![128, 512]⟩
abbrev S8x16x4x128 : Shape := ⟨4, ![8, 16, 4, 128]⟩
abbrev S1x8x16x4x128 : Shape := ⟨5, ![1, 8, 16, 4, 128]⟩
abbrev S2x8x16x4x128 : Shape := ⟨5, ![2, 8, 16, 4, 128]⟩

abbrev nBuf : Space → Nat
  | .hbm => 119
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S66048x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2x32x2048x4x128, .f32⟩
  | .hbm, ⟨6, _⟩ => ⟨S2x32x2048x4x128, .f32⟩
  | .hbm, ⟨7, _⟩ => ⟨S512x512, .f32⟩
  | .hbm, ⟨8, _⟩ => ⟨S512x512, .f32⟩
  | .hbm, ⟨9, _⟩ => ⟨S66048x512, .f32⟩
  | .hbm, ⟨10, _⟩ => ⟨S_, .f32⟩
  | .hbm, ⟨11, _⟩ => ⟨S66048x1024, .f32⟩
  | .hbm, ⟨12, _⟩ => ⟨S66048x1024, .f32⟩
  | .hbm, ⟨13, _⟩ => ⟨S66048x1024, .f32⟩
  | .hbm, ⟨14, _⟩ => ⟨S_, .f32⟩
  | .hbm, ⟨15, _⟩ => ⟨S66048, .f32⟩
  | .hbm, ⟨16, _⟩ => ⟨S66048x1, .f32⟩
  | .hbm, ⟨17, _⟩ => ⟨S_, .f32⟩
  | .hbm, ⟨18, _⟩ => ⟨S66048x1, .f32⟩
  | .hbm, ⟨19, _⟩ => ⟨S66048x1, .f32⟩
  | .hbm, ⟨20, _⟩ => ⟨S66048x1024, .f32⟩
  | .hbm, ⟨21, _⟩ => ⟨S66048x1024, .f32⟩
  | .hbm, ⟨22, _⟩ => ⟨S66048x1024, .f32⟩
  | .hbm, ⟨23, _⟩ => ⟨S_, .f32⟩
  | .hbm, ⟨24, _⟩ => ⟨S66048, .f32⟩
  | .hbm, ⟨25, _⟩ => ⟨S66048x1, .f32⟩
  | .hbm, ⟨26, _⟩ => ⟨S_, .f32⟩
  | .hbm, ⟨27, _⟩ => ⟨S66048x1, .f32⟩
  | .hbm, ⟨28, _⟩ => ⟨S66048x1, .f32⟩
  | .hbm, ⟨29, _⟩ => ⟨S66048x1024, .f32⟩
  | .hbm, ⟨30, _⟩ => ⟨S66048x1024, .f32⟩
  | .hbm, ⟨31, _⟩ => ⟨S_, .f32⟩
  | .hbm, ⟨32, _⟩ => ⟨S66048x1, .f32⟩
  | .hbm, ⟨33, _⟩ => ⟨S66048x1, .f32⟩
  | .hbm, ⟨34, _⟩ => ⟨S66048x1, .f32⟩
  | .hbm, ⟨35, _⟩ => ⟨S66048x1024, .f32⟩
  | .hbm, ⟨36, _⟩ => ⟨S66048x1024, .f32⟩
  | .hbm, ⟨37, _⟩ => ⟨S1x1024, .f32⟩
  | .hbm, ⟨38, _⟩ => ⟨S66048x1024, .f32⟩
  | .hbm, ⟨39, _⟩ => ⟨S66048x1024, .f32⟩
  | .hbm, ⟨40, _⟩ => ⟨S1x1024, .f32⟩
  | .hbm, ⟨41, _⟩ => ⟨S66048x1024, .f32⟩
  | .hbm, ⟨42, _⟩ => ⟨S66048x1024, .f32⟩
  | .hbm, ⟨43, _⟩ => ⟨S66048x2048, .f32⟩
  | .hbm, ⟨44, _⟩ => ⟨S66048x512, .f32⟩
  | .hbm, ⟨45, _⟩ => ⟨S66048x512, .f32⟩
  | .hbm, ⟨46, _⟩ => ⟨S66048x512, .f32⟩
  | .hbm, ⟨47, _⟩ => ⟨S66048x512, .f32⟩
  | .hbm, ⟨48, _⟩ => ⟨S512x512, .f32⟩
  | .hbm, ⟨49, _⟩ => ⟨S512x512, .f32⟩
  | .hbm, ⟨50, _⟩ => ⟨S65536x512, .f32⟩
  | .hbm, ⟨51, _⟩ => ⟨S32x2048x4x128, .f32⟩
  | .hbm, ⟨52, _⟩ => ⟨S65536x512, .f32⟩
  | .hbm, ⟨53, _⟩ => ⟨S32x2048x4x128, .f32⟩
  | .hbm, ⟨54, _⟩ => ⟨S_, .f32⟩
  | .hbm, ⟨55, _⟩ => ⟨S66048x512, .f32⟩
  | .hbm, ⟨56, _⟩ => ⟨S66048x512, .f32⟩
  | .hbm, ⟨57, _⟩ => ⟨S66048x512, .bf16⟩
  | .hbm, ⟨58, _⟩ => ⟨S66048x512, .bf16⟩
  | .hbm, ⟨59, _⟩ => ⟨S66048x512, .bf16⟩
  | .hbm, ⟨60, _⟩ => ⟨S1x32x2048x4x128, .f32⟩
  | .hbm, ⟨61, _⟩ => ⟨S32x2048x4x128, .f32⟩
  | .hbm, ⟨62, _⟩ => ⟨S1x32x2048x4x128, .f32⟩
  | .hbm, ⟨63, _⟩ => ⟨S1x32x2048x4x128, .f32⟩
  | .hbm, ⟨64, _⟩ => ⟨S2x32x2048x4x128, .f32⟩
  | .hbm, ⟨65, _⟩ => ⟨S1x32x2048x4x128, .f32⟩
  | .hbm, ⟨66, _⟩ => ⟨S32x2048x4x128, .f32⟩
  | .hbm, ⟨67, _⟩ => ⟨S1x32x2048x4x128, .f32⟩
  | .hbm, ⟨68, _⟩ => ⟨S1x32x2048x4x128, .f32⟩
  | .hbm, ⟨69, _⟩ => ⟨S2x32x2048x4x128, .f32⟩
  | .hbm, ⟨70, _⟩ => ⟨S1x32x2048x4x128, .f32⟩
  | .hbm, ⟨71, _⟩ => ⟨S32x2048x4x128, .f32⟩
  | .hbm, ⟨72, _⟩ => ⟨S16x512, .f32⟩
  | .hbm, ⟨73, _⟩ => ⟨S1x16x4x128, .f32⟩
  | .hbm, ⟨74, _⟩ => ⟨S32x16x4x128, .f32⟩
  | .hbm, ⟨75, _⟩ => ⟨S32x2064x4x128, .f32⟩
  | .hbm, ⟨76, _⟩ => ⟨S16x512, .f32⟩
  | .hbm, ⟨77, _⟩ => ⟨S1x16x4x128, .f32⟩
  | .hbm, ⟨78, _⟩ => ⟨S32x16x4x128, .f32⟩
  | .hbm, ⟨79, _⟩ => ⟨S32x2064x4x128, .f32⟩
  | .hbm, ⟨80, _⟩ => ⟨S1x32x2064x4x128, .f32⟩
  | .hbm, ⟨81, _⟩ => ⟨S1x32x2064x4x128, .f32⟩
  | .hbm, ⟨82, _⟩ => ⟨S2x32x2064x4x128, .f32⟩
  | .hbm, ⟨83, _⟩ => ⟨S1x32x2048x4x128, .f32⟩
  | .hbm, ⟨84, _⟩ => ⟨S32x2048x4x128, .f32⟩
  | .hbm, ⟨85, _⟩ => ⟨S16x512, .f32⟩
  | .hbm, ⟨86, _⟩ => ⟨S1x16x4x128, .f32⟩
  | .hbm, ⟨87, _⟩ => ⟨S32x16x4x128, .f32⟩
  | .hbm, ⟨88, _⟩ => ⟨S32x2064x4x128, .f32⟩
  | .hbm, ⟨89, _⟩ => ⟨S16x512, .f32⟩
  | .hbm, ⟨90, _⟩ => ⟨S1x16x4x128, .f32⟩
  | .hbm, ⟨91, _⟩ => ⟨S32x16x4x128, .f32⟩
  | .hbm, ⟨92, _⟩ => ⟨S32x2064x4x128, .f32⟩
  | .hbm, ⟨93, _⟩ => ⟨S1x32x2064x4x128, .f32⟩
  | .hbm, ⟨94, _⟩ => ⟨S1x32x2064x4x128, .f32⟩
  | .hbm, ⟨95, _⟩ => ⟨S2x32x2064x4x128, .f32⟩
  | .hbm, ⟨96, _⟩ => ⟨S65536x512, .f32⟩
  | .hbm, ⟨97, _⟩ => ⟨S32x2048x512, .f32⟩
  | .hbm, ⟨98, _⟩ => ⟨S32x15x512, .f32⟩
  | .hbm, ⟨99, _⟩ => ⟨S65536x512, .f32⟩
  | .hbm, ⟨100, _⟩ => ⟨S32x2048x512, .f32⟩
  | .hbm, ⟨101, _⟩ => ⟨S32x15x512, .f32⟩
  | .hbm, ⟨102, _⟩ => ⟨S1x32x15x512, .f32⟩
  | .hbm, ⟨103, _⟩ => ⟨S1x32x15x512, .f32⟩
  | .hbm, ⟨104, _⟩ => ⟨S2x32x15x512, .f32⟩
  | .hbm, ⟨105, _⟩ => ⟨S128x512, .f32⟩
  | .hbm, ⟨106, _⟩ => ⟨S8x16x4x128, .f32⟩
  | .hbm, ⟨107, _⟩ => ⟨S128x512, .f32⟩
  | .hbm, ⟨108, _⟩ => ⟨S8x16x4x128, .f32⟩
  | .hbm, ⟨109, _⟩ => ⟨S1x8x16x4x128, .f32⟩
  | .hbm, ⟨110, _⟩ => ⟨S1x8x16x4x128, .f32⟩
  | .hbm, ⟨111, _⟩ => ⟨S2x8x16x4x128, .f32⟩
  | .hbm, ⟨112, _⟩ => ⟨S128x512, .f32⟩
  | .hbm, ⟨113, _⟩ => ⟨S8x16x4x128, .f32⟩
  | .hbm, ⟨114, _⟩ => ⟨S128x512, .f32⟩
  | .hbm, ⟨115, _⟩ => ⟨S8x16x4x128, .f32⟩
  | .hbm, ⟨116, _⟩ => ⟨S1x8x16x4x128, .f32⟩
  | .hbm, ⟨117, _⟩ => ⟨S1x8x16x4x128, .f32⟩
  | .hbm, ⟨118, _⟩ => ⟨S2x8x16x4x128, .f32⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩

abbrev nD : Nat := 1
abbrev τ : Topo := Topo.v7x

variable {F : FTy → Type} [FloatOps F]
-- ==== Mix.lean ====
abbrev S16 : Shape := ⟨1, ![16]⟩
abbrev S66048x512 : Shape := ⟨2, ![66048, 512]⟩
abbrev S4x128x128 : Shape := ⟨3, ![4, 128, 128]⟩
abbrev S512 : Shape := ⟨1, ![512]⟩
abbrev S66048x1024 : Shape := ⟨2, ![66048, 1024]⟩
abbrev S1024x1024 : Shape := ⟨2, ![1024, 1024]⟩
abbrev S1024 : Shape := ⟨1, ![1024]⟩
abbrev S1024x128 : Shape := ⟨2, ![1024, 128]⟩
abbrev S129x1x512 : Shape := ⟨3, ![129, 1, 512]⟩
abbrev S1x512 : Shape := ⟨2, ![1, 512]⟩
abbrev S1x1024 : Shape := ⟨2, ![1, 1024]⟩
abbrev S512x512 : Shape := ⟨2, ![512, 512]⟩
abbrev S16x512 : Shape := ⟨2, ![16, 512]⟩
abbrev S512x1024 : Shape := ⟨2, ![512, 1024]⟩
abbrev S1x1x512 : Shape := ⟨3, ![1, 1, 512]⟩
abbrev S528x512 : Shape := ⟨2, ![528, 512]⟩
abbrev S512x128 : Shape := ⟨2, ![512, 128]⟩
abbrev S1x128x128 : Shape := ⟨3, ![1, 128, 128]⟩
abbrev S128x128 : Shape := ⟨2, ![128, 128]⟩
abbrev S512x1 : Shape := ⟨2, ![512, 1]⟩
abbrev S128x512 : Shape := ⟨2, ![128, 512]⟩
abbrev S1 : Shape := ⟨1, ![1]⟩

abbrev nBuf : Space → Nat
  | .hbm => 25
  | .vmem => 26
  | .smem => 1
  | _ => 0

abbrev bufTy : (tb : Table) → Fin (tcTables nBuf tb) → BufTy
  | .hbm, ⟨0, _⟩ => ⟨S16, .f32⟩
  | .hbm, ⟨1, _⟩ => ⟨S66048x512, .bf16⟩
  | .hbm, ⟨2, _⟩ => ⟨S66048x512, .f32⟩
  | .hbm, ⟨3, _⟩ => ⟨S4x128x128, .f32⟩
  | .hbm, ⟨4, _⟩ => ⟨S512, .f32⟩
  | .hbm, ⟨5, _⟩ => ⟨S66048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x128, .bf16⟩
  | .hbm, ⟨10, _⟩ => ⟨S66048x1024, .f32⟩
  | .hbm, ⟨11, _⟩ => ⟨S66048x1024, .bf16⟩
  | .hbm, ⟨12, _⟩ => ⟨S129x1x512, .i32⟩
  | .hbm, ⟨13, _⟩ => ⟨S129x1x512, .f32⟩
  | .hbm, ⟨14, _⟩ => ⟨S129x1x512, .f32⟩
  | .hbm, ⟨15, _⟩ => ⟨S4x128x128, .bf16⟩
  | .hbm, ⟨16, _⟩ => ⟨S1x512, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S66048x1024, .f32⟩
  | .hbm, ⟨21, _⟩ => ⟨S66048x1024, .bf16⟩
  | .hbm, ⟨22, _⟩ => ⟨S129x1x512, .i32⟩
  | .hbm, ⟨23, _⟩ => ⟨S129x1x512, .f32⟩
  | .hbm, ⟨24, _⟩ => ⟨S129x1x512, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S4x128x128, .bf16⟩
  | .local _ .vmem, ⟨8, _⟩ => ⟨S1x512, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x128, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1x512, .i32⟩
  | .local _ .vmem, ⟨20, _⟩ => ⟨S1x1x512, .i32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S528x512, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev main_v5_4 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1_i32_0 : BitVec 32 := 1#32
  let v2 : BitVec 32 := Scalar.subi v1 c1_i32_0
  let c0_i32 : BitVec 32 := 0#32
  let c0_i32_1 : BitVec 32 := 0#32
  ![v2.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_19 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_20 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_21 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRefIdeal.lean ====
abbrev S16 : Shape := ⟨1, ![16]⟩
abbrev S66048x512 : Shape := ⟨2, ![66048, 512]⟩
abbrev S4x128x128 : Shape := ⟨3, ![4, 128, 128]⟩
abbrev S512 : Shape := ⟨1, ![512]⟩
abbrev S66048x1024 : Shape := ⟨2, ![66048, 1024]⟩
abbrev S1024x1024 : Shape := ⟨2, ![1024, 1024]⟩
abbrev S1024 : Shape := ⟨1, ![1024]⟩
abbrev S1024x128 : Shape := ⟨2, ![1024, 128]⟩
abbrev S129x1x512 : Shape := ⟨3, ![129, 1, 512]⟩
abbrev S16x128 : Shape := ⟨2, ![16, 128]⟩
abbrev S1x16x128 : Shape := ⟨3, ![1, 16, 128]⟩
abbrev S32x16x128 : Shape := ⟨3, ![32, 16, 128]⟩
abbrev S65536x128 : Shape := ⟨2, ![65536, 128]⟩
abbrev S32x2048x128 : Shape := ⟨3, ![32, 2048, 128]⟩
abbrev S32x2064x128 : Shape := ⟨3, ![32, 2064, 128]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S65536x512 : Shape := ⟨2, ![65536, 512]⟩
abbrev S65536x1024 : Shape := ⟨2, ![65536, 1024]⟩
abbrev S65536 : Shape := ⟨1, ![65536]⟩
abbrev S65536x1 : Shape := ⟨2, ![65536, 1]⟩
abbrev S1x1024 : Shape := ⟨2, ![1, 1024]⟩
abbrev S512x1024 : Shape := ⟨2, ![512, 1024]⟩

abbrev nBuf : Space → Nat
  | .hbm => 203
  | .vmem => 0
  | .smem => 0
  | _ => 0

abbrev hbmTy0_0 (i : Nat) : BufTy := match i % 128 with
  | 0 => ⟨S16, .f32⟩
  | 1 => ⟨S66048x512, .bf16⟩
  | 2 => ⟨S66048x512, .f32⟩
  | 3 => ⟨S4x128x128, .f32⟩
  | 4 => ⟨S512, .f32⟩
  | 5 => ⟨S66048x1024, .f32⟩
  | 6 => ⟨S1024x1024, .f32⟩
  | 7 => ⟨S1024, .f32⟩
  | 8 => ⟨S1024, .f32⟩
  | 9 => ⟨S1024x128, .bf16⟩
  | 10 => ⟨S66048x1024, .f32⟩
  | 11 => ⟨S66048x1024, .bf16⟩
  | 12 => ⟨S129x1x512, .i32⟩
  | 13 => ⟨S129x1x512, .f32⟩
  | 14 => ⟨S129x1x512, .f32⟩
  | 15 => ⟨S16x128, .f32⟩
  | 16 => ⟨S1x16x128, .f32⟩
  | 17 => ⟨S32x16x128, .f32⟩
  | 18 => ⟨S65536x128, .f32⟩
  | 19 => ⟨S32x2048x128, .f32⟩
  | 20 => ⟨S32x2064x128, .f32⟩
  | 21 => ⟨S32x2048x128, .f32⟩
  | 22 => ⟨S32x2048x128, .f32⟩
  | 23 => ⟨S_, .f32⟩
  | 24 => ⟨S32x2048x128, .f32⟩
  | 25 => ⟨S32x2048x128, .f32⟩
  | 26 => ⟨S32x2048x128, .f32⟩
  | 27 => ⟨S32x2048x128, .f32⟩
  | 28 => ⟨S_, .f32⟩
  | 29 => ⟨S32x2048x128, .f32⟩
  | 30 => ⟨S32x2048x128, .f32⟩
  | 31 => ⟨S32x2048x128, .f32⟩
  | 32 => ⟨S65536x128, .f32⟩
  | 33 => ⟨S1x128x128, .f32⟩
  | 34 => ⟨S128x128, .f32⟩
  | 35 => ⟨S65536x128, .f32⟩
  | 36 => ⟨S128, .f32⟩
  | 37 => ⟨S1x128, .f32⟩
  | 38 => ⟨S65536x128, .f32⟩
  | 39 => ⟨S65536x128, .f32⟩
  | 40 => ⟨S16x128, .f32⟩
  | 41 => ⟨S1x16x128, .f32⟩
  | 42 => ⟨S32x16x128, .f32⟩
  | 43 => ⟨S65536x128, .f32⟩
  | 44 => ⟨S32x2048x128, .f32⟩
  | 45 => ⟨S32x2064x128, .f32⟩
  | 46 => ⟨S32x2048x128, .f32⟩
  | 47 => ⟨S32x2048x128, .f32⟩
  | 48 => ⟨S_, .f32⟩
  | 49 => ⟨S32x2048x128, .f32⟩
  | 50 => ⟨S32x2048x128, .f32⟩
  | 51 => ⟨S32x2048x128, .f32⟩
  | 52 => ⟨S32x2048x128, .f32⟩
  | 53 => ⟨S32x2048x128, .f32⟩
  | 54 => ⟨S32x2048x128, .f32⟩
  | 55 => ⟨S32x2048x128, .f32⟩
  | 56 => ⟨S32x2048x128, .f32⟩
  | 57 => ⟨S_, .f32⟩
  | 58 => ⟨S32x2048x128, .f32⟩
  | 59 => ⟨S32x2048x128, .f32⟩
  | 60 => ⟨S32x2048x128, .f32⟩
  | 61 => ⟨S65536x128, .f32⟩
  | 62 => ⟨S1x128x128, .f32⟩
  | 63 => ⟨S128x128, .f32⟩
  | 64 => ⟨S65536x128, .f32⟩
  | 65 => ⟨S128, .f32⟩
  | 66 => ⟨S1x128, .f32⟩
  | 67 => ⟨S65536x128, .f32⟩
  | 68 => ⟨S65536x128, .f32⟩
  | 69 => ⟨S16x128, .f32⟩
  | 70 => ⟨S1x16x128, .f32⟩
  | 71 => ⟨S32x16x128, .f32⟩
  | 72 => ⟨S65536x128, .f32⟩
  | 73 => ⟨S32x2048x128, .f32⟩
  | 74 => ⟨S32x2064x128, .f32⟩
  | 75 => ⟨S32x2048x128, .f32⟩
  | 76 => ⟨S32x2048x128, .f32⟩
  | 77 => ⟨S_, .f32⟩
  | 78 => ⟨S32x2048x128, .f32⟩
  | 79 => ⟨S32x2048x128, .f32⟩
  | 80 => ⟨S32x2048x128, .f32⟩
  | 81 => ⟨S32x2048x128, .f32⟩
  | 82 => ⟨S32x2048x128, .f32⟩
  | 83 => ⟨S32x2048x128, .f32⟩
  | 84 => ⟨S32x2048x128, .f32⟩
  | 85 => ⟨S32x2048x128, .f32⟩
  | 86 => ⟨S32x2048x128, .f32⟩
  | 87 => ⟨S32x2048x128, .f32⟩
  | 88 => ⟨S32x2048x128, .f32⟩
  | 89 => ⟨S32x2048x128, .f32⟩
  | 90 => ⟨S32x2048x128, .f32⟩
  | 91 => ⟨S32x2048x128, .f32⟩
  | 92 => ⟨S32x2048x128, .f32⟩
  | 93 => ⟨S32x2048x128, .f32⟩
  | 94 => ⟨S_, .f32⟩
  | 95 => ⟨S32x2048x128, .f32⟩
  | 96 => ⟨S32x2048x128, .f32⟩
  | 97 => ⟨S32x2048x128, .f32⟩
  | 98 => ⟨S65536x128, .f32⟩
  | 99 => ⟨S1x128x128, .f32⟩
  | 100 => ⟨S128x128, .f32⟩
  | 101 => ⟨S65536x128, .f32⟩
  | 102 => ⟨S128, .f32⟩
  | 103 => ⟨S1x128, .f32⟩
  | 104 => ⟨S65536x128, .f32⟩
  | 105 => ⟨S65536x128, .f32⟩
  | 106 => ⟨S16x128, .f32⟩
  | 107 => ⟨S1x16x128, .f32⟩
  | 108 => ⟨S32x16x128, .f32⟩
  | 109 => ⟨S65536x128, .f32⟩
  | 110 => ⟨S32x2048x128, .f32⟩
  | 111 => ⟨S32x2064x128, .f32⟩
  | 112 => ⟨S32x2048x128, .f32⟩
  | 113 => ⟨S32x2048x128, .f32⟩
  | 114 => ⟨S_, .f32⟩
  | 115 => ⟨S32x2048x128, .f32⟩
  | 116 => ⟨S32x2048x128, .f32⟩
  | 117 => ⟨S32x2048x128, .f32⟩
  | 118 => ⟨S32x2048x128, .f32⟩
  | 119 => ⟨S32x2048x128, .f32⟩
  | 120 => ⟨S32x2048x128, .f32⟩
  | 121 => ⟨S32x2048x128, .f32⟩
  | 122 => ⟨S32x2048x128, .f32⟩
  | 123 => ⟨S32x2048x128, .f32⟩
  | 124 => ⟨S32x2048x128, .f32⟩
  | 125 => ⟨S32x2048x128, .f32⟩
  | 126 => ⟨S32x2048x128, .f32⟩
  | 127 => ⟨S32x2048x128, .f32⟩
  | _ => ⟨S16, .f32⟩

abbrev hbmTy0_1 (i : Nat) : BufTy := match i % 128 with
  | 0 => ⟨S32x2048x128, .f32⟩
  | 1 => ⟨S32x2048x128, .f32⟩
  | 2 => ⟨S32x2048x128, .f32⟩
  | 3 => ⟨S32x2048x128, .f32⟩
  | 4 => ⟨S32x2048x128, .f32⟩
  | 5 => ⟨S32x2048x128, .f32⟩
  | 6 => ⟨S32x2048x128, .f32⟩
  | 7 => ⟨S32x2048x128, .f32⟩
  | 8 => ⟨S32x2048x128, .f32⟩
  | 9 => ⟨S32x2048x128, .f32⟩
  | 10 => ⟨S32x2048x128, .f32⟩
  | 11 => ⟨S32x2048x128, .f32⟩
  | 12 => ⟨S32x2048x128, .f32⟩
  | 13 => ⟨S32x2048x128, .f32⟩
  | 14 => ⟨S32x2048x128, .f32⟩
  | 15 => ⟨S32x2048x128, .f32⟩
  | 16 => ⟨S32x2048x128, .f32⟩
  | 17 => ⟨S32x2048x128, .f32⟩
  | 18 => ⟨S32x2048x128, .f32⟩
  | 19 => ⟨S_, .f32⟩
  | 20 => ⟨S32x2048x128, .f32⟩
  | 21 => ⟨S32x2048x128, .f32⟩
  | 22 => ⟨S32x2048x128, .f32⟩
  | 23 => ⟨S65536x128, .f32⟩
  | 24 => ⟨S1x128x128, .f32⟩
  | 25 => ⟨S128x128, .f32⟩
  | 26 => ⟨S65536x128, .f32⟩
  | 27 => ⟨S128, .f32⟩
  | 28 => ⟨S1x128, .f32⟩
  | 29 => ⟨S65536x128, .f32⟩
  | 30 => ⟨S65536x128, .f32⟩
  | 31 => ⟨S65536x512, .f32⟩
  | 32 => ⟨S65536x512, .bf16⟩
  | 33 => ⟨S65536x512, .f32⟩
  | 34 => ⟨S65536x1024, .f32⟩
  | 35 => ⟨S65536x1024, .f32⟩
  | 36 => ⟨S_, .f32⟩
  | 37 => ⟨S65536x1024, .f32⟩
  | 38 => ⟨S65536x1024, .f32⟩
  | 39 => ⟨S65536x1024, .f32⟩
  | 40 => ⟨S65536x1024, .f32⟩
  | 41 => ⟨S_, .f32⟩
  | 42 => ⟨S65536, .f32⟩
  | 43 => ⟨S65536x1, .f32⟩
  | 44 => ⟨S_, .f32⟩
  | 45 => ⟨S65536x1, .f32⟩
  | 46 => ⟨S65536x1, .f32⟩
  | 47 => ⟨S65536x1024, .f32⟩
  | 48 => ⟨S65536x1024, .f32⟩
  | 49 => ⟨S65536x1024, .f32⟩
  | 50 => ⟨S_, .f32⟩
  | 51 => ⟨S65536, .f32⟩
  | 52 => ⟨S65536x1, .f32⟩
  | 53 => ⟨S_, .f32⟩
  | 54 => ⟨S65536x1, .f32⟩
  | 55 => ⟨S65536x1, .f32⟩
  | 56 => ⟨S65536x1024, .f32⟩
  | 57 => ⟨S65536x1024, .f32⟩
  | 58 => ⟨S_, .f32⟩
  | 59 => ⟨S65536x1, .f32⟩
  | 60 => ⟨S65536x1, .f32⟩
  | 61 => ⟨S65536x1, .f32⟩
  | 62 => ⟨S65536x1024, .f32⟩
  | 63 => ⟨S65536x1024, .f32⟩
  | 64 => ⟨S1x1024, .f32⟩
  | 65 => ⟨S65536x1024, .f32⟩
  | 66 => ⟨S65536x1024, .f32⟩
  | 67 => ⟨S1x1024, .f32⟩
  | 68 => ⟨S65536x1024, .f32⟩
  | 69 => ⟨S65536x1024, .f32⟩
  | 70 => ⟨S512x1024, .f32⟩
  | 71 => ⟨S66048x1024, .f32⟩
  | 72 => ⟨S512x1024, .bf16⟩
  | 73 => ⟨S65536x1024, .bf16⟩
  | 74 => ⟨S66048x1024, .bf16⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_4 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_5 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_6 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_7 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_8 : Ref sig .tc := ⟨.hbm, 169, rfl⟩
abbrev main_v145 : Ref sig .tc := ⟨.hbm, 170, rfl⟩
abbrev main_v146 : Ref sig .tc := ⟨.hbm, 171, rfl⟩
abbrev main_cst_9 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_10 : Ref sig .tc := ⟨.hbm, 178, rfl⟩
abbrev main_v152 : Ref sig .tc := ⟨.hbm, 179, rfl⟩
abbrev main_v153 : Ref sig .tc := ⟨.hbm, 180, rfl⟩
abbrev main_cst_11 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst_12 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩

abbrev nD : Nat := 1
abbrev τ : Topo := Topo.v7x

variable {F : FTy → Type} [FloatOps F]
-- ==== Dec.lean ====
abbrev S4 : Shape := ⟨1, ![4]⟩
abbrev S1 : Shape := ⟨1, ![1]⟩
abbrev S16 : Shape := ⟨1, ![16]⟩
abbrev S66048x512 : Shape := ⟨2, ![66048, 512]⟩
abbrev S512x512 : Shape := ⟨2, ![512, 512]⟩
abbrev S2x8x1024x4x128 : Shape := ⟨5, ![2, 8, 1024, 4, 128]⟩
abbrev S2x8x15x512 : Shape := ⟨4, ![2, 8, 15, 512]⟩
abbrev S1x128 : Shape := ⟨2, ![1, 128]⟩
abbrev S4x128x128 : Shape := ⟨3, ![4, 128, 128]⟩
abbrev S512 : Shape := ⟨1, ![512]⟩
abbrev S66048x1024 : Shape := ⟨2, ![66048, 1024]⟩
abbrev S1024x1024 : Shape := ⟨2, ![1024, 1024]⟩
abbrev S1024 : Shape := ⟨1, ![1024]⟩
abbrev S1024x128 : Shape := ⟨2, ![1024, 128]⟩
abbrev S2x8x1024x512 : Shape := ⟨4, ![2, 8, 1024, 512]⟩
abbrev S1x512 : Shape := ⟨2, ![1, 512]⟩
abbrev S1x1024 : Shape := ⟨2, ![1, 1024]⟩
abbrev S129x1x512 : Shape := ⟨3, ![129, 1, 512]⟩
abbrev S9x15x512 : Shape := ⟨3, ![9, 15, 512]⟩
abbrev S1x1x1024x512 : Shape := ⟨4, ![1, 1, 1024, 512]⟩
abbrev S1x1x15x512 : Shape := ⟨4, ![1, 1, 15, 512]⟩
abbrev S512x1024 : Shape := ⟨2, ![512, 1024]⟩
abbrev S1x1x512 : Shape := ⟨3, ![1, 1, 512]⟩
abbrev S1x15x512 : Shape := ⟨3, ![1, 15, 512]⟩
abbrev S32x512 : Shape := ⟨2, ![32, 512]⟩
abbrev S16x512 : Shape := ⟨2, ![16, 512]⟩
abbrev S16x1024 : Shape := ⟨2, ![16, 1024]⟩
abbrev S16x16 : Shape := ⟨2, ![16, 16]⟩
abbrev S1x1x1024x128 : Shape := ⟨4, ![1, 1, 1024, 128]⟩
abbrev S16x64 : Shape := ⟨2, ![16, 64]⟩
abbrev S1024x64 : Shape := ⟨2, ![1024, 64]⟩
abbrev S16x1 : Shape := ⟨2, ![16, 1]⟩
abbrev S16x128 : Shape := ⟨2, ![16, 128]⟩
abbrev S15x512 : Shape := ⟨2, ![15, 512]⟩
abbrev S1x128x128 : Shape := ⟨3, ![1, 128, 128]⟩
abbrev S128x128 : Shape := ⟨2, ![128, 128]⟩
abbrev S512x1 : Shape := ⟨2, ![512, 1]⟩
abbrev S512x128 : Shape := ⟨2, ![512, 128]⟩
abbrev S128x512 : Shape := ⟨2, ![128, 512]⟩

abbrev nBuf : Space → Nat
  | .hbm => 31
  | .vmem => 27
  | .smem => 3
  | _ => 0

abbrev bufTy : (tb : Table) → Fin (tcTables nBuf tb) → BufTy
  | .hbm, ⟨0, _⟩ => ⟨S4, .f32⟩
  | .hbm, ⟨1, _⟩ => ⟨S1, .f32⟩
  | .hbm, ⟨2, _⟩ => ⟨S16, .f32⟩
  | .hbm, ⟨3, _⟩ => ⟨S66048x512, .bf16⟩
  | .hbm, ⟨4, _⟩ => ⟨S512x512, .f32⟩
  | .hbm, ⟨5, _⟩ => ⟨S512x512, .f32⟩
  | .hbm, ⟨6, _⟩ => ⟨S66048x512, .f32⟩
  | .hbm, ⟨7, _⟩ => ⟨S2x8x1024x4x128, .f32⟩
  | .hbm, ⟨8, _⟩ => ⟨S2x8x1024x4x128, .f32⟩
  | .hbm, ⟨9, _⟩ => ⟨S2x8x15x512, .f32⟩
  | .hbm, ⟨10, _⟩ => ⟨S1x128, .f32⟩
  | .hbm, ⟨11, _⟩ => ⟨S4x128x128, .f32⟩
  | .hbm, ⟨12, _⟩ => ⟨S512, .f32⟩
  | .hbm, ⟨13, _⟩ => ⟨S66048x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x128, .bf16⟩
  | .hbm, ⟨18, _⟩ => ⟨S2x8x1024x512, .f32⟩
  | .hbm, ⟨19, _⟩ => ⟨S2x8x1024x512, .f32⟩
  | .hbm, ⟨20, _⟩ => ⟨S4x128x128, .bf16⟩
  | .hbm, ⟨21, _⟩ => ⟨S1x512, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S66048x1024, .f32⟩
  | .hbm, ⟨26, _⟩ => ⟨S66048x1024, .bf16⟩
  | .hbm, ⟨27, _⟩ => ⟨S129x1x512, .i32⟩
  | .hbm, ⟨28, _⟩ => ⟨S129x1x512, .f32⟩
  | .hbm, ⟨29, _⟩ => ⟨S129x1x512, .f32⟩
  | .hbm, ⟨30, _⟩ => ⟨S9x15x512, .f32⟩
  | .local _ .vmem, ⟨0, _⟩ => ⟨S512x512, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x15x512, .f32⟩
  | .local _ .vmem, ⟨9, _⟩ => ⟨S1x1x15x512, .f32⟩
  | .local _ .vmem, ⟨10, _⟩ => ⟨S1x128, .f32⟩
  | .local _ .vmem, ⟨11, _⟩ => ⟨S4x128x128, .bf16⟩
  | .local _ .vmem, ⟨12, _⟩ => ⟨S1x512, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x128, .bf16⟩
  | .local _ .vmem, ⟨18, _⟩ => ⟨S512x1024, .f32⟩
  | .local _ .vmem, ⟨19, _⟩ => ⟨S512x1024, .bf16⟩
  | .local _ .vmem, ⟨20, _⟩ => ⟨S1x1x512, .i32⟩
  | .local _ .vmem, ⟨21, _⟩ => ⟨S1x1x512, .f32⟩
  | .local _ .vmem, ⟨22, _⟩ => ⟨S1x1x512, .f32⟩
  | .local _ .vmem, ⟨23, _⟩ => ⟨S1x15x512, .f32⟩
  | .local _ .vmem, ⟨24, _⟩ => ⟨S1x15x512, .f32⟩
  | .local _ .vmem, ⟨25, _⟩ => ⟨S512x1024, .bf16⟩
  | .local _ .vmem, ⟨26, _⟩ => ⟨S32x512, .f32⟩
  | .local _ .smem, ⟨0, _⟩ => ⟨S4, .f32⟩
  | .local _ .smem, ⟨1, _⟩ => ⟨S1, .f32⟩
  | .local _ .smem, ⟨2, _⟩ => ⟨S16, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v7_2 : Ref sig .tc := ⟨.hbm, 27, rfl⟩
abbrev main_v7_3 : Ref sig .tc := ⟨.hbm, 28, rfl⟩
abbrev main_v7_4 : Ref sig .tc := ⟨.hbm, 29, rfl⟩
abbrev main_v7_5 : Ref sig .tc := ⟨.hbm, 30, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg23_1 : Ref sig .tc := ⟨.vmem, 24, rfl⟩
abbrev cc0_scratch0 : Ref sig .tc := ⟨.vmem, 25, rfl⟩
abbrev cc0_scratch1 : Ref sig .tc := ⟨.vmem, 26, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![9], ![false]⟩

def k0_mult1 (i : grid0.Coords) : BitVec 32 :=
  let arg0 : BitVec 32 := BitVec.ofNat 32 (i 0).val
  let c16_i32 : BitVec 32 := 16#32
  let v2 : BitVec 32 := Scalar.muli arg0 c16_i32
  v2
def k0_off1 (i : grid0.Coords) : Fin 2 → Nat :=
  let arg0 : BitVec 32 := BitVec.ofNat 32 (i 0).val
  let c16_i32 : BitVec 32 := 16#32
  let v2 : BitVec 32 := Scalar.muli arg0 c16_i32
  let v3 : BitVec 32 := v2
  let v7 : Index := Scalar.indexCast v3
  let c0_1 : Index := 0#32
  ![v7.toNat, 0]
def k0_off2 (i : grid0.Coords) : Fin 2 → Nat :=
  let arg0 : BitVec 32 := BitVec.ofNat 32 (i 0).val
  let c16_i32 : BitVec 32 := 16#32
  let v2 : BitVec 32 := Scalar.muli arg0 c16_i32
  let v3 : BitVec 32 := v2
  let v560 : Index := Scalar.indexCast v3
  let c0_202 : Index := 0#32
  ![v560.toNat, 0]
def k0_cond2 (i : grid0.Coords) : BitVec 1 :=
  let arg0 : BitVec 32 := BitVec.ofNat 32 (i 0).val
  let c8_i32_207 : BitVec 32 := 8#32
  let v568 : BitVec 1 := Scalar.cmpi .eq arg0 c8_i32_207
  let v569 : BitVec 32 := Scalar.extui v568
  let c0_i32_208 : BitVec 32 := 0#32
  let v570 : BitVec 1 := Scalar.cmpi .ne v569 c0_i32_208
  v570

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_8 (i : grid0.Coords) : Fin 4 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_9 (i : grid0.Coords) : Fin 4 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x15x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1x512 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x15x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== DecRefIdeal.lean ====
abbrev S4 : Shape := ⟨1, ![4]⟩
abbrev S1 : Shape := ⟨1, ![1]⟩
abbrev S16 : Shape := ⟨1, ![16]⟩
abbrev S66048x512 : Shape := ⟨2, ![66048, 512]⟩
abbrev S512x512 : Shape := ⟨2, ![512, 512]⟩
abbrev S2x8x1024x4x128 : Shape := ⟨5, ![2, 8, 1024, 4, 128]⟩
abbrev S2x8x15x512 : Shape := ⟨4, ![2, 8, 15, 512]⟩
abbrev S1x128 : Shape := ⟨2, ![1, 128]⟩
abbrev S4x128x128 : Shape := ⟨3, ![4, 128, 128]⟩
abbrev S512 : Shape := ⟨1, ![512]⟩
abbrev S66048x1024 : Shape := ⟨2, ![66048, 1024]⟩
abbrev S1024x1024 : Shape := ⟨2, ![1024, 1024]⟩
abbrev S1024 : Shape := ⟨1, ![1024]⟩
abbrev S1024x128 : Shape := ⟨2, ![1024, 128]⟩
abbrev S1x8x15x512 : Shape := ⟨4, ![1, 8, 15, 512]⟩
abbrev S8x15x512 : Shape := ⟨3, ![8, 15, 512]⟩
abbrev S_ : Shape := ⟨0, ![]⟩
abbrev S1x15x512 : Shape := ⟨3, ![1, 15, 512]⟩
abbrev S9x15x512 : Shape := ⟨3, ![9, 15, 512]⟩
abbrev S144x512 : Shape := ⟨2, ![144, 512]⟩
abbrev S9x16x512 : Shape := ⟨3, ![9, 16, 512]⟩
abbrev S9x31x512 : Shape := ⟨3, ![9, 31, 512]⟩

abbrev nBuf : Space → Nat
  | .hbm => 27
  | .vmem => 0
  | .smem => 0
  | _ => 0

abbrev bufTy : (tb : Table) → Fin (tcTables nBuf tb) → BufTy
  | .hbm, ⟨0, _⟩ => ⟨S4, .f32⟩
  | .hbm, ⟨1, _⟩ => ⟨S1, .f32⟩
  | .hbm, ⟨2, _⟩ => ⟨S16, .f32⟩
  | .hbm, ⟨3, _⟩ => ⟨S66048x512, .bf16⟩
  | .hbm, ⟨4, _⟩ => ⟨S512x512, .f32⟩
  | .hbm, ⟨5, _⟩ => ⟨S512x512, .f32⟩
  | .hbm, ⟨6, _⟩ => ⟨S66048x512, .f32⟩
  | .hbm, ⟨7, _⟩ => ⟨S2x8x1024x4x128, .f32⟩
  | .hbm, ⟨8, _⟩ => ⟨S2x8x1024x4x128, .f32⟩
  | .hbm, ⟨9, _⟩ => ⟨S2x8x15x512, .f32⟩
  | .hbm, ⟨10, _⟩ => ⟨S1x128, .f32⟩
  | .hbm, ⟨11, _⟩ => ⟨S4x128x128, .f32⟩
  | .hbm, ⟨12, _⟩ => ⟨S512, .f32⟩
  | .hbm, ⟨13, _⟩ => ⟨S66048x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x128, .bf16⟩
  | .hbm, ⟨18, _⟩ => ⟨S1x8x15x512, .f32⟩
  | .hbm, ⟨19, _⟩ => ⟨S8x15x512, .f32⟩
  | .hbm, ⟨20, _⟩ => ⟨S_, .f32⟩
  | .hbm, ⟨21, _⟩ => ⟨S1x15x512, .f32⟩
  | .hbm, ⟨22, _⟩ => ⟨S9x15x512, .f32⟩
  | .hbm, ⟨23, _⟩ => ⟨S144x512, .f32⟩
  | .hbm, ⟨24, _⟩ => ⟨S9x16x512, .f32⟩
  | .hbm, ⟨25, _⟩ => ⟨S9x31x512, .f32⟩
  | .hbm, ⟨26, _⟩ => ⟨S9x15x512, .f32⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Proof.MoeBody.lean ====
module

public import proofs.«01_k».proof.Proof.Gen.Moe.Skeleton
public import proofs.«01_k».proof.Proof.Gen.Moe.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! What one grid point of the grouped-experts kernel does. On whole staging buffers the body reads its tile's
`valid` word; if the word is positive it stores the two gated experts' sum over the tile, and if the word is zero
it stores zeros. Stated for every number system `F`. -/

@[expose] public section

set_option maxRecDepth 16384
set_option Elab.async false

noncomputable section

namespace Cert.Moe.Tile

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of first experts, the table of second experts, and the table of the tiles' valid flags. -/
abbrev tab0 : Memref sig .tc .smem S282 .i32 := Memref.whole main_arg0
abbrev tab1 : Memref sig .tc .smem S282 .i32 := Memref.whole main_arg1
abbrev tab2 : Memref sig .tc .smem S282 .i32 := Memref.whole main_arg2

/-- The `valid` word the body reads at point `i`, of contents `T` of its table. -/
abbrev flag (T : S282.Idx → Elt F .i32) (i : grid0.Coords) : BitVec 32 :=
  View.readAt (Elt F) tab2.view (Rect.unit (s := S282) (k0_off1 i) S1.size (k0_off1_inb i)).toLoadRect T (Shape.Idx.first (numel1_S1.symm ▸ Nat.one_pos))

/-- A load of a whole rank-3 buffer reads its contents. -/
theorem load_whole3 {a b d : Nat} {e : EltTy} (M : Memref sig .tc .vmem ⟨3, ![a, b, d]⟩ e) (x : (⟨3, ![a, b, d]⟩ : Shape).Idx → Elt F e)
    (inb : ∀ j, (![0, 0, 0] : Fin 3 → Nat) j + (⟨3, ![a, b, d]⟩ : Shape).size j ≤ (⟨3, ![a, b, d]⟩ : Shape).size j) :
    View.readAt (Elt F) M.view (Rect.unit (s := ⟨3, ![a, b, d]⟩) ![0, 0, 0] ![a, b, d] inb).toLoadRect (M.view.rep x) = x := by
  refine (View.readAt_eq_ld M.view (M.view.rep x) (Rect.unit ![0, 0, 0] _ inb)).trans ?_
  rw [View.read_rep]
  exact View.ld_unit_zero (by funext j; fin_cases j <;> rfl) inb x

/-- A load of a whole matrix reads its contents. -/
theorem load_whole2 {a b : Nat} {e : EltTy} (M : Memref sig .tc .vmem ⟨2, ![a, b]⟩ e) (x : (⟨2, ![a, b]⟩ : Shape).Idx → Elt F e)
    (inb : ∀ j, (![0, 0] : Fin 2 → Nat) j + (⟨2, ![a, b]⟩ : Shape).size j ≤ (⟨2, ![a, b]⟩ : Shape).size j) :
    View.readAt (Elt F) M.view (Rect.unit (s := ⟨2, ![a, b]⟩) ![0, 0] ![a, b] inb).toLoadRect (M.view.rep x) = x := by
  refine (View.readAt_eq_ld M.view (M.view.rep x) (Rect.unit ![0, 0] _ inb)).trans ?_
  rw [View.read_rep]
  exact View.ld_unit_zero (by funext j; fin_cases j <;> rfl) inb x

/-- One staging buffer of the result, through which its contents are stated. -/
abbrev outView : View sig .tc .vmem S256x1024 .f32 := (Memref.whole cc0_stg9_0 : Memref sig .tc .vmem S256x1024 .f32).view

set_option backward.proofsInPublic true in
set_option maxHeartbeats 8000000 in
/-- A tile with work (the `valid` word positive): the body runs, reading its blocks and leaving the pieces it stores into
    the result's buffer; everything else comes back as it was. -/
def run_live (c : Dev nD) (i : grid0.Coords)
    (arg4 : Memref sig .tc .vmem S256x1024 .bf16) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S1x1024x512 .bf16) (harg7 : arg7.IsWhole)
    (arg8 : Memref sig .tc .vmem S1x1024x512 .bf16) (harg8 : arg8.IsWhole)
    (arg9 : Memref sig .tc .vmem S1x512x1024 .bf16) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x512x1024 .bf16) (harg12 : arg12.IsWhole)
    (arg13 : Memref sig .tc .vmem S256x1024 .f32) (harg13 : arg13.IsWhole)
    (T0 T1 T2 : S282.Idx → Elt F .i32)
    (x0 : S256x1024.Idx → Elt F .bf16) (x1 x2 : S1x1x256.Idx → Elt F .f32) (x3 x4 : S1x1024x512.Idx → Elt F .bf16)
    (x5 : S1x512x1024.Idx → Elt F .bf16) (x6 x7 : S1x1024x512.Idx → Elt F .bf16) (x8 : S1x512x1024.Idx → Elt F .bf16)
    (h1 : k0_cond1 (flag T2 i) = 1#1) (h2 : ¬ k0_cond2 (flag T2 i) = 1#1) :
    { out : List (View.Piece (Elt F) S256x1024 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tab0.view.loc (c : Thread nD τ) ↦{fullShare.right} T0)
          ∗ (tab1.view.loc (c : Thread nD τ) ↦{fullShare.right} T1)
          ∗ (tab2.view.loc (c : Thread nD τ) ↦{fullShare.right} T2)
          ∗ (∃ d, owns (c : Thread nD τ) arg13 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (tab0.view.loc (c : Thread nD τ) ↦{fullShare.right} T0)
              ∗ (tab1.view.loc (c : Thread nD τ) ↦{fullShare.right} T1)
              ∗ (tab2.view.loc (c : Thread nD τ) ↦{fullShare.right} T2)
              ∗ (∃ f, arg13.view.loc (c : Thread nD τ) ↦[arg13.view.set]{fullShare} arg13.view.writes (Elt F) f out)) -∗ K ⟨⟩))
          ⊢ wp frame (wpE (defs₀ (F := F)) Variants.none c none) Set.univ (cc0_grouped_experts i tab0 (Memref.isWhole_whole _) tab1 (Memref.isWhole_whole _) tab2 (Memref.isWhole_whole _) arg4 harg4 arg5 harg5 arg6 harg6 arg7 harg7 arg8 harg8 arg9 harg9 arg10 harg10 arg11 harg11 arg12 harg12 arg13 harg13) K } :=
  ⟨_, fun K => by
    unfold owns
    rw [cc0_grouped_experts_eq_skeleton]; unfold cc0_grouped_experts_skel
    iintro ⟨H0, H1, H2, H3, H4, H5, H6, H7, H8, HT0, HT1, HT2, ⟨%d9, %f9, -, HO9⟩, Hk⟩
    have hT0 : tab0.IsWhole := Memref.isWhole_whole _
    have hT1 : tab1.IsWhole := Memref.isWhole_whole _
    have hT2 : tab2.IsWhole := Memref.isWhole_whole _
    sl_exec! (disch := first | exact h1 | exact h2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HT2]; · iexact HT2
    iexists _; iexact HO9⟩

set_option backward.proofsInPublic true in
set_option maxHeartbeats 8000000 in
/-- A padding tile (the `valid` word zero): the body runs and stores its zeros. -/
def run_empty (c : Dev nD) (i : grid0.Coords)
    (arg4 : Memref sig .tc .vmem S256x1024 .bf16) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S1x1024x512 .bf16) (harg7 : arg7.IsWhole)
    (arg8 : Memref sig .tc .vmem S1x1024x512 .bf16) (harg8 : arg8.IsWhole)
    (arg9 : Memref sig .tc .vmem S1x512x1024 .bf16) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x512x1024 .bf16) (harg12 : arg12.IsWhole)
    (arg13 : Memref sig .tc .vmem S256x1024 .f32) (harg13 : arg13.IsWhole)
    (T0 T1 T2 : S282.Idx → Elt F .i32)
    (x0 : S256x1024.Idx → Elt F .bf16) (x1 x2 : S1x1x256.Idx → Elt F .f32) (x3 x4 : S1x1024x512.Idx → Elt F .bf16)
    (x5 : S1x512x1024.Idx → Elt F .bf16) (x6 x7 : S1x1024x512.Idx → Elt F .bf16) (x8 : S1x512x1024.Idx → Elt F .bf16)
    (h1 : ¬ k0_cond1 (flag T2 i) = 1#1) (h2 : k0_cond2 (flag T2 i) = 1#1) :
    { out : List (View.Piece (Elt F) S256x1024 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tab0.view.loc (c : Thread nD τ) ↦{fullShare.right} T0)
          ∗ (tab1.view.loc (c : Thread nD τ) ↦{fullShare.right} T1)
          ∗ (tab2.view.loc (c : Thread nD τ) ↦{fullShare.right} T2)
          ∗ (∃ d, owns (c : Thread nD τ) arg13 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (tab0.view.loc (c : Thread nD τ) ↦{fullShare.right} T0)
              ∗ (tab1.view.loc (c : Thread nD τ) ↦{fullShare.right} T1)
              ∗ (tab2.view.loc (c : Thread nD τ) ↦{fullShare.right} T2)
              ∗ (∃ f, arg13.view.loc (c : Thread nD τ) ↦[arg13.view.set]{fullShare} arg13.view.writes (Elt F) f out)) -∗ K ⟨⟩))
          ⊢ wp frame (wpE (defs₀ (F := F)) Variants.none c none) Set.univ (cc0_grouped_experts i tab0 (Memref.isWhole_whole _) tab1 (Memref.isWhole_whole _) tab2 (Memref.isWhole_whole _) arg4 harg4 arg5 harg5 arg6 harg6 arg7 harg7 arg8 harg8 arg9 harg9 arg10 harg10 arg11 harg11 arg12 harg12 arg13 harg13) K } :=
  ⟨_, fun K => by
    unfold owns
    rw [cc0_grouped_experts_eq_skeleton]; unfold cc0_grouped_experts_skel
    iintro ⟨H0, H1, H2, H3, H4, H5, H6, H7, H8, HT0, HT1, HT2, ⟨%d9, %f9, -, HO9⟩, Hk⟩
    have hT0 : tab0.IsWhole := Memref.isWhole_whole _
    have hT1 : tab1.IsWhole := Memref.isWhole_whole _
    have hT2 : tab2.IsWhole := Memref.isWhole_whole _
    sl_exec! (disch := first | exact h1 | exact h2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HT2]; · iexact HT2
    iexists _; iexact HO9⟩

/-- The pieces stored over a tile with work are its whole block. -/
theorem cover_live (c : Dev nD) (i : grid0.Coords)
    (arg4 : Memref sig .tc .vmem S256x1024 .bf16) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S1x1024x512 .bf16) (harg7 : arg7.IsWhole)
    (arg8 : Memref sig .tc .vmem S1x1024x512 .bf16) (harg8 : arg8.IsWhole)
    (arg9 : Memref sig .tc .vmem S1x512x1024 .bf16) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x512x1024 .bf16) (harg12 : arg12.IsWhole)
    (arg13 : Memref sig .tc .vmem S256x1024 .f32) (harg13 : arg13.IsWhole)
    (T0 T1 T2 : S282.Idx → Elt F .i32)
    (x0 : S256x1024.Idx → Elt F .bf16) (x1 x2 : S1x1x256.Idx → Elt F .f32) (x3 x4 : S1x1024x512.Idx → Elt F .bf16)
    (x5 : S1x512x1024.Idx → Elt F .bf16) (x6 x7 : S1x1024x512.Idx → Elt F .bf16) (x8 : S1x512x1024.Idx → Elt F .bf16)
    (h1 : k0_cond1 (flag T2 i) = 1#1) (h2 : ¬ k0_cond2 (flag T2 i) = 1#1) (y : S256x1024.Idx) :
    ∃ pc ∈ (run_live c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1, y ∈ pc.1.set :=
  View.cover_of_tiledL (run_live c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1 S256x1024.size (by sl_kernel_rfl) y

/-- What a tile with work holds when the body is done: the sum of its two gated experts, of the blocks the body was handed. -/
theorem out_live (c : Dev nD) (i : grid0.Coords)
    (arg4 : Memref sig .tc .vmem S256x1024 .bf16) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S1x1024x512 .bf16) (harg7 : arg7.IsWhole)
    (arg8 : Memref sig .tc .vmem S1x1024x512 .bf16) (harg8 : arg8.IsWhole)
    (arg9 : Memref sig .tc .vmem S1x512x1024 .bf16) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x512x1024 .bf16) (harg12 : arg12.IsWhole)
    (arg13 : Memref sig .tc .vmem S256x1024 .f32) (harg13 : arg13.IsWhole)
    (T0 T1 T2 : S282.Idx → Elt F .i32)
    (x0 : S256x1024.Idx → Elt F .bf16) (x1 x2 : S1x1x256.Idx → Elt F .f32) (x3 x4 : S1x1024x512.Idx → Elt F .bf16)
    (x5 : S1x512x1024.Idx → Elt F .bf16) (x6 x7 : S1x1024x512.Idx → Elt F .bf16) (x8 : S1x512x1024.Idx → Elt F .bf16)
    (h1 : k0_cond1 (flag T2 i) = 1#1) (h2 : ¬ k0_cond2 (flag T2 i) = 1#1)
    (f : arg13.view.ty.Contents (Elt F)) :
    arg13.view.read (Elt F) (arg13.view.writes (Elt F) f (run_live c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1)
      = k0_pay1 x0 (k0_pay3 x0 x1 x3 x4 x5) (k0_pay4 x2) (k0_pay5 x6) x7 x8 := by
  refine (View.read_writes_eq_canon arg13.view f _ (cover_live c i arg4 harg4 arg5 harg5 arg6 harg6 arg7 harg7 arg8 harg8 arg9 harg9 arg10 harg10 arg11 harg11 arg12 harg12 arg13 harg13 T0 T1 T2 x0 x1 x2 x3 x4 x5 x6 x7 x8 h1 h2)).trans ?_
  unfold run_live
  dsimp only
  refine (View.canon_unit_zero (by funext a; fin_cases a <;> rfl) _ _).trans ?_
  sl_unfold_words
  simp only [load_whole3, load_whole2]

/-- The pieces stored over a padding tile are its whole block. -/
theorem cover_empty (c : Dev nD) (i : grid0.Coords)
    (arg4 : Memref sig .tc .vmem S256x1024 .bf16) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S1x1024x512 .bf16) (harg7 : arg7.IsWhole)
    (arg8 : Memref sig .tc .vmem S1x1024x512 .bf16) (harg8 : arg8.IsWhole)
    (arg9 : Memref sig .tc .vmem S1x512x1024 .bf16) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x512x1024 .bf16) (harg12 : arg12.IsWhole)
    (arg13 : Memref sig .tc .vmem S256x1024 .f32) (harg13 : arg13.IsWhole)
    (T0 T1 T2 : S282.Idx → Elt F .i32)
    (x0 : S256x1024.Idx → Elt F .bf16) (x1 x2 : S1x1x256.Idx → Elt F .f32) (x3 x4 : S1x1024x512.Idx → Elt F .bf16)
    (x5 : S1x512x1024.Idx → Elt F .bf16) (x6 x7 : S1x1024x512.Idx → Elt F .bf16) (x8 : S1x512x1024.Idx → Elt F .bf16)
    (h1 : ¬ k0_cond1 (flag T2 i) = 1#1) (h2 : k0_cond2 (flag T2 i) = 1#1) (y : S256x1024.Idx) :
    ∃ pc ∈ (run_empty c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1, y ∈ pc.1.set :=
  View.cover_of_tiledL (run_empty c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1 S256x1024.size (by sl_kernel_rfl) y

/-- What a padding tile holds when the body is done: zeros. -/
theorem out_empty (c : Dev nD) (i : grid0.Coords)
    (arg4 : Memref sig .tc .vmem S256x1024 .bf16) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S1x1024x512 .bf16) (harg7 : arg7.IsWhole)
    (arg8 : Memref sig .tc .vmem S1x1024x512 .bf16) (harg8 : arg8.IsWhole)
    (arg9 : Memref sig .tc .vmem S1x512x1024 .bf16) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x512x1024 .bf16) (harg12 : arg12.IsWhole)
    (arg13 : Memref sig .tc .vmem S256x1024 .f32) (harg13 : arg13.IsWhole)
    (T0 T1 T2 : S282.Idx → Elt F .i32)
    (x0 : S256x1024.Idx → Elt F .bf16) (x1 x2 : S1x1x256.Idx → Elt F .f32) (x3 x4 : S1x1024x512.Idx → Elt F .bf16)
    (x5 : S1x512x1024.Idx → Elt F .bf16) (x6 x7 : S1x1024x512.Idx → Elt F .bf16) (x8 : S1x512x1024.Idx → Elt F .bf16)
    (h1 : ¬ k0_cond1 (flag T2 i) = 1#1) (h2 : k0_cond2 (flag T2 i) = 1#1)
    (f : arg13.view.ty.Contents (Elt F)) :
    arg13.view.read (Elt F) (arg13.view.writes (Elt F) f (run_empty c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1)
      = (k0_pay2 : FVec F S256x1024 .f32) := by
  refine (View.read_writes_eq_canon arg13.view f _ (cover_empty c i arg4 harg4 arg5 harg5 arg6 harg6 arg7 harg7 arg8 harg8 arg9 harg9 arg10 harg10 arg11 harg11 arg12 harg12 arg13 harg13 T0 T1 T2 x0 x1 x2 x3 x4 x5 x6 x7 x8 h1 h2)).trans ?_
  unfold run_empty
  dsimp only
  refine (View.canon_unit_zero (by funext a; fin_cases a <;> rfl) _ _).trans ?_
  rfl

end Cert.Moe.Tile

end
-- ==== Proof.MoeRun.lean ====
module

public import proofs.«01_k».proof.Proof.MoeBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The run of the grouped-experts kernel. From any memory whose expert tables hold expert numbers and whose valid
flags are not negative, the kernel runs to the end, every argument keeps its contents, and the result array is what
the tiles left in it, block by block. Stated for every number system `F`. -/

@[expose] public section

set_option maxRecDepth 16384
set_option Elab.async false

noncomputable section

namespace Cert.Moe.Tile

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The tables' contents, as launched. -/
def pf : pre0.Contents (Elt F) := fun k => m (((0 : Dev nD).tc : Thread nD τ).loc (pre0.ref k))

/-- The entry of a table that grid point `i` reads. -/
def entry (i : grid0.Coords) : S282.Idx := fun a => ⟨(i 0).val, lt_of_lt_of_eq (i 0).isLt (by obtain rfl : a = 0 := Subsingleton.elim _ _; rfl)⟩

/-- The two experts of tile `i`, and its `valid` word. -/
abbrev expA (i : grid0.Coords) : BitVec 32 := (pf m 0 : S282.Idx → BitVec 32) (entry i)
abbrev expB (i : grid0.Coords) : BitVec 32 := (pf m 1 : S282.Idx → BitVec 32) (entry i)
abbrev live (i : grid0.Coords) : BitVec 32 := (pf m 2 : S282.Idx → BitVec 32) (entry i)

/-- The tables hold expert numbers, and no `valid` word is negative. -/
def TablesOk : Prop := ∀ i : grid0.Coords, (expA m i).toNat < 16 ∧ (expB m i).toNat < 16 ∧ 0 ≤ (live m i).toInt

/-- The word index the kernel computes from a grid point is the point. -/
theorem word_toNat (i : grid0.Coords) : (Scalar.indexCast (BitVec.ofNat 32 (i 0).val) : Index).toNat = (i 0).val := by
  have h : (i 0).val < 282 := (i 0).isLt
  show ((BitVec.ofNat 32 (i 0).val).setWidth _).toNat = (i 0).val
  simp only [BitVec.toNat_setWidth, BitVec.toNat_ofNat]
  omega

/-- A table's contents through the kernel's own one-word rectangle. -/
theorem at_entry (T : S282.Idx → BitVec 32) (i : grid0.Coords) (off : Fin 1 → Nat) (h0 : off 0 = (i 0).val)
    (inb : ∀ a, off a + S1.size a ≤ S282.size a) (h1 : (Rect.unit (s := S282) off S1.size inb).shape.numel = 1) :
    T ((Rect.unit (s := S282) off S1.size inb).emb (Shape.Idx.first (h1.symm ▸ Nat.one_pos))) = T (entry i) := by
  refine congrArg T (funext fun a => Fin.ext ?_)
  have ha : a = 0 := Subsingleton.elim _ _
  subst ha
  show off 0 + 1 * _ = (i 0).val
  have hz : ∀ x : Fin 1, 1 * x.val = 0 := by decide
  rw [h0]
  exact congrArg ((i 0).val + ·) (hz _)

/-- A table's contents at the offsets the idle condition reads. -/
theorem atD_entry (T : pre0.Contents (Elt F)) (i : grid0.Coords) (off : Fin 1 → Nat) (h0 : off 0 = (i 0).val) :
    (T.atD 2 off : BitVec 32) = (T 2 : S282.Idx → BitVec 32) (entry i) := by
  have hin : ∀ a : Fin 1, off a + 1 ≤ S282.size a := fun a => by
    obtain rfl : a = 0 := Subsingleton.elim _ _
    rw [h0]; exact (i 0).isLt
  refine (dif_pos (c := ∀ a, off a + 1 ≤ (pre0.ref 2).ty.shape.size a) hin).trans (congrArg (T 2) (funext fun a => Fin.ext ?_))
  exact (congrArg off (Subsingleton.elim (α := Fin 1) a (0 : Fin 1))).trans h0

theorem off1_zero (i : grid0.Coords) : k0_off1 i 0 = (i 0).val := word_toNat i
theorem off2_zero (i : grid0.Coords) : k0_off2 i 0 = (i 0).val := word_toNat i

/-- The word the body branches on is the tile's `valid` word. -/
theorem flag_eq (i : grid0.Coords) : flag (F := F) (pf m 2) i = live m i :=
  at_entry (pf m 2) i (k0_off1 i) (off1_zero i) (k0_off1_inb i) numel1_S1

/-- The body's two conditions, of the word: positive, zero. -/
theorem cond1_iff (w : BitVec 32) : k0_cond1 w = 1#1 ↔ (0#32).slt w = true := by
  unfold k0_cond1
  cases h : (0#32).slt w
  · simp [Scalar.cmpi, Scalar.extui, IntOp.cmpi, h]
  · simp [Scalar.cmpi, Scalar.extui, IntOp.cmpi, h]
theorem cond2_iff (w : BitVec 32) : k0_cond2 w = 1#1 ↔ w = 0#32 := by
  unfold k0_cond2
  by_cases h : w = 0#32
  · subst h; decide
  · have hb : (w == 0#32) = false := by simpa using h
    simp [Scalar.cmpi, Scalar.extui, IntOp.cmpi, h, hb]

/-- The side condition of the region: every weight block the tables name is inside its array. -/
theorem tables_ok (h : TablesOk m) : ok0 (pf m) := by
  have hA : ∀ i : grid0.Coords, ((pf m).at 0 (Rect.unit (s := S282) ![(Scalar.indexCast (BitVec.ofNat 32 (i 0).val) : Index).toNat] S1.size (k0_off1_inb i)) numel1_S1 : BitVec 32).toNat < 16 := fun i => by
    rw [show ((pf m).at 0 (Rect.unit (s := S282) ![(Scalar.indexCast (BitVec.ofNat 32 (i 0).val) : Index).toNat] S1.size (k0_off1_inb i)) numel1_S1 : BitVec 32) = expA m i from
      at_entry (pf m 0) i _ (word_toNat i) (k0_off1_inb i) numel1_S1]
    exact (h i).1
  have hB : ∀ i : grid0.Coords, ((pf m).at 1 (Rect.unit (s := S282) ![(Scalar.indexCast (BitVec.ofNat 32 (i 0).val) : Index).toNat] S1.size (k0_off1_inb i)) numel1_S1 : BitVec 32).toNat < 16 := fun i => by
    rw [show ((pf m).at 1 (Rect.unit (s := S282) ![(Scalar.indexCast (BitVec.ofNat 32 (i 0).val) : Index).toNat] S1.size (k0_off1_inb i)) numel1_S1 : BitVec 32) = expB m i from
      at_entry (pf m 1) i _ (word_toNat i) (k0_off1_inb i) numel1_S1]
    exact (h i).2.1
  refine ⟨fun i => ⟨fun a => ?_, .inr (Affine.block_words_dvd (s := S16x1024x512) (p := EltTy.packing .bf16) (by decide) (by decide))⟩,
    fun i => ⟨fun a => ?_, .inr (Affine.block_words_dvd (s := S16x1024x512) (p := EltTy.packing .bf16) (by decide) (by decide))⟩,
    fun i => ⟨fun a => ?_, .inr (Affine.block_words_dvd (s := S16x512x1024) (p := EltTy.packing .bf16) (by decide) (by decide))⟩,
    fun i => ⟨fun a => ?_, .inr (Affine.block_words_dvd (s := S16x1024x512) (p := EltTy.packing .bf16) (by decide) (by decide))⟩,
    fun i => ⟨fun a => ?_, .inr (Affine.block_words_dvd (s := S16x1024x512) (p := EltTy.packing .bf16) (by decide) (by decide))⟩,
    fun i => ⟨fun a => ?_, .inr (Affine.block_words_dvd (s := S16x512x1024) (p := EltTy.packing .bf16) (by decide) (by decide))⟩⟩
  all_goals
    have h1 := hA i
    have h2 := hB i
    fin_cases a
    · first
      | (show ((pf m).at 0 _ _ : BitVec 32).toNat + 1 ≤ 16; exact h1)
      | (show (((pf m).at 0 _ _ : BitVec 32).toNat + 1) * 1 ≤ 16; omega)
      | (show (((pf m).at 1 _ _ : BitVec 32).toNat + 1) * 1 ≤ 16; omega)
    · show (0 + 1) * _ ≤ _; decide
    · show (0 + 1) * _ ≤ _; decide

variable (hT : TablesOk m)

/-- The tables as admissible contents, and the pipeline at them. -/
def adm : (pcfg0 (F := F)).Adm := ⟨pf m, tables_ok m hT⟩
abbrev cfgA : Pipeline.Cfg sig Λ₀ := cfg0 (F := F) (adm m hT)
abbrev pcs : Fin 1 → Pipeline.Cfg sig Λ₀ := Pipeline.pin (pcfgs (F := F)) fun _ => adm m hT

/-- Point `t`'s coordinates. -/
abbrev crd (t : Fin (cfgA m hT).N) : grid0.Coords := (cfgA m hT).grid.coords t

/-! ## The staging buffers -/

abbrev ms0 (t : Fin (cfgA m hT).N) : Memref sig .tc .vmem S256x1024 .bf16 := spec0_0.stage ((cfgA m hT).slots t (0 : Fin 10))
abbrev hs0 (t : Fin (cfgA m hT).N) : (ms0 m hT t).IsWhole := hstage0_0 (((cfgA m hT).slots t (0 : Fin 10)).cast nbuf0_0)
abbrev ms1 (t : Fin (cfgA m hT).N) : Memref sig .tc .vmem S1x1x256 .f32 := spec0_1.stage ((cfgA m hT).slots t (1 : Fin 10))
abbrev hs1 (t : Fin (cfgA m hT).N) : (ms1 m hT t).IsWhole := hstage0_1 (((cfgA m hT).slots t (1 : Fin 10)).cast nbuf0_1)
abbrev ms2 (t : Fin (cfgA m hT).N) : Memref sig .tc .vmem S1x1x256 .f32 := spec0_2.stage ((cfgA m hT).slots t (2 : Fin 10))
abbrev hs2 (t : Fin (cfgA m hT).N) : (ms2 m hT t).IsWhole := hstage0_2 (((cfgA m hT).slots t (2 : Fin 10)).cast nbuf0_2)
abbrev ms3 (t : Fin (cfgA m hT).N) : Memref sig .tc .vmem S1x1024x512 .bf16 := spec0_3.stage ((cfgA m hT).slots t (3 : Fin 10))
abbrev hs3 (t : Fin (cfgA m hT).N) : (ms3 m hT t).IsWhole := hstage0_3 (((cfgA m hT).slots t (3 : Fin 10)).cast nbuf0_3)
abbrev ms4 (t : Fin (cfgA m hT).N) : Memref sig .tc .vmem S1x1024x512 .bf16 := spec0_4.stage ((cfgA m hT).slots t (4 : Fin 10))
abbrev hs4 (t : Fin (cfgA m hT).N) : (ms4 m hT t).IsWhole := hstage0_4 (((cfgA m hT).slots t (4 : Fin 10)).cast nbuf0_4)
abbrev ms5 (t : Fin (cfgA m hT).N) : Memref sig .tc .vmem S1x512x1024 .bf16 := spec0_5.stage ((cfgA m hT).slots t (5 : Fin 10))
abbrev hs5 (t : Fin (cfgA m hT).N) : (ms5 m hT t).IsWhole := hstage0_5 (((cfgA m hT).slots t (5 : Fin 10)).cast nbuf0_5)
abbrev ms6 (t : Fin (cfgA m hT).N) : Memref sig .tc .vmem S1x1024x512 .bf16 := spec0_6.stage ((cfgA m hT).slots t (6 : Fin 10))
abbrev hs6 (t : Fin (cfgA m hT).N) : (ms6 m hT t).IsWhole := hstage0_6 (((cfgA m hT).slots t (6 : Fin 10)).cast nbuf0_6)
abbrev ms7 (t : Fin (cfgA m hT).N) : Memref sig .tc .vmem S1x1024x512 .bf16 := spec0_7.stage ((cfgA m hT).slots t (7 : Fin 10))
abbrev hs7 (t : Fin (cfgA m hT).N) : (ms7 m hT t).IsWhole := hstage0_7 (((cfgA m hT).slots t (7 : Fin 10)).cast nbuf0_7)
abbrev ms8 (t : Fin (cfgA m hT).N) : Memref sig .tc .vmem S1x512x1024 .bf16 := spec0_8.stage ((cfgA m hT).slots t (8 : Fin 10))
abbrev hs8 (t : Fin (cfgA m hT).N) : (ms8 m hT t).IsWhole := hstage0_8 (((cfgA m hT).slots t (8 : Fin 10)).cast nbuf0_8)
abbrev ms9 (t : Fin (cfgA m hT).N) : Memref sig .tc .vmem S256x1024 .f32 := spec0_9.stage ((cfgA m hT).slots t (9 : Fin 10))
abbrev hs9 (t : Fin (cfgA m hT).N) : (ms9 m hT t).IsWhole := hstage0_9 (((cfgA m hT).slots t (9 : Fin 10)).cast nbuf0_9)

/-! ## What the region finds in the arrays, and the windows' blocks -/

/-- The contents at the region's entry: the host operations' results, every other buffer as launched. -/
abbrev V (c : Dev nD) (b : Ref sig .tc) : Buf (Elt F) ((c : Thread nD τ).loc b) :=
  StableHlo.after hostOps0 (fun b => m (c, b)) b

/-- Window `w`'s block at point `t`, read off its array. -/
def iblk (c : Dev nD) (w : Fin (cfgA m hT).W) (t : Fin (cfgA m hT).N) : (((cfgA m hT).win w).xblock (crd m hT t)).Idx → Elt F ((cfgA m hT).win w).elt :=
  (((cfgA m hT).win w).blk t).view.read (Elt F) (V m c (Pipeline.arrRef spec0 w))

/-- What tile `t` holds when the body is done with it: its two gated experts' sum, or zeros. -/
def tileOut (c : Dev nD) (t : Fin (cfgA m hT).N) : S256x1024.Idx → Elt F .f32 :=
  if k0_cond1 (live m (crd m hT t)) = 1#1 then
    k0_pay1 (iblk m hT c (0 : Fin 10) t)
      (k0_pay3 (iblk m hT c (0 : Fin 10) t) (iblk m hT c (1 : Fin 10) t) (iblk m hT c (3 : Fin 10) t) (iblk m hT c (4 : Fin 10) t) (iblk m hT c (5 : Fin 10) t))
      (k0_pay4 (iblk m hT c (2 : Fin 10) t)) (k0_pay5 (iblk m hT c (6 : Fin 10) t)) (iblk m hT c (7 : Fin 10) t) (iblk m hT c (8 : Fin 10) t)
  else (k0_pay2 : FVec F S256x1024 .f32)

/-- The proof data of the pipeline on core `c`: every input buffer at its block, the result's at the tile; windows on
    one array hold shares of it. -/
def dats (_ : Fin 1) (c : Dev nD) : Dat τ (Elt F) Unit ℕ (UR sig nD τ) ℕ (cfgA m hT) c where
  A w := V m c (Pipeline.arrRef spec0 w)
  after w t := match w with
    | ⟨0, _⟩ => iblk m hT c (0 : Fin 10) t
    | ⟨1, _⟩ => iblk m hT c (1 : Fin 10) t
    | ⟨2, _⟩ => iblk m hT c (2 : Fin 10) t
    | ⟨3, _⟩ => iblk m hT c (3 : Fin 10) t
    | ⟨4, _⟩ => iblk m hT c (4 : Fin 10) t
    | ⟨5, _⟩ => iblk m hT c (5 : Fin 10) t
    | ⟨6, _⟩ => iblk m hT c (6 : Fin 10) t
    | ⟨7, _⟩ => iblk m hT c (7 : Fin 10) t
    | ⟨8, _⟩ => iblk m hT c (8 : Fin 10) t
    | ⟨9, _⟩ => tileOut m hT c t
  Φ _ := iprop(Pipeline.ΦA spec0 c ∗ Pipeline.ΦT pre0 (pf m) c)
  q w := Pipeline.shareOf spec0 w
  owed _ := 0

theorem after0 (c : Dev nD) (t : Fin (cfgA m hT).N) : (dats m hT 0 c).after (0 : Fin 10) t = iblk m hT c (0 : Fin 10) t := rfl
theorem after1 (c : Dev nD) (t : Fin (cfgA m hT).N) : (dats m hT 0 c).after (1 : Fin 10) t = iblk m hT c (1 : Fin 10) t := rfl
theorem after2 (c : Dev nD) (t : Fin (cfgA m hT).N) : (dats m hT 0 c).after (2 : Fin 10) t = iblk m hT c (2 : Fin 10) t := rfl
theorem after3 (c : Dev nD) (t : Fin (cfgA m hT).N) : (dats m hT 0 c).after (3 : Fin 10) t = iblk m hT c (3 : Fin 10) t := rfl
theorem after4 (c : Dev nD) (t : Fin (cfgA m hT).N) : (dats m hT 0 c).after (4 : Fin 10) t = iblk m hT c (4 : Fin 10) t := rfl
theorem after5 (c : Dev nD) (t : Fin (cfgA m hT).N) : (dats m hT 0 c).after (5 : Fin 10) t = iblk m hT c (5 : Fin 10) t := rfl
theorem after6 (c : Dev nD) (t : Fin (cfgA m hT).N) : (dats m hT 0 c).after (6 : Fin 10) t = iblk m hT c (6 : Fin 10) t := rfl
theorem after7 (c : Dev nD) (t : Fin (cfgA m hT).N) : (dats m hT 0 c).after (7 : Fin 10) t = iblk m hT c (7 : Fin 10) t := rfl
theorem after8 (c : Dev nD) (t : Fin (cfgA m hT).N) : (dats m hT 0 c).after (8 : Fin 10) t = iblk m hT c (8 : Fin 10) t := rfl
theorem after9 (c : Dev nD) (t : Fin (cfgA m hT).N) : (dats m hT 0 c).after (9 : Fin 10) t = tileOut m hT c t := rfl

/-! Every input's buffer holds its block when the body runs, fetched at that point or not. -/

theorem before0 (c : Dev nD) (t : Fin (cfgA m hT).N) (d) : (dats m hT 0 c).before (0 : Fin 10) t d = iblk m hT c (0 : Fin 10) t :=
  ((dats m hT 0 c).before_in_eq_fetched (0 : Fin 10) rfl (fun _ => rfl) (fun _ _ _ => rfl) (fun t => by rw [after0]; unfold Dat.blockOf iblk; rfl) t d).trans
    (by unfold Dat.fetched Dat.blockOf iblk; rfl)
theorem before1 (c : Dev nD) (t : Fin (cfgA m hT).N) (d) : (dats m hT 0 c).before (1 : Fin 10) t d = iblk m hT c (1 : Fin 10) t :=
  ((dats m hT 0 c).before_in_eq_fetched (1 : Fin 10) rfl (fun _ => rfl) (fun _ _ _ => rfl) (fun t => by rw [after1]; unfold Dat.blockOf iblk; rfl) t d).trans
    (by unfold Dat.fetched Dat.blockOf iblk; rfl)
theorem before2 (c : Dev nD) (t : Fin (cfgA m hT).N) (d) : (dats m hT 0 c).before (2 : Fin 10) t d = iblk m hT c (2 : Fin 10) t :=
  ((dats m hT 0 c).before_in_eq_fetched (2 : Fin 10) rfl (fun _ => rfl) (fun _ _ _ => rfl) (fun t => by rw [after2]; unfold Dat.blockOf iblk; rfl) t d).trans
    (by unfold Dat.fetched Dat.blockOf iblk; rfl)
theorem before3 (c : Dev nD) (t : Fin (cfgA m hT).N) (d) : (dats m hT 0 c).before (3 : Fin 10) t d = iblk m hT c (3 : Fin 10) t :=
  ((dats m hT 0 c).before_in_eq_fetched (3 : Fin 10) rfl (fun _ => rfl) (fun _ _ _ => rfl) (fun t => by rw [after3]; unfold Dat.blockOf iblk; rfl) t d).trans
    (by unfold Dat.fetched Dat.blockOf iblk; rfl)
theorem before4 (c : Dev nD) (t : Fin (cfgA m hT).N) (d) : (dats m hT 0 c).before (4 : Fin 10) t d = iblk m hT c (4 : Fin 10) t :=
  ((dats m hT 0 c).before_in_eq_fetched (4 : Fin 10) rfl (fun _ => rfl) (fun _ _ _ => rfl) (fun t => by rw [after4]; unfold Dat.blockOf iblk; rfl) t d).trans
    (by unfold Dat.fetched Dat.blockOf iblk; rfl)
theorem before5 (c : Dev nD) (t : Fin (cfgA m hT).N) (d) : (dats m hT 0 c).before (5 : Fin 10) t d = iblk m hT c (5 : Fin 10) t :=
  ((dats m hT 0 c).before_in_eq_fetched (5 : Fin 10) rfl (fun _ => rfl) (fun _ _ _ => rfl) (fun t => by rw [after5]; unfold Dat.blockOf iblk; rfl) t d).trans
    (by unfold Dat.fetched Dat.blockOf iblk; rfl)
theorem before6 (c : Dev nD) (t : Fin (cfgA m hT).N) (d) : (dats m hT 0 c).before (6 : Fin 10) t d = iblk m hT c (6 : Fin 10) t :=
  ((dats m hT 0 c).before_in_eq_fetched (6 : Fin 10) rfl (fun _ => rfl) (fun _ _ _ => rfl) (fun t => by rw [after6]; unfold Dat.blockOf iblk; rfl) t d).trans
    (by unfold Dat.fetched Dat.blockOf iblk; rfl)
theorem before7 (c : Dev nD) (t : Fin (cfgA m hT).N) (d) : (dats m hT 0 c).before (7 : Fin 10) t d = iblk m hT c (7 : Fin 10) t :=
  ((dats m hT 0 c).before_in_eq_fetched (7 : Fin 10) rfl (fun _ => rfl) (fun _ _ _ => rfl) (fun t => by rw [after7]; unfold Dat.blockOf iblk; rfl) t d).trans
    (by unfold Dat.fetched Dat.blockOf iblk; rfl)
theorem before8 (c : Dev nD) (t : Fin (cfgA m hT).N) (d) : (dats m hT 0 c).before (8 : Fin 10) t d = iblk m hT c (8 : Fin 10) t :=
  ((dats m hT 0 c).before_in_eq_fetched (8 : Fin 10) rfl (fun _ => rfl) (fun _ _ _ => rfl) (fun t => by rw [after8]; unfold Dat.blockOf iblk; rfl) t d).trans
    (by unfold Dat.fetched Dat.blockOf iblk; rfl)

/-! ## The body at every point -/

/-- The tables one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- A word that is not negative takes exactly one of the body's two branches. -/
theorem branch (w : BitVec 32) (h : 0 ≤ w.toInt) :
    (k0_cond1 w = 1#1 ∧ ¬ k0_cond2 w = 1#1) ∨ (¬ k0_cond1 w = 1#1 ∧ k0_cond2 w = 1#1) := by
  rw [cond1_iff, cond2_iff]
  by_cases hw : w = 0#32
  · subst hw; right; exact ⟨by decide, rfl⟩
  · left
    refine ⟨?_, hw⟩
    rw [BitVec.slt_iff_toInt_lt]
    have hne : w.toInt ≠ 0 := fun e => hw (BitVec.eq_of_toInt_eq (by rw [e]; rfl))
    show (0#32).toInt < w.toInt
    have : (0#32).toInt = 0 := by decide
    omega

/-- The body writes the result's buffer at every point. -/
theorem not_idle (t : Fin (cfgA m hT).N) : (cfgA m hT).idle (9 : Fin 10) ((cfgA m hT).grid.coords t) = false := by
  have e1 : (pf m).atD 2 (k0_off1 (crd m hT t)) = live m (crd m hT t) :=
    atD_entry (pf m) (crd m hT t) _ (off1_zero _)
  have e2 : (pf m).atD 2 (k0_off2 (crd m hT t)) = live m (crd m hT t) :=
    atD_entry (pf m) (crd m hT t) _ (off2_zero _)
  show (!(k0_cond1 ((pf m).atD 2 (k0_off1 (crd m hT t))) == 1#1) && !(k0_cond2 ((pf m).atD 2 (k0_off2 (crd m hT t))) == 1#1)) = false
  rw [e1, e2]
  rcases branch _ (hT (crd m hT t)).2.2 with ⟨h1, -⟩ | ⟨-, h2⟩
  · rw [h1]; rfl
  · rw [h2]; simp

/-- The body at point `t` on its staging buffers. -/
abbrev bodyAt (t : Fin (cfgA m hT).N) : Prog (TpuEff nD τ sig (Elt F) Λ₀ .tc) PUnit :=
  cc0_grouped_experts (crd m hT t) tab0 (Memref.isWhole_whole _) tab1 (Memref.isWhole_whole _) tab2 (Memref.isWhole_whole _) (ms0 m hT t) (hs0 m hT t) (ms1 m hT t) (hs1 m hT t) (ms2 m hT t) (hs2 m hT t) (ms3 m hT t) (hs3 m hT t) (ms4 m hT t) (hs4 m hT t) (ms5 m hT t) (hs5 m hT t) (ms6 m hT t) (hs6 m hT t) (ms7 m hT t) (hs7 m hT t) (ms8 m hT t) (hs8 m hT t) (ms9 m hT t) (hs9 m hT t)

set_option maxHeartbeats 4000000 in
/-- The body at any point, from what the pipeline holds there to what it holds after. -/
theorem sound_body (c : Dev nD) (t : Fin (cfgA m hT).N) :
    iprop((dats m hT 0 c).Φ t.castSucc ∗ (dats m hT 0 c).owesAt () t.castSucc
        ∗ (∃ d, owns (c : Thread nD τ) (ms0 m hT t) fullShare ((dats m hT 0 c).before (0 : Fin 10) t d))
        ∗ (∃ d, owns (c : Thread nD τ) (ms1 m hT t) fullShare ((dats m hT 0 c).before (1 : Fin 10) t d))
        ∗ (∃ d, owns (c : Thread nD τ) (ms2 m hT t) fullShare ((dats m hT 0 c).before (2 : Fin 10) t d))
        ∗ (∃ d, owns (c : Thread nD τ) (ms3 m hT t) fullShare ((dats m hT 0 c).before (3 : Fin 10) t d))
        ∗ (∃ d, owns (c : Thread nD τ) (ms4 m hT t) fullShare ((dats m hT 0 c).before (4 : Fin 10) t d))
        ∗ (∃ d, owns (c : Thread nD τ) (ms5 m hT t) fullShare ((dats m hT 0 c).before (5 : Fin 10) t d))
        ∗ (∃ d, owns (c : Thread nD τ) (ms6 m hT t) fullShare ((dats m hT 0 c).before (6 : Fin 10) t d))
        ∗ (∃ d, owns (c : Thread nD τ) (ms7 m hT t) fullShare ((dats m hT 0 c).before (7 : Fin 10) t d))
        ∗ (∃ d, owns (c : Thread nD τ) (ms8 m hT t) fullShare ((dats m hT 0 c).before (8 : Fin 10) t d))
        ∗ (∃ d, owns (c : Thread nD τ) (ms9 m hT t) fullShare ((dats m hT 0 c).before (9 : Fin 10) t d)))
      ⊢ wp frame (wpE (defs₀ (F := F)) Variants.none c none) Set.univ (bodyAt m hT t) fun _ =>
          iprop((dats m hT 0 c).Φ t.succ ∗ (dats m hT 0 c).owesAt () t.succ
            ∗ bigSep Finset.univ fun w : Fin (cfgA m hT).W =>
                match (cfgA m hT).idle w ((cfgA m hT).grid.coords t) with
                | true =>
                  match ((cfgA m hT).win w).flush t with
                  | false => iprop(∃ d, owns (c : Thread nD τ) (((cfgA m hT).win w).stage ((cfgA m hT).slots t w)) fullShare ((dats m hT 0 c).before w t d))
                  | true => owns (c : Thread nD τ) (((cfgA m hT).win w).stage ((cfgA m hT).slots t w)) fullShare ((dats m hT 0 c).after w t)
                | false => owns (c : Thread nD τ) (((cfgA m hT).win w).stage ((cfgA m hT).slots t w)) fullShare ((dats m hT 0 c).after w t)) := by
  rw [bigSep_W0]
  rewrite [not_idle m hT t]
  simp only [before0, before1, before2, before3, before4, before5, before6, before7, before8, after0, after1, after2, after3, after4, after5, after6, after7, after8, after9]
  rewrite [show (dats m hT 0 c).Φ t.succ = iprop(Pipeline.ΦA spec0 c ∗ Pipeline.ΦT pre0 (pf m) c) from rfl,
    show (dats m hT 0 c).Φ t.castSucc = iprop(Pipeline.ΦA spec0 c ∗ Pipeline.ΦT pre0 (pf m) c) from rfl,
    show (dats m hT 0 c).owesAt () t.succ = (dats m hT 0 c).owesAt () t.castSucc from rfl]
  unfold Pipeline.ΦT
  rw [prefHeld_eq]
  rcases branch _ (hT (crd m hT t)).2.2 with ⟨h1, h2⟩ | ⟨h1, h2⟩
  · have h1' : k0_cond1 (flag (F := F) (pf m 2) (crd m hT t)) = 1#1 := by rw [flag_eq]; exact h1
    have h2' : ¬ k0_cond2 (flag (F := F) (pf m 2) (crd m hT t)) = 1#1 := by rw [flag_eq]; exact h2
    rw [show tileOut m hT c t = _ from if_pos h1]
    iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_live c (crd m hT t) (ms0 m hT t) (hs0 m hT t) (ms1 m hT t) (hs1 m hT t) (ms2 m hT t) (hs2 m hT t) (ms3 m hT t) (hs3 m hT t) (ms4 m hT t) (hs4 m hT t) (ms5 m hT t) (hs5 m hT t) (ms6 m hT t) (hs6 m hT t) (ms7 m hT t) (hs7 m hT t) (ms8 m hT t) (hs8 m hT t) (ms9 m hT t) (hs9 m hT t) (pf m 0) (pf m 1) (pf m 2) (iblk m hT c (0 : Fin 10) t) (iblk m hT c (1 : Fin 10) t) (iblk m hT c (2 : Fin 10) t) (iblk m hT c (3 : Fin 10) t) (iblk m hT c (4 : Fin 10) t) (iblk m hT c (5 : Fin 10) t) (iblk m hT c (6 : Fin 10) t) (iblk m hT c (7 : Fin 10) t) (iblk m hT c (8 : Fin 10) t) h1' h2').2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, ⟨%e9, H9⟩⟩
    isplitl [HA HT0 HT1 HT2]
    · isplitl [HA]; · iexact HA
      isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr; swap
    · iexact H9
    · ipureintro
      exact out_live c (crd m hT t) (ms0 m hT t) (hs0 m hT t) (ms1 m hT t) (hs1 m hT t) (ms2 m hT t) (hs2 m hT t) (ms3 m hT t) (hs3 m hT t) (ms4 m hT t) (hs4 m hT t) (ms5 m hT t) (hs5 m hT t) (ms6 m hT t) (hs6 m hT t) (ms7 m hT t) (hs7 m hT t) (ms8 m hT t) (hs8 m hT t) (ms9 m hT t) (hs9 m hT t) (pf m 0) (pf m 1) (pf m 2) (iblk m hT c (0 : Fin 10) t) (iblk m hT c (1 : Fin 10) t) (iblk m hT c (2 : Fin 10) t) (iblk m hT c (3 : Fin 10) t) (iblk m hT c (4 : Fin 10) t) (iblk m hT c (5 : Fin 10) t) (iblk m hT c (6 : Fin 10) t) (iblk m hT c (7 : Fin 10) t) (iblk m hT c (8 : Fin 10) t) h1' h2' e9
  · have h1' : ¬ k0_cond1 (flag (F := F) (pf m 2) (crd m hT t)) = 1#1 := by rw [flag_eq]; exact h1
    have h2' : k0_cond2 (flag (F := F) (pf m 2) (crd m hT t)) = 1#1 := by rw [flag_eq]; exact h2
    rw [show tileOut m hT c t = _ from if_neg h1]
    iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_empty c (crd m hT t) (ms0 m hT t) (hs0 m hT t) (ms1 m hT t) (hs1 m hT t) (ms2 m hT t) (hs2 m hT t) (ms3 m hT t) (hs3 m hT t) (ms4 m hT t) (hs4 m hT t) (ms5 m hT t) (hs5 m hT t) (ms6 m hT t) (hs6 m hT t) (ms7 m hT t) (hs7 m hT t) (ms8 m hT t) (hs8 m hT t) (ms9 m hT t) (hs9 m hT t) (pf m 0) (pf m 1) (pf m 2) (iblk m hT c (0 : Fin 10) t) (iblk m hT c (1 : Fin 10) t) (iblk m hT c (2 : Fin 10) t) (iblk m hT c (3 : Fin 10) t) (iblk m hT c (4 : Fin 10) t) (iblk m hT c (5 : Fin 10) t) (iblk m hT c (6 : Fin 10) t) (iblk m hT c (7 : Fin 10) t) (iblk m hT c (8 : Fin 10) t) h1' h2').2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, ⟨%e9, H9⟩⟩
    isplitl [HA HT0 HT1 HT2]
    · isplitl [HA]; · iexact HA
      isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr; swap
    · iexact H9
    · ipureintro
      exact out_empty c (crd m hT t) (ms0 m hT t) (hs0 m hT t) (ms1 m hT t) (hs1 m hT t) (ms2 m hT t) (hs2 m hT t) (ms3 m hT t) (hs3 m hT t) (ms4 m hT t) (hs4 m hT t) (ms5 m hT t) (hs5 m hT t) (ms6 m hT t) (hs6 m hT t) (ms7 m hT t) (hs7 m hT t) (ms8 m hT t) (hs8 m hT t) (ms9 m hT t) (hs9 m hT t) (pf m 0) (pf m 1) (pf m 2) (iblk m hT c (0 : Fin 10) t) (iblk m hT c (1 : Fin 10) t) (iblk m hT c (2 : Fin 10) t) (iblk m hT c (3 : Fin 10) t) (iblk m hT c (4 : Fin 10) t) (iblk m hT c (5 : Fin 10) t) (iblk m hT c (6 : Fin 10) t) (iblk m hT c (7 : Fin 10) t) (iblk m hT c (8 : Fin 10) t) h1' h2' e9

/-- The library's body obligation, at every point. -/
theorem body_obligation (c : Dev nD) : BodyObligation (dats m hT 0 c) (defs₀ (F := F)) Variants.none () Set.univ := fun t => by
  rw [bigSep_W0]
  exact sound_body m hT c t

/-! ## The launch -/

/-- No host operation allocates. -/
theorem hostOps_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m (main (F := F)) (V m) :=
  Pipeline.hmainP_prefix pcfgs 0 defs₀ Variants.none m main hostOps0 hostOps0_sub hostOps_fresh main_chain

/-- The host operations write only their own results. -/
theorem V_of_not_written (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The region finds the tables as launched. -/
theorem V_pre (c : Dev nD) (k : Fin 3) : V m c (pre0.ref k) = pf m k := by
  obtain rfl : c = 0 := Subsingleton.elim _ _
  fin_cases k
  · exact V_of_not_written m 0 main_arg0 (by decide) (by decide) (by decide) (by decide) (by decide)
  · exact V_of_not_written m 0 main_arg1 (by decide) (by decide) (by decide) (by decide) (by decide)
  · exact V_of_not_written m 0 main_arg2 (by decide) (by decide) (by decide) (by decide) (by decide)

set_option backward.isDefEq.respectTransparency.types false in
set_option maxHeartbeats 4000000 in
/-- The launch: every weakly fair execution ends, with every array at what the tiles left in it, every other buffer at
    the region's entry contents and every semaphore counter at zero. -/
theorem run_main : θ_run defs (onTc (τ := τ) (main (F := F))) (s₀ m ρ)
    (fun r => Pipeline.FramePost (pcs m hT) (dats m hT) (0 : Fin 1) (V m) r ∧ r.2.sem = fun _ => 0) :=
  Pipeline.θ_run_frameP_shared (Q' := _) pcfgs (fun _ => adm m hT) (dats m hT) (0 : Fin 1) launch₀0 defs₀ Variants.none m ρ main
    (hbody := fun c => (body_obligation m hT c).loose) (hq := fun _ _ _ => rfl) (howed := fun _ _ => rfl) (V := V m) (hmain := hmain m)
    (hA := fun _ _ => rfl) (hpf := V_pre m) (hΦ := fun _ _ => rfl) (hQ' := fun _ h => h)

end Cert.Moe.Tile

end
-- ==== Proof.MoeFrame.lean ====
module

public import proofs.«01_k».proof.Proof.MoeRun

/-! What the run of the grouped-experts kernel leaves, read off the launch: the nine arguments as they were, the result
array as the tiles left it, and every semaphore counter at zero. -/

@[expose] public section

set_option maxRecDepth 16384

noncomputable section

namespace Cert.Moe.Tile

open Cert.Moe Cert.Moe.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (hT : TablesOk m)

/-- The arguments are as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

/-- A buffer that is no window's array and that no host operation writes ends as launched. -/
theorem kept {r : PUnit × MemSt nD τ sig (Elt F)} (h : Pipeline.FramePost (pcs m hT) (dats m hT) (0 : Fin 1) (V m) r) (c : Dev nD)
    (b : Ref sig .tc) (hs : b.isScoped = false) (ha : ∀ w, (spec0 w).arr.view.ref ≠ b)
    (h0 : b ≠ main_v0) (h1 : b ≠ main_v1) (h2 : b ≠ main_v2) (h3 : b ≠ main_v3) (h4 : b ≠ main_v4) :
    r.2.mem ((c : Thread nD τ).loc b) = m ((c : Thread nD τ).loc b) :=
  ((h c).2 b (Pipeline.mem_restRefs_of b hs ha)).trans (V_of_not_written m c b h0 h1 h2 h3 h4)

theorem args_kept {r : PUnit × MemSt nD τ sig (Elt F)} (h : Pipeline.FramePost (pcs m hT) (dats m hT) (0 : Fin 1) (V m) r) :
    ArgsKept m r := fun c =>
  ⟨kept m hT h c main_arg0 (by decide) (by decide) (by decide) (by decide) (by decide) (by decide) (by decide),
   kept m hT h c main_arg1 (by decide) (by decide) (by decide) (by decide) (by decide) (by decide) (by decide),
   kept m hT h c main_arg2 (by decide) (by decide) (by decide) (by decide) (by decide) (by decide) (by decide),
   ((h c).1 (0 : Fin 10)).trans (((dats m hT 0 c).arrAt_in (0 : Fin 10) rfl _).trans
     (V_of_not_written m c main_arg3 (by decide) (by decide) (by decide) (by decide) (by decide))),
   kept m hT h c main_arg4 (by decide) (by decide) (by decide) (by decide) (by decide) (by decide) (by decide),
   kept m hT h c main_arg5 (by decide) (by decide) (by decide) (by decide) (by decide) (by decide) (by decide),
   kept m hT h c main_arg6 (by decide) (by decide) (by decide) (by decide) (by decide) (by decide) (by decide),
   kept m hT h c main_arg7 (by decide) (by decide) (by decide) (by decide) (by decide) (by decide) (by decide),
   kept m hT h c main_arg8 (by decide) (by decide) (by decide) (by decide) (by decide) (by decide) (by decide)⟩

include hT in
/-- THE FRAME: the kernel runs, its arguments end unchanged, every counter at zero. -/
theorem frame : θ_run defs (onTc (τ := τ) (main (F := F))) ⟨m, fun _ => 0, ρ⟩ (fun r => ArgsKept m r ∧ r.2.sem = fun _ => 0) :=
  (θ_run defs _ _).mono (fun _ h => ⟨args_kept m hT h.1, h.2⟩) (run_main m ρ hT)

/-- The result array after the run: what the tiles left in it. -/
def out (c : Dev nD) : Buf (Elt F) ((c : Thread nD τ).loc main_v5) := (dats m hT 0 c).arrAt (9 : Fin 10) (cfgA m hT).N

/-- The run with its result named. -/
theorem run_value : θ_run defs (onTc (τ := τ) (main (F := F))) ⟨m, fun _ => 0, ρ⟩
    (fun r => (∀ c : Dev nD, r.2.mem ((c.tc : Thread nD τ).loc main_v5) = out m hT c) ∧ ArgsKept m r) :=
  (θ_run defs _ _).mono (fun _ h => ⟨fun c => (h.1 c).1 (9 : Fin 10), args_kept m hT h.1⟩) (run_main m ρ hT)

end Cert.Moe.Tile

end
-- ==== Proof.MoePre.lean ====
module

public import proofs.«01_k».proof.Proof.MoeFrame
public import proofs.«01_k».proof.Proof.Gen.Pre_tables_in_range
public import proofs.«01_k».proof.Proof.Gen.Pre_tables_and_gates
public import Idealize.ShloMosaic.Lib.StableHlo.Predicate
public import Idealize.ShloMosaic.PureOps.Ideal
public import Idealize.ShloMosaic.PureOps.Ideal.Laws
public import Idealize.ShloMosaic.Lib.IdealHost

/-! The two preconditions read: what they say of a table's word and of a row's gate. -/

@[expose] public section

set_option maxRecDepth 16384

noncomputable section

namespace Cert.Moe.Pre

open Cert.Moe Cert.Moe.Gen
open Idealize.ShloMosaic Idealize.ShloMosaic.TcCoe

/-- Of a line of arrays laid end to end that is all ones, each array is all ones. -/
theorem piece {N L : Nat} (xs : List ((s : Shape) × (s.Idx → BitVec 1)))
    (h : Shape.Concatenates (xs.map (·.1)) (⟨1, ![N]⟩ : Shape) 0)
    (hall : concatenate (⟨1, ![N]⟩ : Shape) 0 xs h = fun _ => 1#1)
    (k : Nat) (hk : k < xs.length) (x : (⟨1, ![L]⟩ : Shape).Idx → BitVec 1) (hx : xs[k] = ⟨⟨1, ![L]⟩, x⟩)
    (pre : Nat)
    (hpre : (((xs.take k).map (·.1)).map fun s => if h : s.rank = (⟨1, ![N]⟩ : Shape).rank then s.size ((0 : Fin 1).cast h.symm) else 0).sum = pre)
    (hN : pre + L ≤ N) (i : (⟨1, ![L]⟩ : Shape).Idx) : x i = 1#1 := by
  have hi : (i 0).val < L := (i 0).isLt
  let j : (⟨1, ![N]⟩ : Shape).Idx := fun a => ⟨pre + (i 0).val, by
    obtain rfl : a = 0 := Subsingleton.elim _ _
    show pre + (i 0).val < N
    omega⟩
  refine (concatenate_apply_piece 0 xs h j k hk ⟨1, ![L]⟩ x hx rfl pre hpre i (fun b hb => ?_) rfl).symm.trans (congrFun hall j)
  exact absurd (Subsingleton.elim (α := Fin 1) _ _) hb

/-- A word from 0 to 15, compared as a signed number. -/
theorem lt16 (w : BitVec 32) (h : IntOp.cmpi .sge w 0#32 &&& IntOp.cmpi .slt w 16#32 = 1#1) : w.toNat < 16 := by
  have h1 : (0#32).sle w = true ∧ w.slt 16#32 = true := by
    revert h
    cases hA : (0#32).sle w <;> cases hB : w.slt 16#32 <;> simp [IntOp.cmpi, hA, hB]
  have a := BitVec.sle_iff_toInt_le.1 h1.1
  have b := BitVec.slt_iff_toInt_lt.1 h1.2
  have c : (0#32 : BitVec 32).toInt = 0 := by decide
  have d : (16#32 : BitVec 32).toInt = 16 := by decide
  rw [c] at a; rw [d] at b
  rw [BitVec.toInt_eq_toNat_cond] at a b
  have := w.isLt
  split at a <;> omega

theorem nonneg (w : BitVec 32) (h : IntOp.cmpi .sge w 0#32 = 1#1) : 0 ≤ w.toInt := by
  have h1 : (0#32).sle w = true := by
    revert h
    cases hA : (0#32).sle w <;> simp [IntOp.cmpi, hA]
  have a := BitVec.sle_iff_toInt_le.1 h1
  have c : (0#32 : BitVec 32).toInt = 0 := by decide
  rwa [c] at a

/-- A gate that the precondition admits: nonnegative and finite. -/
theorem gate_ok (g : EReal) (h : Ideal.cmp .oge g 0 &&& Ideal.cmp .olt g ⊤ = 1#1) : 0 ≤ g ∧ g < ⊤ := by
  revert h
  by_cases h0 : (0 : EReal) ≤ g <;> by_cases h1 : g < ⊤ <;> simp [Ideal.cmp, h0, h1]

section
variable {F : FTy → Type} [FloatOps F] (m : (ℓ : Loc nD τ sig) → Buf (Elt F) ℓ)
attribute [local instance] Cert.Pre_tables_in_range.Gen.facts Cert.Pre_tables_and_gates.Gen.facts

/-- `tables_in_range` holds of the arguments as launched. -/
abbrev InRange : Prop := ∀ c : Dev nD, Cert.Pre_tables_in_range.fn (F := F)
  (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8)) = fun _ => 1#1

/-- `tables_and_gates` holds of the arguments as launched. -/
abbrev InRangeGates : Prop := ∀ c : Dev nD, Cert.Pre_tables_and_gates.fn (F := F)
  (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8)) = fun _ => 1#1

/-- `tables_in_range` is what the kernel's run needs of the tables. -/
theorem tables_of_range (h : InRange m) : Tile.TablesOk m := fun i => by
  have h0 := h 0
  unfold Cert.Pre_tables_in_range.fn at h0
  dsimp only at h0
  refine ⟨lt16 _ ?_, lt16 _ ?_, nonneg _ ?_⟩
  · exact piece _ _ h0 0 (by simp) _ rfl 0 (by rfl) (by decide) (Tile.entry i)
  · exact piece _ _ h0 1 (by simp) _ rfl 282 (by rfl) (by decide) (Tile.entry i)
  · exact piece _ _ h0 2 (by simp) _ rfl 564 (by rfl) (by decide) (Tile.entry i)

/-- So is `tables_and_gates`. -/
theorem tables_of_gates (h : InRangeGates m) : Tile.TablesOk m := fun i => by
  have h0 := h 0
  unfold Cert.Pre_tables_and_gates.fn Cert.Pre_tables_and_gates.fn_part1 at h0
  dsimp only at h0
  refine ⟨lt16 _ ?_, lt16 _ ?_, nonneg _ ?_⟩
  · exact piece _ _ h0 0 (by simp) _ rfl 0 (by rfl) (by decide) (Tile.entry i)
  · exact piece _ _ h0 1 (by simp) _ rfl 282 (by rfl) (by decide) (Tile.entry i)
  · exact piece _ _ h0 2 (by simp) _ rfl 564 (by rfl) (by decide) (Tile.entry i)
end

section
variable (m : (ℓ : Loc nD τ sig) → Buf (Elt Ideal) ℓ)

theorem zero_bits : (FloatOps.ofBits (F := Ideal) .f32 0x00000000#32 : EReal) = 0 := Ideal.ofBits_zero_f32
theorem inf_bits : (FloatOps.ofBits (F := Ideal) .f32 0x7F800000#32 : EReal) = ⊤ := by
  show Ideal.ofBits .f32 0x7F800000#32 = ⊤
  simp [Ideal.ofBits, Ideal.ieee]

/-- The two gates of every row, as launched. -/
abbrev gateA : S72192.Idx → EReal := m (((0 : Dev nD).tc : Thread nD τ).loc main_arg4)
abbrev gateB : S72192.Idx → EReal := m (((0 : Dev nD).tc : Thread nD τ).loc main_arg5)

/-- And it bounds both gates of every row. -/
theorem gates_of (h : InRangeGates m) (n : S72192.Idx) : (0 ≤ gateA m n ∧ gateA m n < ⊤) ∧ (0 ≤ gateB m n ∧ gateB m n < ⊤) := by
  have h0 := h 0
  unfold Cert.Pre_tables_and_gates.fn Cert.Pre_tables_and_gates.fn_part1 at h0
  dsimp only at h0
  have g1 := piece _ _ h0 3 (by simp) _ rfl 846 (by rfl) (by decide) n
  have g2 := piece _ _ h0 4 (by simp) _ rfl 73038 (by simp) (by decide) n
  refine ⟨gate_ok _ ?_, gate_ok _ ?_⟩
  · rw [← zero_bits, ← inf_bits]; exact g1
  · rw [← zero_bits, ← inf_bits]; exact g2
end

end Cert.Moe.Pre

end
-- ==== Proof.MoeSame.lean ====
module

public import proofs.«01_k».proof.Proof.Gen.Moe.Launch
public import proofs.«01_k».proof.Proof.Gen.MoeIdeal.Launch

/-! The idealized grouped-experts program is the program as printed: no rule was offered, so the two texts are one, at
every number system. What is proved of the one is read here of the other. -/

@[expose] public section

set_option maxRecDepth 100000

noncomputable section

namespace Cert.MoeSame

open Idealize.ShloMosaic Idealize.ShloMosaic.TcCoe Idealize.SL.Sem

variable {F : FTy → Type} [FloatOps F]

attribute [local instance] Cert.Moe.Gen.facts Cert.MoeIdeal.Gen.facts

set_option maxHeartbeats 1000000 in
theorem body_eq : @Cert.MoeIdeal.cc0_grouped_experts F _ _ = @Cert.Moe.cc0_grouped_experts F _ _ := by
  unfold Cert.MoeIdeal.cc0_grouped_experts Cert.Moe.cc0_grouped_experts
  rfl

set_option maxHeartbeats 1000000 in
theorem main_eq : @Cert.MoeIdeal.main F _ _ = @Cert.Moe.main F _ _ := by
  unfold Cert.MoeIdeal.main Cert.Moe.main
  rfl

set_option maxHeartbeats 1000000 in
/-- The bodies the pipelines call. -/
theorem defs₀_eq : @Cert.MoeIdeal.defs₀ F _ _ = @Cert.Moe.defs₀ F _ _ := by
  unfold Cert.MoeIdeal.defs₀ Cert.Moe.defs₀
  refine congrArg Defs.onTc (funext fun ℓ => funext fun a => ?_)
  rcases ℓ with ⟨_ | n, h⟩
  · obtain ⟨t, s⟩ := a
    dsimp only
    rw [body_eq]
    rfl
  · exact absurd h (Nat.not_lt.2 (Nat.le_add_left _ _))

/-- The programs' pipelines with their bodies. -/
theorem defs_eq : @Cert.MoeIdeal.defs F _ _ = @Cert.Moe.defs F _ _ := by
  unfold Cert.MoeIdeal.defs Cert.Moe.defs
  exact congrArg (Pipeline.defs Cert.Moe.pcfgs) defs₀_eq

/-- So the two programs have the same runs. -/
theorem run_eq (s : MemSt Cert.Moe.nD Cert.Moe.τ Cert.Moe.sig (Elt F)) :
    θ_run (Cert.MoeIdeal.defs (F := F)) (onTc (τ := Cert.MoeIdeal.τ) (Cert.MoeIdeal.main (F := F))) s
      = θ_run (Cert.Moe.defs (F := F)) (onTc (τ := Cert.Moe.τ) (Cert.Moe.main (F := F))) s := by
  exact congrArg₂ (fun d p => θ_run d (onTc (τ := Cert.Moe.τ) p) s) defs_eq main_eq

end Cert.MoeSame

end
-- ==== Proof.MoeBlocks.lean ====
/-
  The blocks a tile reads, element by element, in the arrays as launched: the rows and gates of the tile, and the weights
  of the two experts its tables name.
-/
module

public import Idealize.ShloMosaic.PureOps.Ideal
public import Idealize.ShloMosaic.PureOps.Ideal.Laws
public import Idealize.ShloMosaic.Lib.IdealHost
public import Idealize.ShloMosaic.Lib.Pointwise
public import Idealize.ShloMosaic.Lib.Pipeline.ValueKit
public import proofs.«01_k».proof.Proof.MoeRun

@[expose] public section

set_option maxRecDepth 16384

noncomputable section

open Idealize.ShloMosaic
open Idealize.ShloMosaic.TcCoe

namespace Cert.Moe.Value

open Cert.Moe Cert.Moe.Gen Cert.Moe.Tile

attribute [local instance] Cert.Moe.Gen.facts

variable (m : (ℓ : Loc nD τ sig) → Buf (Elt Ideal) ℓ) (hT : TablesOk m) (c : Dev nD)

/-- The float arguments as launched, as functions to the extended reals. -/
abbrev rows : S72192x1024.Idx → EReal := m ((c : Thread nD τ).loc main_arg3)
abbrev gA : S72192.Idx → EReal := m ((c : Thread nD τ).loc main_arg4)
abbrev gB : S72192.Idx → EReal := m ((c : Thread nD τ).loc main_arg5)
abbrev wG : S16x1024x512.Idx → EReal := m ((c : Thread nD τ).loc main_arg6)
abbrev wU : S16x1024x512.Idx → EReal := m ((c : Thread nD τ).loc main_arg7)
abbrev wD : S16x512x1024.Idx → EReal := m ((c : Thread nD τ).loc main_arg8)

/-! ## What the host operations left in the arrays -/

theorem V_rows : (V m c main_arg3 : S72192x1024.Idx → EReal) = rows m c :=
  V_of_not_written m c main_arg3 (by decide) (by decide) (by decide) (by decide) (by decide)

theorem V_wG : (V m c main_v0 : S16x1024x512.Idx → EReal) = wG m c := by
  unfold_abbrev_sides
  after_results
  try rfl
theorem V_wU : (V m c main_v1 : S16x1024x512.Idx → EReal) = wU m c := by
  unfold_abbrev_sides
  after_results
  try rfl
theorem V_wD : (V m c main_v2 : S16x512x1024.Idx → EReal) = wD m c := by
  unfold_abbrev_sides
  after_results
  try rfl
theorem V_gA : (V m c main_v3 : S282x1x256.Idx → EReal) = shapeCast S282x1x256 (gA m c) shapeCasts_S72192_S282x1x256 := by
  unfold_abbrev_sides
  after_results
  try rfl
theorem V_gB : (V m c main_v4 : S282x1x256.Idx → EReal) = shapeCast S282x1x256 (gB m c) shapeCasts_S72192_S282x1x256 := by
  unfold_abbrev_sides
  after_results
  try rfl

/-! ## A tile's rows and experts -/

/-- The row of the array that is row `r` of tile `t`. -/
def rowOf (t : Fin (cfgA m hT).N) (r : Fin 256) : Fin 72192 :=
  ⟨(crd m hT t 0).val * 256 + r.val, by have h : (crd m hT t 0).val < 282 := (crd m hT t 0).isLt; have := r.isLt; omega⟩

/-- The experts of tile `t`, as indices of the weights' first axis. -/
def eA (t : Fin (cfgA m hT).N) : Fin 16 := ⟨(expA m (crd m hT t)).toNat, (hT (crd m hT t)).1⟩
def eB (t : Fin (cfgA m hT).N) : Fin 16 := ⟨(expB m (crd m hT t)).toNat, (hT (crd m hT t)).2.1⟩

theorem word (t : Fin (cfgA m hT).N) : (BitVec.ofNat 32 (crd m hT t 0).val).toNat = (crd m hT t 0).val := by
  have h : (crd m hT t 0).val < 282 := (crd m hT t 0).isLt
  rw [BitVec.toNat_ofNat]; omega

theorem idx0 (t : Fin (cfgA m hT).N) : ((cfgA m hT).win (0 : Fin 10)).index t = ![(crd m hT t 0).val, 0] := by
  show ![(BitVec.ofNat 32 (crd m hT t 0).val).toNat, _] = _
  rw [word]; rfl
theorem idx9 (t : Fin (cfgA m hT).N) : ((cfgA m hT).win (9 : Fin 10)).index t = ![(crd m hT t 0).val, 0] := by
  show ![(BitVec.ofNat 32 (crd m hT t 0).val).toNat, _] = _
  rw [word]; rfl
theorem idx1 (t : Fin (cfgA m hT).N) : ((cfgA m hT).win (1 : Fin 10)).index t = ![(crd m hT t 0).val, 0, 0] := by
  show ![(BitVec.ofNat 32 (crd m hT t 0).val).toNat, _, _] = _
  rw [word]; rfl
theorem idx2 (t : Fin (cfgA m hT).N) : ((cfgA m hT).win (2 : Fin 10)).index t = ![(crd m hT t 0).val, 0, 0] := by
  show ![(BitVec.ofNat 32 (crd m hT t 0).val).toNat, _, _] = _
  rw [word]; rfl

/-- The word a weight window's index map reads is the tile's expert. -/
theorem readA (i : grid0.Coords) : ((pf m).at 0 (Rect.unit (s := S282) ![(Scalar.indexCast (BitVec.ofNat 32 (i 0).val) : Index).toNat] S1.size (k0_off1_inb i)) numel1_S1 : BitVec 32) = expA m i :=
  at_entry (pf m 0) i _ (word_toNat i) (k0_off1_inb i) numel1_S1
theorem readB (i : grid0.Coords) : ((pf m).at 1 (Rect.unit (s := S282) ![(Scalar.indexCast (BitVec.ofNat 32 (i 0).val) : Index).toNat] S1.size (k0_off1_inb i)) numel1_S1 : BitVec 32) = expB m i :=
  at_entry (pf m 1) i _ (word_toNat i) (k0_off1_inb i) numel1_S1

theorem idx3 (t : Fin (cfgA m hT).N) : ((cfgA m hT).win (3 : Fin 10)).index t = ![(expA m (crd m hT t)).toNat, 0, 0] :=
  congrArg (fun w : BitVec 32 => ![w.toNat, 0, 0]) (readA m (crd m hT t))
theorem idx4 (t : Fin (cfgA m hT).N) : ((cfgA m hT).win (4 : Fin 10)).index t = ![(expA m (crd m hT t)).toNat, 0, 0] :=
  congrArg (fun w : BitVec 32 => ![w.toNat, 0, 0]) (readA m (crd m hT t))
theorem idx5 (t : Fin (cfgA m hT).N) : ((cfgA m hT).win (5 : Fin 10)).index t = ![(expA m (crd m hT t)).toNat, 0, 0] :=
  congrArg (fun w : BitVec 32 => ![w.toNat, 0, 0]) (readA m (crd m hT t))
theorem idx6 (t : Fin (cfgA m hT).N) : ((cfgA m hT).win (6 : Fin 10)).index t = ![(expB m (crd m hT t)).toNat, 0, 0] :=
  congrArg (fun w : BitVec 32 => ![w.toNat, 0, 0]) (readB m (crd m hT t))
theorem idx7 (t : Fin (cfgA m hT).N) : ((cfgA m hT).win (7 : Fin 10)).index t = ![(expB m (crd m hT t)).toNat, 0, 0] :=
  congrArg (fun w : BitVec 32 => ![w.toNat, 0, 0]) (readB m (crd m hT t))
theorem idx8 (t : Fin (cfgA m hT).N) : ((cfgA m hT).win (8 : Fin 10)).index t = ![(expB m (crd m hT t)).toNat, 0, 0] :=
  congrArg (fun w : BitVec 32 => ![w.toNat, 0, 0]) (readB m (crd m hT t))

/-! ## The blocks at an element -/

theorem blk0 (t : Fin (cfgA m hT).N) (r : Fin 256) (j : Fin 1024) :
    (iblk m hT c (0 : Fin 10) t : S256x1024.Idx → EReal) (ix2 r j) = rows m c (ix2 (rowOf m hT t r) j) := by
  refine (congrFun (V_rows m c) _).trans (congrArg (rows m c) (funext fun a => Fin.ext ?_))
  refine (Pipeline.Window.rect_emb_val ((cfgA m hT).win (0 : Fin 10)) t _ _).trans ?_
  rw [idx0]
  fin_cases a <;> simp [rowOf]

theorem blk3 (t : Fin (cfgA m hT).N) (j : Fin 1024) (k : Fin 512) :
    (iblk m hT c (3 : Fin 10) t : S1x1024x512.Idx → EReal) (ix3 0 j k) = wG m c (ix3 (eA m hT t) j k) := by
  refine (congrFun (V_wG m c) _).trans (congrArg (wG m c) (funext fun a => Fin.ext ?_))
  refine (Pipeline.Window.rect_emb_val ((cfgA m hT).win (3 : Fin 10)) t _ _).trans ?_
  rw [idx3]
  fin_cases a <;> simp [eA]

theorem blk4 (t : Fin (cfgA m hT).N) (j : Fin 1024) (k : Fin 512) :
    (iblk m hT c (4 : Fin 10) t : S1x1024x512.Idx → EReal) (ix3 0 j k) = wU m c (ix3 (eA m hT t) j k) := by
  refine (congrFun (V_wU m c) _).trans (congrArg (wU m c) (funext fun a => Fin.ext ?_))
  refine (Pipeline.Window.rect_emb_val ((cfgA m hT).win (4 : Fin 10)) t _ _).trans ?_
  rw [idx4]
  fin_cases a <;> simp [eA]

theorem blk6 (t : Fin (cfgA m hT).N) (j : Fin 1024) (k : Fin 512) :
    (iblk m hT c (6 : Fin 10) t : S1x1024x512.Idx → EReal) (ix3 0 j k) = wG m c (ix3 (eB m hT t) j k) := by
  refine (congrFun (V_wG m c) _).trans (congrArg (wG m c) (funext fun a => Fin.ext ?_))
  refine (Pipeline.Window.rect_emb_val ((cfgA m hT).win (6 : Fin 10)) t _ _).trans ?_
  rw [idx6]
  fin_cases a <;> simp [eB]

theorem blk7 (t : Fin (cfgA m hT).N) (j : Fin 1024) (k : Fin 512) :
    (iblk m hT c (7 : Fin 10) t : S1x1024x512.Idx → EReal) (ix3 0 j k) = wU m c (ix3 (eB m hT t) j k) := by
  refine (congrFun (V_wU m c) _).trans (congrArg (wU m c) (funext fun a => Fin.ext ?_))
  refine (Pipeline.Window.rect_emb_val ((cfgA m hT).win (7 : Fin 10)) t _ _).trans ?_
  rw [idx7]
  fin_cases a <;> simp [eB]

theorem blk5 (t : Fin (cfgA m hT).N) (k : Fin 512) (d : Fin 1024) :
    (iblk m hT c (5 : Fin 10) t : S1x512x1024.Idx → EReal) (ix3 0 k d) = wD m c (ix3 (eA m hT t) k d) := by
  refine (congrFun (V_wD m c) _).trans (congrArg (wD m c) (funext fun a => Fin.ext ?_))
  refine (Pipeline.Window.rect_emb_val ((cfgA m hT).win (5 : Fin 10)) t _ _).trans ?_
  rw [idx5]
  fin_cases a <;> simp [eA]

theorem blk8 (t : Fin (cfgA m hT).N) (k : Fin 512) (d : Fin 1024) :
    (iblk m hT c (8 : Fin 10) t : S1x512x1024.Idx → EReal) (ix3 0 k d) = wD m c (ix3 (eB m hT t) k d) := by
  refine (congrFun (V_wD m c) _).trans (congrArg (wD m c) (funext fun a => Fin.ext ?_))
  refine (Pipeline.Window.rect_emb_val ((cfgA m hT).win (8 : Fin 10)) t _ _).trans ?_
  rw [idx8]
  fin_cases a <;> simp [eB]

theorem blk1 (t : Fin (cfgA m hT).N) (r : Fin 256) :
    (iblk m hT c (1 : Fin 10) t : S1x1x256.Idx → EReal) (ix3 0 0 r) = gA m c (ix1 (rowOf m hT t r)) := by
  refine (congrFun (V_gA m c) _).trans ?_
  rw [show (((cfgA m hT).win (1 : Fin 10)).blk t).view.emb (ix3 0 0 r) = (ix3 (crd m hT t 0) 0 r : S282x1x256.Idx) from
    funext fun a => Fin.ext ((Pipeline.Window.rect_emb_val ((cfgA m hT).win (1 : Fin 10)) t _ _).trans (by
      rw [idx1]
      fin_cases a <;> simp))]
  pointwise [rowOf]

theorem blk2 (t : Fin (cfgA m hT).N) (r : Fin 256) :
    (iblk m hT c (2 : Fin 10) t : S1x1x256.Idx → EReal) (ix3 0 0 r) = gB m c (ix1 (rowOf m hT t r)) := by
  refine (congrFun (V_gB m c) _).trans ?_
  rw [show (((cfgA m hT).win (2 : Fin 10)).blk t).view.emb (ix3 0 0 r) = (ix3 (crd m hT t 0) 0 r : S282x1x256.Idx) from
    funext fun a => Fin.ext ((Pipeline.Window.rect_emb_val ((cfgA m hT).win (2 : Fin 10)) t _ _).trans (by
      rw [idx2]
      fin_cases a <;> simp))]
  pointwise [rowOf]

end Cert.Moe.Value
-- ==== Proof.MoeEquation.lean ====
/-
  The equation the value claim rests on, in extended reals and with no program in it. The kernel adds two experts, each
  with its gate inside the down projection's sum; the reference adds all sixteen, each under a combine weight that is
  the gate where the expert is the row's and zero elsewhere. With both gates at least zero and below infinity the two
  are equal; with a negative or an infinite gate a sum of infinities of both signs can tell them apart.
-/
module

public import Idealize.ShloMosaic.PureOps.Ideal
public import Idealize.ShloMosaic.PureOps.Ideal.Laws
public import Idealize.ShloMosaic.Lib.IdealHost

@[expose] public section

open Idealize.ShloMosaic

namespace Cert.Moe.Value

/-- The SwiGLU hidden value of a row `x` at hidden column `k`: `silu (x · wg) * (x · wu)`. -/
noncomputable def hidden (x : Fin 1024 → EReal) (wg wu : Fin 1024 → Fin 512 → EReal) (k : Fin 512) : EReal :=
  (∑ j, x j * wg j k) * Ideal.div 1 (1 + Ideal.exp (-(∑ j, x j * wg j k))) * ∑ j, x j * wu j k

/-- One expert's output for a row, at one output column. -/
noncomputable def expert (x : Fin 1024 → EReal) (wg wu : Fin 1024 → Fin 512 → EReal) (wd : Fin 512 → EReal) : EReal :=
  ∑ k, hidden x wg wu k * wd k

/-- One expert's share of a result as the kernel sums it: the gate inside the down projection. -/
noncomputable def gatedIn (x : Fin 1024 → EReal) (wg wu : Fin 1024 → Fin 512 → EReal) (wd : Fin 512 → EReal) (g : EReal) : EReal :=
  ∑ k, hidden x wg wu k * g * wd k

/-- A factor at least zero and below infinity moves out of a finite sum. -/
theorem mul_sum_of_nonneg {ι : Type} (s : Finset ι) (f : ι → EReal) (g : EReal) (h0 : 0 ≤ g) (h1 : g < ⊤) :
    g * ∑ k ∈ s, f k = ∑ k ∈ s, g * f k := by
  classical
  induction s using Finset.induction_on with
  | empty => simp
  | insert a s ha ih =>
    rw [Finset.sum_insert ha, Finset.sum_insert ha, ← ih]
    exact EReal.left_distrib_of_nonneg_of_ne_top h0 h1.ne _ _

/-- So the kernel's share is the gate times the expert's output. -/
theorem gatedIn_eq (x : Fin 1024 → EReal) (wg wu : Fin 1024 → Fin 512 → EReal) (wd : Fin 512 → EReal) (g : EReal)
    (h0 : 0 ≤ g) (h1 : g < ⊤) : gatedIn x wg wu wd g = g * expert x wg wu wd := by
  unfold gatedIn expert
  rw [mul_sum_of_nonneg _ _ g h0 h1]
  exact Finset.sum_congr rfl fun k _ => by rw [mul_comm (hidden x wg wu k) g, mul_assoc]

/-- One where the expert is the row's, zero elsewhere. -/
noncomputable def ind {n : Nat} (a e : Fin n) : EReal := if a = e then 1 else 0

theorem ind_nonneg {n : Nat} (a e : Fin n) : 0 ≤ ind a e := by
  unfold ind; split
  · exact zero_le_one
  · exact le_rfl

/-- A sum over the experts under an indicator is the one term it picks. -/
theorem sum_ind {n : Nat} (a : Fin n) (g : EReal) (Y : Fin n → EReal) : ∑ e, g * ind a e * Y e = g * Y a := by
  rw [Finset.sum_eq_single a]
  · simp [ind]
  · intro e _ h
    simp [ind, Ne.symm h]
  · simp

/-- The reference's sum over every expert is the two gated experts. -/
theorem sum_combine {n : Nat} (a b : Fin n) (ga gb : EReal) (Y : Fin n → EReal) (ha : 0 ≤ ga) (hb : 0 ≤ gb) :
    ∑ e, (ga * ind a e + gb * ind b e) * Y e = ga * Y a + gb * Y b := by
  rw [← sum_ind a ga Y, ← sum_ind b gb Y, ← Finset.sum_add_distrib]
  exact Finset.sum_congr rfl fun e _ =>
    EReal.right_distrib_of_nonneg (mul_nonneg ha (ind_nonneg a e)) (mul_nonneg hb (ind_nonneg b e))

/-! ## The result of the layer, named -/

/-- The tile of a row, and a table word as an expert. -/
def tile (n : Fin 72192) : Fin 282 := ⟨n.val / 256, by have := n.isLt; omega⟩
def ex (w : BitVec 32) : Fin 16 := ⟨w.toNat % 16, Nat.mod_lt _ (by decide)⟩

/-- The mixture of experts at row `n` and column `d`: two gated experts where the row's tile is live, zero elsewhere. -/
noncomputable def moe (ta tb tv : Fin 282 → BitVec 32) (x : Fin 72192 → Fin 1024 → EReal) (ga gb : Fin 72192 → EReal)
    (wg wu : Fin 16 → Fin 1024 → Fin 512 → EReal) (wd : Fin 16 → Fin 512 → Fin 1024 → EReal) (n : Fin 72192) (d : Fin 1024) : EReal :=
  if (0#32).slt (tv (tile n)) = true then
    ga n * expert (x n) (wg (ex (ta (tile n)))) (wu (ex (ta (tile n)))) (fun k => wd (ex (ta (tile n))) k d)
      + gb n * expert (x n) (wg (ex (tb (tile n)))) (wu (ex (tb (tile n)))) (fun k => wd (ex (tb (tile n))) k d)
  else 0

end Cert.Moe.Value
-- ==== Proof.MoeTileValue.lean ====
/-
  What one tile of the kernel computes, element by element, in extended reals: for a row of the tile and an output
  column, the first expert's gated sum plus the second expert's. The gate multiplies each hidden value before the
  down projection, as the kernel writes it; moving it out of the sum is MoeEquation.lean's step.
-/
module

public import Idealize.ShloMosaic.PureOps.Ideal
public import Idealize.ShloMosaic.PureOps.Ideal.Laws
public import Idealize.ShloMosaic.Lib.IdealHost
public import Idealize.ShloMosaic.Lib.Pointwise
public import proofs.«01_k».proof.Proof.MoeEquation
public import proofs.«01_k».proof.Proof.MoeRun

@[expose] public section

open Idealize.ShloMosaic

namespace Cert.Moe.Value

open Cert.Moe Cert.Moe.Gen

attribute [local instance] Cert.Moe.Gen.facts

theorem pay4_apply (g : Vec Ideal S1x1x256 .f32) (r : Fin 256) (l : Fin 128) :
    Gen.k0_pay4 g (ix2 r l) = g (ix3 0 0 r) := by
  pointwise [Gen.k0_pay4]

theorem pay5_apply (w : Vec Ideal S1x1024x512 .bf16) (j : Fin 1024) (k : Fin 512) :
    Gen.k0_pay5 w (ix2 j k) = w (ix3 0 j k) := by
  pointwise [Gen.k0_pay5]

theorem pay3_apply (x : Vec Ideal S256x1024 .bf16) (g : Vec Ideal S1x1x256 .f32) (wg wu : Vec Ideal S1x1024x512 .bf16)
    (wd : Vec Ideal S1x512x1024 .bf16) (r : Fin 256) (d : Fin 1024) :
    Gen.k0_pay3 x g wg wu wd (ix2 r d)
      = gatedIn (fun j => x (ix2 r j)) (fun j k => wg (ix3 0 j k)) (fun j k => wu (ix3 0 j k)) (fun k => wd (ix3 0 k d))
          (g (ix3 0 0 r)) := by
  pointwise [Gen.k0_pay3]
  simp only [dite_eq_ite, ite_self, zero_sub]
  rfl

theorem pay1_apply (x : Vec Ideal S256x1024 .bf16) (first : FVec Ideal S256x1024 .f32) (g : FVec Ideal S256x128 .f32)
    (wg : FVec Ideal S1024x512 .bf16) (wu : Vec Ideal S1x1024x512 .bf16)
    (wd : Vec Ideal S1x512x1024 .bf16) (c : EReal) (r : Fin 256) (d : Fin 1024) (hg : ∀ l : Fin 128, g (ix2 r l) = c) :
    Gen.k0_pay1 x first g wg wu wd (ix2 r d)
      = first (ix2 r d)
        + gatedIn (fun j => x (ix2 r j)) (fun j k => wg (ix2 j k)) (fun j k => wu (ix3 0 j k)) (fun k => wd (ix3 0 k d)) c := by
  pointwise [Gen.k0_pay1]
  simp only [hg, dite_eq_ite, ite_self, zero_sub]
  rfl

/-- A tile of row blocks and weight blocks, at one element. -/
theorem tile_apply (x : Vec Ideal S256x1024 .bf16) (ga gb : Vec Ideal S1x1x256 .f32)
    (wgA wuA : Vec Ideal S1x1024x512 .bf16) (wdA : Vec Ideal S1x512x1024 .bf16)
    (wgB wuB : Vec Ideal S1x1024x512 .bf16) (wdB : Vec Ideal S1x512x1024 .bf16) (r : Fin 256) (d : Fin 1024) :
    Gen.k0_pay1 x (Gen.k0_pay3 x ga wgA wuA wdA) (Gen.k0_pay4 gb) (Gen.k0_pay5 wgB) wuB wdB (ix2 r d)
      = gatedIn (fun j => x (ix2 r j)) (fun j k => wgA (ix3 0 j k)) (fun j k => wuA (ix3 0 j k)) (fun k => wdA (ix3 0 k d))
          (ga (ix3 0 0 r))
        + gatedIn (fun j => x (ix2 r j)) (fun j k => wgB (ix3 0 j k)) (fun j k => wuB (ix3 0 j k)) (fun k => wdB (ix3 0 k d))
          (gb (ix3 0 0 r)) := by
  rw [pay1_apply _ _ _ _ _ _ _ r d fun l => pay4_apply gb r l, pay3_apply]
  simp only [pay5_apply]

/-- A tile with no live row is zero. -/
theorem idle_apply (r : Fin 256) (d : Fin 1024) : (Gen.k0_pay2 : FVec Ideal S256x1024 .f32) (ix2 r d) = 0 := by
  pointwise [Gen.k0_pay2]

end Cert.Moe.Value
-- ==== Proof.MoeOut.lean ====
/-
  The kernel's result array is the mixture of experts: every element of it lies in the block of its row's tile, and that
  tile holds the two gated experts there.
-/
module

public import proofs.«01_k».proof.Proof.MoeBlocks
public import proofs.«01_k».proof.Proof.MoeTileValue
public import proofs.«01_k».proof.Proof.MoeFrame

@[expose] public section

set_option maxRecDepth 16384

noncomputable section

open Idealize.ShloMosaic
open Idealize.ShloMosaic.TcCoe

namespace Cert.Moe.Value

open Cert.Moe Cert.Moe.Gen Cert.Moe.Tile

attribute [local instance] Cert.Moe.Gen.facts

variable (m : (ℓ : Loc nD τ sig) → Buf (Elt Ideal) ℓ) (hT : TablesOk m) (c : Dev nD)

/-- The tables as launched. -/
abbrev tab (k : Fin 3) (q : Fin 282) : BitVec 32 := match k with
  | 0 => (pf m 0 : S282.Idx → BitVec 32) (ix1 q)
  | 1 => (pf m 1 : S282.Idx → BitVec 32) (ix1 q)
  | 2 => (pf m 2 : S282.Idx → BitVec 32) (ix1 q)

/-- The layer's result from the kernel's arguments. -/
def result (n : Fin 72192) (d : Fin 1024) : EReal :=
  moe (tab m 0) (tab m 1) (tab m 2) (fun n j => rows m c (ix2 n j)) (fun n => gA m c (ix1 n)) (fun n => gB m c (ix1 n))
    (fun e j k => wG m c (ix3 e j k)) (fun e j k => wU m c (ix3 e j k)) (fun e k d => wD m c (ix3 e k d)) n d

theorem entry_eq (i : grid0.Coords) : entry i = ix1 (i 0) := funext fun a => by
  obtain rfl : a = 0 := Subsingleton.elim _ _
  rfl

theorem tile_rowOf (t : Fin (cfgA m hT).N) (r : Fin 256) : tile (rowOf m hT t r) = crd m hT t 0 :=
  Fin.ext (by have := r.isLt; simp only [tile, rowOf]; omega)

theorem ex_eA (t : Fin (cfgA m hT).N) (r : Fin 256) : ex (tab m 0 (tile (rowOf m hT t r))) = eA m hT t := by
  rw [tile_rowOf]
  exact Fin.ext ((congrArg (fun i => ((pf m 0 : S282.Idx → BitVec 32) i).toNat % 16) (entry_eq _).symm).trans
    (Nat.mod_eq_of_lt (hT (crd m hT t)).1))
theorem ex_eB (t : Fin (cfgA m hT).N) (r : Fin 256) : ex (tab m 1 (tile (rowOf m hT t r))) = eB m hT t := by
  rw [tile_rowOf]
  exact Fin.ext ((congrArg (fun i => ((pf m 1 : S282.Idx → BitVec 32) i).toNat % 16) (entry_eq _).symm).trans
    (Nat.mod_eq_of_lt (hT (crd m hT t)).2.1))
theorem tab_live (t : Fin (cfgA m hT).N) (r : Fin 256) : tab m 2 (tile (rowOf m hT t r)) = live m (crd m hT t) := by
  rw [tile_rowOf]
  exact congrArg (pf m 2 : S282.Idx → BitVec 32) (entry_eq _).symm

/-- The gates of every row are at least zero and below infinity. -/
def GatesOk : Prop := ∀ n : S72192.Idx, (0 ≤ gA m c n ∧ gA m c n < ⊤) ∧ (0 ≤ gB m c n ∧ gB m c n < ⊤)

/-- A tile holds the result's rows. -/
theorem tileOut_apply (hg : GatesOk m c) (t : Fin (cfgA m hT).N) (r : Fin 256) (d : Fin 1024) :
    (tileOut m hT c t : S256x1024.Idx → EReal) (ix2 r d) = result m c (rowOf m hT t r) d := by
  unfold result moe
  rw [ex_eA, ex_eB, tab_live]
  unfold tileOut
  by_cases h : k0_cond1 (live m (crd m hT t)) = 1#1
  · rw [if_pos h, if_pos ((cond1_iff _).mp h)]
    refine (tile_apply _ _ _ _ _ _ _ _ _ r d).trans ?_
    rw [blk1 m hT c t r, blk2 m hT c t r]
    simp only [blk0 m hT c t, blk3 m hT c t, blk4 m hT c t, blk5 m hT c t, blk6 m hT c t, blk7 m hT c t, blk8 m hT c t]
    rw [gatedIn_eq _ _ _ _ _ (hg _).1.1 (hg _).1.2, gatedIn_eq _ _ _ _ _ (hg _).2.1 (hg _).2.2]
  · rw [if_neg h, if_neg fun h' => h ((cond1_iff _).mpr h')]
    exact idle_apply r d

/-! ## The array from its tiles -/

theorem crd_val (t : Fin (cfgA m hT).N) : (crd m hT t 0).val = t.val := by
  have h : t.val < 282 := t.isLt
  refine (Pipeline.Grid.coords_val (G := grid0) t 0 (S := 1) (B := 282) (by decide) (by decide)).trans ?_
  omega

/-- Every tile is written back: the next one is another block. -/
theorem flush9 (t : Fin (cfgA m hT).N) : ((cfgA m hT).win (9 : Fin 10)).flush t = true := by
  unfold Pipeline.Window.flush
  refine (Bool.and_eq_true _ _).mpr ⟨rfl, ?_⟩
  by_cases h : t.val + 1 = (cfgA m hT).N
  · simp only [Bool.or_eq_true, decide_eq_true_eq]; exact .inl h
  · refine (Bool.or_eq_true _ _).mpr (.inr (decide_eq_true ⟨lt_of_le_of_ne (Nat.succ_le_of_lt t.isLt) h, fun hx => ?_⟩))
    rw [idx9, idx9] at hx
    have h0 := congrFun hx (0 : Fin 2)
    have h1 : (crd m hT ⟨t.val + 1, lt_of_le_of_ne (Nat.succ_le_of_lt t.isLt) h⟩ 0).val = (crd m hT t 0).val := h0
    rw [crd_val, crd_val] at h1
    exact absurd h1 (Nat.succ_ne_self _)

theorem out_eq (hg : GatesOk m c) : (out m hT c : S72192x1024.Idx → EReal) = fun i => result m c (i 0) (i 1) := by
  refine (dats m hT 0 c).arrAt_eq_of_emb (9 : Fin 10) (fun i => result m c (i 0) (i 1)) (fun t _ y => ?_) (fun i => ?_)
  · have hy : (y : S256x1024.Idx) = ix2 (y 0) (y 1) := (eq_ix2 (y : S256x1024.Idx))
    have he : ((((cfgA m hT).win (9 : Fin 10)).blk t).view.emb y : S72192x1024.Idx) = ix2 (rowOf m hT t (y 0)) (y 1) :=
      funext fun a => Fin.ext ((Pipeline.Window.rect_emb_val ((cfgA m hT).win (9 : Fin 10)) t _ _).trans (by
        rw [idx9]
        fin_cases a <;> simp [rowOf]))
    rw [he]
    refine Eq.trans ?_ (tileOut_apply m hT c hg t (y 0) (y 1))
    exact congrArg (tileOut m hT c t) hy
  · have hi : ((i : S72192x1024.Idx) 0).val < 72192 := ((i : S72192x1024.Idx) 0).isLt
    have hj : ((i : S72192x1024.Idx) 1).val < 1024 := ((i : S72192x1024.Idx) 1).isLt
    have hN : (cfgA m hT).N = 282 := by rfl
    refine ⟨⟨((i : S72192x1024.Idx) 0).val / 256, by rw [hN]; omega⟩, flush9 m hT _, ?_⟩
    refine (Pipeline.Window.emb_mem_blk_iff ((cfgA m hT).win (9 : Fin 10)) _ i rfl).mpr fun a => ?_
    rw [idx9]
    fin_cases a
    · show (crd m hT _ 0).val * 256 ≤ (i 0).val ∧ (i 0).val < (crd m hT _ 0).val * 256 + 256
      rw [crd_val]
      show (i 0).val / 256 * 256 ≤ (i 0).val ∧ (i 0).val < (i 0).val / 256 * 256 + 256
      omega
    · show 0 * 1024 ≤ (i 1).val ∧ (i 1).val < 0 * 1024 + 1024
      have hj' : (i 1).val < 1024 := hj
      omega

end Cert.Moe.Value
-- ==== Proof.MoeRefValue.lean ====
/-
  The reference's result, element by element: every expert's output under its combine weight, where the tile is live.
-/
module

public import Idealize.ShloMosaic.PureOps.Ideal
public import Idealize.ShloMosaic.PureOps.Ideal.Laws
public import Idealize.ShloMosaic.Lib.IdealHost
public import Idealize.ShloMosaic.Lib.Pointwise
public import proofs.«01_k».proof.Proof.Gen.MoeRefIdeal.Run
public import proofs.«01_k».proof.Proof.MoeEquation

@[expose] public section

set_option maxRecDepth 16384

open Idealize.ShloMosaic
open Idealize.ShloMosaic.TcCoe
open Idealize.SL.Sem
open Idealize.ShloMosaic.StableHlo (launchContents)

namespace Cert.MoeRefIdeal.Value

open Cert.MoeRefIdeal Cert.MoeRefIdeal.Gen Cert.Moe.Value

attribute [local instance] Cert.MoeRefIdeal.Gen.facts

/-- One expert's weights cut from the stack and multiplied into the rows. -/
theorem dense_apply (x : FVec Ideal S72192x1024 .f32) (w : FVec Ideal S16x1024x512 .f32) (e : Nat) (he : e < 16)
    (hs : S16x1024x512.Slices ![e, 0, 0] S1x1024x512) (hc : S1x1024x512.ShapeCasts S1024x512) (n : Fin 72192) (k : Fin 512) :
    Host.dotGeneral dot_S72192x1024_S1024x512_S72192x512_1_0_0_1_n_n none x
        (shapeCast S1024x512 (extractStridedSlice S1x1024x512 ![e, 0, 0] w hs) hc) (ix2 n k)
      = ∑ j, x (ix2 n j) * w (ix3 ⟨e, he⟩ j k) := by
  pointwise

theorem slices_lt {e : Nat} (hs : S72192x16.Slices ![0, e] S72192x1) : e < 16 := by
  obtain ⟨_, h⟩ := hs
  exact h 1

/-- One expert's term of the reference's sum. -/
theorem part_apply (C : FVec Ideal S72192x16 .f32) (x : FVec Ideal S72192x1024 .f32) (wg wu : FVec Ideal S16x1024x512 .f32)
    (wd : FVec Ideal S16x512x1024 .f32) (e : Nat) (h1 : S72192x16.Slices ![0, e] S72192x1)
    (h2 h3 : S16x1024x512.Slices ![e, 0, 0] S1x1024x512) (h4 : S16x512x1024.Slices ![e, 0, 0] S1x512x1024)
    (n : Fin 72192) (d : Fin 1024) :
    mulf (broadcastInDim S72192x1024 ![0, 1] bcast_S72192x1_S72192x1024_0_1 (extractStridedSlice S72192x1 ![0, e] C h1))
      (Host.dotGeneral dot_S72192x512_S512x1024_S72192x1024_1_0_0_1_n_n none
        (mulf (mulf (Host.dotGeneral dot_S72192x1024_S1024x512_S72192x512_1_0_0_1_n_n none x
              (shapeCast S1024x512 (extractStridedSlice S1x1024x512 ![e, 0, 0] wg h2) shapeCasts_S1x1024x512_S1024x512))
            (Host.divf (broadcastInDim S72192x512 ![] bcast_S_S72192x512 (constant (F := Ideal) S_ .f32 0x3F800000#32))
              (addf (broadcastInDim S72192x512 ![] bcast_S_S72192x512 (constant (F := Ideal) S_ .f32 0x3F800000#32))
                (Host.exp (Host.negf (Host.dotGeneral dot_S72192x1024_S1024x512_S72192x512_1_0_0_1_n_n none x
                  (shapeCast S1024x512 (extractStridedSlice S1x1024x512 ![e, 0, 0] wg h2) shapeCasts_S1x1024x512_S1024x512)))))))
          (Host.dotGeneral dot_S72192x1024_S1024x512_S72192x512_1_0_0_1_n_n none x
            (shapeCast S1024x512 (extractStridedSlice S1x1024x512 ![e, 0, 0] wu h3) shapeCasts_S1x1024x512_S1024x512)))
        (shapeCast S512x1024 (extractStridedSlice S1x512x1024 ![e, 0, 0] wd h4) shapeCasts_S1x512x1024_S512x1024)) (ix2 n d)
      = C (ix2 n ⟨e, slices_lt h1⟩) * expert (fun j => x (ix2 n j)) (fun j k => wg (ix3 ⟨e, slices_lt h1⟩ j k))
          (fun j k => wu (ix3 ⟨e, slices_lt h1⟩ j k)) (fun k => wd (ix3 ⟨e, slices_lt h1⟩ k d)) := by
  pointwise
  rfl

/-- A comparison of a table word with an expert's number, as the number the reference multiplies by. -/
theorem uitofp_eq (w : BitVec 32) (hw : w.toNat < 16) (e : Fin 16) :
    (FloatOps.uitofp (F := Ideal) .f32 (IntOp.cmpi .eq w (BitVec.ofNat 32 e.val)) : EReal) = ind (ex w) e := by
  have he := e.isLt
  have hx : w = BitVec.ofNat 32 e.val ↔ ex w = e := by
    rw [Fin.ext_iff, ← BitVec.toNat_inj, BitVec.toNat_ofNat]
    show _ ↔ w.toNat % 16 = e.val
    omega
  by_cases h : w = BitVec.ofNat 32 e.val
  · rw [ind, if_pos (hx.mp h)]
    simp [IntOp.cmpi, h, FloatOps.uitofp]
  · rw [ind, if_neg fun h' => h (hx.mpr h')]
    have hb : (w == BitVec.ofNat 32 e.val) = false := by simpa using h
    simp [IntOp.cmpi, hb, FloatOps.uitofp]

section
variable (V0 : Valuation τ sig (Elt Ideal))

/-- The arguments as functions. -/
abbrev tA (q : Fin 282) : BitVec 32 := (V0 (Proc.devRef .tc main_arg0) : S282.Idx → BitVec 32) (ix1 q)
abbrev tB (q : Fin 282) : BitVec 32 := (V0 (Proc.devRef .tc main_arg1) : S282.Idx → BitVec 32) (ix1 q)
abbrev tV (q : Fin 282) : BitVec 32 := (V0 (Proc.devRef .tc main_arg2) : S282.Idx → BitVec 32) (ix1 q)
abbrev xs (n : Fin 72192) (j : Fin 1024) : EReal := (V0 (Proc.devRef .tc main_arg3) : S72192x1024.Idx → EReal) (ix2 n j)
abbrev ga (n : Fin 72192) : EReal := (V0 (Proc.devRef .tc main_arg4) : S72192.Idx → EReal) (ix1 n)
abbrev gb (n : Fin 72192) : EReal := (V0 (Proc.devRef .tc main_arg5) : S72192.Idx → EReal) (ix1 n)
abbrev wg (e : Fin 16) (j : Fin 1024) (k : Fin 512) : EReal := (V0 (Proc.devRef .tc main_arg6) : S16x1024x512.Idx → EReal) (ix3 e j k)
abbrev wu (e : Fin 16) (j : Fin 1024) (k : Fin 512) : EReal := (V0 (Proc.devRef .tc main_arg7) : S16x1024x512.Idx → EReal) (ix3 e j k)
abbrev wd (e : Fin 16) (k : Fin 512) (d : Fin 1024) : EReal := (V0 (Proc.devRef .tc main_arg8) : S16x512x1024.Idx → EReal) (ix3 e k d)

/-- The combine weights, the rows, the weights, and the sum after five, ten and fifteen experts, as functions. -/
noncomputable abbrev r14 : S72192x16.Idx → EReal := res_main_v14 V0
noncomputable abbrev r0 : S72192x1024.Idx → EReal := res_main_v0 V0
abbrev aG : S16x1024x512.Idx → EReal := V0 (Proc.devRef .tc main_arg6)
abbrev aU : S16x1024x512.Idx → EReal := V0 (Proc.devRef .tc main_arg7)
abbrev aD : S16x512x1024.Idx → EReal := V0 (Proc.devRef .tc main_arg8)
noncomputable abbrev r90 : S72192x1024.Idx → EReal := res_main_v90 V0
noncomputable abbrev r165 : S72192x1024.Idx → EReal := res_main_v165 V0
noncomputable abbrev r240 : S72192x1024.Idx → EReal := res_main_v240 V0

/-- The combine weight of expert `e` in row `n`. -/
theorem v14_apply (n : Fin 72192) (e : Fin 16) (hA : (tA V0 (tile n)).toNat < 16) (hB : (tB V0 (tile n)).toNat < 16) :
    r14 V0 (ix2 n e)
      = ga V0 n * ind (ex (tA V0 (tile n))) e + gb V0 n * ind (ex (tB V0 (tile n))) e := by
  rw [← uitofp_eq _ hA, ← uitofp_eq _ hB]
  pointwise [r14, res_main_v14, tile]
  simp

/-- The rows are the argument's, a change of format being the identity. -/
theorem v0_apply (n : Fin 72192) (j : Fin 1024) : r0 V0 (ix2 n j) = xs V0 n j := by
  pointwise [r0, res_main_v0]

/-- Expert `e`'s term of the sum. -/
noncomputable def term (n : Fin 72192) (d : Fin 1024) (e : Fin 16) : EReal :=
  r14 V0 (ix2 n e)
    * expert (fun j => r0 V0 (ix2 n j)) (wg V0 e) (wu V0 e) (fun k => wd V0 e k d)

theorem zero_apply (n : Fin 72192) (d : Fin 1024) :
    (broadcastInDim S72192x1024 ![] bcast_S_S72192x1024 (constant (F := Ideal) S_ .f32 0x00000000#32) : S72192x1024.Idx → EReal) (ix2 n d) = 0 := by
  pointwise

theorem v90_apply (n : Fin 72192) (d : Fin 1024) : r90 V0 (ix2 n d)
    = 0 + term V0 n d 0 + term V0 n d 1 + term V0 n d 2 + term V0 n d 3 + term V0 n d 4 := by
  have P := fun e h1 h2 h3 h4 => part_apply (r14 V0) (r0 V0) (aG V0) (aU V0) (aD V0) e h1 h2 h3 h4 n d
  exact congrArg₂ (· + ·) (congrArg₂ (· + ·) (congrArg₂ (· + ·) (congrArg₂ (· + ·) (congrArg₂ (· + ·) (zero_apply n d)
    (P 0 _ _ _ _)) (P 1 _ _ _ _)) (P 2 _ _ _ _)) (P 3 _ _ _ _))
    (P 4 _ _ _ _)

theorem v165_apply (n : Fin 72192) (d : Fin 1024) : r165 V0 (ix2 n d)
    = r90 V0 (ix2 n d) + term V0 n d 5 + term V0 n d 6 + term V0 n d 7 + term V0 n d 8 + term V0 n d 9 := by
  have P := fun e h1 h2 h3 h4 => part_apply (r14 V0) (r0 V0) (aG V0) (aU V0) (aD V0) e h1 h2 h3 h4 n d
  exact congrArg₂ (· + ·) (congrArg₂ (· + ·) (congrArg₂ (· + ·) (congrArg₂ (· + ·) (congrArg₂ (· + ·) rfl
    (P 5 _ _ _ _)) (P 6 _ _ _ _)) (P 7 _ _ _ _)) (P 8 _ _ _ _))
    (P 9 _ _ _ _)

theorem v240_apply (n : Fin 72192) (d : Fin 1024) : r240 V0 (ix2 n d)
    = r165 V0 (ix2 n d) + term V0 n d 10 + term V0 n d 11 + term V0 n d 12 + term V0 n d 13 + term V0 n d 14 := by
  have P := fun e h1 h2 h3 h4 => part_apply (r14 V0) (r0 V0) (aG V0) (aU V0) (aD V0) e h1 h2 h3 h4 n d
  exact congrArg₂ (· + ·) (congrArg₂ (· + ·) (congrArg₂ (· + ·) (congrArg₂ (· + ·) (congrArg₂ (· + ·) rfl
    (P 10 _ _ _ _)) (P 11 _ _ _ _)) (P 12 _ _ _ _)) (P 13 _ _ _ _))
    (P 14 _ _ _ _)

/-- The sixteen terms in the reference's order are their sum. -/
theorem sum_terms (n : Fin 72192) (d : Fin 1024) :
    r240 V0 (ix2 n d) + term V0 n d 15 = ∑ e, term V0 n d e := by
  rw [v240_apply, v165_apply, v90_apply]
  simp only [Fin.sum_univ_castSucc, Fin.sum_univ_zero]
  rfl

/-- A choice by a live tile's bit. -/
theorem select_live (w : BitVec 32) (a b : EReal) :
    Scalar.select (IntOp.cmpi .sgt w 0#32) a b = if (0#32).slt w = true then a else b := by
  cases h : (0#32).slt w <;> simp [Scalar.select, IntOp.cmpi, h]

/-- Row `n` of the mask: whether its tile is live. -/
theorem live_apply (n : Fin 72192) (d : Fin 1024) (v : S282.Idx → BitVec 32) (x y : S72192x1024.Idx → EReal) :
    select (broadcastInDim S72192x1024 ![0, 1] bcast_S72192x1_S72192x1024_0_1 (cmpi .sgt (broadcastInDim S72192x1 ![0] bcast_S72192_S72192x1_0
      (shapeCast S72192 (broadcastInDim S282x256 ![0, 1] bcast_S282x1_S282x256_0_1 (broadcastInDim S282x1 ![0] bcast_S282_S282x1_0 v)) shapeCasts_S282x256_S72192))
      (broadcastInDim S72192x1 ![] bcast_S_S72192x1 (constantI S_ 32 0#32)))) x y (ix2 n d)
      = if (0#32).slt (v (ix1 (tile n))) = true then x (ix2 n d) else y (ix2 n d) := by
  pointwise [tile]
  exact select_live _ _ _

/-- The sum of all sixteen terms is the two gated experts. -/
theorem terms_eq (n : Fin 72192) (d : Fin 1024) (hA : (tA V0 (tile n)).toNat < 16) (hB : (tB V0 (tile n)).toNat < 16)
    (ha : 0 ≤ ga V0 n) (hb : 0 ≤ gb V0 n) :
    ∑ e, term V0 n d e
      = ga V0 n * expert (xs V0 n) (wg V0 (ex (tA V0 (tile n)))) (wu V0 (ex (tA V0 (tile n)))) (fun k => wd V0 (ex (tA V0 (tile n))) k d)
        + gb V0 n * expert (xs V0 n) (wg V0 (ex (tB V0 (tile n)))) (wu V0 (ex (tB V0 (tile n)))) (fun k => wd V0 (ex (tB V0 (tile n))) k d) := by
  rw [← sum_combine (ex (tA V0 (tile n))) (ex (tB V0 (tile n))) (ga V0 n) (gb V0 n)
    (fun e => expert (xs V0 n) (wg V0 e) (wu V0 e) (fun k => wd V0 e k d)) ha hb]
  refine Finset.sum_congr rfl fun e _ => ?_
  unfold term
  rw [v14_apply V0 n e hA hB]
  simp only [v0_apply]

end

/-- What the run is to be told of the tables and gates at launch. -/
def ArgsOk (V0 : Valuation τ sig (Elt Ideal)) : Prop :=
  (∀ q, (tA V0 q).toNat < 16 ∧ (tB V0 q).toNat < 16) ∧ ∀ n, 0 ≤ ga V0 n ∧ 0 ≤ gb V0 n

/-- The mixture of experts of the arguments. -/
noncomputable def result (V0 : Valuation τ sig (Elt Ideal)) : S72192x1024.Idx → EReal :=
  fun i => moe (tA V0) (tB V0) (tV V0) (xs V0) (ga V0) (gb V0) (wg V0) (wu V0) (wd V0) (i 0) (i 1)

/-- The last choice: in a live tile the sum of fifteen terms and the last one, `p`; zero in an idle one. -/
theorem result_eq (V0 : Valuation τ sig (Elt Ideal)) (h : ArgsOk V0) (p : S72192x1024.Idx → EReal)
    (hp : ∀ n d, p (ix2 n d) = term V0 n d 15) :
    (select (broadcastInDim S72192x1024 ![0, 1] bcast_S72192x1_S72192x1024_0_1 (cmpi .sgt (broadcastInDim S72192x1 ![0] bcast_S72192_S72192x1_0
      (shapeCast S72192 (broadcastInDim S282x256 ![0, 1] bcast_S282x1_S282x256_0_1 (broadcastInDim S282x1 ![0] bcast_S282_S282x1_0
        (V0 (Proc.devRef .tc main_arg2) : S282.Idx → BitVec 32))) shapeCasts_S282x256_S72192))
      (broadcastInDim S72192x1 ![] bcast_S_S72192x1 (constantI S_ 32 0#32)))) (fun i => r240 V0 i + p i)
      (broadcastInDim S72192x1024 ![] bcast_S_S72192x1024 (constant (F := Ideal) S_ .f32 0x00000000#32))
      : S72192x1024.Idx → EReal) = result V0 := by
  funext i
  obtain ⟨n, d, rfl⟩ : ∃ (n : Fin 72192) (d : Fin 1024), i = ix2 n d := ⟨i 0, i 1, eq_ix2 i⟩
  refine (live_apply n d _ _ _).trans ?_
  refine if_congr Iff.rfl ?_ (zero_apply n d)
  exact (congrArg₂ (· + ·) rfl (hp n d)).trans ((sum_terms V0 n d).trans
      (terms_eq V0 n d (h.1 _).1 (h.1 _).2 (h.2 n).1 (h.2 n).2))

/-- THE REFERENCE'S RUN with its result read: the mixture of experts, the arguments as they were. -/
theorem run_value (m : (ℓ : Loc nD τ sig) → Buf (Elt Ideal) ℓ) (ρ : Dev nD → PrngReg)
    (h : ∀ c, ArgsOk (launchContents m c)) :
    θ_run defs (onTc (τ := τ) (main (F := Ideal))) ⟨m, fun _ => 0, ρ⟩ fun r => ∀ c : Dev nD,
      r.2.mem ((c.tc : Thread nD τ).loc main_v262) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
by
  refine (θ_run defs _ _).mono (fun r hr c => ⟨(hr c).1.trans ?_, (hr c).2⟩) (run m ρ)
  refine result_eq (launchContents m c) (h c) _ fun n d => ?_
  generalize launchContents m c = V0
  have P := fun h1 h2 h3 h4 => part_apply (r14 V0) (r0 V0) (aG V0) (aU V0) (aD V0) 15 h1 h2 h3 h4 n d
  exact P _ _ _ _
end Cert.MoeRefIdeal.Value
-- ==== Proof.MoeAlgebraic.lean ====
/-
  The kernel and the reference compute one array: both results have been read as the mixture of experts of the
  arguments, and the two launches hold the same arguments.
-/
module

public import proofs.«01_k».proof.Proof.MoeOut
public import proofs.«01_k».proof.Proof.MoePre
public import proofs.«01_k».proof.Proof.MoeRefValue

@[expose] public section

set_option maxRecDepth 16384

noncomputable section

open Idealize.ShloMosaic
open Idealize.ShloMosaic.TcCoe
open Idealize.ShloMosaic.StableHlo (launchContents)

namespace Cert.MoeAlgebraic

attribute [local instance] Cert.Moe.Gen.facts Cert.MoeRefIdeal.Gen.facts Cert.Pre_tables_in_range.Gen.facts
  Cert.Pre_tables_and_gates.Gen.facts

variable (m : (ℓ : Loc Cert.Moe.nD Cert.Moe.τ Cert.Moe.sig) → Buf (Elt Ideal) ℓ)
  (m' : (ℓ : Loc Cert.MoeRefIdeal.nD Cert.MoeRefIdeal.τ Cert.MoeRefIdeal.sig) → Buf (Elt Ideal) ℓ)

/-- The reference is launched with the kernel's arguments. -/
def Agree : Prop := ∀ c : Dev Cert.Moe.nD,
  m' ((c.tc : Thread Cert.MoeRefIdeal.nD Cert.MoeRefIdeal.τ).loc Cert.MoeRefIdeal.main_arg0) = m ((c.tc : Thread Cert.Moe.nD Cert.Moe.τ).loc Cert.Moe.main_arg0)
  ∧ m' ((c.tc : Thread Cert.MoeRefIdeal.nD Cert.MoeRefIdeal.τ).loc Cert.MoeRefIdeal.main_arg1) = m ((c.tc : Thread Cert.Moe.nD Cert.Moe.τ).loc Cert.Moe.main_arg1)
  ∧ m' ((c.tc : Thread Cert.MoeRefIdeal.nD Cert.MoeRefIdeal.τ).loc Cert.MoeRefIdeal.main_arg2) = m ((c.tc : Thread Cert.Moe.nD Cert.Moe.τ).loc Cert.Moe.main_arg2)
  ∧ m' ((c.tc : Thread Cert.MoeRefIdeal.nD Cert.MoeRefIdeal.τ).loc Cert.MoeRefIdeal.main_arg3) = m ((c.tc : Thread Cert.Moe.nD Cert.Moe.τ).loc Cert.Moe.main_arg3)
  ∧ m' ((c.tc : Thread Cert.MoeRefIdeal.nD Cert.MoeRefIdeal.τ).loc Cert.MoeRefIdeal.main_arg4) = m ((c.tc : Thread Cert.Moe.nD Cert.Moe.τ).loc Cert.Moe.main_arg4)
  ∧ m' ((c.tc : Thread Cert.MoeRefIdeal.nD Cert.MoeRefIdeal.τ).loc Cert.MoeRefIdeal.main_arg5) = m ((c.tc : Thread Cert.Moe.nD Cert.Moe.τ).loc Cert.Moe.main_arg5)
  ∧ m' ((c.tc : Thread Cert.MoeRefIdeal.nD Cert.MoeRefIdeal.τ).loc Cert.MoeRefIdeal.main_arg6) = m ((c.tc : Thread Cert.Moe.nD Cert.Moe.τ).loc Cert.Moe.main_arg6)
  ∧ m' ((c.tc : Thread Cert.MoeRefIdeal.nD Cert.MoeRefIdeal.τ).loc Cert.MoeRefIdeal.main_arg7) = m ((c.tc : Thread Cert.Moe.nD Cert.Moe.τ).loc Cert.Moe.main_arg7)
  ∧ m' ((c.tc : Thread Cert.MoeRefIdeal.nD Cert.MoeRefIdeal.τ).loc Cert.MoeRefIdeal.main_arg8) = m ((c.tc : Thread Cert.Moe.nD Cert.Moe.τ).loc Cert.Moe.main_arg8)

/-- A tile as a grid point. -/
def point (q : Fin 282) : Cert.Moe.grid0.Coords := fun a => ⟨q.val, by
  obtain rfl : a = 0 := Subsingleton.elim _ _
  exact q.isLt⟩

theorem entry_point (q : Fin 282) : Cert.Moe.Tile.entry (point q) = ix1 q := Cert.Moe.Value.entry_eq _

/-- The gates of the kernel's launch. -/
theorem gates_ok (h : Cert.Moe.Pre.InRangeGates m) (c : Dev Cert.Moe.nD) : Cert.Moe.Value.GatesOk m c := fun n => by
  obtain rfl : c = 0 := Subsingleton.elim _ _
  exact Cert.Moe.Pre.gates_of m h n

/-- What the reference's run needs of its arguments follows from the precondition of the kernel's. -/
theorem args_ok (ha : Agree m m') (h : Cert.Moe.Pre.InRangeGates m) (c : Dev Cert.MoeRefIdeal.nD) :
    Cert.MoeRefIdeal.Value.ArgsOk (launchContents m' c) := by
  obtain rfl : c = 0 := Subsingleton.elim _ _
  have hT := Cert.Moe.Pre.tables_of_gates m h
  obtain ⟨h0, h1, _, _, h4, h5, _⟩ := ha 0
  refine ⟨fun q => ?_, fun n => ?_⟩
  · have hq := hT (point q)
    unfold Cert.Moe.Tile.expA Cert.Moe.Tile.expB at hq
    rw [entry_point] at hq
    exact ⟨(congrArg BitVec.toNat (congrFun h0 (ix1 q))).trans_lt hq.1, (congrArg BitVec.toNat (congrFun h1 (ix1 q))).trans_lt hq.2.1⟩
  · have hg := Cert.Moe.Pre.gates_of m h (ix1 n)
    exact ⟨hg.1.1.trans_eq (congrFun h4 (ix1 n)).symm, hg.2.1.trans_eq (congrFun h5 (ix1 n)).symm⟩

/-- The mixture of experts of the reference's arguments is the kernel's. -/
theorem result_agree (ha : Agree m m') (c : Dev Cert.Moe.nD) :
    Cert.MoeRefIdeal.Value.result (launchContents m' c) = fun i => Cert.Moe.Value.result m c (i 0) (i 1) := by
  obtain rfl : c = 0 := Subsingleton.elim _ _
  obtain ⟨h0, h1, h2, h3, h4, h5, h6, h7, h8⟩ := ha 0
  have e0 : Cert.MoeRefIdeal.Value.tA (launchContents m' 0) = Cert.Moe.Value.tab m 0 := funext fun q => congrFun h0 (ix1 q)
  have e1 : Cert.MoeRefIdeal.Value.tB (launchContents m' 0) = Cert.Moe.Value.tab m 1 := funext fun q => congrFun h1 (ix1 q)
  have e2 : Cert.MoeRefIdeal.Value.tV (launchContents m' 0) = Cert.Moe.Value.tab m 2 := funext fun q => congrFun h2 (ix1 q)
  have e3 : Cert.MoeRefIdeal.Value.xs (launchContents m' 0) = fun n j => Cert.Moe.Value.rows m 0 (ix2 n j) :=
    funext fun n => funext fun j => congrFun h3 (ix2 n j)
  have e4 : Cert.MoeRefIdeal.Value.ga (launchContents m' 0) = fun n => Cert.Moe.Value.gA m 0 (ix1 n) := funext fun n => congrFun h4 (ix1 n)
  have e5 : Cert.MoeRefIdeal.Value.gb (launchContents m' 0) = fun n => Cert.Moe.Value.gB m 0 (ix1 n) := funext fun n => congrFun h5 (ix1 n)
  have e6 : Cert.MoeRefIdeal.Value.wg (launchContents m' 0) = fun e j k => Cert.Moe.Value.wG m 0 (ix3 e j k) :=
    funext fun e => funext fun j => funext fun k => congrFun h6 (ix3 e j k)
  have e7 : Cert.MoeRefIdeal.Value.wu (launchContents m' 0) = fun e j k => Cert.Moe.Value.wU m 0 (ix3 e j k) :=
    funext fun e => funext fun j => funext fun k => congrFun h7 (ix3 e j k)
  have e8 : Cert.MoeRefIdeal.Value.wd (launchContents m' 0) = fun e k d => Cert.Moe.Value.wD m 0 (ix3 e k d) :=
    funext fun e => funext fun k => funext fun d => congrFun h8 (ix3 e k d)
  unfold Cert.MoeRefIdeal.Value.result Cert.Moe.Value.result
  rw [e0, e1, e2, e3, e4, e5, e6, e7, e8]

/-- The reference's array is the kernel's. -/
theorem result_out (ha : Agree m m') (h : Cert.Moe.Pre.InRangeGates m) (c : Dev Cert.Moe.nD) :
    Cert.MoeRefIdeal.Value.result (launchContents m' c) = Cert.Moe.Tile.out m (Cert.Moe.Pre.tables_of_gates m h) c :=
  (result_agree m m' ha c).trans (Cert.Moe.Value.out_eq m (Cert.Moe.Pre.tables_of_gates m h) c (gates_ok m h c)).symm

end Cert.MoeAlgebraic

end
-- ==== Proof.TailSame.lean ====
module

public import proofs.«01_k».proof.Proof.Gen.Tail.Launch
public import proofs.«01_k».proof.Proof.Gen.TailIdeal.Launch

/-! The idealized final-normalization program is the program as printed: no rule was offered, so the two texts are one, at
every number system. What is proved of the one is read here of the other. -/

@[expose] public section

set_option maxRecDepth 100000

noncomputable section

namespace Cert.TailSame

open Idealize.ShloMosaic Idealize.ShloMosaic.TcCoe Idealize.SL.Sem

variable {F : FTy → Type} [FloatOps F]

attribute [local instance] Cert.Tail.Gen.facts Cert.TailIdeal.Gen.facts

set_option maxHeartbeats 1000000 in
theorem body_eq : @Cert.TailIdeal.cc0_final_norm F _ _ = @Cert.Tail.cc0_final_norm F _ _ := by
  unfold Cert.TailIdeal.cc0_final_norm Cert.Tail.cc0_final_norm
  rfl

set_option maxHeartbeats 1000000 in
theorem main_eq : @Cert.TailIdeal.main F _ = @Cert.Tail.main F _ := by
  unfold Cert.TailIdeal.main Cert.Tail.main
  rfl

set_option maxHeartbeats 1000000 in
/-- The bodies the pipelines call. -/
theorem defs₀_eq : @Cert.TailIdeal.defs₀ F _ _ = @Cert.Tail.defs₀ F _ _ := by
  unfold Cert.TailIdeal.defs₀ Cert.Tail.defs₀
  refine congrArg Defs.onTc (funext fun ℓ => funext fun a => ?_)
  rcases ℓ with ⟨_ | n, h⟩
  · obtain ⟨t, s⟩ := a
    dsimp only
    rw [body_eq]
    rfl
  · exact absurd h (Nat.not_lt.2 (Nat.le_add_left _ _))

/-- The programs' pipelines with their bodies. -/
theorem defs_eq : @Cert.TailIdeal.defs F _ _ = @Cert.Tail.defs F _ _ := by
  unfold Cert.TailIdeal.defs Cert.Tail.defs
  exact congrArg (Pipeline.defs Cert.Tail.pcfgs) defs₀_eq

/-- So the two programs have the same runs. -/
theorem run_eq (s : MemSt Cert.Tail.nD Cert.Tail.τ Cert.Tail.sig (Elt F)) :
    θ_run (Cert.TailIdeal.defs (F := F)) (onTc (τ := Cert.TailIdeal.τ) (Cert.TailIdeal.main (F := F))) s
      = θ_run (Cert.Tail.defs (F := F)) (onTc (τ := Cert.Tail.τ) (Cert.Tail.main (F := F))) s := by
  exact congrArg₂ (fun d p => θ_run d (onTc (τ := Cert.Tail.τ) p) s) defs_eq main_eq

end Cert.TailSame

end
-- ==== Proof.Whole.lean ====
module

public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Affine
public import Idealize.ShloMosaic.Lib.Tactic

/-! Loads and stores of whole staging buffers, for any program: a load of a whole buffer reads its contents, and a
buffer whose last store covers all of it holds what was stored. -/

@[expose] public section

noncomputable section

namespace Cert.Whole

open Idealize.ShloMosaic Idealize.SL.Sem

variable {sig : RefSig} {F : FTy → Type} [FloatOps F]

/-- A load of a whole matrix reads its contents. -/
theorem load2 {a b : Nat} {e : EltTy} (M : Memref sig .tc .vmem ⟨2, ![a, b]⟩ e) (x : (⟨2, ![a, b]⟩ : Shape).Idx → Elt F e)
    (inb : ∀ j, (![0, 0] : Fin 2 → Nat) j + (⟨2, ![a, b]⟩ : Shape).size j ≤ (⟨2, ![a, b]⟩ : Shape).size j) :
    View.readAt (Elt F) M.view (Rect.unit (s := ⟨2, ![a, b]⟩) ![0, 0] ![a, b] inb).toLoadRect (M.view.rep x) = x := by
  refine (View.readAt_eq_ld M.view (M.view.rep x) (Rect.unit ![0, 0] _ inb)).trans ?_
  rw [View.read_rep]
  exact View.ld_unit_zero (by funext j; fin_cases j <;> rfl) inb x

/-- A load of a part of a buffer reads that part of its contents. -/
theorem loadPart {s : Shape} {e : EltTy} (M : Memref sig .tc .vmem s e) (x : s.Idx → Elt F e) (r : Rect s) :
    View.readAt (Elt F) M.view r.toLoadRect (M.view.rep x) = View.ld x r :=
  (View.readAt_eq_ld M.view (M.view.rep x) r).trans (by rw [View.read_rep])

/-- A buffer stored whole holds what was stored. -/
theorem stored {s : Shape} {e : EltTy} (v : View sig .tc .vmem s e) (f : v.ty.Contents (Elt F)) {off : Fin s.rank → Nat}
    (h0 : off = fun _ => 0) (inb : ∀ j, off j + s.size j ≤ s.size j) (X : s.Idx → Elt F e) :
    v.read (Elt F) (v.writes (Elt F) f [(⟨Rect.unit (s := s) off s.size inb, X⟩ : View.Piece (Elt F) s e)]) = X :=
  (View.read_writes_eq_canon v f _ (fun y => ⟨_, List.mem_singleton.mpr rfl, View.mem_set_unit_zero h0 inb y⟩)).trans
    (View.canon_unit_zero h0 inb X)

end Cert.Whole

end
-- ==== Proof.TailBody.lean ====
module

public import proofs.«01_k».proof.Proof.Gen.Tail.Skeleton
public import proofs.«01_k».proof.Proof.Gen.Tail.Launch
public import proofs.«01_k».proof.Proof.Whole
public import Idealize.ShloMosaic.Lib.Pipeline.Quiescent
public import Idealize.ShloMosaic.Lib.Claim
public import Idealize.ShloMosaic.Lib.Pipeline.Kit
public import Idealize.ShloMosaic.Lib.Pipeline.Frame
public import Idealize.ShloMosaic.Lib.Ring
public import Idealize.ShloMosaic.Adequacy
public import Idealize.ShloMosaic.Init

/-! What one grid point of the final normalization does. It stores the normalized tile over the first result's buffer,
and at the first grid point over the second result's buffer too. Stated for every number system `F`. -/

@[expose] public section

set_option maxRecDepth 16384
set_option Elab.async false

noncomputable section

namespace Cert.Tail.Tile

open Cert.Tail Cert.Tail.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (x0 x1 : S512x1024.Idx → Elt F .f32) (x2 x3 : S1x1024.Idx → Elt F .f32)

/-- The four input buffers, at their contents. -/
def inputs : sProp 𝕄 :=
  iprop((arg1.view.loc (c : Thread nD τ) ↦[arg1.view.set]{fullShare} arg1.view.rep x0)
    ∗ (arg2.view.loc (c : Thread nD τ) ↦[arg2.view.set]{fullShare} arg2.view.rep x1)
    ∗ (arg3.view.loc (c : Thread nD τ) ↦[arg3.view.set]{fullShare} arg3.view.rep x2)
    ∗ (arg4.view.loc (c : Thread nD τ) ↦[arg4.view.set]{fullShare} arg4.view.rep x3))

set_option maxHeartbeats 8000000 in
/-- The first grid point: both results' buffers end at the normalized tile. -/
theorem run_first (h1 : k0_cond1 i = 1#1) (K : PUnit → sProp 𝕄) :
    iprop(inputs c arg1 arg2 arg3 arg4 x0 x1 x2 x3 ∗ (∃ d, owns (c : Thread nD τ) arg5 fullShare d) ∗ (∃ d, owns (c : Thread nD τ) arg6 fullShare d)
      ∗ (iprop(inputs c arg1 arg2 arg3 arg4 x0 x1 x2 x3 ∗ owns (c : Thread nD τ) arg5 fullShare (k0_pay1 x0 x1 x2 x3)
          ∗ owns (c : Thread nD τ) arg6 fullShare (k0_pay1 x0 x1 x2 x3)) -∗ K ⟨⟩))
      ⊢ wp frame (wpE (defs₀ (F := F)) Variants.none c none) Set.univ (cc0_final_norm i arg1 harg1 arg2 harg2 arg3 harg3 arg4 harg4 arg5 harg5 arg6 harg6) K := by
  unfold owns inputs
  rw [cc0_final_norm_eq_skeleton]; unfold cc0_final_norm_skel
  iintro ⟨⟨H0, H1, H2, H3⟩, ⟨%d4, %f4, -, H4⟩, ⟨%d5, %f5, -, H5⟩, Hk⟩
  sl_exec! (disch := first | exact h1)
  sl_step
  iapply Hk
  isplitl [H0 H1 H2 H3]
  · isplitl [H0]; · iexact H0
    isplitl [H1]; · iexact H1
    isplitl [H2]; · iexact H2
    iexact H3
  isplitl [H4]
  · iexists _; isplitr; swap
    · iexact H4
    · ipureintro
      sl_unfold_words
      rw [Cert.Whole.stored _ _ (by funext a; fin_cases a <;> rfl)]
      simp only [Cert.Whole.load2]
  · iexists _; isplitr; swap
    · iexact H5
    · ipureintro
      sl_unfold_words
      rw [Cert.Whole.stored _ _ (by funext a; fin_cases a <;> rfl)]
      simp only [Cert.Whole.load2]

set_option maxHeartbeats 8000000 in
/-- A later grid point: the first result's buffer ends at the normalized tile, the second's is not touched. -/
theorem run_later (h1 : ¬ k0_cond1 i = 1#1) (K : PUnit → sProp 𝕄) :
    iprop(inputs c arg1 arg2 arg3 arg4 x0 x1 x2 x3 ∗ (∃ d, owns (c : Thread nD τ) arg5 fullShare d)
      ∗ (iprop(inputs c arg1 arg2 arg3 arg4 x0 x1 x2 x3 ∗ owns (c : Thread nD τ) arg5 fullShare (k0_pay1 x0 x1 x2 x3)) -∗ K ⟨⟩))
      ⊢ wp frame (wpE (defs₀ (F := F)) Variants.none c none) Set.univ (cc0_final_norm i arg1 harg1 arg2 harg2 arg3 harg3 arg4 harg4 arg5 harg5 arg6 harg6) K := by
  unfold owns inputs
  rw [cc0_final_norm_eq_skeleton]; unfold cc0_final_norm_skel
  iintro ⟨⟨H0, H1, H2, H3⟩, ⟨%d4, %f4, -, H4⟩, Hk⟩
  sl_exec! (disch := first | exact h1)
  sl_step
  iapply Hk
  isplitl [H0 H1 H2 H3]
  · isplitl [H0]; · iexact H0
    isplitl [H1]; · iexact H1
    isplitl [H2]; · iexact H2
    iexact H3
  iexists _; isplitr; swap
  · iexact H4
  · ipureintro
    sl_unfold_words
    rw [Cert.Whole.stored _ _ (by funext a; fin_cases a <;> rfl)]
    simp only [Cert.Whole.load2]

end Cert.Tail.Tile

end
-- ==== Proof.TailRun.lean ====
module

public import proofs.«01_k».proof.Proof.TailBody

/-! The run of the final normalization. From any memory the kernel runs to the end, every argument keeps its contents,
and each result is what the grid points left in it, block by block. The second result's buffer is stored at the first
grid point only, is kept through the later ones and is written back after the last. Stated for every number system
`F`. -/

@[expose] public section

set_option maxRecDepth 16384
set_option Elab.async false

noncomputable section

namespace Cert.Tail.Tile

open Cert.Tail Cert.Tail.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- Point `t`'s coordinate is `t`. -/
theorem crd_val (t : Fin cfg0.N) : (grid0.coords t 0).val = t.val := by
  have h : t.val < 129 := t.isLt
  refine (Pipeline.Grid.coords_val (G := grid0) t 0 (S := 1) (B := 129) (by decide) (by decide)).trans ?_
  omega

/-- The body's condition holds at the first point only. -/
theorem cond_iff (t : Fin cfg0.N) : k0_cond1 (grid0.coords t) = 1#1 ↔ t.val = 0 := by
  have h : t.val < 129 := t.isLt
  have hc : k0_cond1 (grid0.coords t) = Scalar.cmpi .ne (Scalar.extui (Scalar.cmpi .eq (BitVec.ofNat 32 t.val) 0#32) : BitVec 32) 0#32 := by
    unfold k0_cond1; rw [crd_val]
  rw [hc]
  by_cases h0 : t.val = 0
  · rw [h0]; exact iff_of_true (by decide) rfl
  · refine iff_of_false ?_ h0
    have hb : (BitVec.ofNat 32 t.val == 0#32) = false := beq_eq_false_iff_ne.mpr fun e => h0 (by
      have := congrArg BitVec.toNat e
      rw [BitVec.toNat_ofNat, BitVec.toNat_ofNat, Nat.mod_eq_of_lt (by omega), Nat.mod_eq_of_lt (by decide)] at this
      exact this)
    simp [Scalar.cmpi, Scalar.extui, IntOp.cmpi, hb]

/-- The first grid point. -/
def first : Fin cfg0.N := ⟨0, by decide⟩

/-- The second result's buffer is written back after the last point only. -/
theorem flush5 (t : Fin cfg0.N) : (cfg0.win (5 : Fin 6)).flush t = decide (t.val + 1 = cfg0.N) := by
  unfold Pipeline.Window.flush
  rw [show (cfg0.win (5 : Fin 6)).isOut = true from rfl, Bool.true_and, Bool.or_eq_left_iff_imp.mpr]
  intro hx
  obtain ⟨_, hne⟩ := of_decide_eq_true hx
  exact absurd rfl hne

/-- It is not stored at the later points. -/
theorem idle5 (t : Fin cfg0.N) : cfg0.idle (5 : Fin 6) (cfg0.grid.coords t) = decide (t.val ≠ 0) := by
  show (!(k0_cond1 (grid0.coords t) == 1#1)) = _
  by_cases h : t.val = 0
  · rw [(cond_iff t).mpr h]; simp [h]
  · have := mt (cond_iff t).mp h
    simp [h, this]

/-! ## What the region finds in the arrays, and the windows' blocks -/

/-- The contents at the region's entry: the host operations' results, every other buffer as launched. -/
abbrev V (c : Dev nD) (b : Ref sig .tc) : Buf (Elt F) ((c : Thread nD τ).loc b) :=
  StableHlo.after hostOps0 (fun b => m (c, b)) b

/-- Window `w`'s block at point `t`, read off its array. -/
def iblk (c : Dev nD) (w : Fin 6) (t : Fin cfg0.N) : ((cfg0.win w).xblock (grid0.coords t)).Idx → Elt F (cfg0.win w).elt :=
  ((cfg0.win w).blk t).view.read (Elt F) (V m c (Pipeline.arrRef spec0 w))

/-- The tile that point `t` computes: the normalized rows of its blocks. -/
def tileOut (c : Dev nD) (t : Fin cfg0.N) : S512x1024.Idx → Elt F .f32 :=
  k0_pay1 (iblk m c (0 : Fin 6) t) (iblk m c (1 : Fin 6) t) (iblk m c (2 : Fin 6) t) (iblk m c (3 : Fin 6) t)

/-- The proof data of the pipeline on core `c`: every input buffer at its block, the first result's at the point's tile,
    the second result's at the first point's tile. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => tileOut m c t
    | ⟨5, _⟩ => tileOut m c first
  Φ _ := Pipeline.ΦA spec0 c
  q _ := fullShare
  owed _ := 0

theorem after0 (c : Dev nD) (t : Fin cfg0.N) : (dats m 0 c).after (0 : Fin 6) t = iblk m c (0 : Fin 6) t := rfl
theorem after1 (c : Dev nD) (t : Fin cfg0.N) : (dats m 0 c).after (1 : Fin 6) t = iblk m c (1 : Fin 6) t := rfl
theorem after2 (c : Dev nD) (t : Fin cfg0.N) : (dats m 0 c).after (2 : Fin 6) t = iblk m c (2 : Fin 6) t := rfl
theorem after3 (c : Dev nD) (t : Fin cfg0.N) : (dats m 0 c).after (3 : Fin 6) t = iblk m c (3 : Fin 6) t := rfl
theorem after4 (c : Dev nD) (t : Fin cfg0.N) : (dats m 0 c).after (4 : Fin 6) t = tileOut m c t := rfl
theorem after5 (c : Dev nD) (t : Fin cfg0.N) : (dats m 0 c).after (5 : Fin 6) t = tileOut m c first := rfl

/-! Every input's buffer holds its block when the body runs, fetched at that point or not. -/

theorem before0 (c : Dev nD) (t : Fin cfg0.N) (d) : (dats m 0 c).before (0 : Fin 6) t d = iblk m c (0 : Fin 6) t :=
  ((dats m 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin cfg0.N) (d) : (dats m 0 c).before (1 : Fin 6) t d = iblk m c (1 : Fin 6) t :=
  ((dats m 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin cfg0.N) (d) : (dats m 0 c).before (2 : Fin 6) t d = iblk m c (2 : Fin 6) t :=
  ((dats m 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin cfg0.N) (d) : (dats m 0 c).before (3 : Fin 6) t d = iblk m c (3 : Fin 6) t :=
  ((dats m 0 c).before_in_eq_fetched (3 : Fin 6) rfl (fun _ => rfl) (fun _ _ _ => rfl) (fun t => by rw [after3]; unfold Dat.blockOf iblk; rfl) t d).trans
    (by unfold Dat.fetched Dat.blockOf iblk; rfl)

/-- After the first point the second result's buffer holds the first point's tile. -/
theorem fresh5 (n : ℕ) (hn : n < cfg0.N) (h0 : n ≠ 0) : cfg0.fresh (5 : Fin 6) n = false := by
  induction n with
  | zero => exact absurd rfl h0
  | succ n ih =>
    rw [Pipeline.Cfg.fresh_succ cfg0 (5 : Fin 6) n (by omega), flush5, idle5]
    by_cases hz : n = 0
    · subst hz; rfl
    · rw [ih (by omega) hz, Bool.and_false, Bool.or_false]
      exact decide_eq_false (by show ¬ n + 1 = cfg0.N; omega)

theorem before5 (c : Dev nD) (t : Fin cfg0.N) (h0 : t.val ≠ 0) (d) : (dats m 0 c).before (5 : Fin 6) t d = tileOut m c first := by
  refine ((dats m 0 c).before_out_traj (5 : Fin 6) rfl (fun _ _ => rfl) (fun t _ _ _ => rfl) t.val t rfl d).trans ?_
  rw [fresh5 t.val t.isLt h0]
  rfl

/-! ## The staging buffers the body gets -/

abbrev ms0 (t : Fin cfg0.N) : Memref sig .tc .vmem S512x1024 .f32 := win0_0.stage (cfg0.slots t (0 : Fin 6))
abbrev hs0 (t : Fin cfg0.N) : (ms0 t).IsWhole := hstage0_0 ((cfg0.slots t (0 : Fin 6)).cast nbuf0_0)
abbrev ms1 (t : Fin cfg0.N) : Memref sig .tc .vmem S512x1024 .f32 := win0_1.stage (cfg0.slots t (1 : Fin 6))
abbrev hs1 (t : Fin cfg0.N) : (ms1 t).IsWhole := hstage0_1 ((cfg0.slots t (1 : Fin 6)).cast nbuf0_1)
abbrev ms2 (t : Fin cfg0.N) : Memref sig .tc .vmem S1x1024 .f32 := win0_2.stage (cfg0.slots t (2 : Fin 6))
abbrev hs2 (t : Fin cfg0.N) : (ms2 t).IsWhole := hstage0_2 ((cfg0.slots t (2 : Fin 6)).cast nbuf0_2)
abbrev ms3 (t : Fin cfg0.N) : Memref sig .tc .vmem S1x1024 .f32 := win0_3.stage (cfg0.slots t (3 : Fin 6))
abbrev hs3 (t : Fin cfg0.N) : (ms3 t).IsWhole := hstage0_3 ((cfg0.slots t (3 : Fin 6)).cast nbuf0_3)
abbrev ms4 (t : Fin cfg0.N) : Memref sig .tc .vmem S512x1024 .f32 := win0_4.stage (cfg0.slots t (4 : Fin 6))
abbrev hs4 (t : Fin cfg0.N) : (ms4 t).IsWhole := hstage0_4 ((cfg0.slots t (4 : Fin 6)).cast nbuf0_4)
abbrev ms5 (t : Fin cfg0.N) : Memref sig .tc .vmem S512x1024 .f32 := win0_5.stage (cfg0.slots t (5 : Fin 6))
abbrev hs5 (t : Fin cfg0.N) : (ms5 t).IsWhole := hstage0_5 ((cfg0.slots t (5 : Fin 6)).cast nbuf0_5)

/-- The body at point `t`. -/
abbrev bodyAt (t : Fin cfg0.N) :=
  cc0_final_norm (F := F) (grid0.coords t) (ms0 t) (hs0 t) (ms1 t) (hs1 t) (ms2 t) (hs2 t) (ms3 t) (hs3 t) (ms4 t) (hs4 t) (ms5 t) (hs5 t)

/-! ## The body at every point -/

set_option maxHeartbeats 1600000 in
/-- The body keeps the inputs' blocks and leaves the point's tile, at every point. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rewrite [idle5 t, flush5 t]
  simp only [before0, before1, before2, before3, after0, after1, after2, after3, after4, after5]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  by_cases h0 : t.val = 0
  · rw [show decide (t.val ≠ 0) = false from decide_eq_false (not_not.mpr h0)]
    obtain rfl : t = first := Fin.ext h0
    iintro ⟨HA, Ho, ⟨%d0, H0⟩, ⟨%d1, H1⟩, ⟨%d2, H2⟩, ⟨%d3, H3⟩, ⟨%d4, H4⟩, ⟨%d5, H5⟩⟩
    iapply (run_first c (grid0.coords first) (ms0 first) (hs0 first) (ms1 first) (hs1 first) (ms2 first) (hs2 first) (ms3 first) (hs3 first) (ms4 first) (hs4 first) (ms5 first) (hs5 first)
      (iblk m c (0 : Fin 6) first) (iblk m c (1 : Fin 6) first) (iblk m c (2 : Fin 6) first) (iblk m c (3 : Fin 6) first) ((cond_iff first).mpr rfl))
    unfold inputs
    isplitl [H0 H1 H2 H3]
    · isplitl [H0]; · iapply rep_of_owns; iexact H0
      isplitl [H1]; · iapply rep_of_owns; iexact H1
      isplitl [H2]; · iapply rep_of_owns; iexact H2
      iapply rep_of_owns; iexact H3
    isplitl [H4]; · iexists _; iexact H4
    isplitl [H5]; · iexists _; iexact H5
    iintro ⟨⟨H0, H1, H2, H3⟩, H4, H5⟩
    isplitl [HA]; · iexact HA
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iexact H4
    iexact H5
  · rw [show decide (t.val ≠ 0) = true from decide_eq_true h0]
    iintro ⟨HA, Ho, ⟨%d0, H0⟩, ⟨%d1, H1⟩, ⟨%d2, H2⟩, ⟨%d3, H3⟩, ⟨%d4, H4⟩, ⟨%d5, H5⟩⟩
    iapply (run_later c (grid0.coords t) (ms0 t) (hs0 t) (ms1 t) (hs1 t) (ms2 t) (hs2 t) (ms3 t) (hs3 t) (ms4 t) (hs4 t) (ms5 t) (hs5 t)
      (iblk m c (0 : Fin 6) t) (iblk m c (1 : Fin 6) t) (iblk m c (2 : Fin 6) t) (iblk m c (3 : Fin 6) t) (mt (cond_iff t).mp h0))
    unfold inputs
    isplitl [H0 H1 H2 H3]
    · isplitl [H0]; · iapply rep_of_owns; iexact H0
      isplitl [H1]; · iapply rep_of_owns; iexact H1
      isplitl [H2]; · iapply rep_of_owns; iexact H2
      iapply rep_of_owns; iexact H3
    isplitl [H4]; · iexists _; iexact H4
    iintro ⟨⟨H0, H1, H2, H3⟩, H4⟩
    isplitl [HA]; · iexact HA
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iexact H4
    cases hl : decide (t.val + 1 = cfg0.N)
    · iexists d5; iexact H5
    · rw [before5 m c t h0 d5]; iexact H5

/-- The library's body obligation, at every point. -/
theorem body_obligation (c : Dev nD) : BodyObligation (dats m 0 c) (defs₀ (F := F)) Variants.none () Set.univ := fun t => by
  rw [bigSep_W0]
  exact sound_body m c t

/-! ## The launch -/

/-- No host operation allocates. -/
theorem hostOps_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 (defs₀ (F := F)) Variants.none m (main (F := F)) (V m) :=
  Pipeline.hmain_prefix cfgs 0 defs₀ Variants.none m main hostOps0 hostOps0_sub hostOps_fresh main_chain

/-- The host operations write only their own results. -/
theorem V_of_not_written (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

set_option backward.isDefEq.respectTransparency.types false in
set_option maxHeartbeats 4000000 in
/-- The launch: every weakly fair execution ends, with every array at what the points left in it, every other buffer at
    the region's entry contents and every semaphore counter at zero. -/
theorem run_main : θ_run defs (onTc (τ := τ) (main (F := F))) (s₀ m ρ)
    (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := fun _ _ => rfl) (hΦ := fun _ _ => rfl) (hQ' := fun _ h => h)

/-! ## What the run leaves -/

/-- The arguments are as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem args_kept {r : PUnit × MemSt nD τ sig (Elt F)} (h : Pipeline.FramePost cfgs (dats m) (0 : Fin 1) (V m) r) :
    ArgsKept m r := fun c =>
  ⟨((h c).1 (0 : Fin 6)).trans (((dats m 0 c).arrAt_in (0 : Fin 6) rfl _).trans (V_of_not_written m c main_arg0 (by decide) (by decide))),
   ((h c).1 (1 : Fin 6)).trans (((dats m 0 c).arrAt_in (1 : Fin 6) rfl _).trans (V_of_not_written m c main_arg1 (by decide) (by decide))),
   ((h c).2 main_arg2 (Pipeline.mem_restRefs_of main_arg2 (by decide) (by decide))).trans (V_of_not_written m c main_arg2 (by decide) (by decide)),
   ((h c).2 main_arg3 (Pipeline.mem_restRefs_of main_arg3 (by decide) (by decide))).trans (V_of_not_written m c main_arg3 (by decide) (by decide))⟩

/-- THE FRAME: the kernel runs, its arguments end unchanged, every counter at zero. -/
theorem frame : θ_run defs (onTc (τ := τ) (main (F := F))) ⟨m, fun _ => 0, ρ⟩ (fun r => ArgsKept m r ∧ r.2.sem = fun _ => 0) :=
  (θ_run defs _ _).mono (fun _ h => ⟨args_kept m h.1, h.2⟩) (run_main m ρ)

/-- The results after the run: what the grid points left in them. -/
def outFrames (c : Dev nD) : Buf (Elt F) ((c : Thread nD τ).loc main_v2_0) := (dats m 0 c).arrAt (4 : Fin 6) cfg0.N
def outExtra (c : Dev nD) : Buf (Elt F) ((c : Thread nD τ).loc main_v2_1) := (dats m 0 c).arrAt (5 : Fin 6) cfg0.N

/-- The run with its results named. -/
theorem run_value : θ_run defs (onTc (τ := τ) (main (F := F))) ⟨m, fun _ => 0, ρ⟩
    (fun r => (∀ c : Dev nD, r.2.mem ((c.tc : Thread nD τ).loc main_v2_0) = outFrames m c
      ∧ r.2.mem ((c.tc : Thread nD τ).loc main_v2_1) = outExtra m c) ∧ ArgsKept m r) :=
  (θ_run defs _ _).mono (fun _ h => ⟨fun c => ⟨(h.1 c).1 (4 : Fin 6), (h.1 c).1 (5 : Fin 6)⟩, args_kept m h.1⟩) (run_main m ρ)

end Cert.Tail.Tile

end
-- ==== Proof.TailNorm.lean ====
/-
  A row's normalization in extended reals, as the kernel's tile computes it and as the reference computes it.
-/
module

public import Idealize.ShloMosaic.PureOps.Ideal
public import Idealize.ShloMosaic.PureOps.Ideal.Laws
public import Idealize.ShloMosaic.Lib.IdealHost
public import Idealize.ShloMosaic.Lib.Pointwise
public import proofs.«01_k».proof.Proof.Gen.Tail.Skeleton
public import proofs.«01_k».proof.Proof.Gen.TailRefIdeal.Run

@[expose] public section

set_option maxRecDepth 16384

open Idealize.ShloMosaic
open Idealize.ShloMosaic.TcCoe
open Idealize.SL.Sem

namespace Cert.Norm

/-- A row's mean: its sum over the number of columns. -/
noncomputable def mean (x : Fin 1024 → EReal) : EReal := Ideal.div (∑ j, x j) (Ideal.ofBits .f32 0x44800000#32)

/-- The row less its mean. -/
noncomputable def centred (x : Fin 1024 → EReal) (d : Fin 1024) : EReal := x d - mean x

/-- The normalized row: centred, over its standard deviation, scaled by `g` and moved by `b`. -/
noncomputable def row (x g b : Fin 1024 → EReal) (d : Fin 1024) : EReal :=
  centred x d * (FloatOps.rsqrt (F := Ideal) (φ := .f32) (mean (fun j => centred x j * centred x j) + Ideal.ofBits .f32 0x3727C5AC#32) : EReal) * g d + b d

/-- The residual row that is normalized at the end: the scaled residual and the row added to it. -/
noncomputable def resid (x y : Fin 1024 → EReal) (d : Fin 1024) : EReal := Ideal.ofBits .f32 0x3FB504F3#32 * x d + y d

end Cert.Norm

namespace Cert.Tail.Value

open Cert.Tail Cert.Tail.Gen

attribute [local instance] Cert.Tail.Gen.facts

/-- The kernel's tile, element by element. -/
theorem pay_apply (x y : FVec Ideal S512x1024 .f32) (g b : FVec Ideal S1x1024 .f32) (r : Fin 512) (d : Fin 1024) :
    (k0_pay1 (F := Ideal) x y g b : S512x1024.Idx → EReal) (ix2 r d)
      = Norm.row (Norm.resid (fun j => x (ix2 r j)) (fun j => y (ix2 r j))) (fun j => g (ix2 0 j)) (fun j => b (ix2 0 j)) d := by
  pointwise [k0_pay1]
  rfl

end Cert.Tail.Value

namespace Cert.TailRefIdeal.Value

open Cert.TailRefIdeal Cert.TailRefIdeal.Gen

attribute [local instance] Cert.TailRefIdeal.Gen.facts

variable (x y : FVec Ideal S66048x1024 .f32) (g b : FVec Ideal S1024 .f32)

/-- The reference's stages: the residual, a row's mean, the centred rows, and the normalized rows. -/
noncomputable def residual : FVec Ideal S66048x1024 .f32 :=
  addf (mulf (broadcastInDim S66048x1024 ![] bcast_S_S66048x1024 (constant S_ .f32 0x3FB504F3#32)) x) y
noncomputable def average (z : FVec Ideal S66048x1024 .f32) : FVec Ideal S66048x1 .f32 :=
  Host.divf (broadcastInDim S66048x1 ![0] bcast_S66048_S66048x1_0 (Host.reduceAdd z (constant S_ .f32 0x00000000#32) reducesTo_S66048x1024_S66048_d1 h_S_))
    (broadcastInDim S66048x1 ![] bcast_S_S66048x1 (constant S_ .f32 0x44800000#32))
noncomputable def centre (z : FVec Ideal S66048x1024 .f32) : FVec Ideal S66048x1024 .f32 :=
  subf z (broadcastInDim S66048x1024 ![0, 1] bcast_S66048x1_S66048x1024_0_1 (average z))
noncomputable def normedOf (z : FVec Ideal S66048x1024 .f32) : FVec Ideal S66048x1024 .f32 :=
  addf (mulf (mulf (centre z) (broadcastInDim S66048x1024 ![0, 1] bcast_S66048x1_S66048x1024_0_1
      (Host.rsqrt (addf (average (mulf (centre z) (centre z))) (broadcastInDim S66048x1 ![] bcast_S_S66048x1 (constant S_ .f32 0x3727C5AC#32))))))
    (broadcastInDim S66048x1024 ![0, 1] bcast_S1x1024_S66048x1024_0_1 (broadcastInDim S1x1024 ![1] bcast_S1024_S1x1024_1 g)))
    (broadcastInDim S66048x1024 ![0, 1] bcast_S1x1024_S66048x1024_0_1 (broadcastInDim S1x1024 ![1] bcast_S1024_S1x1024_1 b))
noncomputable def normed : FVec Ideal S66048x1024 .f32 := normedOf g b (residual x y)

theorem average_apply (z : FVec Ideal S66048x1024 .f32) (n : Fin 66048) : average z (ix2 n 0) = Norm.mean fun j => z (ix2 n j) := by
  pointwise [average]
  rfl

theorem centre_apply (z : FVec Ideal S66048x1024 .f32) (n : Fin 66048) (d : Fin 1024) :
    centre z (ix2 n d) = Norm.centred (fun j => z (ix2 n j)) d := by
  pointwise [centre]
  exact congrArg (z (ix2 n d) - ·) (average_apply z n)

/-- The rows normalized, element by element. -/
theorem normedOf_apply (z : FVec Ideal S66048x1024 .f32) (n : Fin 66048) (d : Fin 1024) :
    normedOf g b z (ix2 n d) = Norm.row (fun j => z (ix2 n j)) (fun j => g (ix1 j)) (fun j => b (ix1 j)) d := by
  unfold normedOf
  have hc : ∀ j, centre z (ix2 n j) = Norm.centred (fun j => z (ix2 n j)) j := centre_apply z n
  generalize centre z = y at hc ⊢
  have hv : average (mulf y y) (ix2 n 0) = Norm.mean (fun j => y (ix2 n j) * y (ix2 n j)) := average_apply _ n
  generalize average (mulf y y) = v at hv ⊢
  pointwise
  rw [hv]
  simp only [hc]
  rfl

/-- The reference's rows, element by element. -/
theorem normed_apply (n : Fin 66048) (d : Fin 1024) :
    normed x y g b (ix2 n d)
      = Norm.row (Norm.resid (fun j => x (ix2 n j)) (fun j => y (ix2 n j))) (fun j => g (ix1 j)) (fun j => b (ix1 j)) d := by
  refine (normedOf_apply g b _ n d).trans (congrArg (fun r => Norm.row r _ _ d) (funext fun j => ?_))
  pointwise [residual]
  rfl

end Cert.TailRefIdeal.Value
-- ==== Proof.TailOut.lean ====
/-
  The final normalization's two results, element by element: the frames' rows after the first tile, and the first
  tile's rows.
-/
module

public import Idealize.ShloMosaic.Lib.Pipeline.ValueKit
public import proofs.«01_k».proof.Proof.TailRun
public import proofs.«01_k».proof.Proof.TailNorm

@[expose] public section

set_option maxRecDepth 16384

noncomputable section

open Idealize.ShloMosaic
open Idealize.ShloMosaic.TcCoe

namespace Cert.Tail.Value

open Cert.Tail Cert.Tail.Gen Cert.Tail.Tile

attribute [local instance] Cert.Tail.Gen.facts

variable (m : (ℓ : Loc nD τ sig) → Buf (Elt Ideal) ℓ) (c : Dev nD)

/-- The arguments as launched, as functions to the extended reals. -/
abbrev res : S66048x1024.Idx → EReal := m ((c : Thread nD τ).loc main_arg0)
abbrev add : S66048x1024.Idx → EReal := m ((c : Thread nD τ).loc main_arg1)
abbrev scale : S1024.Idx → EReal := m ((c : Thread nD τ).loc main_arg2)
abbrev shift : S1024.Idx → EReal := m ((c : Thread nD τ).loc main_arg3)

/-! ## What the host operations left in the arrays -/

theorem V_res : (V m c main_arg0 : S66048x1024.Idx → EReal) = res m c := V_of_not_written m c main_arg0 (by decide) (by decide)
theorem V_add : (V m c main_arg1 : S66048x1024.Idx → EReal) = add m c := V_of_not_written m c main_arg1 (by decide) (by decide)
theorem V_scale : (V m c main_v0 : S1x1024.Idx → EReal) = shapeCast S1x1024 (scale m c) shapeCasts_S1024_S1x1024 := by
  unfold_abbrev_sides
  after_results
  try rfl
theorem V_shift : (V m c main_v1 : S1x1024.Idx → EReal) = shapeCast S1x1024 (shift m c) shapeCasts_S1024_S1x1024 := by
  unfold_abbrev_sides
  after_results
  try rfl

/-! ## The blocks -/

/-- The row of the arguments that is row `r` of tile `t`. -/
def rowOf (t : Fin cfg0.N) (r : Fin 512) : Fin 66048 :=
  ⟨t.val * 512 + r.val, by have h : t.val < 129 := t.isLt; have := r.isLt; omega⟩

theorem word (t : Fin cfg0.N) : (BitVec.ofNat 32 (grid0.coords t 0).val).toNat = t.val := by
  have h : t.val < 129 := t.isLt
  rw [crd_val, BitVec.toNat_ofNat]; omega

theorem word_out : ∀ n : Fin 129, (Scalar.maxsi (Scalar.subi (BitVec.ofNat 32 n.val) 1#32) 0#32 : BitVec 32).toNat = n.val - 1 := by decide

theorem idx0 (t : Fin cfg0.N) : (cfg0.win (0 : Fin 6)).index t = ![t.val, 0] := by
  show ![(BitVec.ofNat 32 (grid0.coords t 0).val).toNat, _] = _
  rw [word]; rfl
theorem idx1 (t : Fin cfg0.N) : (cfg0.win (1 : Fin 6)).index t = ![t.val, 0] := by
  show ![(BitVec.ofNat 32 (grid0.coords t 0).val).toNat, _] = _
  rw [word]; rfl
theorem idx4 (t : Fin cfg0.N) : (cfg0.win (4 : Fin 6)).index t = ![t.val - 1, 0] := by
  show ![(Scalar.maxsi (Scalar.subi (BitVec.ofNat 32 (grid0.coords t 0).val) 1#32) 0#32 : BitVec 32).toNat, _] = _
  rw [crd_val, word_out ⟨t.val, t.isLt⟩]; rfl
theorem idx5 (t : Fin cfg0.N) : (cfg0.win (5 : Fin 6)).index t = ![0, 0] := rfl

theorem blk0 (t : Fin cfg0.N) (r : Fin 512) (j : Fin 1024) :
    (iblk m c (0 : Fin 6) t : S512x1024.Idx → EReal) (ix2 r j) = res m c (ix2 (rowOf t r) j) := by
  refine (congrFun (V_res m c) _).trans (congrArg (res m c) (funext fun a => Fin.ext ?_))
  refine (Pipeline.Window.rect_emb_val (cfg0.win (0 : Fin 6)) t _ _).trans ?_
  rw [idx0]
  fin_cases a <;> simp [rowOf]
theorem blk1 (t : Fin cfg0.N) (r : Fin 512) (j : Fin 1024) :
    (iblk m c (1 : Fin 6) t : S512x1024.Idx → EReal) (ix2 r j) = add m c (ix2 (rowOf t r) j) := by
  refine (congrFun (V_add m c) _).trans (congrArg (add m c) (funext fun a => Fin.ext ?_))
  refine (Pipeline.Window.rect_emb_val (cfg0.win (1 : Fin 6)) t _ _).trans ?_
  rw [idx1]
  fin_cases a <;> simp [rowOf]
theorem blk2 (t : Fin cfg0.N) (j : Fin 1024) :
    (iblk m c (2 : Fin 6) t : S1x1024.Idx → EReal) (ix2 0 j) = scale m c (ix1 j) := by
  refine (congrFun (V_scale m c) _).trans ?_
  rw [show ((cfg0.win (2 : Fin 6)).blk t).view.emb (ix2 0 j) = (ix2 0 j : S1x1024.Idx) from
    funext fun a => Fin.ext ((Pipeline.Window.rect_emb_val (cfg0.win (2 : Fin 6)) t _ _).trans (by
      rw [show (cfg0.win (2 : Fin 6)).index t = ![0, 0] from rfl]
      fin_cases a <;> simp))]
  pointwise
theorem blk3 (t : Fin cfg0.N) (j : Fin 1024) :
    (iblk m c (3 : Fin 6) t : S1x1024.Idx → EReal) (ix2 0 j) = shift m c (ix1 j) := by
  refine (congrFun (V_shift m c) _).trans ?_
  rw [show ((cfg0.win (3 : Fin 6)).blk t).view.emb (ix2 0 j) = (ix2 0 j : S1x1024.Idx) from
    funext fun a => Fin.ext ((Pipeline.Window.rect_emb_val (cfg0.win (3 : Fin 6)) t _ _).trans (by
      rw [show (cfg0.win (3 : Fin 6)).index t = ![0, 0] from rfl]
      fin_cases a <;> simp))]
  pointwise

/-! ## The results -/

/-- The normalized rows of the arguments. -/
def result (n : Fin 66048) (d : Fin 1024) : EReal :=
  Norm.row (Norm.resid (fun j => res m c (ix2 n j)) (fun j => add m c (ix2 n j))) (fun j => scale m c (ix1 j)) (fun j => shift m c (ix1 j)) d

theorem tileOut_apply (t : Fin cfg0.N) (r : Fin 512) (d : Fin 1024) :
    (tileOut m c t : S512x1024.Idx → EReal) (ix2 r d) = result m c (rowOf t r) d := by
  refine (pay_apply _ _ _ _ r d).trans ?_
  simp only [blk0 m c t, blk1 m c t, blk2 m c t, blk3 m c t]
  rfl

/-- The first result's tile is written back at every point after the first. -/
theorem flush4 (t : Fin cfg0.N) : (cfg0.win (4 : Fin 6)).flush t = decide (t.val ≠ 0) := by
  have hN : t.val < 129 := t.isLt
  unfold Pipeline.Window.flush
  rw [show (cfg0.win (4 : Fin 6)).isOut = true from rfl, Bool.true_and]
  by_cases h0 : t.val = 0
  · rw [decide_eq_false (not_not.mpr h0), Bool.or_eq_false_iff]
    refine ⟨decide_eq_false (by rw [h0]; decide), decide_eq_false ?_⟩
    rintro ⟨hl, hx⟩
    rw [idx4, idx4] at hx
    exact hx (by simp [h0])
  · rw [decide_eq_true h0]
    by_cases h : t.val + 1 = cfg0.N
    · rw [decide_eq_true h, Bool.true_or]
    · refine (Bool.or_eq_true _ _).mpr (.inr (decide_eq_true ⟨lt_of_le_of_ne (Nat.succ_le_of_lt t.isLt) h, fun hx => ?_⟩))
      rw [idx4, idx4] at hx
      have h1 : t.val + 1 - 1 = t.val - 1 := congrFun hx (0 : Fin 2)
      omega

/-- The frames: row `n` of the result is row `512 + n` of the normalized arguments. -/
theorem frames_eq : (outFrames m c : S65536x1024.Idx → EReal)
    = fun i => result m c ⟨512 + (i 0).val, by have h : (i 0).val < 65536 := (i 0).isLt; omega⟩ (i 1) := by
  refine (dats m 0 c).arrAt_eq_of_emb (4 : Fin 6) (fun i => result m c ⟨512 + (i 0).val, by have h : (i 0).val < 65536 := (i 0).isLt; omega⟩ (i 1)) (fun t ht y => ?_) (fun i => ?_)
  · rw [flush4] at ht
    have h0 : t.val ≠ 0 := of_decide_eq_true ht
    have hy : (y : S512x1024.Idx) = ix2 (y 0) (y 1) := (eq_ix2 (y : S512x1024.Idx))
    have e0 : ((((cfg0.win (4 : Fin 6)).blk t).view.emb y : S65536x1024.Idx) 0).val = (t.val - 1) * 512 + (y 0).val :=
      (Pipeline.Window.rect_emb_val (cfg0.win (4 : Fin 6)) t _ _).trans (by rw [idx4]; simp)
    have e1 : (((cfg0.win (4 : Fin 6)).blk t).view.emb y : S65536x1024.Idx) 1 = y 1 := Fin.ext
      ((Pipeline.Window.rect_emb_val (cfg0.win (4 : Fin 6)) t _ _).trans (by rw [idx4]; simp))
    refine Eq.trans (b := result m c (rowOf t (y 0)) (y 1)) ?_ ?_
    · refine Eq.trans ?_ (tileOut_apply m c t (y 0) (y 1))
      exact congrArg (tileOut m c t) hy
    · refine congrArg₂ (result m c) (Fin.ext ?_) e1.symm
      show t.val * 512 + (y 0).val = 512 + _
      rw [e0]; omega
  · have hi : ((i : S65536x1024.Idx) 0).val < 65536 := ((i : S65536x1024.Idx) 0).isLt
    have hj : ((i : S65536x1024.Idx) 1).val < 1024 := ((i : S65536x1024.Idx) 1).isLt
    have hN : cfg0.N = 129 := by rfl
    refine ⟨⟨((i : S65536x1024.Idx) 0).val / 512 + 1, by rw [hN]; omega⟩, by rw [flush4]; exact decide_eq_true (Nat.succ_ne_zero _), ?_⟩
    refine (Pipeline.Window.emb_mem_blk_iff (cfg0.win (4 : Fin 6)) _ i rfl).mpr fun a => ?_
    rw [idx4]
    fin_cases a
    · show ((i 0).val / 512 + 1 - 1) * 512 ≤ (i 0).val ∧ (i 0).val < ((i 0).val / 512 + 1 - 1) * 512 + 512
      omega
    · show 0 * 1024 ≤ (i 1).val ∧ (i 1).val < 0 * 1024 + 1024
      have hj' : (i 1).val < 1024 := hj
      omega

/-- The extra rows: the first tile of the normalized arguments. -/
theorem extra_eq : (outExtra m c : S512x1024.Idx → EReal)
    = fun i => result m c ⟨(i 0).val, by have h : (i 0).val < 512 := (i 0).isLt; omega⟩ (i 1) := by
  refine (dats m 0 c).arrAt_eq_of_emb (5 : Fin 6) (fun i => result m c ⟨(i 0).val, by have h : (i 0).val < 512 := (i 0).isLt; omega⟩ (i 1)) (fun t ht y => ?_) (fun i => ?_)
  · have hy : (y : S512x1024.Idx) = ix2 (y 0) (y 1) := (eq_ix2 (y : S512x1024.Idx))
    have e0 : ((((cfg0.win (5 : Fin 6)).blk t).view.emb y : S512x1024.Idx) 0).val = (y 0).val :=
      (Pipeline.Window.rect_emb_val (cfg0.win (5 : Fin 6)) t _ _).trans (by rw [idx5]; simp)
    have e1 : (((cfg0.win (5 : Fin 6)).blk t).view.emb y : S512x1024.Idx) 1 = y 1 := Fin.ext
      ((Pipeline.Window.rect_emb_val (cfg0.win (5 : Fin 6)) t _ _).trans (by rw [idx5]; simp))
    refine Eq.trans (b := result m c (rowOf first (y 0)) (y 1)) ?_ ?_
    · refine Eq.trans ?_ (tileOut_apply m c first (y 0) (y 1))
      exact congrArg (tileOut m c first) hy
    · refine congrArg₂ (result m c) (Fin.ext ?_) e1.symm
      show 0 * 512 + (y 0).val = _
      rw [e0]; omega
  · have hi : ((i : S512x1024.Idx) 0).val < 512 := ((i : S512x1024.Idx) 0).isLt
    have hj : ((i : S512x1024.Idx) 1).val < 1024 := ((i : S512x1024.Idx) 1).isLt
    refine ⟨⟨128, by decide⟩, by rw [flush5]; rfl, ?_⟩
    refine (Pipeline.Window.emb_mem_blk_iff (cfg0.win (5 : Fin 6)) _ i rfl).mpr fun a => ?_
    rw [idx5]
    fin_cases a
    · show 0 * 512 ≤ (i 0).val ∧ (i 0).val < 0 * 512 + 512
      have hi' : (i 0).val < 512 := hi
      omega
    · show 0 * 1024 ≤ (i 1).val ∧ (i 1).val < 0 * 1024 + 1024
      have hj' : (i 1).val < 1024 := hj
      omega

end Cert.Tail.Value

end
-- ==== Proof.TailAlgebraic.lean ====
/-
  The final normalization and its reference compute the same two arrays: both have been read as the normalized rows of
  the arguments, and the two launches hold the same arguments.
-/
module

public import proofs.«01_k».proof.Proof.TailOut

@[expose] public section

set_option maxRecDepth 16384

noncomputable section

open Idealize.ShloMosaic
open Idealize.ShloMosaic.TcCoe
open Idealize.SL.Sem

namespace Cert.TailAlgebraic

attribute [local instance] Cert.Tail.Gen.facts Cert.TailRefIdeal.Gen.facts

variable (m : (ℓ : Loc Cert.Tail.nD Cert.Tail.τ Cert.Tail.sig) → Buf (Elt Ideal) ℓ)
  (m' : (ℓ : Loc Cert.TailRefIdeal.nD Cert.TailRefIdeal.τ Cert.TailRefIdeal.sig) → Buf (Elt Ideal) ℓ)

/-- The reference is launched with the kernel's arguments. -/
def Agree : Prop := ∀ c : Dev Cert.Tail.nD,
  m' ((c.tc : Thread Cert.TailRefIdeal.nD Cert.TailRefIdeal.τ).loc Cert.TailRefIdeal.main_arg0) = m ((c.tc : Thread Cert.Tail.nD Cert.Tail.τ).loc Cert.Tail.main_arg0)
  ∧ m' ((c.tc : Thread Cert.TailRefIdeal.nD Cert.TailRefIdeal.τ).loc Cert.TailRefIdeal.main_arg1) = m ((c.tc : Thread Cert.Tail.nD Cert.Tail.τ).loc Cert.Tail.main_arg1)
  ∧ m' ((c.tc : Thread Cert.TailRefIdeal.nD Cert.TailRefIdeal.τ).loc Cert.TailRefIdeal.main_arg2) = m ((c.tc : Thread Cert.Tail.nD Cert.Tail.τ).loc Cert.Tail.main_arg2)
  ∧ m' ((c.tc : Thread Cert.TailRefIdeal.nD Cert.TailRefIdeal.τ).loc Cert.TailRefIdeal.main_arg3) = m ((c.tc : Thread Cert.Tail.nD Cert.Tail.τ).loc Cert.Tail.main_arg3)

open Cert.TailRefIdeal in
/-- The reference's rows of the kernel's arguments are the kernel's. -/
theorem normed_eq (c : Dev Cert.Tail.nD) (n : Fin 66048) (d : Fin 1024) :
    Value.normed (Cert.Tail.Value.res m c) (Cert.Tail.Value.add m c) (Cert.Tail.Value.scale m c) (Cert.Tail.Value.shift m c) (ix2 n d)
      = Cert.Tail.Value.result m c n d := Value.normed_apply _ _ _ _ n d

open Cert.TailRefIdeal in
/-- The slice of the frames' rows. -/
theorem frames_out (c : Dev Cert.Tail.nD) (h : S66048x1024.Slices ![512, 0] S65536x1024) :
    (extractStridedSlice S65536x1024 ![512, 0] (Value.normed (Cert.Tail.Value.res m c) (Cert.Tail.Value.add m c) (Cert.Tail.Value.scale m c) (Cert.Tail.Value.shift m c)) h
      : S65536x1024.Idx → EReal) = Cert.Tail.Tile.outFrames m c := by
  rw [Cert.Tail.Value.frames_eq]
  funext i
  obtain ⟨n, d, rfl⟩ : ∃ (n : Fin 65536) (d : Fin 1024), i = ix2 n d := ⟨i 0, i 1, eq_ix2 i⟩
  refine Eq.trans ?_ (normed_eq m c ⟨512 + n.val, by omega⟩ d)
  generalize Value.normed _ _ _ _ = z
  pointwise

open Cert.TailRefIdeal in
/-- The slice of the first rows. -/
theorem extra_out (c : Dev Cert.Tail.nD) (h : S66048x1024.Slices ![0, 0] S512x1024) :
    (extractStridedSlice S512x1024 ![0, 0] (Value.normed (Cert.Tail.Value.res m c) (Cert.Tail.Value.add m c) (Cert.Tail.Value.scale m c) (Cert.Tail.Value.shift m c)) h
      : S512x1024.Idx → EReal) = Cert.Tail.Tile.outExtra m c := by
  rw [Cert.Tail.Value.extra_eq]
  funext i
  obtain ⟨n, d, rfl⟩ : ∃ (n : Fin 512) (d : Fin 1024), i = ix2 n d := ⟨i 0, i 1, eq_ix2 i⟩
  refine Eq.trans ?_ (normed_eq m c ⟨n.val, by omega⟩ d)
  generalize Value.normed _ _ _ _ = z
  pointwise

/-- THE REFERENCE'S RUN from the kernel's arguments: its results are the kernel's arrays. -/
theorem ref_run (ha : Agree m m') (ρ : Dev Cert.TailRefIdeal.nD → PrngReg) :
    θ_run Cert.TailRefIdeal.defs (onTc (τ := Cert.TailRefIdeal.τ) (Cert.TailRefIdeal.main (F := Ideal))) ⟨m', fun _ => 0, ρ⟩ fun r => ∀ c : Dev Cert.TailRefIdeal.nD,
      r.2.mem ((c.tc : Thread Cert.TailRefIdeal.nD Cert.TailRefIdeal.τ).loc Cert.TailRefIdeal.main_v27) = Cert.Tail.Tile.outFrames m c
      ∧ r.2.mem ((c.tc : Thread Cert.TailRefIdeal.nD Cert.TailRefIdeal.τ).loc Cert.TailRefIdeal.main_v28) = Cert.Tail.Tile.outExtra m c
      ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3) := by
  refine (θ_run Cert.TailRefIdeal.defs _ _).mono (fun r hr c => ⟨(hr c).1.trans ?_, (hr c).2.1.trans ?_, (hr c).2.2⟩) (Cert.TailRefIdeal.Value.run m' ρ)
  · obtain ⟨h0, h1, h2, h3⟩ := ha c
    rw [h0, h1, h2, h3]
    exact frames_out m c _
  · obtain ⟨h0, h1, h2, h3⟩ := ha c
    rw [h0, h1, h2, h3]
    exact extra_out m c _

end Cert.TailAlgebraic

end
-- ==== Proof.ProjSame.lean ====
module

public import proofs.«01_k».proof.Proof.Gen.Proj.Launch
public import proofs.«01_k».proof.Proof.Gen.ProjIdeal.Launch

/-! The idealized first-projection program is the program as printed: no rule was offered, so the two texts are one, at
every number system. What is proved of the one is read here of the other. -/

@[expose] public section

set_option maxRecDepth 100000

noncomputable section

namespace Cert.ProjSame

open Idealize.ShloMosaic Idealize.ShloMosaic.TcCoe Idealize.SL.Sem

variable {F : FTy → Type} [FloatOps F]

attribute [local instance] Cert.Proj.Gen.facts Cert.ProjIdeal.Gen.facts

set_option maxHeartbeats 1000000 in
theorem body_eq : @Cert.ProjIdeal.cc0_k1_first F _ _ = @Cert.Proj.cc0_k1_first F _ _ := by
  unfold Cert.ProjIdeal.cc0_k1_first Cert.Proj.cc0_k1_first
  rfl

set_option maxHeartbeats 1000000 in
theorem main_eq : @Cert.ProjIdeal.main F _ _ = @Cert.Proj.main F _ _ := by
  unfold Cert.ProjIdeal.main Cert.Proj.main
  rfl

set_option maxHeartbeats 1000000 in
/-- The bodies the pipelines call. -/
theorem defs₀_eq : @Cert.ProjIdeal.defs₀ F _ _ = @Cert.Proj.defs₀ F _ _ := by
  unfold Cert.ProjIdeal.defs₀ Cert.Proj.defs₀
  refine congrArg Defs.onTc (funext fun ℓ => funext fun a => ?_)
  rcases ℓ with ⟨_ | n, h⟩
  · obtain ⟨t, s⟩ := a
    dsimp only
    rw [body_eq]
    rfl
  · exact absurd h (Nat.not_lt.2 (Nat.le_add_left _ _))

/-- The programs' pipelines with their bodies. -/
theorem defs_eq : @Cert.ProjIdeal.defs F _ _ = @Cert.Proj.defs F _ _ := by
  unfold Cert.ProjIdeal.defs Cert.Proj.defs
  exact congrArg (Pipeline.defs Cert.Proj.pcfgs) defs₀_eq

/-- So the two programs have the same runs. -/
theorem run_eq (s : MemSt Cert.Proj.nD Cert.Proj.τ Cert.Proj.sig (Elt F)) :
    θ_run (Cert.ProjIdeal.defs (F := F)) (onTc (τ := Cert.ProjIdeal.τ) (Cert.ProjIdeal.main (F := F))) s
      = θ_run (Cert.Proj.defs (F := F)) (onTc (τ := Cert.Proj.τ) (Cert.Proj.main (F := F))) s := by
  exact congrArg₂ (fun d p => θ_run d (onTc (τ := Cert.Proj.τ) p) s) defs_eq main_eq

end Cert.ProjSame

end
-- ==== Proof.ProjBody.lean ====
module

public import proofs.«01_k».proof.Proof.Gen.Proj.Skeleton
public import proofs.«01_k».proof.Proof.Gen.Proj.Launch
public import proofs.«01_k».proof.Proof.Whole
public import Idealize.ShloMosaic.Lib.Pipeline.Quiescent
public import Idealize.ShloMosaic.Lib.Claim
public import Idealize.ShloMosaic.Lib.Pipeline.Kit
public import Idealize.ShloMosaic.Lib.Pipeline.Frame
public import Idealize.ShloMosaic.Lib.Ring
public import Idealize.ShloMosaic.Adequacy
public import Idealize.ShloMosaic.Init

/-! One grid point of the first projection. The rows of the point are normalized and multiplied by the four quarters of
the weights' columns. At the first point the rows are the extra ones and the keys and values are also stored in two
buffers of their own; at a later point the rows are the frames' and those two buffers are not touched. Stated for every
number system `F`. -/

@[expose] public section

set_option maxRecDepth 16384
set_option Elab.async false

noncomputable section

namespace Cert.Proj.Tile

open Cert.Proj Cert.Proj.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x2048 .bf16) (harg5 : arg5.IsWhole)
  (arg6 : Memref sig .tc .vmem S512x1024 .f32) (harg6 : arg6.IsWhole)
  (arg7 : Memref sig .tc .vmem S512x512 .bf16) (harg7 : arg7.IsWhole)
  (arg8 : Memref sig .tc .vmem S512x512 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x512x4x128 .f32) (harg11 : arg11.IsWhole)
  (arg12 : Memref sig .tc .vmem S1x512x4x128 .f32) (harg12 : arg12.IsWhole)
  (arg13 : Memref sig .tc .vmem S512x512 .f32) (harg13 : arg13.IsWhole)
  (arg14 : Memref sig .tc .vmem S512x512 .f32) (harg14 : arg14.IsWhole)
  (x0 x1 : S512x1024.Idx → Elt F .f32) (g b : S1x1024.Idx → Elt F .f32) (w : S1024x2048.Idx → Elt F .bf16) (x : S512x1024.Idx → Elt F .f32)

/-! The quarters of the weights' columns: for the queries, the keys, the values and the mixer. -/

def wQ : S1024x512.Idx → Elt F .bf16 := View.ld w (Rect.unit (s := S1024x2048) ![0, 0] S1024x512.size inb_S1024x2048_S1024x512_0_0)
def wK : S1024x512.Idx → Elt F .bf16 := View.ld w (Rect.unit (s := S1024x2048) ![0, 512] S1024x512.size inb_S1024x2048_S1024x512_0_512)
def wV : S1024x512.Idx → Elt F .bf16 := View.ld w (Rect.unit (s := S1024x2048) ![0, 1024] S1024x512.size inb_S1024x2048_S1024x512_0_1024)
def wU : S1024x512.Idx → Elt F .bf16 := View.ld w (Rect.unit (s := S1024x2048) ![0, 1536] S1024x512.size inb_S1024x2048_S1024x512_0_1536)

/-! What a point computes of its rows `x`: the normalized rows, the queries, the mixer's input, the keys and values in
two formats and in two shapes. -/

def tH : S512x1024.Idx → Elt F .f32 := k0_pay15 x g b
def tQ : S512x512.Idx → Elt F .bf16 := k0_pay17 x g b (wQ w)
def tU : S512x512.Idx → Elt F .f32 := k0_pay3 (k0_pay16 x g b) (wU w)
def tKb : S512x512.Idx → Elt F .bf16 := k0_pay4 (k0_pay16 x g b) (k0_pay18 (wK w)) (constant S512x512 .f32 0x00000000#32)
def tVb : S512x512.Idx → Elt F .bf16 := k0_pay5 (k0_pay16 x g b) (wV w)
def tK : S1x512x4x128.Idx → Elt F .f32 := k0_pay6 (k0_pay16 x g b) (k0_pay18 (wK w)) (constant S512x512 .f32 0x00000000#32)
def tV : S1x512x4x128.Idx → Elt F .f32 := k0_pay7 (k0_pay16 x g b) (wV w)
def tKx : S512x512.Idx → Elt F .f32 := k0_pay1 (k0_pay16 x g b) (k0_pay18 (wK w)) (constant S512x512 .f32 0x00000000#32)
def tVx : S512x512.Idx → Elt F .f32 := k0_pay2 (k0_pay16 x g b) (wV w)

/-- The input buffers, at their contents. -/
def inputs : sProp 𝕄 :=
  iprop((arg1.view.loc (c : Thread nD τ) ↦[arg1.view.set]{fullShare} arg1.view.rep x0)
    ∗ (arg2.view.loc (c : Thread nD τ) ↦[arg2.view.set]{fullShare} arg2.view.rep x1)
    ∗ (arg3.view.loc (c : Thread nD τ) ↦[arg3.view.set]{fullShare} arg3.view.rep g)
    ∗ (arg4.view.loc (c : Thread nD τ) ↦[arg4.view.set]{fullShare} arg4.view.rep b)
    ∗ (arg5.view.loc (c : Thread nD τ) ↦[arg5.view.set]{fullShare} arg5.view.rep w))

/-- The seven result buffers of every point, with any contents. -/
def free : sProp 𝕄 :=
  iprop((∃ d, owns (c : Thread nD τ) arg6 fullShare d)
    ∗ (∃ d, owns (c : Thread nD τ) arg7 fullShare d)
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d))

/-- The same buffers, at what the point computes. -/
def full : sProp 𝕄 :=
  iprop(owns (c : Thread nD τ) arg6 fullShare (tH g b x)
    ∗ owns (c : Thread nD τ) arg7 fullShare (tQ g b w x)
    ∗ owns (c : Thread nD τ) arg8 fullShare (tU g b w x)
    ∗ owns (c : Thread nD τ) arg9 fullShare (tKb g b w x)
    ∗ owns (c : Thread nD τ) arg10 fullShare (tVb g b w x)
    ∗ owns (c : Thread nD τ) arg11 fullShare (tK g b w x)
    ∗ owns (c : Thread nD τ) arg12 fullShare (tV g b w x))

set_option maxHeartbeats 8000000 in
/-- The first grid point. -/
theorem run_first (h1 : k0_cond1 i = 1#1) (h2 : ¬ k0_cond2 i = 1#1) (K : PUnit → sProp 𝕄) :
    iprop(inputs c arg1 arg2 arg3 arg4 arg5 x0 x1 g b w ∗ free (F := F) c arg6 arg7 arg8 arg9 arg10 arg11 arg12 ∗ (∃ d, owns (c : Thread nD τ) arg13 fullShare d) ∗ (∃ d, owns (c : Thread nD τ) arg14 fullShare d)
      ∗ (iprop(inputs c arg1 arg2 arg3 arg4 arg5 x0 x1 g b w ∗ full c arg6 arg7 arg8 arg9 arg10 arg11 arg12 g b w x0 ∗ owns (c : Thread nD τ) arg13 fullShare (tKx g b w x0) ∗ owns (c : Thread nD τ) arg14 fullShare (tVx g b w x0)) -∗ K ⟨⟩))
      ⊢ wp frame (wpE (defs₀ (F := F)) Variants.none c none) Set.univ (cc0_k1_first i arg1 harg1 arg2 harg2 arg3 harg3 arg4 harg4 arg5 harg5 arg6 harg6 arg7 harg7 arg8 harg8 arg9 harg9 arg10 harg10 arg11 harg11 arg12 harg12 arg13 harg13 arg14 harg14) K := by
  unfold inputs free full owns
  rw [cc0_k1_first_eq_skeleton]; unfold cc0_k1_first_skel
  rw [k0_part1_eq_skeleton]; unfold k0_part1_skel
  iintro ⟨⟨H1, H2, H3, H4, H5⟩, ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, ⟨%d13, %f13, -, H13⟩, ⟨%d14, %f14, -, H14⟩, Hk⟩
  sl_exec! (disch := first | exact h1 | exact h2)
  sl_step
  iapply Hk
  isplitl [H1 H2 H3 H4 H5]
  · isplitl [H1]; · iexact H1
    isplitl [H2]; · iexact H2
    isplitl [H3]; · iexact H3
    isplitl [H4]; · iexact H4
    iexact H5
  isplitl [H6 H7 H8 H9 H10 H11 H12]
  · isplitl [H6]
    · iexists _; isplitr; swap
      · iexact H6
      · ipureintro
        sl_unfold_words
        rw [Cert.Whole.stored _ _ (by funext a; fin_cases a <;> rfl)]
        simp only [Cert.Whole.load2]
        rfl
    isplitl [H7]
    · iexists _; isplitr; swap
      · iexact H7
      · ipureintro
        sl_unfold_words
        rw [Cert.Whole.stored _ _ (by funext a; fin_cases a <;> rfl)]
        simp only [Cert.Whole.load2]
        simp only [Cert.Whole.loadPart]
        rfl
    isplitl [H8]
    · iexists _; isplitr; swap
      · iexact H8
      · ipureintro
        sl_unfold_words
        rw [Cert.Whole.stored _ _ (by funext a; fin_cases a <;> rfl)]
        simp only [Cert.Whole.load2]
        simp only [Cert.Whole.loadPart]
        rfl
    isplitl [H9]
    · iexists _; isplitr; swap
      · iexact H9
      · ipureintro
        sl_unfold_words
        rw [Cert.Whole.stored _ _ (by funext a; fin_cases a <;> rfl)]
        simp only [Cert.Whole.load2]
        simp only [Cert.Whole.loadPart]
        rfl
    isplitl [H10]
    · iexists _; isplitr; swap
      · iexact H10
      · ipureintro
        sl_unfold_words
        rw [Cert.Whole.stored _ _ (by funext a; fin_cases a <;> rfl)]
        simp only [Cert.Whole.load2]
        simp only [Cert.Whole.loadPart]
        rfl
    isplitl [H11]
    · iexists _; isplitr; swap
      · iexact H11
      · ipureintro
        sl_unfold_words
        rw [Cert.Whole.stored _ _ (by funext a; fin_cases a <;> rfl)]
        simp only [Cert.Whole.load2]
        simp only [Cert.Whole.loadPart]
        rfl
    iexists _; isplitr; swap
    · iexact H12
    · ipureintro
      sl_unfold_words
      rw [Cert.Whole.stored _ _ (by funext a; fin_cases a <;> rfl)]
      simp only [Cert.Whole.load2]
      simp only [Cert.Whole.loadPart]
      rfl
  isplitl [H13]
  · iexists _; isplitr; swap
    · iexact H13
    · ipureintro
      sl_unfold_words
      rw [Cert.Whole.stored _ _ (by funext a; fin_cases a <;> rfl)]
      simp only [Cert.Whole.load2]
      simp only [Cert.Whole.loadPart]
      rfl
  iexists _; isplitr; swap
  · iexact H14
  · ipureintro
    sl_unfold_words
    rw [Cert.Whole.stored _ _ (by funext a; fin_cases a <;> rfl)]
    simp only [Cert.Whole.load2]
    simp only [Cert.Whole.loadPart]
    rfl

set_option maxHeartbeats 8000000 in
/-- A later grid point. -/
theorem run_later (h1 : ¬ k0_cond1 i = 1#1) (h2 : k0_cond2 i = 1#1) (K : PUnit → sProp 𝕄) :
    iprop(inputs c arg1 arg2 arg3 arg4 arg5 x0 x1 g b w ∗ free (F := F) c arg6 arg7 arg8 arg9 arg10 arg11 arg12
      ∗ (iprop(inputs c arg1 arg2 arg3 arg4 arg5 x0 x1 g b w ∗ full c arg6 arg7 arg8 arg9 arg10 arg11 arg12 g b w x1) -∗ K ⟨⟩))
      ⊢ wp frame (wpE (defs₀ (F := F)) Variants.none c none) Set.univ (cc0_k1_first i arg1 harg1 arg2 harg2 arg3 harg3 arg4 harg4 arg5 harg5 arg6 harg6 arg7 harg7 arg8 harg8 arg9 harg9 arg10 harg10 arg11 harg11 arg12 harg12 arg13 harg13 arg14 harg14) K := by
  unfold inputs free full owns
  rw [cc0_k1_first_eq_skeleton]; unfold cc0_k1_first_skel
  rw [k0_part2_eq_skeleton]; unfold k0_part2_skel
  iintro ⟨⟨H1, H2, H3, H4, H5⟩, ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  sl_exec! (disch := first | exact h1 | exact h2)
  sl_step
  iapply Hk
  isplitl [H1 H2 H3 H4 H5]
  · isplitl [H1]; · iexact H1
    isplitl [H2]; · iexact H2
    isplitl [H3]; · iexact H3
    isplitl [H4]; · iexact H4
    iexact H5
  isplitl [H6]
  · iexists _; isplitr; swap
    · iexact H6
    · ipureintro
      sl_unfold_words
      rw [Cert.Whole.stored _ _ (by funext a; fin_cases a <;> rfl)]
      simp only [Cert.Whole.load2]
      rfl
  isplitl [H7]
  · iexists _; isplitr; swap
    · iexact H7
    · ipureintro
      sl_unfold_words
      rw [Cert.Whole.stored _ _ (by funext a; fin_cases a <;> rfl)]
      simp only [Cert.Whole.load2]
      simp only [Cert.Whole.loadPart]
      rfl
  isplitl [H8]
  · iexists _; isplitr; swap
    · iexact H8
    · ipureintro
      sl_unfold_words
      rw [Cert.Whole.stored _ _ (by funext a; fin_cases a <;> rfl)]
      simp only [Cert.Whole.load2]
      simp only [Cert.Whole.loadPart]
      rfl
  isplitl [H9]
  · iexists _; isplitr; swap
    · iexact H9
    · ipureintro
      sl_unfold_words
      rw [Cert.Whole.stored _ _ (by funext a; fin_cases a <;> rfl)]
      simp only [Cert.Whole.load2]
      simp only [Cert.Whole.loadPart]
      rfl
  isplitl [H10]
  · iexists _; isplitr; swap
    · iexact H10
    · ipureintro
      sl_unfold_words
      rw [Cert.Whole.stored _ _ (by funext a; fin_cases a <;> rfl)]
      simp only [Cert.Whole.load2]
      simp only [Cert.Whole.loadPart]
      rfl
  isplitl [H11]
  · iexists _; isplitr; swap
    · iexact H11
    · ipureintro
      sl_unfold_words
      rw [Cert.Whole.stored _ _ (by funext a; fin_cases a <;> rfl)]
      simp only [Cert.Whole.load2]
      simp only [Cert.Whole.loadPart]
      rfl
  iexists _; isplitr; swap
  · iexact H12
  · ipureintro
    sl_unfold_words
    rw [Cert.Whole.stored _ _ (by funext a; fin_cases a <;> rfl)]
    simp only [Cert.Whole.load2]
    simp only [Cert.Whole.loadPart]
    rfl

end Cert.Proj.Tile

end
-- ==== Proof.ProjRun.lean ====
module

public import proofs.«01_k».proof.Proof.ProjBody

/-! The run of the first projection. From any memory the kernel runs to the end, every argument keeps its contents, and
each result is what the grid points left in it, block by block. The extra rows' keys and values are stored at the first
grid point only, are kept through the later ones and are written back after the last. Stated for every number system
`F`. -/

@[expose] public section

set_option maxRecDepth 16384
set_option Elab.async false

noncomputable section

namespace Cert.Proj.Tile

open Cert.Proj Cert.Proj.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- Point `t`'s coordinate is `t`. -/
theorem crd_val (t : Fin cfg0.N) : (grid0.coords t 0).val = t.val := by
  have h : t.val < 129 := t.isLt
  refine (Pipeline.Grid.coords_val (G := grid0) t 0 (S := 1) (B := 129) (by decide) (by decide)).trans ?_
  omega

/-- The body's first condition holds at the first point only. -/
theorem cond_iff (t : Fin cfg0.N) : k0_cond1 (grid0.coords t) = 1#1 ↔ t.val = 0 := by
  have h : t.val < 129 := t.isLt
  have hc : k0_cond1 (grid0.coords t) = Scalar.cmpi .ne (Scalar.extui (Scalar.cmpi .eq (BitVec.ofNat 32 t.val) 0#32) : BitVec 32) 0#32 := by
    unfold k0_cond1; rw [crd_val]
  rw [hc]
  by_cases h0 : t.val = 0
  · rw [h0]; exact iff_of_true (by decide) rfl
  · refine iff_of_false ?_ h0
    have hb : (BitVec.ofNat 32 t.val == 0#32) = false := beq_eq_false_iff_ne.mpr fun e => h0 (by
      have := congrArg BitVec.toNat e
      rw [BitVec.toNat_ofNat, BitVec.toNat_ofNat, Nat.mod_eq_of_lt (by omega), Nat.mod_eq_of_lt (by decide)] at this
      exact this)
    simp [Scalar.cmpi, Scalar.extui, IntOp.cmpi, hb]

/-- The body's second condition holds at the later points. -/
theorem cond2_iff (t : Fin cfg0.N) : k0_cond2 (grid0.coords t) = 1#1 ↔ t.val ≠ 0 := by
  have h : t.val < 129 := t.isLt
  have hc : k0_cond2 (grid0.coords t) = Scalar.cmpi .ne (Scalar.extui (Scalar.cmpi .sgt (BitVec.ofNat 32 t.val) 0#32) : BitVec 32) 0#32 := by
    unfold k0_cond2; rw [crd_val]
  rw [hc]
  exact (by decide : ∀ n : Fin 129, Scalar.cmpi .ne (Scalar.extui (Scalar.cmpi .sgt (BitVec.ofNat 32 n.val) 0#32) : BitVec 32) 0#32 = 1#1 ↔ n.val ≠ 0) ⟨t.val, h⟩

/-- The first grid point. -/
def first : Fin cfg0.N := ⟨0, by decide⟩

/-- One of the two conditions holds at every point, so the seven results that both branches store are never idle. -/
theorem stored_always (t : Fin cfg0.N) : (!(k0_cond1 (grid0.coords t) == 1#1) && !(k0_cond2 (grid0.coords t) == 1#1)) = false := by
  by_cases h : t.val = 0
  · rw [(cond_iff t).mpr h]; rfl
  · rw [(cond2_iff t).mpr h, Bool.and_eq_false_iff]; exact Or.inr rfl

theorem idle5 (t : Fin cfg0.N) : cfg0.idle (5 : Fin 14) (cfg0.grid.coords t) = false := stored_always t

/-- The last two results are stored at the first point only. -/
theorem stored_first (t : Fin cfg0.N) : (!(k0_cond1 (grid0.coords t) == 1#1)) = decide (t.val ≠ 0) := by
  by_cases h : t.val = 0
  · rw [(cond_iff t).mpr h]; simp [h]
  · have := mt (cond_iff t).mp h
    simp [h, this]

theorem idle12 (t : Fin cfg0.N) : cfg0.idle (12 : Fin 14) (cfg0.grid.coords t) = decide (t.val ≠ 0) := stored_first t
theorem idle13 (t : Fin cfg0.N) : cfg0.idle (13 : Fin 14) (cfg0.grid.coords t) = decide (t.val ≠ 0) := stored_first t

/-- A result whose block never moves is written back after the last point only. -/
theorem flush_last (w : Fin 14) (hout : (cfg0.win w).isOut = true) (hix : ∀ s t : Fin cfg0.N, (cfg0.win w).index s = (cfg0.win w).index t)
    (t : Fin cfg0.N) : (cfg0.win w).flush t = decide (t.val + 1 = cfg0.N) := by
  unfold Pipeline.Window.flush
  rw [hout, Bool.true_and, Bool.or_eq_left_iff_imp.mpr]
  intro hx
  obtain ⟨_, hne⟩ := of_decide_eq_true hx
  exact absurd (hix _ _) hne

theorem flush12 (t : Fin cfg0.N) : (cfg0.win (12 : Fin 14)).flush t = decide (t.val + 1 = cfg0.N) := flush_last 12 rfl (fun _ _ => rfl) t
theorem flush13 (t : Fin cfg0.N) : (cfg0.win (13 : Fin 14)).flush t = decide (t.val + 1 = cfg0.N) := flush_last 13 rfl (fun _ _ => rfl) t

/-! ## What the region finds in the arrays, and the windows' blocks -/

/-- The contents at the region's entry: the host operations' results, every other buffer as launched. -/
abbrev V (c : Dev nD) (b : Ref sig .tc) : Buf (Elt F) ((c : Thread nD τ).loc b) :=
  StableHlo.after hostOps0 (fun b => m (c, b)) b

/-- Window `w`'s block at point `t`, read off its array. -/
def iblk (c : Dev nD) (w : Fin 14) (t : Fin cfg0.N) : ((cfg0.win w).xblock (grid0.coords t)).Idx → Elt F (cfg0.win w).elt :=
  ((cfg0.win w).blk t).view.read (Elt F) (V m c (Pipeline.arrRef spec0 w))

/-- The rows that point `t` works on: the extra ones at the first point, a block of the frames' at a later one. -/
def rowsAt (c : Dev nD) (t : Fin cfg0.N) : S512x1024.Idx → Elt F .f32 :=
  if t.val = 0 then iblk m c (0 : Fin 14) t else iblk m c (1 : Fin 14) t

/-- The proof data of the pipeline on core `c`: every input buffer at its block, every result's at the point's tile, the
    last two at the first point's tiles. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 14) t
    | ⟨1, _⟩ => iblk m c (1 : Fin 14) t
    | ⟨2, _⟩ => iblk m c (2 : Fin 14) t
    | ⟨3, _⟩ => iblk m c (3 : Fin 14) t
    | ⟨4, _⟩ => iblk m c (4 : Fin 14) t
    | ⟨5, _⟩ => tH (iblk m c (2 : Fin 14) t) (iblk m c (3 : Fin 14) t) (rowsAt m c t)
    | ⟨6, _⟩ => tQ (iblk m c (2 : Fin 14) t) (iblk m c (3 : Fin 14) t) (iblk m c (4 : Fin 14) t) (rowsAt m c t)
    | ⟨7, _⟩ => tU (iblk m c (2 : Fin 14) t) (iblk m c (3 : Fin 14) t) (iblk m c (4 : Fin 14) t) (rowsAt m c t)
    | ⟨8, _⟩ => tKb (iblk m c (2 : Fin 14) t) (iblk m c (3 : Fin 14) t) (iblk m c (4 : Fin 14) t) (rowsAt m c t)
    | ⟨9, _⟩ => tVb (iblk m c (2 : Fin 14) t) (iblk m c (3 : Fin 14) t) (iblk m c (4 : Fin 14) t) (rowsAt m c t)
    | ⟨10, _⟩ => tK (iblk m c (2 : Fin 14) t) (iblk m c (3 : Fin 14) t) (iblk m c (4 : Fin 14) t) (rowsAt m c t)
    | ⟨11, _⟩ => tV (iblk m c (2 : Fin 14) t) (iblk m c (3 : Fin 14) t) (iblk m c (4 : Fin 14) t) (rowsAt m c t)
    | ⟨12, _⟩ => tKx (iblk m c (2 : Fin 14) first) (iblk m c (3 : Fin 14) first) (iblk m c (4 : Fin 14) first) (rowsAt m c first)
    | ⟨13, _⟩ => tVx (iblk m c (2 : Fin 14) first) (iblk m c (3 : Fin 14) first) (iblk m c (4 : Fin 14) first) (rowsAt m c first)
  Φ _ := Pipeline.ΦA spec0 c
  q _ := fullShare
  owed _ := 0

theorem after0 (c : Dev nD) (t : Fin cfg0.N) : (dats m 0 c).after (0 : Fin 14) t = iblk m c (0 : Fin 14) t := rfl
theorem after1 (c : Dev nD) (t : Fin cfg0.N) : (dats m 0 c).after (1 : Fin 14) t = iblk m c (1 : Fin 14) t := rfl
theorem after2 (c : Dev nD) (t : Fin cfg0.N) : (dats m 0 c).after (2 : Fin 14) t = iblk m c (2 : Fin 14) t := rfl
theorem after3 (c : Dev nD) (t : Fin cfg0.N) : (dats m 0 c).after (3 : Fin 14) t = iblk m c (3 : Fin 14) t := rfl
theorem after4 (c : Dev nD) (t : Fin cfg0.N) : (dats m 0 c).after (4 : Fin 14) t = iblk m c (4 : Fin 14) t := rfl
theorem after5 (c : Dev nD) (t : Fin cfg0.N) : (dats m 0 c).after (5 : Fin 14) t = tH (iblk m c (2 : Fin 14) t) (iblk m c (3 : Fin 14) t) (rowsAt m c t) := rfl
theorem after6 (c : Dev nD) (t : Fin cfg0.N) : (dats m 0 c).after (6 : Fin 14) t = tQ (iblk m c (2 : Fin 14) t) (iblk m c (3 : Fin 14) t) (iblk m c (4 : Fin 14) t) (rowsAt m c t) := rfl
theorem after7 (c : Dev nD) (t : Fin cfg0.N) : (dats m 0 c).after (7 : Fin 14) t = tU (iblk m c (2 : Fin 14) t) (iblk m c (3 : Fin 14) t) (iblk m c (4 : Fin 14) t) (rowsAt m c t) := rfl
theorem after8 (c : Dev nD) (t : Fin cfg0.N) : (dats m 0 c).after (8 : Fin 14) t = tKb (iblk m c (2 : Fin 14) t) (iblk m c (3 : Fin 14) t) (iblk m c (4 : Fin 14) t) (rowsAt m c t) := rfl
theorem after9 (c : Dev nD) (t : Fin cfg0.N) : (dats m 0 c).after (9 : Fin 14) t = tVb (iblk m c (2 : Fin 14) t) (iblk m c (3 : Fin 14) t) (iblk m c (4 : Fin 14) t) (rowsAt m c t) := rfl
theorem after10 (c : Dev nD) (t : Fin cfg0.N) : (dats m 0 c).after (10 : Fin 14) t = tK (iblk m c (2 : Fin 14) t) (iblk m c (3 : Fin 14) t) (iblk m c (4 : Fin 14) t) (rowsAt m c t) := rfl
theorem after11 (c : Dev nD) (t : Fin cfg0.N) : (dats m 0 c).after (11 : Fin 14) t = tV (iblk m c (2 : Fin 14) t) (iblk m c (3 : Fin 14) t) (iblk m c (4 : Fin 14) t) (rowsAt m c t) := rfl
theorem after12 (c : Dev nD) (t : Fin cfg0.N) : (dats m 0 c).after (12 : Fin 14) t = tKx (iblk m c (2 : Fin 14) first) (iblk m c (3 : Fin 14) first) (iblk m c (4 : Fin 14) first) (rowsAt m c first) := rfl
theorem after13 (c : Dev nD) (t : Fin cfg0.N) : (dats m 0 c).after (13 : Fin 14) t = tVx (iblk m c (2 : Fin 14) first) (iblk m c (3 : Fin 14) first) (iblk m c (4 : Fin 14) first) (rowsAt m c first) := rfl

/-! Every input's buffer holds its block when the body runs, fetched at that point or not. -/

theorem before0 (c : Dev nD) (t : Fin cfg0.N) (d) : (dats m 0 c).before (0 : Fin 14) t d = iblk m c (0 : Fin 14) t :=
  ((dats m 0 c).before_in_eq_fetched (0 : Fin 14) rfl (fun _ => rfl) (fun _ _ _ => rfl) (fun t => by rw [after0]; unfold Dat.blockOf iblk; rfl) t d).trans
    (by unfold Dat.fetched Dat.blockOf iblk; rfl)
theorem before1 (c : Dev nD) (t : Fin cfg0.N) (d) : (dats m 0 c).before (1 : Fin 14) t d = iblk m c (1 : Fin 14) t :=
  ((dats m 0 c).before_in_eq_fetched (1 : Fin 14) rfl (fun _ => rfl) (fun _ _ _ => rfl) (fun t => by rw [after1]; unfold Dat.blockOf iblk; rfl) t d).trans
    (by unfold Dat.fetched Dat.blockOf iblk; rfl)
theorem before2 (c : Dev nD) (t : Fin cfg0.N) (d) : (dats m 0 c).before (2 : Fin 14) t d = iblk m c (2 : Fin 14) t :=
  ((dats m 0 c).before_in_eq_fetched (2 : Fin 14) rfl (fun _ => rfl) (fun _ _ _ => rfl) (fun t => by rw [after2]; unfold Dat.blockOf iblk; rfl) t d).trans
    (by unfold Dat.fetched Dat.blockOf iblk; rfl)
theorem before3 (c : Dev nD) (t : Fin cfg0.N) (d) : (dats m 0 c).before (3 : Fin 14) t d = iblk m c (3 : Fin 14) t :=
  ((dats m 0 c).before_in_eq_fetched (3 : Fin 14) rfl (fun _ => rfl) (fun _ _ _ => rfl) (fun t => by rw [after3]; unfold Dat.blockOf iblk; rfl) t d).trans
    (by unfold Dat.fetched Dat.blockOf iblk; rfl)
theorem before4 (c : Dev nD) (t : Fin cfg0.N) (d) : (dats m 0 c).before (4 : Fin 14) t d = iblk m c (4 : Fin 14) t :=
  ((dats m 0 c).before_in_eq_fetched (4 : Fin 14) rfl (fun _ => rfl) (fun _ _ _ => rfl) (fun t => by rw [after4]; unfold Dat.blockOf iblk; rfl) t d).trans
    (by unfold Dat.fetched Dat.blockOf iblk; rfl)

/-- A buffer stored at the first point only, and written back after the last, holds what the first point left. -/
theorem fresh_kept (w : Fin 14) (hf : ∀ t : Fin cfg0.N, (cfg0.win w).flush t = decide (t.val + 1 = cfg0.N))
    (hi : ∀ t : Fin cfg0.N, cfg0.idle w (cfg0.grid.coords t) = decide (t.val ≠ 0)) (n : ℕ) (hn : n < cfg0.N) (h0 : n ≠ 0) :
    cfg0.fresh w n = false := by
  induction n with
  | zero => exact absurd rfl h0
  | succ n ih =>
    rw [Pipeline.Cfg.fresh_succ cfg0 w n (by omega), hf, hi]
    by_cases hz : n = 0
    · subst hz; rfl
    · rw [ih (by omega) hz, Bool.and_false, Bool.or_false]
      exact decide_eq_false (by show ¬ n + 1 = cfg0.N; omega)

theorem before12 (c : Dev nD) (t : Fin cfg0.N) (h0 : t.val ≠ 0) (d) : (dats m 0 c).before (12 : Fin 14) t d = tKx (iblk m c (2 : Fin 14) first) (iblk m c (3 : Fin 14) first) (iblk m c (4 : Fin 14) first) (rowsAt m c first) := by
  refine ((dats m 0 c).before_out_traj (12 : Fin 14) rfl (fun _ _ => rfl) (fun t _ _ _ => rfl) t.val t rfl d).trans ?_
  rw [fresh_kept 12 flush12 idle12 t.val t.isLt h0]
  rfl

theorem before13 (c : Dev nD) (t : Fin cfg0.N) (h0 : t.val ≠ 0) (d) : (dats m 0 c).before (13 : Fin 14) t d = tVx (iblk m c (2 : Fin 14) first) (iblk m c (3 : Fin 14) first) (iblk m c (4 : Fin 14) first) (rowsAt m c first) := by
  refine ((dats m 0 c).before_out_traj (13 : Fin 14) rfl (fun _ _ => rfl) (fun t _ _ _ => rfl) t.val t rfl d).trans ?_
  rw [fresh_kept 13 flush13 idle13 t.val t.isLt h0]
  rfl

/-! ## The staging buffers the body gets -/

abbrev ms0 (t : Fin cfg0.N) : Memref sig .tc .vmem S512x1024 .f32 := win0_0.stage (cfg0.slots t (0 : Fin 14))
abbrev hs0 (t : Fin cfg0.N) : (ms0 t).IsWhole := hstage0_0 ((cfg0.slots t (0 : Fin 14)).cast nbuf0_0)
abbrev ms1 (t : Fin cfg0.N) : Memref sig .tc .vmem S512x1024 .f32 := win0_1.stage (cfg0.slots t (1 : Fin 14))
abbrev hs1 (t : Fin cfg0.N) : (ms1 t).IsWhole := hstage0_1 ((cfg0.slots t (1 : Fin 14)).cast nbuf0_1)
abbrev ms2 (t : Fin cfg0.N) : Memref sig .tc .vmem S1x1024 .f32 := win0_2.stage (cfg0.slots t (2 : Fin 14))
abbrev hs2 (t : Fin cfg0.N) : (ms2 t).IsWhole := hstage0_2 ((cfg0.slots t (2 : Fin 14)).cast nbuf0_2)
abbrev ms3 (t : Fin cfg0.N) : Memref sig .tc .vmem S1x1024 .f32 := win0_3.stage (cfg0.slots t (3 : Fin 14))
abbrev hs3 (t : Fin cfg0.N) : (ms3 t).IsWhole := hstage0_3 ((cfg0.slots t (3 : Fin 14)).cast nbuf0_3)
abbrev ms4 (t : Fin cfg0.N) : Memref sig .tc .vmem S1024x2048 .bf16 := win0_4.stage (cfg0.slots t (4 : Fin 14))
abbrev hs4 (t : Fin cfg0.N) : (ms4 t).IsWhole := hstage0_4 ((cfg0.slots t (4 : Fin 14)).cast nbuf0_4)
abbrev ms5 (t : Fin cfg0.N) : Memref sig .tc .vmem S512x1024 .f32 := win0_5.stage (cfg0.slots t (5 : Fin 14))
abbrev hs5 (t : Fin cfg0.N) : (ms5 t).IsWhole := hstage0_5 ((cfg0.slots t (5 : Fin 14)).cast nbuf0_5)
abbrev ms6 (t : Fin cfg0.N) : Memref sig .tc .vmem S512x512 .bf16 := win0_6.stage (cfg0.slots t (6 : Fin 14))
abbrev hs6 (t : Fin cfg0.N) : (ms6 t).IsWhole := hstage0_6 ((cfg0.slots t (6 : Fin 14)).cast nbuf0_6)
abbrev ms7 (t : Fin cfg0.N) : Memref sig .tc .vmem S512x512 .f32 := win0_7.stage (cfg0.slots t (7 : Fin 14))
abbrev hs7 (t : Fin cfg0.N) : (ms7 t).IsWhole := hstage0_7 ((cfg0.slots t (7 : Fin 14)).cast nbuf0_7)
abbrev ms8 (t : Fin cfg0.N) : Memref sig .tc .vmem S512x512 .bf16 := win0_8.stage (cfg0.slots t (8 : Fin 14))
abbrev hs8 (t : Fin cfg0.N) : (ms8 t).IsWhole := hstage0_8 ((cfg0.slots t (8 : Fin 14)).cast nbuf0_8)
abbrev ms9 (t : Fin cfg0.N) : Memref sig .tc .vmem S512x512 .bf16 := win0_9.stage (cfg0.slots t (9 : Fin 14))
abbrev hs9 (t : Fin cfg0.N) : (ms9 t).IsWhole := hstage0_9 ((cfg0.slots t (9 : Fin 14)).cast nbuf0_9)
abbrev ms10 (t : Fin cfg0.N) : Memref sig .tc .vmem S1x512x4x128 .f32 := win0_10.stage (cfg0.slots t (10 : Fin 14))
abbrev hs10 (t : Fin cfg0.N) : (ms10 t).IsWhole := hstage0_10 ((cfg0.slots t (10 : Fin 14)).cast nbuf0_10)
abbrev ms11 (t : Fin cfg0.N) : Memref sig .tc .vmem S1x512x4x128 .f32 := win0_11.stage (cfg0.slots t (11 : Fin 14))
abbrev hs11 (t : Fin cfg0.N) : (ms11 t).IsWhole := hstage0_11 ((cfg0.slots t (11 : Fin 14)).cast nbuf0_11)
abbrev ms12 (t : Fin cfg0.N) : Memref sig .tc .vmem S512x512 .f32 := win0_12.stage (cfg0.slots t (12 : Fin 14))
abbrev hs12 (t : Fin cfg0.N) : (ms12 t).IsWhole := hstage0_12 ((cfg0.slots t (12 : Fin 14)).cast nbuf0_12)
abbrev ms13 (t : Fin cfg0.N) : Memref sig .tc .vmem S512x512 .f32 := win0_13.stage (cfg0.slots t (13 : Fin 14))
abbrev hs13 (t : Fin cfg0.N) : (ms13 t).IsWhole := hstage0_13 ((cfg0.slots t (13 : Fin 14)).cast nbuf0_13)

/-- The body at point `t`. -/
abbrev bodyAt (t : Fin cfg0.N) :=
  cc0_k1_first (F := F) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)

/-! ## The body at every point -/

set_option maxHeartbeats 8000000 in
/-- The body keeps the inputs' blocks and leaves the point's tiles, at every point. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 14) t d))
        ∗ (∃ d, owns (c : Thread nD τ) (ms1 t) fullShare ((dats m 0 c).before (1 : Fin 14) t d))
        ∗ (∃ d, owns (c : Thread nD τ) (ms2 t) fullShare ((dats m 0 c).before (2 : Fin 14) t d))
        ∗ (∃ d, owns (c : Thread nD τ) (ms3 t) fullShare ((dats m 0 c).before (3 : Fin 14) t d))
        ∗ (∃ d, owns (c : Thread nD τ) (ms4 t) fullShare ((dats m 0 c).before (4 : Fin 14) t d))
        ∗ (∃ d, owns (c : Thread nD τ) (ms5 t) fullShare ((dats m 0 c).before (5 : Fin 14) t d))
        ∗ (∃ d, owns (c : Thread nD τ) (ms6 t) fullShare ((dats m 0 c).before (6 : Fin 14) t d))
        ∗ (∃ d, owns (c : Thread nD τ) (ms7 t) fullShare ((dats m 0 c).before (7 : Fin 14) t d))
        ∗ (∃ d, owns (c : Thread nD τ) (ms8 t) fullShare ((dats m 0 c).before (8 : Fin 14) t d))
        ∗ (∃ d, owns (c : Thread nD τ) (ms9 t) fullShare ((dats m 0 c).before (9 : Fin 14) t d))
        ∗ (∃ d, owns (c : Thread nD τ) (ms10 t) fullShare ((dats m 0 c).before (10 : Fin 14) t d))
        ∗ (∃ d, owns (c : Thread nD τ) (ms11 t) fullShare ((dats m 0 c).before (11 : Fin 14) t d))
        ∗ (∃ d, owns (c : Thread nD τ) (ms12 t) fullShare ((dats m 0 c).before (12 : Fin 14) t d))
        ∗ (∃ d, owns (c : Thread nD τ) (ms13 t) fullShare ((dats m 0 c).before (13 : Fin 14) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rewrite [idle5 t, idle12 t, flush12 t, flush13 t]
  simp only [before0, before1, before2, before3, before4, after0, after1, after2, after3, after4, after5, after6, after7, after8, after9, after10, after11, after12, after13]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  by_cases h0 : t.val = 0
  · rw [show decide (t.val ≠ 0) = false from decide_eq_false (not_not.mpr h0)]
    obtain rfl : t = first := Fin.ext h0
    rewrite [show rowsAt m c first = iblk m c (0 : Fin 14) first from rfl]
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords first) (ms0 first) (hs0 first) (ms1 first) (hs1 first) (ms2 first) (hs2 first) (ms3 first) (hs3 first) (ms4 first) (hs4 first) (ms5 first) (hs5 first) (ms6 first) (hs6 first) (ms7 first) (hs7 first) (ms8 first) (hs8 first) (ms9 first) (hs9 first) (ms10 first) (hs10 first) (ms11 first) (hs11 first) (ms12 first) (hs12 first) (ms13 first) (hs13 first)
      (iblk m c (0 : Fin 14) first) (iblk m c (1 : Fin 14) first) (iblk m c (2 : Fin 14) first) (iblk m c (3 : Fin 14) first) (iblk m c (4 : Fin 14) first) ((cond_iff first).mpr rfl) (fun h => (cond2_iff first).mp h rfl))
    unfold inputs free full
    isplitl [H0 H1 H2 H3 H4]
    · isplitl [H0]; · iapply rep_of_owns; iexact H0
      isplitl [H1]; · iapply rep_of_owns; iexact H1
      isplitl [H2]; · iapply rep_of_owns; iexact H2
      isplitl [H3]; · iapply rep_of_owns; iexact H3
      iapply rep_of_owns; iexact H4
    isplitl [H5 H6 H7 H8 H9 H10 H11]
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11
    isplitl [H12]; · iexists _; iexact H12
    isplitl [H13]; · iexists _; iexact H13
    iintro ⟨⟨H0, H1, H2, H3, H4⟩, ⟨H5, H6, H7, H8, H9, H10, H11⟩, H12, H13⟩
    isplitl [HA]; · iexact HA
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show decide (t.val ≠ 0) = true from decide_eq_true h0]
    rewrite [show rowsAt m c t = iblk m c (1 : Fin 14) t from if_neg h0]
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)
      (iblk m c (0 : Fin 14) t) (iblk m c (1 : Fin 14) t) (iblk m c (2 : Fin 14) t) (iblk m c (3 : Fin 14) t) (iblk m c (4 : Fin 14) t) (mt (cond_iff t).mp h0) ((cond2_iff t).mpr h0))
    unfold inputs free full
    isplitl [H0 H1 H2 H3 H4]
    · isplitl [H0]; · iapply rep_of_owns; iexact H0
      isplitl [H1]; · iapply rep_of_owns; iexact H1
      isplitl [H2]; · iapply rep_of_owns; iexact H2
      isplitl [H3]; · iapply rep_of_owns; iexact H3
      iapply rep_of_owns; iexact H4
    isplitl [H5 H6 H7 H8 H9 H10 H11]
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11
    iintro ⟨⟨H0, H1, H2, H3, H4⟩, ⟨H5, H6, H7, H8, H9, H10, H11⟩⟩
    isplitl [HA]; · iexact HA
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · cases hl : decide (t.val + 1 = cfg0.N)
      · iexists d12; iexact H12
      · rw [before12 m c t h0 d12]; iexact H12
    cases hl : decide (t.val + 1 = cfg0.N)
    · iexists d13; iexact H13
    · rw [before13 m c t h0 d13]; iexact H13

/-- The library's body obligation, at every point. -/
theorem body_obligation (c : Dev nD) : BodyObligation (dats m 0 c) (defs₀ (F := F)) Variants.none () Set.univ := fun t => by
  rw [bigSep_W0]
  exact sound_body m c t

/-! ## The launch -/

/-- No host operation allocates. -/
theorem hostOps_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 (defs₀ (F := F)) Variants.none m (main (F := F)) (V m) :=
  Pipeline.hmain_prefix cfgs 0 defs₀ Variants.none m main hostOps0 hostOps0_sub hostOps_fresh main_chain

/-- The host operations write only their own results. -/
theorem V_of_not_written (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

set_option backward.isDefEq.respectTransparency.types false in
set_option maxHeartbeats 4000000 in
/-- The launch: every weakly fair execution ends, with every array at what the points left in it, every other buffer at
    the region's entry contents and every semaphore counter at zero. -/
theorem run_main : θ_run defs (onTc (τ := τ) (main (F := F))) (s₀ m ρ)
    (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := fun _ _ => rfl) (hΦ := fun _ _ => rfl) (hQ' := fun _ h => h)

/-! ## What the run leaves -/

/-- The arguments are as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem args_kept {r : PUnit × MemSt nD τ sig (Elt F)} (h : Pipeline.FramePost cfgs (dats m) (0 : Fin 1) (V m) r) :
    ArgsKept m r := fun c =>
  ⟨((h c).1 (0 : Fin 14)).trans (((dats m 0 c).arrAt_in (0 : Fin 14) rfl _).trans (V_of_not_written m c main_arg0 (by decide) (by decide) (by decide))),
   ((h c).1 (1 : Fin 14)).trans (((dats m 0 c).arrAt_in (1 : Fin 14) rfl _).trans (V_of_not_written m c main_arg1 (by decide) (by decide) (by decide))),
   ((h c).2 main_arg2 (Pipeline.mem_restRefs_of main_arg2 (by decide) (by decide))).trans (V_of_not_written m c main_arg2 (by decide) (by decide) (by decide)),
   ((h c).2 main_arg3 (Pipeline.mem_restRefs_of main_arg3 (by decide) (by decide))).trans (V_of_not_written m c main_arg3 (by decide) (by decide) (by decide)),
   ((h c).2 main_arg4 (Pipeline.mem_restRefs_of main_arg4 (by decide) (by decide))).trans (V_of_not_written m c main_arg4 (by decide) (by decide) (by decide))⟩

/-- THE FRAME: the kernel runs, its arguments end unchanged, every counter at zero. -/
theorem frame : θ_run defs (onTc (τ := τ) (main (F := F))) ⟨m, fun _ => 0, ρ⟩ (fun r => ArgsKept m r ∧ r.2.sem = fun _ => 0) :=
  (θ_run defs _ _).mono (fun _ h => ⟨args_kept m h.1, h.2⟩) (run_main m ρ)

/-- The results after the run: what the grid points left in them. -/
def outH (c : Dev nD) : Buf (Elt F) ((c : Thread nD τ).loc main_v3_0) := (dats m 0 c).arrAt (5 : Fin 14) cfg0.N
def outQ (c : Dev nD) : Buf (Elt F) ((c : Thread nD τ).loc main_v3_1) := (dats m 0 c).arrAt (6 : Fin 14) cfg0.N
def outU (c : Dev nD) : Buf (Elt F) ((c : Thread nD τ).loc main_v3_2) := (dats m 0 c).arrAt (7 : Fin 14) cfg0.N
def outKb (c : Dev nD) : Buf (Elt F) ((c : Thread nD τ).loc main_v3_3) := (dats m 0 c).arrAt (8 : Fin 14) cfg0.N
def outVb (c : Dev nD) : Buf (Elt F) ((c : Thread nD τ).loc main_v3_4) := (dats m 0 c).arrAt (9 : Fin 14) cfg0.N
def outK (c : Dev nD) : Buf (Elt F) ((c : Thread nD τ).loc main_v3_5) := (dats m 0 c).arrAt (10 : Fin 14) cfg0.N
def outV (c : Dev nD) : Buf (Elt F) ((c : Thread nD τ).loc main_v3_6) := (dats m 0 c).arrAt (11 : Fin 14) cfg0.N
def outKx (c : Dev nD) : Buf (Elt F) ((c : Thread nD τ).loc main_v3_7) := (dats m 0 c).arrAt (12 : Fin 14) cfg0.N
def outVx (c : Dev nD) : Buf (Elt F) ((c : Thread nD τ).loc main_v3_8) := (dats m 0 c).arrAt (13 : Fin 14) cfg0.N

/-- The run with its results named. -/
theorem run_value : θ_run defs (onTc (τ := τ) (main (F := F))) ⟨m, fun _ => 0, ρ⟩
    (fun r => (∀ c : Dev nD, r.2.mem ((c.tc : Thread nD τ).loc main_v3_0) = outH m c
      ∧ r.2.mem ((c.tc : Thread nD τ).loc main_v3_1) = outQ m c
      ∧ r.2.mem ((c.tc : Thread nD τ).loc main_v3_2) = outU m c
      ∧ r.2.mem ((c.tc : Thread nD τ).loc main_v3_3) = outKb m c
      ∧ r.2.mem ((c.tc : Thread nD τ).loc main_v3_4) = outVb m c
      ∧ r.2.mem ((c.tc : Thread nD τ).loc main_v3_5) = outK m c
      ∧ r.2.mem ((c.tc : Thread nD τ).loc main_v3_6) = outV m c
      ∧ r.2.mem ((c.tc : Thread nD τ).loc main_v3_7) = outKx m c
      ∧ r.2.mem ((c.tc : Thread nD τ).loc main_v3_8) = outVx m c) ∧ ArgsKept m r) :=
  (θ_run defs _ _).mono (fun _ h => ⟨fun c => ⟨(h.1 c).1 (5 : Fin 14), (h.1 c).1 (6 : Fin 14), (h.1 c).1 (7 : Fin 14), (h.1 c).1 (8 : Fin 14), (h.1 c).1 (9 : Fin 14), (h.1 c).1 (10 : Fin 14), (h.1 c).1 (11 : Fin 14), (h.1 c).1 (12 : Fin 14), (h.1 c).1 (13 : Fin 14)⟩, args_kept m h.1⟩) (run_main m ρ)

end Cert.Proj.Tile

end
-- ==== Proof.ProjNorm.lean ====
/-
  The first projection in extended reals, as the kernel's tiles compute it: a row is normalized and multiplied by the
  weights' columns.
-/
module

public import proofs.«01_k».proof.Proof.TailNorm
public import proofs.«01_k».proof.Proof.ProjBody

@[expose] public section

set_option maxRecDepth 16384

open Idealize.ShloMosaic
open Idealize.ShloMosaic.TcCoe
open Idealize.SL.Sem

namespace Cert.Norm

/-- The normalized row times one column `w` of the weights. -/
noncomputable def proj (x g b w : Fin 1024 → EReal) : EReal := ∑ d, row x g b d * w d

/-- The factor of the queries. -/
noncomputable def qScale : EReal := Ideal.ofBits .f32 0x3E38AA3B#32

end Cert.Norm

namespace Cert.Proj.Value

open Cert.Proj Cert.Proj.Gen Cert.Proj.Tile

attribute [local instance] Cert.Proj.Gen.facts

/-- Column `e` of the quarter that starts at column `o`. -/
def col (o : ℕ) (ho : o + 512 ≤ 2048) (e : Fin 512) : Fin 2048 := ⟨o + e.val, by omega⟩

variable (x : FVec Ideal S512x1024 .f32) (g b : FVec Ideal S1x1024 .f32) (w : FVec Ideal S1024x2048 .bf16)

/-- The projection of row `r` by column `e` of the weights. -/
noncomputable def tileProj (r : Fin 512) (e : Fin 2048) : EReal :=
  Norm.proj (fun j => x (ix2 r j)) (fun j => g (ix2 0 j)) (fun j => b (ix2 0 j)) (fun d => w (ix2 d e))

/-- The normalized rows. -/
theorem tH_apply (r : Fin 512) (d : Fin 1024) :
    (tH (F := Ideal) g b x : S512x1024.Idx → EReal) (ix2 r d)
      = Norm.row (fun j => x (ix2 r j)) (fun j => g (ix2 0 j)) (fun j => b (ix2 0 j)) d := by
  unfold tH
  pointwise [k0_pay15]
  rfl

theorem h_apply (r : Fin 512) (d : Fin 1024) :
    (k0_pay16 (F := Ideal) x g b : S512x1024.Idx → EReal) (ix2 r d)
      = Norm.row (fun j => x (ix2 r j)) (fun j => g (ix2 0 j)) (fun j => b (ix2 0 j)) d := tH_apply x g b r d

/-! The quarters of the weights at an index. -/

theorem wQ_apply (d : Fin 1024) (e : Fin 512) : (wQ (F := Ideal) w : S1024x512.Idx → EReal) (ix2 d e) = w (ix2 d (col 0 (by decide) e)) :=
  congrArg w (funext fun a => Fin.ext (by fin_cases a <;> simp [col]))
theorem wK_apply (d : Fin 1024) (e : Fin 512) : (wK (F := Ideal) w : S1024x512.Idx → EReal) (ix2 d e) = w (ix2 d (col 512 (by decide) e)) :=
  congrArg w (funext fun a => Fin.ext (by fin_cases a <;> simp [col]))
theorem wV_apply (d : Fin 1024) (e : Fin 512) : (wV (F := Ideal) w : S1024x512.Idx → EReal) (ix2 d e) = w (ix2 d (col 1024 (by decide) e)) :=
  congrArg w (funext fun a => Fin.ext (by fin_cases a <;> simp [col]))
theorem wU_apply (d : Fin 1024) (e : Fin 512) : (wU (F := Ideal) w : S1024x512.Idx → EReal) (ix2 d e) = w (ix2 d (col 1536 (by decide) e)) :=
  congrArg w (funext fun a => Fin.ext (by fin_cases a <;> simp [col]))

/-- A tile's product: the rows normalized, times the quarter `v` of the weights that starts at column `o`. -/
theorem prod_apply (v : FVec Ideal S1024x512 .bf16) (o : ℕ) (ho : o + 512 ≤ 2048)
    (hv : ∀ d e, (v : S1024x512.Idx → EReal) (ix2 d e) = w (ix2 d (col o ho e))) (r e : Fin 512) :
    (matmul dot_S512x1024_S1024x512_S512x512_1_0_0_1_n_n none (k0_pay16 (F := Ideal) x g b) v (constant S512x512 .f32 0x00000000#32) : S512x512.Idx → EReal) (ix2 r e)
      = tileProj x g b w r (col o ho e) := by
  have hh := h_apply x g b r
  generalize (k0_pay16 (F := Ideal) x g b) = h at hh ⊢
  pointwise
  unfold tileProj Norm.proj
  simp only [hv]
  refine Finset.sum_congr rfl fun d _ => ?_
  rw [← hh d]

/-! The tiles, element by element. -/

theorem tQ_apply (r e : Fin 512) :
    (tQ (F := Ideal) g b w x : S512x512.Idx → EReal) (ix2 r e) = tileProj x g b w r (col 0 (by decide) e) * Norm.qScale := by
  rw [← prod_apply x g b w (wQ (F := Ideal) w) 0 (by decide) (wQ_apply w) r e]
  unfold tQ k0_pay17
  generalize k0_pay16 (F := Ideal) x g b = h
  pointwise
  rfl

theorem tU_apply (r e : Fin 512) :
    (tU (F := Ideal) g b w x : S512x512.Idx → EReal) (ix2 r e) = tileProj x g b w r (col 1536 (by decide) e) := by
  rw [← prod_apply x g b w (wU (F := Ideal) w) 1536 (by decide) (wU_apply w) r e]
  unfold tU k0_pay3
  generalize k0_pay16 (F := Ideal) x g b = h
  pointwise

theorem tKx_apply (r e : Fin 512) :
    (tKx (F := Ideal) g b w x : S512x512.Idx → EReal) (ix2 r e) = tileProj x g b w r (col 512 (by decide) e) := by
  rw [← prod_apply x g b w (wK (F := Ideal) w) 512 (by decide) (wK_apply w) r e]
  unfold tKx k0_pay1 k0_pay18
  generalize k0_pay16 (F := Ideal) x g b = h
  pointwise

theorem tVx_apply (r e : Fin 512) :
    (tVx (F := Ideal) g b w x : S512x512.Idx → EReal) (ix2 r e) = tileProj x g b w r (col 1024 (by decide) e) := by
  rw [← prod_apply x g b w (wV (F := Ideal) w) 1024 (by decide) (wV_apply w) r e]
  unfold tVx k0_pay2
  generalize k0_pay16 (F := Ideal) x g b = h
  pointwise

theorem tKb_apply (r e : Fin 512) :
    (tKb (F := Ideal) g b w x : S512x512.Idx → EReal) (ix2 r e) = tileProj x g b w r (col 512 (by decide) e) := tKx_apply x g b w r e

theorem tVb_apply (r e : Fin 512) :
    (tVb (F := Ideal) g b w x : S512x512.Idx → EReal) (ix2 r e) = tileProj x g b w r (col 1024 (by decide) e) := tVx_apply x g b w r e

/-- The column of head `a`, component `e`. -/
def headCol (a : Fin 4) (e : Fin 128) : Fin 512 := ⟨a.val * 128 + e.val, by omega⟩

/-- The rows of a tile laid out by heads. -/
theorem heads_apply (y : FVec Ideal S512x512 .f32) (r : Fin 512) (a : Fin 4) (e : Fin 128) :
    (shapeCast S1x512x4x128 (shapeCast S512x4x128 y shapeCasts_S512x512_S512x4x128) shapeCasts_S512x4x128_S1x512x4x128 : S1x512x4x128.Idx → EReal) (ix4 0 r a e)
      = y (ix2 r (headCol a e)) := by
  pointwise
  rfl

theorem tK_apply (r : Fin 512) (a : Fin 4) (e : Fin 128) :
    (tK (F := Ideal) g b w x : S1x512x4x128.Idx → EReal) (ix4 0 r a e) = tileProj x g b w r (col 512 (by decide) (headCol a e)) :=
  (heads_apply (tKx (F := Ideal) g b w x) r a e).trans (tKx_apply x g b w r _)

theorem tV_apply (r : Fin 512) (a : Fin 4) (e : Fin 128) :
    (tV (F := Ideal) g b w x : S1x512x4x128.Idx → EReal) (ix4 0 r a e) = tileProj x g b w r (col 1024 (by decide) (headCol a e)) :=
  (heads_apply (tVx (F := Ideal) g b w x) r a e).trans (tVx_apply x g b w r _)

end Cert.Proj.Value
-- ==== Proof.ProjOut.lean ====
/-
  The first projection's results, element by element: the normalized rows, the queries, the mixer's input, and the keys
  and values in their several formats.
-/
module

public import Idealize.ShloMosaic.Lib.Pipeline.ValueKit
public import proofs.«01_k».proof.Proof.ProjRun
public import proofs.«01_k».proof.Proof.ProjNorm

@[expose] public section

set_option maxRecDepth 16384

noncomputable section

open Idealize.ShloMosaic
open Idealize.ShloMosaic.TcCoe

namespace Cert.Proj.Value

open Cert.Proj Cert.Proj.Gen Cert.Proj.Tile

attribute [local instance] Cert.Proj.Gen.facts

variable (m : (ℓ : Loc nD τ sig) → Buf (Elt Ideal) ℓ) (c : Dev nD)

/-- The arguments as launched, as functions to the extended reals. -/
abbrev extra : S512x1024.Idx → EReal := m ((c : Thread nD τ).loc main_arg0)
abbrev frames : S65536x1024.Idx → EReal := m ((c : Thread nD τ).loc main_arg1)
abbrev scale : S1024.Idx → EReal := m ((c : Thread nD τ).loc main_arg2)
abbrev shift : S1024.Idx → EReal := m ((c : Thread nD τ).loc main_arg3)
abbrev weights : S1024x2048.Idx → EReal := m ((c : Thread nD τ).loc main_arg4)

/-! ## What the host operations left in the arrays -/

theorem V_extra : (V m c main_arg0 : S512x1024.Idx → EReal) = extra m c := V_of_not_written m c main_arg0 (by decide) (by decide) (by decide)
theorem V_frames : (V m c main_arg1 : S65536x1024.Idx → EReal) = frames m c := V_of_not_written m c main_arg1 (by decide) (by decide) (by decide)
theorem V_scale : (V m c main_v0 : S1x1024.Idx → EReal) = shapeCast S1x1024 (scale m c) shapeCasts_S1024_S1x1024 := by
  unfold_abbrev_sides
  after_results
  try rfl
theorem V_shift : (V m c main_v1 : S1x1024.Idx → EReal) = shapeCast S1x1024 (shift m c) shapeCasts_S1024_S1x1024 := by
  unfold_abbrev_sides
  after_results
  try rfl
theorem V_weights : (V m c main_v2 : S1024x2048.Idx → EReal) = weights m c := by
  unfold_abbrev_sides
  after_results
  try rfl

/-! ## The blocks -/

/-- The row of the arguments, the extra ones first, that is row `r` of tile `t`. -/
def rowOf (t : Fin cfg0.N) (r : Fin 512) : Fin 66048 :=
  ⟨t.val * 512 + r.val, by have h : t.val < 129 := t.isLt; have := r.isLt; omega⟩

/-- Row `n` of the arguments, the extra ones first. -/
def rowAll (n : Fin 66048) (j : Fin 1024) : EReal :=
  if h : n.val < 512 then extra m c (ix2 ⟨n.val, h⟩ j) else frames m c (ix2 ⟨n.val - 512, by omega⟩ j)

theorem word (t : Fin cfg0.N) : (BitVec.ofNat 32 (grid0.coords t 0).val).toNat = t.val := by
  have h : t.val < 129 := t.isLt
  rw [crd_val, BitVec.toNat_ofNat]; omega

theorem word_in : ∀ n : Fin 129, (Scalar.maxsi (Scalar.subi (BitVec.ofNat 32 n.val) 1#32) 0#32 : BitVec 32).toNat = n.val - 1 := by decide

theorem idx1 (t : Fin cfg0.N) : (cfg0.win (1 : Fin 14)).index t = ![t.val - 1, 0] := by
  show ![(Scalar.maxsi (Scalar.subi (BitVec.ofNat 32 (grid0.coords t 0).val) 1#32) 0#32 : BitVec 32).toNat, _] = _
  rw [crd_val, word_in ⟨t.val, t.isLt⟩]; rfl

theorem blk0 (t : Fin cfg0.N) (r : Fin 512) (j : Fin 1024) :
    (iblk m c (0 : Fin 14) t : S512x1024.Idx → EReal) (ix2 r j) = extra m c (ix2 r j) := by
  refine (congrFun (V_extra m c) _).trans (congrArg (extra m c) (funext fun a => Fin.ext ?_))
  refine (Pipeline.Window.rect_emb_val (cfg0.win (0 : Fin 14)) t _ _).trans ?_
  rw [show (cfg0.win (0 : Fin 14)).index t = ![0, 0] from rfl]
  fin_cases a <;> simp
theorem blk1 (t : Fin cfg0.N) (h0 : t.val ≠ 0) (r : Fin 512) (j : Fin 1024) :
    (iblk m c (1 : Fin 14) t : S512x1024.Idx → EReal) (ix2 r j)
      = frames m c (ix2 ⟨(t.val - 1) * 512 + r.val, by have h : t.val < 129 := t.isLt; have := r.isLt; omega⟩ j) := by
  refine (congrFun (V_frames m c) _).trans (congrArg (frames m c) (funext fun a => Fin.ext ?_))
  refine (Pipeline.Window.rect_emb_val (cfg0.win (1 : Fin 14)) t _ _).trans ?_
  rw [idx1]
  fin_cases a <;> simp
theorem blk2 (t : Fin cfg0.N) (j : Fin 1024) :
    (iblk m c (2 : Fin 14) t : S1x1024.Idx → EReal) (ix2 0 j) = scale m c (ix1 j) := by
  refine (congrFun (V_scale m c) _).trans ?_
  rw [show ((cfg0.win (2 : Fin 14)).blk t).view.emb (ix2 0 j) = (ix2 0 j : S1x1024.Idx) from
    funext fun a => Fin.ext ((Pipeline.Window.rect_emb_val (cfg0.win (2 : Fin 14)) t _ _).trans (by
      rw [show (cfg0.win (2 : Fin 14)).index t = ![0, 0] from rfl]
      fin_cases a <;> simp))]
  pointwise
theorem blk3 (t : Fin cfg0.N) (j : Fin 1024) :
    (iblk m c (3 : Fin 14) t : S1x1024.Idx → EReal) (ix2 0 j) = shift m c (ix1 j) := by
  refine (congrFun (V_shift m c) _).trans ?_
  rw [show ((cfg0.win (3 : Fin 14)).blk t).view.emb (ix2 0 j) = (ix2 0 j : S1x1024.Idx) from
    funext fun a => Fin.ext ((Pipeline.Window.rect_emb_val (cfg0.win (3 : Fin 14)) t _ _).trans (by
      rw [show (cfg0.win (3 : Fin 14)).index t = ![0, 0] from rfl]
      fin_cases a <;> simp))]
  pointwise
theorem blk4 (t : Fin cfg0.N) (d : Fin 1024) (e : Fin 2048) :
    (iblk m c (4 : Fin 14) t : S1024x2048.Idx → EReal) (ix2 d e) = weights m c (ix2 d e) := by
  refine (congrFun (V_weights m c) _).trans (congrArg (weights m c) (funext fun a => Fin.ext ?_))
  refine (Pipeline.Window.rect_emb_val (cfg0.win (4 : Fin 14)) t _ _).trans ?_
  rw [show (cfg0.win (4 : Fin 14)).index t = ![0, 0] from rfl]
  fin_cases a <;> simp

theorem rowsAt_apply (t : Fin cfg0.N) (r : Fin 512) (j : Fin 1024) :
    (rowsAt m c t : S512x1024.Idx → EReal) (ix2 r j) = rowAll m c (rowOf t r) j := by
  have hr := r.isLt
  unfold rowsAt rowAll
  by_cases h0 : t.val = 0
  · rw [if_pos h0, dif_pos (show (rowOf t r).val < 512 from (show t.val * 512 + r.val < 512 by omega)), blk0]
    exact congrArg (fun n => extra m c (ix2 n j)) (Fin.ext (by show r.val = t.val * 512 + r.val; omega))
  · rw [if_neg h0, dif_neg (show ¬ (rowOf t r).val < 512 from (show ¬ t.val * 512 + r.val < 512 by omega)), blk1 m c t h0]
    exact congrArg (fun n => frames m c (ix2 n j)) (Fin.ext (by show (t.val - 1) * 512 + r.val = t.val * 512 + r.val - 512; omega))

/-! ## The tiles -/

/-- The normalized rows of the arguments, and their projections by the weights' columns. -/
def hOf (n : Fin 66048) (d : Fin 1024) : EReal := Norm.row (rowAll m c n) (fun j => scale m c (ix1 j)) (fun j => shift m c (ix1 j)) d
def pOf (n : Fin 66048) (e : Fin 2048) : EReal :=
  Norm.proj (rowAll m c n) (fun j => scale m c (ix1 j)) (fun j => shift m c (ix1 j)) (fun d => weights m c (ix2 d e))

/-- The queries, the keys, the values and the mixer's input: quarters of the projections. -/
def qOf (n : Fin 66048) (e : Fin 512) : EReal := pOf m c n (col 0 (by decide) e) * Norm.qScale
def kOf (n : Fin 66048) (e : Fin 512) : EReal := pOf m c n (col 512 (by decide) e)
def vOf (n : Fin 66048) (e : Fin 512) : EReal := pOf m c n (col 1024 (by decide) e)
def uOf (n : Fin 66048) (e : Fin 512) : EReal := pOf m c n (col 1536 (by decide) e)

theorem tileH (t : Fin cfg0.N) (r : Fin 512) (d : Fin 1024) :
    ((dats m 0 c).after (5 : Fin 14) t : S512x1024.Idx → EReal) (ix2 r d) = hOf m c (rowOf t r) d := by
  refine (tH_apply (rowsAt m c t) (iblk m c (2 : Fin 14) t) (iblk m c (3 : Fin 14) t) r d).trans ?_
  simp only [rowsAt_apply m c t, blk2 m c t, blk3 m c t]
  rfl

theorem tile_proj (t : Fin cfg0.N) (r : Fin 512) (e : Fin 2048) :
    tileProj (rowsAt m c t) (iblk m c (2 : Fin 14) t) (iblk m c (3 : Fin 14) t) (iblk m c (4 : Fin 14) t) r e = pOf m c (rowOf t r) e := by
  unfold tileProj pOf
  simp only [rowsAt_apply m c t, blk2 m c t, blk3 m c t, blk4 m c t]

theorem tileQ (t : Fin cfg0.N) (r e : Fin 512) :
    ((dats m 0 c).after (6 : Fin 14) t : S512x512.Idx → EReal) (ix2 r e) = qOf m c (rowOf t r) e :=
  (tQ_apply (rowsAt m c t) (iblk m c (2 : Fin 14) t) (iblk m c (3 : Fin 14) t) (iblk m c (4 : Fin 14) t) r e).trans (congrArg (· * Norm.qScale) (tile_proj m c t r _))
theorem tileU (t : Fin cfg0.N) (r e : Fin 512) :
    ((dats m 0 c).after (7 : Fin 14) t : S512x512.Idx → EReal) (ix2 r e) = uOf m c (rowOf t r) e :=
  (tU_apply (rowsAt m c t) (iblk m c (2 : Fin 14) t) (iblk m c (3 : Fin 14) t) (iblk m c (4 : Fin 14) t) r e).trans (tile_proj m c t r _)
theorem tileKb (t : Fin cfg0.N) (r e : Fin 512) :
    ((dats m 0 c).after (8 : Fin 14) t : S512x512.Idx → EReal) (ix2 r e) = kOf m c (rowOf t r) e :=
  (tKb_apply (rowsAt m c t) (iblk m c (2 : Fin 14) t) (iblk m c (3 : Fin 14) t) (iblk m c (4 : Fin 14) t) r e).trans (tile_proj m c t r _)
theorem tileVb (t : Fin cfg0.N) (r e : Fin 512) :
    ((dats m 0 c).after (9 : Fin 14) t : S512x512.Idx → EReal) (ix2 r e) = vOf m c (rowOf t r) e :=
  (tVb_apply (rowsAt m c t) (iblk m c (2 : Fin 14) t) (iblk m c (3 : Fin 14) t) (iblk m c (4 : Fin 14) t) r e).trans (tile_proj m c t r _)
theorem tileK (t : Fin cfg0.N) (r : Fin 512) (a : Fin 4) (e : Fin 128) :
    ((dats m 0 c).after (10 : Fin 14) t : S1x512x4x128.Idx → EReal) (ix4 0 r a e) = kOf m c (rowOf t r) (headCol a e) :=
  (tK_apply (rowsAt m c t) (iblk m c (2 : Fin 14) t) (iblk m c (3 : Fin 14) t) (iblk m c (4 : Fin 14) t) r a e).trans (tile_proj m c t r _)
theorem tileV (t : Fin cfg0.N) (r : Fin 512) (a : Fin 4) (e : Fin 128) :
    ((dats m 0 c).after (11 : Fin 14) t : S1x512x4x128.Idx → EReal) (ix4 0 r a e) = vOf m c (rowOf t r) (headCol a e) :=
  (tV_apply (rowsAt m c t) (iblk m c (2 : Fin 14) t) (iblk m c (3 : Fin 14) t) (iblk m c (4 : Fin 14) t) r a e).trans (tile_proj m c t r _)
theorem tileKx (t : Fin cfg0.N) (r e : Fin 512) :
    ((dats m 0 c).after (12 : Fin 14) t : S512x512.Idx → EReal) (ix2 r e) = kOf m c (rowOf first r) e :=
  (tKx_apply (rowsAt m c first) (iblk m c (2 : Fin 14) first) (iblk m c (3 : Fin 14) first) (iblk m c (4 : Fin 14) first) r e).trans (tile_proj m c first r _)
theorem tileVx (t : Fin cfg0.N) (r e : Fin 512) :
    ((dats m 0 c).after (13 : Fin 14) t : S512x512.Idx → EReal) (ix2 r e) = vOf m c (rowOf first r) e :=
  (tVx_apply (rowsAt m c first) (iblk m c (2 : Fin 14) first) (iblk m c (3 : Fin 14) first) (iblk m c (4 : Fin 14) first) r e).trans (tile_proj m c first r _)

/-! ## The results of all rows -/

/-- A result whose block is another one at the next point is written back at every point. -/
theorem flush_each (w : Fin 14) (hout : (cfg0.win w).isOut = true) (hix : ∀ s t : Fin cfg0.N, (cfg0.win w).index s = (cfg0.win w).index t → s = t)
    (t : Fin cfg0.N) : (cfg0.win w).flush t = true := by
  unfold Pipeline.Window.flush
  rw [hout, Bool.true_and]
  by_cases h : t.val + 1 = cfg0.N
  · rw [decide_eq_true h, Bool.true_or]
  · refine (Bool.or_eq_true _ _).mpr (.inr (decide_eq_true ⟨lt_of_le_of_ne (Nat.succ_le_of_lt t.isLt) h, fun hx => ?_⟩))
    have := congrArg Fin.val (hix _ _ hx)
    simp at this

theorem idx5 (t : Fin cfg0.N) : (cfg0.win (5 : Fin 14)).index t = ![t.val, 0] := by
  show ![(BitVec.ofNat 32 (grid0.coords t 0).val).toNat, _] = _
  rw [word]; rfl

theorem outH_eq : (outH m c : S66048x1024.Idx → EReal) = fun i => hOf m c (i 0) (i 1) := by
  refine (dats m 0 c).arrAt_eq_of_emb (5 : Fin 14) (fun i => hOf m c (i 0) (i 1)) (fun t _ y => ?_) (fun i => ?_)
  · have e0 : (((cfg0.win (5 : Fin 14)).blk t).view.emb y : S66048x1024.Idx) 0 = rowOf t (y 0) := Fin.ext
      ((Pipeline.Window.rect_emb_val (cfg0.win (5 : Fin 14)) t _ _).trans (by rw [idx5]; rfl))
    have e1 : (((cfg0.win (5 : Fin 14)).blk t).view.emb y : S66048x1024.Idx) 1 = y 1 := Fin.ext
      ((Pipeline.Window.rect_emb_val (cfg0.win (5 : Fin 14)) t _ _).trans (by rw [idx5]; simp))
    refine Eq.trans ?_ (congrArg₂ (hOf m c) e0.symm e1.symm)
    exact (congrArg ((dats m 0 c).after (5 : Fin 14) t) (eq_ix2 (y : S512x1024.Idx))).trans (tileH m c t (y 0) (y 1))
  · have hi : ((i : S66048x1024.Idx) 0).val < 66048 := ((i : S66048x1024.Idx) 0).isLt
    have hj : ((i : S66048x1024.Idx) 1).val < 1024 := ((i : S66048x1024.Idx) 1).isLt
    refine ⟨⟨((i : S66048x1024.Idx) 0).val / 512, by show _ < 129; omega⟩,
      flush_each 5 rfl (fun s t h => by rw [idx5, idx5] at h; exact Fin.ext (congrFun h (0 : Fin 2))) _,
      (Pipeline.Window.emb_mem_blk_iff (cfg0.win (5 : Fin 14)) _ i rfl).mpr fun a => ?_⟩
    rw [idx5]
    fin_cases a
    · show (i 0).val / 512 * 512 ≤ (i 0).val ∧ (i 0).val < (i 0).val / 512 * 512 + 512
      omega
    · exact ⟨by show 0 * 1024 ≤ (i 1).val; omega, by show (i 1).val < 0 * 1024 + 1024; have hj' : (i 1).val < 1024 := hj; omega⟩

theorem idx6 (t : Fin cfg0.N) : (cfg0.win (6 : Fin 14)).index t = ![t.val, 0] := by
  show ![(BitVec.ofNat 32 (grid0.coords t 0).val).toNat, _] = _
  rw [word]; rfl

theorem outQ_eq : (outQ m c : S66048x512.Idx → EReal) = fun i => qOf m c (i 0) (i 1) := by
  refine (dats m 0 c).arrAt_eq_of_emb (6 : Fin 14) (fun i => qOf m c (i 0) (i 1)) (fun t _ y => ?_) (fun i => ?_)
  · have e0 : (((cfg0.win (6 : Fin 14)).blk t).view.emb y : S66048x512.Idx) 0 = rowOf t (y 0) := Fin.ext
      ((Pipeline.Window.rect_emb_val (cfg0.win (6 : Fin 14)) t _ _).trans (by rw [idx6]; rfl))
    have e1 : (((cfg0.win (6 : Fin 14)).blk t).view.emb y : S66048x512.Idx) 1 = y 1 := Fin.ext
      ((Pipeline.Window.rect_emb_val (cfg0.win (6 : Fin 14)) t _ _).trans (by rw [idx6]; simp))
    refine Eq.trans ?_ (congrArg₂ (qOf m c) e0.symm e1.symm)
    exact (congrArg ((dats m 0 c).after (6 : Fin 14) t) (eq_ix2 (y : S512x512.Idx))).trans (tileQ m c t (y 0) (y 1))
  · have hi : ((i : S66048x512.Idx) 0).val < 66048 := ((i : S66048x512.Idx) 0).isLt
    have hj : ((i : S66048x512.Idx) 1).val < 512 := ((i : S66048x512.Idx) 1).isLt
    refine ⟨⟨((i : S66048x512.Idx) 0).val / 512, by show _ < 129; omega⟩,
      flush_each 6 rfl (fun s t h => by rw [idx6, idx6] at h; exact Fin.ext (congrFun h (0 : Fin 2))) _,
      (Pipeline.Window.emb_mem_blk_iff (cfg0.win (6 : Fin 14)) _ i rfl).mpr fun a => ?_⟩
    rw [idx6]
    fin_cases a
    · show (i 0).val / 512 * 512 ≤ (i 0).val ∧ (i 0).val < (i 0).val / 512 * 512 + 512
      omega
    · exact ⟨by show 0 * 512 ≤ (i 1).val; omega, by show (i 1).val < 0 * 512 + 512; have hj' : (i 1).val < 512 := hj; omega⟩

theorem idx7 (t : Fin cfg0.N) : (cfg0.win (7 : Fin 14)).index t = ![t.val, 0] := by
  show ![(BitVec.ofNat 32 (grid0.coords t 0).val).toNat, _] = _
  rw [word]; rfl

theorem outU_eq : (outU m c : S66048x512.Idx → EReal) = fun i => uOf m c (i 0) (i 1) := by
  refine (dats m 0 c).arrAt_eq_of_emb (7 : Fin 14) (fun i => uOf m c (i 0) (i 1)) (fun t _ y => ?_) (fun i => ?_)
  · have e0 : (((cfg0.win (7 : Fin 14)).blk t).view.emb y : S66048x512.Idx) 0 = rowOf t (y 0) := Fin.ext
      ((Pipeline.Window.rect_emb_val (cfg0.win (7 : Fin 14)) t _ _).trans (by rw [idx7]; rfl))
    have e1 : (((cfg0.win (7 : Fin 14)).blk t).view.emb y : S66048x512.Idx) 1 = y 1 := Fin.ext
      ((Pipeline.Window.rect_emb_val (cfg0.win (7 : Fin 14)) t _ _).trans (by rw [idx7]; simp))
    refine Eq.trans ?_ (congrArg₂ (uOf m c) e0.symm e1.symm)
    exact (congrArg ((dats m 0 c).after (7 : Fin 14) t) (eq_ix2 (y : S512x512.Idx))).trans (tileU m c t (y 0) (y 1))
  · have hi : ((i : S66048x512.Idx) 0).val < 66048 := ((i : S66048x512.Idx) 0).isLt
    have hj : ((i : S66048x512.Idx) 1).val < 512 := ((i : S66048x512.Idx) 1).isLt
    refine ⟨⟨((i : S66048x512.Idx) 0).val / 512, by show _ < 129; omega⟩,
      flush_each 7 rfl (fun s t h => by rw [idx7, idx7] at h; exact Fin.ext (congrFun h (0 : Fin 2))) _,
      (Pipeline.Window.emb_mem_blk_iff (cfg0.win (7 : Fin 14)) _ i rfl).mpr fun a => ?_⟩
    rw [idx7]
    fin_cases a
    · show (i 0).val / 512 * 512 ≤ (i 0).val ∧ (i 0).val < (i 0).val / 512 * 512 + 512
      omega
    · exact ⟨by show 0 * 512 ≤ (i 1).val; omega, by show (i 1).val < 0 * 512 + 512; have hj' : (i 1).val < 512 := hj; omega⟩

theorem idx8 (t : Fin cfg0.N) : (cfg0.win (8 : Fin 14)).index t = ![t.val, 0] := by
  show ![(BitVec.ofNat 32 (grid0.coords t 0).val).toNat, _] = _
  rw [word]; rfl

theorem outKb_eq : (outKb m c : S66048x512.Idx → EReal) = fun i => kOf m c (i 0) (i 1) := by
  refine (dats m 0 c).arrAt_eq_of_emb (8 : Fin 14) (fun i => kOf m c (i 0) (i 1)) (fun t _ y => ?_) (fun i => ?_)
  · have e0 : (((cfg0.win (8 : Fin 14)).blk t).view.emb y : S66048x512.Idx) 0 = rowOf t (y 0) := Fin.ext
      ((Pipeline.Window.rect_emb_val (cfg0.win (8 : Fin 14)) t _ _).trans (by rw [idx8]; rfl))
    have e1 : (((cfg0.win (8 : Fin 14)).blk t).view.emb y : S66048x512.Idx) 1 = y 1 := Fin.ext
      ((Pipeline.Window.rect_emb_val (cfg0.win (8 : Fin 14)) t _ _).trans (by rw [idx8]; simp))
    refine Eq.trans ?_ (congrArg₂ (kOf m c) e0.symm e1.symm)
    exact (congrArg ((dats m 0 c).after (8 : Fin 14) t) (eq_ix2 (y : S512x512.Idx))).trans (tileKb m c t (y 0) (y 1))
  · have hi : ((i : S66048x512.Idx) 0).val < 66048 := ((i : S66048x512.Idx) 0).isLt
    have hj : ((i : S66048x512.Idx) 1).val < 512 := ((i : S66048x512.Idx) 1).isLt
    refine ⟨⟨((i : S66048x512.Idx) 0).val / 512, by show _ < 129; omega⟩,
      flush_each 8 rfl (fun s t h => by rw [idx8, idx8] at h; exact Fin.ext (congrFun h (0 : Fin 2))) _,
      (Pipeline.Window.emb_mem_blk_iff (cfg0.win (8 : Fin 14)) _ i rfl).mpr fun a => ?_⟩
    rw [idx8]
    fin_cases a
    · show (i 0).val / 512 * 512 ≤ (i 0).val ∧ (i 0).val < (i 0).val / 512 * 512 + 512
      omega
    · exact ⟨by show 0 * 512 ≤ (i 1).val; omega, by show (i 1).val < 0 * 512 + 512; have hj' : (i 1).val < 512 := hj; omega⟩

theorem idx9 (t : Fin cfg0.N) : (cfg0.win (9 : Fin 14)).index t = ![t.val, 0] := by
  show ![(BitVec.ofNat 32 (grid0.coords t 0).val).toNat, _] = _
  rw [word]; rfl

theorem outVb_eq : (outVb m c : S66048x512.Idx → EReal) = fun i => vOf m c (i 0) (i 1) := by
  refine (dats m 0 c).arrAt_eq_of_emb (9 : Fin 14) (fun i => vOf m c (i 0) (i 1)) (fun t _ y => ?_) (fun i => ?_)
  · have e0 : (((cfg0.win (9 : Fin 14)).blk t).view.emb y : S66048x512.Idx) 0 = rowOf t (y 0) := Fin.ext
      ((Pipeline.Window.rect_emb_val (cfg0.win (9 : Fin 14)) t _ _).trans (by rw [idx9]; rfl))
    have e1 : (((cfg0.win (9 : Fin 14)).blk t).view.emb y : S66048x512.Idx) 1 = y 1 := Fin.ext
      ((Pipeline.Window.rect_emb_val (cfg0.win (9 : Fin 14)) t _ _).trans (by rw [idx9]; simp))
    refine Eq.trans ?_ (congrArg₂ (vOf m c) e0.symm e1.symm)
    exact (congrArg ((dats m 0 c).after (9 : Fin 14) t) (eq_ix2 (y : S512x512.Idx))).trans (tileVb m c t (y 0) (y 1))
  · have hi : ((i : S66048x512.Idx) 0).val < 66048 := ((i : S66048x512.Idx) 0).isLt
    have hj : ((i : S66048x512.Idx) 1).val < 512 := ((i : S66048x512.Idx) 1).isLt
    refine ⟨⟨((i : S66048x512.Idx) 0).val / 512, by show _ < 129; omega⟩,
      flush_each 9 rfl (fun s t h => by rw [idx9, idx9] at h; exact Fin.ext (congrFun h (0 : Fin 2))) _,
      (Pipeline.Window.emb_mem_blk_iff (cfg0.win (9 : Fin 14)) _ i rfl).mpr fun a => ?_⟩
    rw [idx9]
    fin_cases a
    · show (i 0).val / 512 * 512 ≤ (i 0).val ∧ (i 0).val < (i 0).val / 512 * 512 + 512
      omega
    · exact ⟨by show 0 * 512 ≤ (i 1).val; omega, by show (i 1).val < 0 * 512 + 512; have hj' : (i 1).val < 512 := hj; omega⟩

/-! ## The frames' keys and values by heads -/

/-- The grid's coordinates at point `n`. -/
def point (n : Fin 129) : grid0.Coords := fun | 0 => n | ⟨_ + 1, h⟩ => absurd h (Nat.not_lt.2 (Nat.le_add_left _ _))

theorem coords_eq (t : Fin cfg0.N) : grid0.coords t = point ⟨t.val, t.isLt⟩ := funext fun
  | 0 => Fin.ext (crd_val t)
  | ⟨_ + 1, h⟩ => absurd h (Nat.not_lt.2 (Nat.le_add_left _ _))

/-- The block of a later point: four points to a sequence. -/
theorem word_seq : ∀ n : Fin 129, cc0_transform_10 (point n) = ![(n.val - 1) / 4, (n.val - 1) % 4, 0, 0] := by decide

theorem idx10 (t : Fin cfg0.N) : (cfg0.win (10 : Fin 14)).index t = ![(t.val - 1) / 4, (t.val - 1) % 4, 0, 0] := by
  show cc0_transform_10 (grid0.coords t) = _
  rw [coords_eq, word_seq]
theorem idx11 (t : Fin cfg0.N) : (cfg0.win (11 : Fin 14)).index t = ![(t.val - 1) / 4, (t.val - 1) % 4, 0, 0] := by
  show cc0_transform_10 (grid0.coords t) = _
  rw [coords_eq, word_seq]

/-- A result whose block is the first sequence's at the first two points, and another one at each later point, is
    written back at every point after the first. -/
theorem flush_later (w : Fin 14) (hout : (cfg0.win w).isOut = true)
    (hix : ∀ s t : Fin cfg0.N, (cfg0.win w).index s = (cfg0.win w).index t ↔ s.val - 1 = t.val - 1)
    (t : Fin cfg0.N) : (cfg0.win w).flush t = decide (t.val ≠ 0) := by
  have hN : t.val < 129 := t.isLt
  unfold Pipeline.Window.flush
  rw [hout, Bool.true_and]
  by_cases h0 : t.val = 0
  · rw [decide_eq_false (not_not.mpr h0), Bool.or_eq_false_iff]
    refine ⟨decide_eq_false (by rw [h0]; decide), decide_eq_false ?_⟩
    rintro ⟨hl, hx⟩
    exact hx ((hix _ _).mpr (by simp [h0]))
  · rw [decide_eq_true h0]
    by_cases h : t.val + 1 = cfg0.N
    · rw [decide_eq_true h, Bool.true_or]
    · refine (Bool.or_eq_true _ _).mpr (.inr (decide_eq_true ⟨lt_of_le_of_ne (Nat.succ_le_of_lt t.isLt) h, fun hx => ?_⟩))
      have h1 : t.val + 1 - 1 = t.val - 1 := (hix _ _).mp hx
      omega

/-- Four points to a sequence: the block tells the point. -/
theorem seq_inj (a b : ℕ) : (![a / 4, a % 4, 0, 0] : Fin 4 → ℕ) = ![b / 4, b % 4, 0, 0] ↔ a = b := by
  refine ⟨fun h => ?_, fun h => by rw [h]⟩
  have h0 : a / 4 = b / 4 := congrFun h 0
  have h1 : a % 4 = b % 4 := congrFun h 1
  omega

/-- The row of the arguments that is row `r` of sequence `s`. -/
def seqRow (s : Fin 32) (r : Fin 2048) : Fin 66048 := ⟨512 + (s.val * 2048 + r.val), by omega⟩

theorem flush10 (t : Fin cfg0.N) : (cfg0.win (10 : Fin 14)).flush t = decide (t.val ≠ 0) :=
  flush_later 10 rfl (fun s t => by rw [idx10, idx10]; exact seq_inj _ _) t

theorem outK_eq : (outK m c : S32x2048x4x128.Idx → EReal) = fun i => kOf m c (seqRow (i 0) (i 1)) (headCol (i 2) (i 3)) := by
  refine (dats m 0 c).arrAt_eq_of_emb (10 : Fin 14) (fun i => kOf m c (seqRow (i 0) (i 1)) (headCol (i 2) (i 3))) (fun t ht y => ?_) (fun i => ?_)
  · have h0 : t.val ≠ 0 := of_decide_eq_true ((flush10 t).symm.trans ht)
    have hy : (y 0).val < 1 := (y 0).isLt
    have e0 : ((((cfg0.win (10 : Fin 14)).blk t).view.emb y : S32x2048x4x128.Idx) 0).val = (t.val - 1) / 4 * 1 + (y 0).val :=
      (Pipeline.Window.rect_emb_val (cfg0.win (10 : Fin 14)) t _ _).trans (by rw [idx10]; rfl)
    have e1 : ((((cfg0.win (10 : Fin 14)).blk t).view.emb y : S32x2048x4x128.Idx) 1).val = (t.val - 1) % 4 * 512 + (y 1).val :=
      (Pipeline.Window.rect_emb_val (cfg0.win (10 : Fin 14)) t _ _).trans (by rw [idx10]; rfl)
    have e2 : (((cfg0.win (10 : Fin 14)).blk t).view.emb y : S32x2048x4x128.Idx) 2 = y 2 := Fin.ext
      ((Pipeline.Window.rect_emb_val (cfg0.win (10 : Fin 14)) t _ _).trans (by rw [idx10]; simp))
    have e3 : (((cfg0.win (10 : Fin 14)).blk t).view.emb y : S32x2048x4x128.Idx) 3 = y 3 := Fin.ext
      ((Pipeline.Window.rect_emb_val (cfg0.win (10 : Fin 14)) t _ _).trans (by rw [idx10]; simp))
    have er : rowOf t (y 1) = seqRow (((cfg0.win (10 : Fin 14)).blk t).view.emb y 0) (((cfg0.win (10 : Fin 14)).blk t).view.emb y 1) := Fin.ext (by
      show t.val * 512 + (y 1).val = 512 + (_ * 2048 + _)
      rw [e0, e1]; omega)
    refine Eq.trans ?_ (congrArg₂ (kOf m c) er (congrArg₂ headCol e2.symm e3.symm))
    refine (congrArg ((dats m 0 c).after (10 : Fin 14) t) ?_).trans (tileK m c t (y 1) (y 2) (y 3))
    refine (eq_ix4 (y : S1x512x4x128.Idx)).trans ?_
    exact congrArg (fun u : Fin 1 => (ix4 u (y 1) (y 2) (y 3) : S1x512x4x128.Idx)) (Fin.ext (by show (y 0).val = 0; omega))
  · have h0 : ((i : S32x2048x4x128.Idx) 0).val < 32 := ((i : S32x2048x4x128.Idx) 0).isLt
    have h1 : ((i : S32x2048x4x128.Idx) 1).val < 2048 := ((i : S32x2048x4x128.Idx) 1).isLt
    have h2 : ((i : S32x2048x4x128.Idx) 2).val < 4 := ((i : S32x2048x4x128.Idx) 2).isLt
    have h3 : ((i : S32x2048x4x128.Idx) 3).val < 128 := ((i : S32x2048x4x128.Idx) 3).isLt
    refine ⟨⟨((i : S32x2048x4x128.Idx) 0).val * 4 + ((i : S32x2048x4x128.Idx) 1).val / 512 + 1, by show _ < 129; omega⟩,
      (flush10 _).trans (decide_eq_true (Nat.succ_ne_zero _)),
      (Pipeline.Window.emb_mem_blk_iff (cfg0.win (10 : Fin 14)) _ i rfl).mpr fun a => ?_⟩
    rw [idx10]
    fin_cases a
    · show ((i 0).val * 4 + (i 1).val / 512 + 1 - 1) / 4 * 1 ≤ (i 0).val ∧ (i 0).val < ((i 0).val * 4 + (i 1).val / 512 + 1 - 1) / 4 * 1 + 1
      omega
    · show ((i 0).val * 4 + (i 1).val / 512 + 1 - 1) % 4 * 512 ≤ (i 1).val ∧ (i 1).val < ((i 0).val * 4 + (i 1).val / 512 + 1 - 1) % 4 * 512 + 512
      omega
    · show 0 * 4 ≤ (i 2).val ∧ (i 2).val < 0 * 4 + 4
      omega
    · show 0 * 128 ≤ (i 3).val ∧ (i 3).val < 0 * 128 + 128
      omega

theorem flush11 (t : Fin cfg0.N) : (cfg0.win (11 : Fin 14)).flush t = decide (t.val ≠ 0) :=
  flush_later 11 rfl (fun s t => by rw [idx11, idx11]; exact seq_inj _ _) t

theorem outV_eq : (outV m c : S32x2048x4x128.Idx → EReal) = fun i => vOf m c (seqRow (i 0) (i 1)) (headCol (i 2) (i 3)) := by
  refine (dats m 0 c).arrAt_eq_of_emb (11 : Fin 14) (fun i => vOf m c (seqRow (i 0) (i 1)) (headCol (i 2) (i 3))) (fun t ht y => ?_) (fun i => ?_)
  · have h0 : t.val ≠ 0 := of_decide_eq_true ((flush11 t).symm.trans ht)
    have hy : (y 0).val < 1 := (y 0).isLt
    have e0 : ((((cfg0.win (11 : Fin 14)).blk t).view.emb y : S32x2048x4x128.Idx) 0).val = (t.val - 1) / 4 * 1 + (y 0).val :=
      (Pipeline.Window.rect_emb_val (cfg0.win (11 : Fin 14)) t _ _).trans (by rw [idx11]; rfl)
    have e1 : ((((cfg0.win (11 : Fin 14)).blk t).view.emb y : S32x2048x4x128.Idx) 1).val = (t.val - 1) % 4 * 512 + (y 1).val :=
      (Pipeline.Window.rect_emb_val (cfg0.win (11 : Fin 14)) t _ _).trans (by rw [idx11]; rfl)
    have e2 : (((cfg0.win (11 : Fin 14)).blk t).view.emb y : S32x2048x4x128.Idx) 2 = y 2 := Fin.ext
      ((Pipeline.Window.rect_emb_val (cfg0.win (11 : Fin 14)) t _ _).trans (by rw [idx11]; simp))
    have e3 : (((cfg0.win (11 : Fin 14)).blk t).view.emb y : S32x2048x4x128.Idx) 3 = y 3 := Fin.ext
      ((Pipeline.Window.rect_emb_val (cfg0.win (11 : Fin 14)) t _ _).trans (by rw [idx11]; simp))
    have er : rowOf t (y 1) = seqRow (((cfg0.win (11 : Fin 14)).blk t).view.emb y 0) (((cfg0.win (11 : Fin 14)).blk t).view.emb y 1) := Fin.ext (by
      show t.val * 512 + (y 1).val = 512 + (_ * 2048 + _)
      rw [e0, e1]; omega)
    refine Eq.trans ?_ (congrArg₂ (vOf m c) er (congrArg₂ headCol e2.symm e3.symm))
    refine (congrArg ((dats m 0 c).after (11 : Fin 14) t) ?_).trans (tileV m c t (y 1) (y 2) (y 3))
    refine (eq_ix4 (y : S1x512x4x128.Idx)).trans ?_
    exact congrArg (fun u : Fin 1 => (ix4 u (y 1) (y 2) (y 3) : S1x512x4x128.Idx)) (Fin.ext (by show (y 0).val = 0; omega))
  · have h0 : ((i : S32x2048x4x128.Idx) 0).val < 32 := ((i : S32x2048x4x128.Idx) 0).isLt
    have h1 : ((i : S32x2048x4x128.Idx) 1).val < 2048 := ((i : S32x2048x4x128.Idx) 1).isLt
    have h2 : ((i : S32x2048x4x128.Idx) 2).val < 4 := ((i : S32x2048x4x128.Idx) 2).isLt
    have h3 : ((i : S32x2048x4x128.Idx) 3).val < 128 := ((i : S32x2048x4x128.Idx) 3).isLt
    refine ⟨⟨((i : S32x2048x4x128.Idx) 0).val * 4 + ((i : S32x2048x4x128.Idx) 1).val / 512 + 1, by show _ < 129; omega⟩,
      (flush11 _).trans (decide_eq_true (Nat.succ_ne_zero _)),
      (Pipeline.Window.emb_mem_blk_iff (cfg0.win (11 : Fin 14)) _ i rfl).mpr fun a => ?_⟩
    rw [idx11]
    fin_cases a
    · show ((i 0).val * 4 + (i 1).val / 512 + 1 - 1) / 4 * 1 ≤ (i 0).val ∧ (i 0).val < ((i 0).val * 4 + (i 1).val / 512 + 1 - 1) / 4 * 1 + 1
      omega
    · show ((i 0).val * 4 + (i 1).val / 512 + 1 - 1) % 4 * 512 ≤ (i 1).val ∧ (i 1).val < ((i 0).val * 4 + (i 1).val / 512 + 1 - 1) % 4 * 512 + 512
      omega
    · show 0 * 4 ≤ (i 2).val ∧ (i 2).val < 0 * 4 + 4
      omega
    · show 0 * 128 ≤ (i 3).val ∧ (i 3).val < 0 * 128 + 128
      omega

/-! ## The extra rows' keys and values -/

/-- The row of the arguments that is extra row `r`. -/
def extraRow (r : Fin 512) : Fin 66048 := ⟨r.val, by omega⟩

theorem outKx_eq : (outKx m c : S512x512.Idx → EReal) = fun i => kOf m c (extraRow (i 0)) (i 1) := by
  refine (dats m 0 c).arrAt_eq_of_emb (12 : Fin 14) (fun i => kOf m c (extraRow (i 0)) (i 1)) (fun t _ y => ?_) (fun i => ?_)
  · have e0 : ((((cfg0.win (12 : Fin 14)).blk t).view.emb y : S512x512.Idx) 0).val = (y 0).val :=
      (Pipeline.Window.rect_emb_val (cfg0.win (12 : Fin 14)) t _ _).trans (by rw [show (cfg0.win (12 : Fin 14)).index t = ![0, 0] from rfl]; simp)
    have e1 : (((cfg0.win (12 : Fin 14)).blk t).view.emb y : S512x512.Idx) 1 = y 1 := Fin.ext
      ((Pipeline.Window.rect_emb_val (cfg0.win (12 : Fin 14)) t _ _).trans (by rw [show (cfg0.win (12 : Fin 14)).index t = ![0, 0] from rfl]; simp))
    have er : rowOf first (y 0) = extraRow (((cfg0.win (12 : Fin 14)).blk t).view.emb y 0) := Fin.ext (by
      show 0 * 512 + (y 0).val = _
      rw [Nat.zero_mul, Nat.zero_add]; exact e0.symm)
    refine Eq.trans ?_ (congrArg₂ (kOf m c) er e1.symm)
    exact (congrArg ((dats m 0 c).after (12 : Fin 14) t) (eq_ix2 (y : S512x512.Idx))).trans (tileKx m c t (y 0) (y 1))
  · have hi : ((i : S512x512.Idx) 0).val < 512 := ((i : S512x512.Idx) 0).isLt
    have hj : ((i : S512x512.Idx) 1).val < 512 := ((i : S512x512.Idx) 1).isLt
    refine ⟨⟨128, by decide⟩, by rw [flush12]; rfl, (Pipeline.Window.emb_mem_blk_iff (cfg0.win (12 : Fin 14)) _ i rfl).mpr fun a => ?_⟩
    rw [show (cfg0.win (12 : Fin 14)).index _ = ![0, 0] from rfl]
    fin_cases a
    · show 0 * 512 ≤ (i 0).val ∧ (i 0).val < 0 * 512 + 512
      omega
    · show 0 * 512 ≤ (i 1).val ∧ (i 1).val < 0 * 512 + 512
      omega

theorem outVx_eq : (outVx m c : S512x512.Idx → EReal) = fun i => vOf m c (extraRow (i 0)) (i 1) := by
  refine (dats m 0 c).arrAt_eq_of_emb (13 : Fin 14) (fun i => vOf m c (extraRow (i 0)) (i 1)) (fun t _ y => ?_) (fun i => ?_)
  · have e0 : ((((cfg0.win (13 : Fin 14)).blk t).view.emb y : S512x512.Idx) 0).val = (y 0).val :=
      (Pipeline.Window.rect_emb_val (cfg0.win (13 : Fin 14)) t _ _).trans (by rw [show (cfg0.win (13 : Fin 14)).index t = ![0, 0] from rfl]; simp)
    have e1 : (((cfg0.win (13 : Fin 14)).blk t).view.emb y : S512x512.Idx) 1 = y 1 := Fin.ext
      ((Pipeline.Window.rect_emb_val (cfg0.win (13 : Fin 14)) t _ _).trans (by rw [show (cfg0.win (13 : Fin 14)).index t = ![0, 0] from rfl]; simp))
    have er : rowOf first (y 0) = extraRow (((cfg0.win (13 : Fin 14)).blk t).view.emb y 0) := Fin.ext (by
      show 0 * 512 + (y 0).val = _
      rw [Nat.zero_mul, Nat.zero_add]; exact e0.symm)
    refine Eq.trans ?_ (congrArg₂ (vOf m c) er e1.symm)
    exact (congrArg ((dats m 0 c).after (13 : Fin 14) t) (eq_ix2 (y : S512x512.Idx))).trans (tileVx m c t (y 0) (y 1))
  · have hi : ((i : S512x512.Idx) 0).val < 512 := ((i : S512x512.Idx) 0).isLt
    have hj : ((i : S512x512.Idx) 1).val < 512 := ((i : S512x512.Idx) 1).isLt
    refine ⟨⟨128, by decide⟩, by rw [flush13]; rfl, (Pipeline.Window.emb_mem_blk_iff (cfg0.win (13 : Fin 14)) _ i rfl).mpr fun a => ?_⟩
    rw [show (cfg0.win (13 : Fin 14)).index _ = ![0, 0] from rfl]
    fin_cases a
    · show 0 * 512 ≤ (i 0).val ∧ (i 0).val < 0 * 512 + 512
      omega
    · show 0 * 512 ≤ (i 1).val ∧ (i 1).val < 0 * 512 + 512
      omega

end Cert.Proj.Value

end
-- ==== Proof.ProjRefNorm.lean ====
/-
  The first projection in extended reals, as its reference computes it: the rows laid end to end, normalized, multiplied
  by the weights and cut into quarters.
-/
module

public import proofs.«01_k».proof.Proof.ProjNorm
public import proofs.«01_k».proof.Proof.Gen.ProjRefIdeal.Run

@[expose] public section

set_option maxRecDepth 16384

open Idealize.ShloMosaic
open Idealize.ShloMosaic.TcCoe
open Idealize.SL.Sem

namespace Cert.ProjRefIdeal.Value

open Cert.ProjRefIdeal Cert.ProjRefIdeal.Gen

attribute [local instance] Cert.ProjRefIdeal.Gen.facts Cert.TailRefIdeal.Gen.facts

variable (x : FVec Ideal S512x1024 .f32) (y : FVec Ideal S65536x1024 .f32) (g b : FVec Ideal S1024 .f32) (w : FVec Ideal S1024x2048 .f32)

/-- The reference's stages: all rows, the normalized rows, and their products with the weights. -/
noncomputable def rows : FVec Ideal S66048x1024 .f32 :=
  concatenate S66048x1024 0 [⟨S512x1024, x⟩, ⟨S65536x1024, y⟩] concatenates_S512x1024_S65536x1024_S66048x1024_d0
noncomputable def normed : FVec Ideal S66048x1024 .f32 := Cert.TailRefIdeal.Value.normedOf g b (rows x y)
noncomputable def projected : FVec Ideal S66048x2048 .f32 :=
  Host.dotGeneral dot_S66048x1024_S1024x2048_S66048x2048_1_0_0_1_n_n none (normed x y g b) w

/-- Row `n`, the extra ones first. -/
noncomputable def rowOf (n : Fin 66048) (j : Fin 1024) : EReal :=
  if h : n.val < 512 then x (ix2 ⟨n.val, h⟩ j) else y (ix2 ⟨n.val - 512, by omega⟩ j)

theorem rows_apply (n : Fin 66048) (j : Fin 1024) : rows x y (ix2 n j) = rowOf x y n j := by
  unfold rowOf
  pointwise [rows]

theorem normed_apply (n : Fin 66048) (d : Fin 1024) :
    normed x y g b (ix2 n d) = Norm.row (rowOf x y n) (fun j => g (ix1 j)) (fun j => b (ix1 j)) d :=
  (Cert.TailRefIdeal.Value.normedOf_apply g b _ n d).trans (congrArg (fun r => Norm.row r _ _ d) (funext fun j => rows_apply x y n j))

theorem projected_apply (n : Fin 66048) (e : Fin 2048) :
    projected x y g b w (ix2 n e) = Norm.proj (rowOf x y n) (fun j => g (ix1 j)) (fun j => b (ix1 j)) (fun d => w (ix2 d e)) := by
  unfold projected Norm.proj
  have hh := normed_apply x y g b n
  generalize normed x y g b = h at hh ⊢
  pointwise
  simp only [← hh]

/-- A quarter of the columns. -/
theorem quarter_apply (z : FVec Ideal S66048x2048 .f32) (o : ℕ) (ho : o + 512 ≤ 2048) (h : S66048x2048.Slices ![0, o] S66048x512) (n : Fin 66048) (e : Fin 512) :
    (extractStridedSlice S66048x512 ![0, o] z h : S66048x512.Idx → EReal) (ix2 n e) = z (ix2 n (Cert.Proj.Value.col o ho e)) := by
  pointwise
  rfl

/-- The frames' rows by sequences and heads. -/
theorem heads_apply (z : FVec Ideal S66048x512 .f32) (s : Fin 32) (r : Fin 2048) (a : Fin 4) (e : Fin 128) :
    (shapeCast S32x2048x4x128 (extractStridedSlice S65536x512 ![512, 0] z slices_S66048x512_S65536x512_512_0) shapeCasts_S65536x512_S32x2048x4x128
      : S32x2048x4x128.Idx → EReal) (ix4 s r a e) = z (ix2 ⟨512 + (s.val * 2048 + r.val), by omega⟩ (Cert.Proj.Value.headCol a e)) := by
  pointwise
  rfl

/-- The first rows. -/
theorem first_apply (z : FVec Ideal S66048x512 .f32) (r e : Fin 512) :
    (extractStridedSlice S512x512 ![0, 0] z slices_S66048x512_S512x512_0_0 : S512x512.Idx → EReal) (ix2 r e) = z (ix2 ⟨r.val, by omega⟩ e) := by
  pointwise

end Cert.ProjRefIdeal.Value
-- ==== Proof.ProjAlgebraic.lean ====
/-
  The first projection and its reference compute the same nine arrays: both have been read as the normalized rows of the
  arguments and their products with the weights, and the two launches hold the same arguments.
-/
module

public import proofs.«01_k».proof.Proof.ProjOut
public import proofs.«01_k».proof.Proof.ProjRefNorm

@[expose] public section

set_option maxRecDepth 16384

noncomputable section

open Idealize.ShloMosaic
open Idealize.ShloMosaic.TcCoe
open Idealize.SL.Sem

namespace Cert.ProjAlgebraic

attribute [local instance] Cert.Proj.Gen.facts Cert.ProjRefIdeal.Gen.facts Cert.TailRefIdeal.Gen.facts

variable (m : (ℓ : Loc Cert.Proj.nD Cert.Proj.τ Cert.Proj.sig) → Buf (Elt Ideal) ℓ)
  (m' : (ℓ : Loc Cert.ProjRefIdeal.nD Cert.ProjRefIdeal.τ Cert.ProjRefIdeal.sig) → Buf (Elt Ideal) ℓ)

/-- The reference is launched with the kernel's arguments. -/
def Agree : Prop := ∀ c : Dev Cert.Proj.nD,
  m' ((c.tc : Thread Cert.ProjRefIdeal.nD Cert.ProjRefIdeal.τ).loc Cert.ProjRefIdeal.main_arg0) = m ((c.tc : Thread Cert.Proj.nD Cert.Proj.τ).loc Cert.Proj.main_arg0)
  ∧ m' ((c.tc : Thread Cert.ProjRefIdeal.nD Cert.ProjRefIdeal.τ).loc Cert.ProjRefIdeal.main_arg1) = m ((c.tc : Thread Cert.Proj.nD Cert.Proj.τ).loc Cert.Proj.main_arg1)
  ∧ m' ((c.tc : Thread Cert.ProjRefIdeal.nD Cert.ProjRefIdeal.τ).loc Cert.ProjRefIdeal.main_arg2) = m ((c.tc : Thread Cert.Proj.nD Cert.Proj.τ).loc Cert.Proj.main_arg2)
  ∧ m' ((c.tc : Thread Cert.ProjRefIdeal.nD Cert.ProjRefIdeal.τ).loc Cert.ProjRefIdeal.main_arg3) = m ((c.tc : Thread Cert.Proj.nD Cert.Proj.τ).loc Cert.Proj.main_arg3)
  ∧ m' ((c.tc : Thread Cert.ProjRefIdeal.nD Cert.ProjRefIdeal.τ).loc Cert.ProjRefIdeal.main_arg4) = m ((c.tc : Thread Cert.Proj.nD Cert.Proj.τ).loc Cert.Proj.main_arg4)

open Cert.Proj.Value (extra frames scale shift weights hOf pOf qOf kOf vOf uOf col headCol)

/-- The reference's normalized rows and their products, of the kernel's arguments. -/
abbrev refH (c : Dev Cert.Proj.nD) : FVec Ideal Cert.ProjRefIdeal.S66048x1024 .f32 :=
  Cert.ProjRefIdeal.Value.normed (extra m c) (frames m c) (scale m c) (shift m c)
abbrev refP (c : Dev Cert.Proj.nD) : FVec Ideal Cert.ProjRefIdeal.S66048x2048 .f32 :=
  Cert.ProjRefIdeal.Value.projected (extra m c) (frames m c) (scale m c) (shift m c) (weights m c)

theorem refH_apply (c : Dev Cert.Proj.nD) (n : Fin 66048) (d : Fin 1024) : refH m c (ix2 n d) = hOf m c n d :=
  Cert.ProjRefIdeal.Value.normed_apply _ _ _ _ n d
theorem refP_apply (c : Dev Cert.Proj.nD) (n : Fin 66048) (e : Fin 2048) : refP m c (ix2 n e) = pOf m c n e :=
  Cert.ProjRefIdeal.Value.projected_apply _ _ _ _ _ n e

/-- A quarter of the reference's products, element by element. -/
theorem quarter_eq (c : Dev Cert.Proj.nD) (o : ℕ) (ho : o + 512 ≤ 2048) (h : Cert.ProjRefIdeal.S66048x2048.Slices ![0, o] Cert.ProjRefIdeal.S66048x512)
    (n : Fin 66048) (e : Fin 512) :
    (extractStridedSlice Cert.ProjRefIdeal.S66048x512 ![0, o] (refP m c) h : Cert.ProjRefIdeal.S66048x512.Idx → EReal) (ix2 n e) = pOf m c n (col o ho e) :=
  (Cert.ProjRefIdeal.Value.quarter_apply _ o ho h n e).trans (refP_apply m c n _)

/-! ## The results, one by one -/

open Cert.ProjRefIdeal

theorem h_out (c : Dev Cert.Proj.nD) : (refH m c : S66048x1024.Idx → EReal) = Cert.Proj.Tile.outH m c := by
  rw [Cert.Proj.Value.outH_eq]
  funext i
  exact (congrArg (refH m c) (eq_ix2 i)).trans (refH_apply m c _ _)

theorem q_out (c : Dev Cert.Proj.nD) (h hb hw) :
    (truncf .bf16 (mulf (extractStridedSlice S66048x512 ![0, 0] (refP m c) h)
      (broadcastInDim S66048x512 ![] hb (constant S_ .f32 0x3E38AA3B#32))) hw : S66048x512.Idx → EReal) = Cert.Proj.Tile.outQ m c := by
  rw [Cert.Proj.Value.outQ_eq]
  funext i
  obtain ⟨n, e, rfl⟩ : ∃ (n : Fin 66048) (e : Fin 512), i = ix2 n e := ⟨i 0, i 1, eq_ix2 i⟩
  refine Eq.trans ?_ (congrArg (· * Norm.qScale) (quarter_eq m c 0 (by decide) h n e))
  generalize refP m c = z
  pointwise
  rfl

theorem u_out (c : Dev Cert.Proj.nD) (h) : ((extractStridedSlice S66048x512 ![0, 1536] (refP m c) h) : S66048x512.Idx → EReal) = Cert.Proj.Tile.outU m c := by
  rw [Cert.Proj.Value.outU_eq]
  funext i
  obtain ⟨n, e, rfl⟩ : ∃ (n : Fin 66048) (e : Fin 512), i = ix2 n e := ⟨i 0, i 1, eq_ix2 i⟩
  exact quarter_eq m c 1536 (by decide) h n e

theorem kb_out (c : Dev Cert.Proj.nD) (h hw) : (truncf .bf16 (extractStridedSlice S66048x512 ![0, 512] (refP m c) h) hw : S66048x512.Idx → EReal) = Cert.Proj.Tile.outKb m c := by
  rw [Cert.Proj.Value.outKb_eq]
  funext i
  obtain ⟨n, e, rfl⟩ : ∃ (n : Fin 66048) (e : Fin 512), i = ix2 n e := ⟨i 0, i 1, eq_ix2 i⟩
  refine Eq.trans ?_ (quarter_eq m c 512 (by decide) h n e)
  generalize (extractStridedSlice S66048x512 ![0, 512] (refP m c) h) = z
  pointwise

theorem k_out (c : Dev Cert.Proj.nD) (h hs hr) :
    (shapeCast S32x2048x4x128 (extractStridedSlice S65536x512 ![512, 0] (extractStridedSlice S66048x512 ![0, 512] (refP m c) h) hs) hr
      : S32x2048x4x128.Idx → EReal) = Cert.Proj.Tile.outK m c := by
  rw [Cert.Proj.Value.outK_eq]
  funext i
  obtain ⟨s, r, a, e, rfl⟩ : ∃ (s : Fin 32) (r : Fin 2048) (a : Fin 4) (e : Fin 128), i = ix4 s r a e := ⟨i 0, i 1, i 2, i 3, eq_ix4 i⟩
  exact (Value.heads_apply _ s r a e).trans (quarter_eq m c 512 (by decide) h _ _)

theorem kx_out (c : Dev Cert.Proj.nD) (h hs) :
    (extractStridedSlice S512x512 ![0, 0] (extractStridedSlice S66048x512 ![0, 512] (refP m c) h) hs : S512x512.Idx → EReal) = Cert.Proj.Tile.outKx m c := by
  rw [Cert.Proj.Value.outKx_eq]
  funext i
  obtain ⟨r, e, rfl⟩ : ∃ (r e : Fin 512), i = ix2 r e := ⟨i 0, i 1, eq_ix2 i⟩
  exact (Value.first_apply _ r e).trans (quarter_eq m c 512 (by decide) h _ _)

theorem vb_out (c : Dev Cert.Proj.nD) (h hw) : (truncf .bf16 (extractStridedSlice S66048x512 ![0, 1024] (refP m c) h) hw : S66048x512.Idx → EReal) = Cert.Proj.Tile.outVb m c := by
  rw [Cert.Proj.Value.outVb_eq]
  funext i
  obtain ⟨n, e, rfl⟩ : ∃ (n : Fin 66048) (e : Fin 512), i = ix2 n e := ⟨i 0, i 1, eq_ix2 i⟩
  refine Eq.trans ?_ (quarter_eq m c 1024 (by decide) h n e)
  generalize (extractStridedSlice S66048x512 ![0, 1024] (refP m c) h) = z
  pointwise

theorem v_out (c : Dev Cert.Proj.nD) (h hs hr) :
    (shapeCast S32x2048x4x128 (extractStridedSlice S65536x512 ![512, 0] (extractStridedSlice S66048x512 ![0, 1024] (refP m c) h) hs) hr
      : S32x2048x4x128.Idx → EReal) = Cert.Proj.Tile.outV m c := by
  rw [Cert.Proj.Value.outV_eq]
  funext i
  obtain ⟨s, r, a, e, rfl⟩ : ∃ (s : Fin 32) (r : Fin 2048) (a : Fin 4) (e : Fin 128), i = ix4 s r a e := ⟨i 0, i 1, i 2, i 3, eq_ix4 i⟩
  exact (Value.heads_apply _ s r a e).trans (quarter_eq m c 1024 (by decide) h _ _)

theorem vx_out (c : Dev Cert.Proj.nD) (h hs) :
    (extractStridedSlice S512x512 ![0, 0] (extractStridedSlice S66048x512 ![0, 1024] (refP m c) h) hs : S512x512.Idx → EReal) = Cert.Proj.Tile.outVx m c := by
  rw [Cert.Proj.Value.outVx_eq]
  funext i
  obtain ⟨r, e, rfl⟩ : ∃ (r e : Fin 512), i = ix2 r e := ⟨i 0, i 1, eq_ix2 i⟩
  exact (Value.first_apply _ r e).trans (quarter_eq m c 1024 (by decide) h _ _)

/-- THE REFERENCE'S RUN from the kernel's arguments: its results are the kernel's arrays. -/
theorem ref_run (ha : Agree m m') (ρ : Dev Cert.ProjRefIdeal.nD → PrngReg) :
    θ_run Cert.ProjRefIdeal.defs (onTc (τ := Cert.ProjRefIdeal.τ) (Cert.ProjRefIdeal.main (F := Ideal))) ⟨m', fun _ => 0, ρ⟩ fun r => ∀ c : Dev Cert.ProjRefIdeal.nD,
      r.2.mem ((c.tc : Thread Cert.ProjRefIdeal.nD Cert.ProjRefIdeal.τ).loc Cert.ProjRefIdeal.main_v24) = Cert.Proj.Tile.outH m c
      ∧ r.2.mem ((c.tc : Thread Cert.ProjRefIdeal.nD Cert.ProjRefIdeal.τ).loc Cert.ProjRefIdeal.main_v32) = Cert.Proj.Tile.outQ m c
      ∧ r.2.mem ((c.tc : Thread Cert.ProjRefIdeal.nD Cert.ProjRefIdeal.τ).loc Cert.ProjRefIdeal.main_v29) = Cert.Proj.Tile.outU m c
      ∧ r.2.mem ((c.tc : Thread Cert.ProjRefIdeal.nD Cert.ProjRefIdeal.τ).loc Cert.ProjRefIdeal.main_v33) = Cert.Proj.Tile.outKb m c
      ∧ r.2.mem ((c.tc : Thread Cert.ProjRefIdeal.nD Cert.ProjRefIdeal.τ).loc Cert.ProjRefIdeal.main_v34) = Cert.Proj.Tile.outVb m c
      ∧ r.2.mem ((c.tc : Thread Cert.ProjRefIdeal.nD Cert.ProjRefIdeal.τ).loc Cert.ProjRefIdeal.main_v36) = Cert.Proj.Tile.outK m c
      ∧ r.2.mem ((c.tc : Thread Cert.ProjRefIdeal.nD Cert.ProjRefIdeal.τ).loc Cert.ProjRefIdeal.main_v38) = Cert.Proj.Tile.outV m c
      ∧ r.2.mem ((c.tc : Thread Cert.ProjRefIdeal.nD Cert.ProjRefIdeal.τ).loc Cert.ProjRefIdeal.main_v39) = Cert.Proj.Tile.outKx m c
      ∧ r.2.mem ((c.tc : Thread Cert.ProjRefIdeal.nD Cert.ProjRefIdeal.τ).loc Cert.ProjRefIdeal.main_v40) = Cert.Proj.Tile.outVx m c
      ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4) := by
  refine (θ_run Cert.ProjRefIdeal.defs _ _).mono (fun r hr c => ?_) (Cert.ProjRefIdeal.Value.run m' ρ)
  have hc := hr c
  obtain ⟨h0, h1, h2, h3, h4⟩ := ha c
  rw [h0, h1, h2, h3, h4] at hc
  obtain ⟨rh, rq, ru, rkb, rvb, rk, rv, rkx, rvx, hargs⟩ := hc
  exact ⟨rh.trans (h_out m c), rq.trans (q_out m c _ _ _), ru.trans (u_out m c _), rkb.trans (kb_out m c _ _), rvb.trans (vb_out m c _ _), rk.trans (k_out m c _ _ _), rv.trans (v_out m c _ _ _), rkx.trans (kx_out m c _ _), rvx.trans (vx_out m c _ _), by rw [h0, h1, h2, h3, h4]; exact hargs⟩

end Cert.ProjAlgebraic

end
-- ==== Proof.NextSame.lean ====
module

public import proofs.«01_k».proof.Proof.Gen.Next.Launch
public import proofs.«01_k».proof.Proof.Gen.NextIdeal.Launch

/-! The idealized second-projection program is the program as printed: no rule was offered, so the two texts are one, at
every number system. What is proved of the one is read here of the other. -/

@[expose] public section

set_option maxRecDepth 100000

noncomputable section

namespace Cert.NextSame

open Idealize.ShloMosaic Idealize.ShloMosaic.TcCoe Idealize.SL.Sem

variable {F : FTy → Type} [FloatOps F]

attribute [local instance] Cert.Next.Gen.facts Cert.NextIdeal.Gen.facts

set_option maxHeartbeats 1000000 in
theorem body_eq : @Cert.NextIdeal.cc0_k1_next F _ _ = @Cert.Next.cc0_k1_next F _ _ := by
  unfold Cert.NextIdeal.cc0_k1_next Cert.Next.cc0_k1_next
  rfl

set_option maxHeartbeats 1000000 in
theorem main_eq : @Cert.NextIdeal.main F _ _ = @Cert.Next.main F _ _ := by
  unfold Cert.NextIdeal.main Cert.Next.main
  rfl

set_option maxHeartbeats 1000000 in
/-- The bodies the pipelines call. -/
theorem defs₀_eq : @Cert.NextIdeal.defs₀ F _ _ = @Cert.Next.defs₀ F _ _ := by
  unfold Cert.NextIdeal.defs₀ Cert.Next.defs₀
  refine congrArg Defs.onTc (funext fun ℓ => funext fun a => ?_)
  rcases ℓ with ⟨_ | n, h⟩
  · obtain ⟨t, s⟩ := a
    dsimp only
    rw [body_eq]
    rfl
  · exact absurd h (Nat.not_lt.2 (Nat.le_add_left _ _))

/-- The programs' pipelines with their bodies. -/
theorem defs_eq : @Cert.NextIdeal.defs F _ _ = @Cert.Next.defs F _ _ := by
  unfold Cert.NextIdeal.defs Cert.Next.defs
  exact congrArg (Pipeline.defs Cert.Next.pcfgs) defs₀_eq

/-- So the two programs have the same runs. -/
theorem run_eq (s : MemSt Cert.Next.nD Cert.Next.τ Cert.Next.sig (Elt F)) :
    θ_run (Cert.NextIdeal.defs (F := F)) (onTc (τ := Cert.NextIdeal.τ) (Cert.NextIdeal.main (F := F))) s
      = θ_run (Cert.Next.defs (F := F)) (onTc (τ := Cert.Next.τ) (Cert.Next.main (F := F))) s := by
  exact congrArg₂ (fun d p => θ_run d (onTc (τ := Cert.Next.τ) p) s) defs_eq main_eq

end Cert.NextSame

end
-- ==== Proof.NextBody.lean ====
module

public import proofs.«01_k».proof.Proof.Gen.Next.Skeleton
public import proofs.«01_k».proof.Proof.Gen.Next.Launch
public import proofs.«01_k».proof.Proof.Whole
public import Idealize.ShloMosaic.Lib.Pipeline.Quiescent
public import Idealize.ShloMosaic.Lib.Claim
public import Idealize.ShloMosaic.Lib.Pipeline.Kit
public import Idealize.ShloMosaic.Lib.Pipeline.Frame
public import Idealize.ShloMosaic.Lib.Ring
public import Idealize.ShloMosaic.Adequacy
public import Idealize.ShloMosaic.Init

/-! One grid point of the second projection. The rows of the residual and the rows added to it are joined and normalized
and multiplied by the four quarters of the weights' columns. At the first point the keys and values are also stored in two
buffers of their own; at a later point those two buffers are not touched. Stated for every number system `F`. -/

@[expose] public section

set_option maxRecDepth 16384
set_option Elab.async false

noncomputable section

namespace Cert.Next.Tile

open Cert.Next Cert.Next.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x2048 .bf16) (harg5 : arg5.IsWhole)
  (arg6 : Memref sig .tc .hbm S2x32x2048x4x128 .f32) (harg6 : arg6.IsWhole)
  (arg7 : Memref sig .tc .hbm S2x32x2048x4x128 .f32) (harg7 : arg7.IsWhole)
  (arg8 : Memref sig .tc .vmem S512x1024 .f32) (harg8 : arg8.IsWhole)
  (arg9 : Memref sig .tc .vmem S512x512 .bf16) (harg9 : arg9.IsWhole)
  (arg10 : Memref sig .tc .vmem S512x512 .f32) (harg10 : arg10.IsWhole)
  (arg11 : Memref sig .tc .vmem S512x512 .bf16) (harg11 : arg11.IsWhole)
  (arg12 : Memref sig .tc .vmem S512x512 .bf16) (harg12 : arg12.IsWhole)
  (arg13 : Memref sig .tc .vmem S1x1x512x4x128 .f32) (harg13 : arg13.IsWhole)
  (arg14 : Memref sig .tc .vmem S1x1x512x4x128 .f32) (harg14 : arg14.IsWhole)
  (arg15 : Memref sig .tc .vmem S512x512 .f32) (harg15 : arg15.IsWhole)
  (arg16 : Memref sig .tc .vmem S512x512 .f32) (harg16 : arg16.IsWhole)
  (x0 x1 : S512x1024.Idx → Elt F .f32) (g b : S1x1024.Idx → Elt F .f32) (w : S1024x2048.Idx → Elt F .bf16) (h : S512x1024.Idx → Elt F .f32)

/-! The quarters of the weights' columns: for the queries, the keys, the values and the mixer. -/

def wQ : S1024x512.Idx → Elt F .bf16 := View.ld w (Rect.unit (s := S1024x2048) ![0, 0] S1024x512.size inb_S1024x2048_S1024x512_0_0)
def wK : S1024x512.Idx → Elt F .bf16 := View.ld w (Rect.unit (s := S1024x2048) ![0, 512] S1024x512.size inb_S1024x2048_S1024x512_0_512)
def wV : S1024x512.Idx → Elt F .bf16 := View.ld w (Rect.unit (s := S1024x2048) ![0, 1024] S1024x512.size inb_S1024x2048_S1024x512_0_1024)
def wU : S1024x512.Idx → Elt F .bf16 := View.ld w (Rect.unit (s := S1024x2048) ![0, 1536] S1024x512.size inb_S1024x2048_S1024x512_0_1536)

/-! What a point computes of its normalized rows `h`: the queries, the mixer's input, the keys and values in two formats
and in two shapes. -/

def tH : S512x1024.Idx → Elt F .f32 := k0_pay1 x0 x1 g b
def tQ : S512x512.Idx → Elt F .bf16 := k0_pay5 h (wQ w)
def tU : S512x512.Idx → Elt F .f32 := k0_pay8 h (wU w)
def tKb : S512x512.Idx → Elt F .bf16 := k0_pay9 h (wK w)
def tVb : S512x512.Idx → Elt F .bf16 := k0_pay10 h (wV w)
def tK : S1x1x512x4x128.Idx → Elt F .f32 := k0_pay11 h (wK w)
def tV : S1x1x512x4x128.Idx → Elt F .f32 := k0_pay2 (k0_pay7 h (wV w))
def tKx : S512x512.Idx → Elt F .f32 := k0_pay6 h (wK w)
def tVx : S512x512.Idx → Elt F .f32 := k0_pay7 h (wV w)

/-- The input buffers, at their contents. -/
def inputs : sProp 𝕄 :=
  iprop((arg1.view.loc (c : Thread nD τ) ↦[arg1.view.set]{fullShare} arg1.view.rep x0)
    ∗ (arg2.view.loc (c : Thread nD τ) ↦[arg2.view.set]{fullShare} arg2.view.rep x1)
    ∗ (arg3.view.loc (c : Thread nD τ) ↦[arg3.view.set]{fullShare} arg3.view.rep g)
    ∗ (arg4.view.loc (c : Thread nD τ) ↦[arg4.view.set]{fullShare} arg4.view.rep b)
    ∗ (arg5.view.loc (c : Thread nD τ) ↦[arg5.view.set]{fullShare} arg5.view.rep w))

/-- The seven result buffers of every point, with any contents. -/
def free : sProp 𝕄 :=
  iprop((∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d))

/-- The same buffers, at what the point computes. -/
def full : sProp 𝕄 :=
  iprop(owns (c : Thread nD τ) arg8 fullShare h
    ∗ owns (c : Thread nD τ) arg9 fullShare (tQ w h)
    ∗ owns (c : Thread nD τ) arg10 fullShare (tU w h)
    ∗ owns (c : Thread nD τ) arg11 fullShare (tKb w h)
    ∗ owns (c : Thread nD τ) arg12 fullShare (tVb w h)
    ∗ owns (c : Thread nD τ) arg13 fullShare (tK w h)
    ∗ owns (c : Thread nD τ) arg14 fullShare (tV w h))

set_option maxHeartbeats 8000000 in
/-- The first grid point. -/
theorem run_first (h1 : k0_cond1 i = 1#1) (h2 : ¬ k0_cond2 i = 1#1) (K : PUnit → sProp 𝕄) :
    iprop(inputs c arg1 arg2 arg3 arg4 arg5 x0 x1 g b w ∗ free (F := F) c arg8 arg9 arg10 arg11 arg12 arg13 arg14 ∗ (∃ d, owns (c : Thread nD τ) arg15 fullShare d) ∗ (∃ d, owns (c : Thread nD τ) arg16 fullShare d)
      ∗ (iprop(inputs c arg1 arg2 arg3 arg4 arg5 x0 x1 g b w ∗ full c arg8 arg9 arg10 arg11 arg12 arg13 arg14 w (tH x0 x1 g b) ∗ owns (c : Thread nD τ) arg15 fullShare (tKx w (tH x0 x1 g b)) ∗ owns (c : Thread nD τ) arg16 fullShare (tVx w (tH x0 x1 g b))) -∗ K ⟨⟩))
      ⊢ wp frame (wpE (defs₀ (F := F)) Variants.none c none) Set.univ (cc0_k1_next i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold inputs free full owns
  rw [cc0_k1_next_eq_skeleton]; unfold cc0_k1_next_skel
  rw [k0_part1_eq_skeleton]; unfold k0_part1_skel
  iintro ⟨⟨H1, H2, H3, H4, H5⟩, ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, ⟨%d13, %f13, -, H13⟩, ⟨%d14, %f14, -, H14⟩, Hk⟩
  sl_exec! (disch := first | exact h1 | exact h2)
  sl_step
  iapply Hk
  isplitl [H1 H2 H3 H4 H5]
  · isplitl [H1]; · iexact H1
    isplitl [H2]; · iexact H2
    isplitl [H3]; · iexact H3
    isplitl [H4]; · iexact H4
    iexact H5
  isplitl [H6 H7 H8 H9 H10 H11 H12]
  · isplitl [H6]
    · iexists _; isplitr; swap
      · iexact H6
      · ipureintro
        sl_unfold_words
        rw [Cert.Whole.stored _ _ (by funext a; fin_cases a <;> rfl)]
        simp only [Cert.Whole.load2]
        rfl
    isplitl [H7]
    · iexists _; isplitr; swap
      · iexact H7
      · ipureintro
        sl_unfold_words
        rw [Cert.Whole.stored _ _ (by funext a; fin_cases a <;> rfl)]
        simp only [Cert.Whole.load2]
        simp only [Cert.Whole.loadPart]
        rfl
    isplitl [H8]
    · iexists _; isplitr; swap
      · iexact H8
      · ipureintro
        sl_unfold_words
        rw [Cert.Whole.stored _ _ (by funext a; fin_cases a <;> rfl)]
        simp only [Cert.Whole.load2]
        simp only [Cert.Whole.loadPart]
        rfl
    isplitl [H9]
    · iexists _; isplitr; swap
      · iexact H9
      · ipureintro
        sl_unfold_words
        rw [Cert.Whole.stored _ _ (by funext a; fin_cases a <;> rfl)]
        simp only [Cert.Whole.load2]
        simp only [Cert.Whole.loadPart]
        rfl
    isplitl [H10]
    · iexists _; isplitr; swap
      · iexact H10
      · ipureintro
        sl_unfold_words
        rw [Cert.Whole.stored _ _ (by funext a; fin_cases a <;> rfl)]
        simp only [Cert.Whole.load2]
        simp only [Cert.Whole.loadPart]
        rfl
    isplitl [H11]
    · iexists _; isplitr; swap
      · iexact H11
      · ipureintro
        sl_unfold_words
        rw [Cert.Whole.stored _ _ (by funext a; fin_cases a <;> rfl)]
        simp only [Cert.Whole.load2]
        simp only [Cert.Whole.loadPart]
        rfl
    iexists _; isplitr; swap
    · iexact H12
    · ipureintro
      sl_unfold_words
      rw [Cert.Whole.stored _ _ (by funext a; fin_cases a <;> rfl)]
      simp only [Cert.Whole.load2]
      simp only [Cert.Whole.loadPart]
      rfl
  isplitl [H13]
  · iexists _; isplitr; swap
    · iexact H13
    · ipureintro
      sl_unfold_words
      rw [Cert.Whole.stored _ _ (by funext a; fin_cases a <;> rfl)]
      simp only [Cert.Whole.load2]
      simp only [Cert.Whole.loadPart]
      rfl
  iexists _; isplitr; swap
  · iexact H14
  · ipureintro
    sl_unfold_words
    rw [Cert.Whole.stored _ _ (by funext a; fin_cases a <;> rfl)]
    simp only [Cert.Whole.load2]
    simp only [Cert.Whole.loadPart]
    rfl

set_option maxHeartbeats 8000000 in
/-- A later grid point. -/
theorem run_later (h1 : ¬ k0_cond1 i = 1#1) (h2 : k0_cond2 i = 1#1) (K : PUnit → sProp 𝕄) :
    iprop(inputs c arg1 arg2 arg3 arg4 arg5 x0 x1 g b w ∗ free (F := F) c arg8 arg9 arg10 arg11 arg12 arg13 arg14
      ∗ (iprop(inputs c arg1 arg2 arg3 arg4 arg5 x0 x1 g b w ∗ full c arg8 arg9 arg10 arg11 arg12 arg13 arg14 w (tH x0 x1 g b)) -∗ K ⟨⟩))
      ⊢ wp frame (wpE (defs₀ (F := F)) Variants.none c none) Set.univ (cc0_k1_next i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold inputs free full owns
  rw [cc0_k1_next_eq_skeleton]; unfold cc0_k1_next_skel
  rw [k0_part2_eq_skeleton]; unfold k0_part2_skel
  iintro ⟨⟨H1, H2, H3, H4, H5⟩, ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  sl_exec! (disch := first | exact h1 | exact h2)
  sl_step
  iapply Hk
  isplitl [H1 H2 H3 H4 H5]
  · isplitl [H1]; · iexact H1
    isplitl [H2]; · iexact H2
    isplitl [H3]; · iexact H3
    isplitl [H4]; · iexact H4
    iexact H5
  isplitl [H6]
  · iexists _; isplitr; swap
    · iexact H6
    · ipureintro
      sl_unfold_words
      rw [Cert.Whole.stored _ _ (by funext a; fin_cases a <;> rfl)]
      simp only [Cert.Whole.load2]
      rfl
  isplitl [H7]
  · iexists _; isplitr; swap
    · iexact H7
    · ipureintro
      sl_unfold_words
      rw [Cert.Whole.stored _ _ (by funext a; fin_cases a <;> rfl)]
      simp only [Cert.Whole.load2]
      simp only [Cert.Whole.loadPart]
      rfl
  isplitl [H8]
  · iexists _; isplitr; swap
    · iexact H8
    · ipureintro
      sl_unfold_words
      rw [Cert.Whole.stored _ _ (by funext a; fin_cases a <;> rfl)]
      simp only [Cert.Whole.load2]
      simp only [Cert.Whole.loadPart]
      rfl
  isplitl [H9]
  · iexists _; isplitr; swap
    · iexact H9
    · ipureintro
      sl_unfold_words
      rw [Cert.Whole.stored _ _ (by funext a; fin_cases a <;> rfl)]
      simp only [Cert.Whole.load2]
      simp only [Cert.Whole.loadPart]
      rfl
  isplitl [H10]
  · iexists _; isplitr; swap
    · iexact H10
    · ipureintro
      sl_unfold_words
      rw [Cert.Whole.stored _ _ (by funext a; fin_cases a <;> rfl)]
      simp only [Cert.Whole.load2]
      simp only [Cert.Whole.loadPart]
      rfl
  isplitl [H11]
  · iexists _; isplitr; swap
    · iexact H11
    · ipureintro
      sl_unfold_words
      rw [Cert.Whole.stored _ _ (by funext a; fin_cases a <;> rfl)]
      simp only [Cert.Whole.load2]
      simp only [Cert.Whole.loadPart]
      rfl
  iexists _; isplitr; swap
  · iexact H12
  · ipureintro
    sl_unfold_words
    rw [Cert.Whole.stored _ _ (by funext a; fin_cases a <;> rfl)]
    simp only [Cert.Whole.load2]
    simp only [Cert.Whole.loadPart]
    rfl

end Cert.Next.Tile

end
-- ==== Proof.NextTail.lean ====
module

public import proofs.«01_k».proof.Proof.Gen.Next.Skeleton
public import proofs.«01_k».proof.Proof.Gen.Next.Launch
public import Idealize.ShloMosaic.Lib.StableHlo.Run
public import Idealize.ShloMosaic.Lib.Pipeline.FrameSuffix

/-! What the host operations behind the second projection's launch write, and what they compute. The rows of the
extra positions, as each layer projected them, are cut into the samples' rows and the memory tokens' rows; the memory
tokens' rows go in front of every sequence's keys and values; and of each layer's mixer input every sequence's last
fifteen rows are taken. Stated for every number system `F`. -/

@[expose] public section

set_option maxRecDepth 16384
set_option Elab.async false

noncomputable section

namespace Cert.Next.Tile

open Cert.Next Cert.Next.Gen
open Idealize.ShloMosaic
open Idealize.ShloMosaic.TcCoe Idealize.ShloMosaic.StableHlo

variable {F : FTy → Type} [FloatOps F]

/-! ## What they write -/

/-- The buffers of the program's own values: the `i`-th of them. -/
def ownRef (i : Fin 107) : Ref sig .tc :=
  ⟨.hbm, ⟨22 + i.val, Nat.add_lt_add_left i.isLt 22⟩, (by decide : ∀ i : Fin 107, sig.names .tc .hbm ⟨22 + i.val, Nat.add_lt_add_left i.isLt 22⟩ = true) i⟩

/-- The operations behind the launch write these buffers, one each, in order. -/
def tailRefs : List (Ref sig .tc) := List.ofFn ownRef

theorem tail_writes : (hostOps1 : List (HloOp τ sig (Elt F))).Forall fun op => op.writes ⊆ (tailRefs.map (Proc.devRef (τ := τ) .tc)).toFinset :=
  forall_writes_sub_of_map rfl

/-- They allocate nothing. -/
theorem tail_fresh : (hostOps1 : List (HloOp τ sig (Elt F))).Forall fun op => op.fresh = ∅ :=
  forall_fresh_of_map rfl

/-- An argument, a staged operand or a result of the launch is none of these buffers. -/
theorem not_tail (b : Ref sig .tc) (h : b.idx.val < 22) : b ∉ tailRefs := fun hm => by
  obtain ⟨i, rfl⟩ := List.mem_ofFn.mp hm
  exact absurd h (Nat.not_lt.mpr (Nat.le_add_right 22 i.val))

/-- So it keeps its contents. -/
theorem tail_kept (W : Valuation τ sig (Elt F)) (b : Ref sig .tc) (h : b.idx.val < 22) :
    StableHlo.after hostOps1 W (Proc.devRef .tc b) = W (Proc.devRef .tc b) :=
  after_of_writes_sub hostOps1 W tail_writes (not_tail b h)

/-! ## What they compute -/

section Terms
variable {α : Type}

/-- The memory tokens' rows, by heads, once for every sequence. -/
def metaRows (x : S512x512.Idx → α) : S32x16x4x128.Idx → α :=
  broadcastInDim S32x16x4x128 ![0, 1, 2, 3] bcast_S1x16x4x128_S32x16x4x128_0_1_2_3
    (shapeCast S1x16x4x128 (extractStridedSlice S16x512 ![128, 0] x slices_S512x512_S16x512_128_0) shapeCasts_S16x512_S1x16x4x128)

/-- The rows of one layer's cache: the memory tokens' in front of the frames'. -/
def promptRows (x : S512x512.Idx → α) (k : S32x2048x4x128.Idx → α) : S32x2064x4x128.Idx → α :=
  concatenate S32x2064x4x128 1 [⟨S32x16x4x128, metaRows x⟩, ⟨S32x2048x4x128, k⟩] concatenates_S32x16x4x128_S32x2048x4x128_S32x2064x4x128_d1

/-- The first and the second layer's frames in a cache. -/
def half0 (k : S2x32x2048x4x128.Idx → α) : S32x2048x4x128.Idx → α :=
  shapeCast S32x2048x4x128 (extractStridedSlice S1x32x2048x4x128 ![0, 0, 0, 0, 0] k slices_S2x32x2048x4x128_S1x32x2048x4x128_0_0_0_0_0)
    shapeCasts_S1x32x2048x4x128_S32x2048x4x128
def half1 (k : S2x32x2048x4x128.Idx → α) : S32x2048x4x128.Idx → α :=
  shapeCast S32x2048x4x128 (extractStridedSlice S1x32x2048x4x128 ![1, 0, 0, 0, 0] k slices_S2x32x2048x4x128_S1x32x2048x4x128_1_0_0_0_0)
    shapeCasts_S1x32x2048x4x128_S32x2048x4x128

/-- The prompt's rows of both layers. -/
def promptBoth (a b : S32x2064x4x128.Idx → α) : S2x32x2064x4x128.Idx → α :=
  concatenate S2x32x2064x4x128 0
    [⟨S1x32x2064x4x128, broadcastInDim S1x32x2064x4x128 ![1, 2, 3, 4] bcast_S32x2064x4x128_S1x32x2064x4x128_1_2_3_4 a⟩,
     ⟨S1x32x2064x4x128, broadcastInDim S1x32x2064x4x128 ![1, 2, 3, 4] bcast_S32x2064x4x128_S1x32x2064x4x128_1_2_3_4 b⟩]
    concatenates_S1x32x2064x4x128_S1x32x2064x4x128_S2x32x2064x4x128_d0

/-- The samples' rows, by sequences and heads. -/
def sampleRows (x : S512x512.Idx → α) : S8x16x4x128.Idx → α :=
  shapeCast S8x16x4x128 (extractStridedSlice S128x512 ![0, 0] x slices_S512x512_S128x512_0_0) shapeCasts_S128x512_S8x16x4x128

/-- The samples' rows of both layers. -/
def sampleBoth (a b : S8x16x4x128.Idx → α) : S2x8x16x4x128.Idx → α :=
  concatenate S2x8x16x4x128 0
    [⟨S1x8x16x4x128, broadcastInDim S1x8x16x4x128 ![1, 2, 3, 4] bcast_S8x16x4x128_S1x8x16x4x128_1_2_3_4 a⟩,
     ⟨S1x8x16x4x128, broadcastInDim S1x8x16x4x128 ![1, 2, 3, 4] bcast_S8x16x4x128_S1x8x16x4x128_1_2_3_4 b⟩]
    concatenates_S1x8x16x4x128_S1x8x16x4x128_S2x8x16x4x128_d0

/-- The numbers of the last fifteen rows of every sequence. -/
def lastNumbers : IVec S480 32 :=
  shapeCast S480
    (addi
      (broadcastInDim S32x15 ![0, 1] bcast_S32x1_S32x15_0_1
        (subi
          (addi (broadcastInDim S32x1 ![] bcast_S_S32x1 (constantI S_ 32 512#32))
            (muli
              (addi (broadcastInDim S32x1 ![0] bcast_S32_S32x1_0 (iotaInDim S32 32 0)) (broadcastInDim S32x1 ![] bcast_S_S32x1 (constantI S_ 32 1#32)))
              (broadcastInDim S32x1 ![] bcast_S_S32x1 (constantI S_ 32 2048#32))))
          (broadcastInDim S32x1 ![] bcast_S_S32x1 (constantI S_ 32 15#32))))
      (broadcastInDim S32x15 ![0, 1] bcast_S1x15_S32x15_0_1 (broadcastInDim S1x15 ![1] bcast_S15_S1x15_1 (iotaInDim S15 32 0))))
    shapeCasts_S32x15_S480

/-- The same, a negative number counted from the end; none is. -/
def lastIndex : IVec S480x1 32 :=
  broadcastInDim S480x1 ![0] bcast_S480_S480x1_0
    (select (cmpi .slt lastNumbers (broadcastInDim S480 ![] bcast_S_S480 (constantI S_ 32 0#32)))
      (addi lastNumbers (broadcastInDim S480 ![] bcast_S_S480 (constantI S_ 32 66048#32))) lastNumbers)

/-- The last fifteen rows of every sequence. -/
def lastRows (u : S66048x512.Idx → α) : S32x15x512.Idx → α :=
  shapeCast S32x15x512 (Host.gather gather_S66048x512_S480x1_S480x512_1_0_n_n_0_1_1512 u lastIndex) shapeCasts_S480x512_S32x15x512

/-- Those of both layers. -/
def lastBoth (a b : S32x15x512.Idx → α) : S2x32x15x512.Idx → α :=
  concatenate S2x32x15x512 0
    [⟨S1x32x15x512, broadcastInDim S1x32x15x512 ![1, 2, 3] bcast_S32x15x512_S1x32x15x512_1_2_3 a⟩,
     ⟨S1x32x15x512, broadcastInDim S1x32x15x512 ![1, 2, 3] bcast_S32x15x512_S1x32x15x512_1_2_3 b⟩]
    concatenates_S1x32x15x512_S1x32x15x512_S2x32x15x512_d0

end Terms

variable (W : Valuation τ sig (Elt F))

set_option maxHeartbeats 8000000 in
theorem tail_kp : StableHlo.after hostOps1 W (Proc.devRef .tc main_v86)
    = promptBoth (promptRows (W (Proc.devRef .tc main_arg7)) (half0 (W (Proc.devRef .tc main_v3_5))))
        (promptRows (W (Proc.devRef .tc main_v3_7)) (half1 (W (Proc.devRef .tc main_v3_5)))) := by
  after_results_simp <;> rfl

set_option maxHeartbeats 8000000 in
theorem tail_vp : StableHlo.after hostOps1 W (Proc.devRef .tc main_v89)
    = promptBoth (promptRows (W (Proc.devRef .tc main_arg8)) (half0 (W (Proc.devRef .tc main_v3_6))))
        (promptRows (W (Proc.devRef .tc main_v3_8)) (half1 (W (Proc.devRef .tc main_v3_6)))) := by
  after_results_simp <;> rfl

set_option maxHeartbeats 8000000 in
theorem tail_pool : StableHlo.after hostOps1 W (Proc.devRef .tc main_v92)
    = lastBoth (lastRows (W (Proc.devRef .tc main_arg9))) (lastRows (W (Proc.devRef .tc main_v3_2))) := by
  after_results_simp <;> rfl

set_option maxHeartbeats 8000000 in
theorem tail_ks : StableHlo.after hostOps1 W (Proc.devRef .tc main_v95)
    = sampleBoth (sampleRows (W (Proc.devRef .tc main_arg7))) (sampleRows (W (Proc.devRef .tc main_v3_7))) := by
  after_results_simp <;> rfl

set_option maxHeartbeats 8000000 in
theorem tail_vs : StableHlo.after hostOps1 W (Proc.devRef .tc main_v98)
    = sampleBoth (sampleRows (W (Proc.devRef .tc main_arg8))) (sampleRows (W (Proc.devRef .tc main_v3_8))) := by
  after_results_simp <;> rfl

end Cert.Next.Tile

end
-- ==== Proof.NextRun.lean ====
module

public import proofs.«01_k».proof.Proof.NextBody
public import proofs.«01_k».proof.Proof.NextTail

/-! The run of the second projection. From any memory the kernel runs to the end, every argument keeps its contents, and
each result is what the grid points left in it, block by block. The two cache results start as the two cache arguments,
and the points write the second layer's half of them. The operations behind the launch read these arrays and three further
arguments and write buffers of their own. Stated for every number system `F`. -/

@[expose] public section

set_option maxRecDepth 16384
set_option Elab.async false

noncomputable section

namespace Cert.Next.Tile

open Cert.Next Cert.Next.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- Point `t`'s coordinate is `t`. -/
theorem crd_val (t : Fin cfg0.N) : (grid0.coords t 0).val = t.val := by
  have h : t.val < 129 := t.isLt
  refine (Pipeline.Grid.coords_val (G := grid0) t 0 (S := 1) (B := 129) (by decide) (by decide)).trans ?_
  omega

/-- The body's first condition holds at the first point only. -/
theorem cond_iff (t : Fin cfg0.N) : k0_cond1 (grid0.coords t) = 1#1 ↔ t.val = 0 := by
  have h : t.val < 129 := t.isLt
  have hc : k0_cond1 (grid0.coords t) = Scalar.cmpi .ne (Scalar.extui (Scalar.cmpi .eq (BitVec.ofNat 32 t.val) 0#32) : BitVec 32) 0#32 := by
    unfold k0_cond1; rw [crd_val]
  rw [hc]
  by_cases h0 : t.val = 0
  · rw [h0]; exact iff_of_true (by decide) rfl
  · refine iff_of_false ?_ h0
    have hb : (BitVec.ofNat 32 t.val == 0#32) = false := beq_eq_false_iff_ne.mpr fun e => h0 (by
      have := congrArg BitVec.toNat e
      rw [BitVec.toNat_ofNat, BitVec.toNat_ofNat, Nat.mod_eq_of_lt (by omega), Nat.mod_eq_of_lt (by decide)] at this
      exact this)
    simp [Scalar.cmpi, Scalar.extui, IntOp.cmpi, hb]

/-- The body's second condition holds at the later points. -/
theorem cond2_iff (t : Fin cfg0.N) : k0_cond2 (grid0.coords t) = 1#1 ↔ t.val ≠ 0 := by
  have h : t.val < 129 := t.isLt
  have hc : k0_cond2 (grid0.coords t) = Scalar.cmpi .ne (Scalar.extui (Scalar.cmpi .sgt (BitVec.ofNat 32 t.val) 0#32) : BitVec 32) 0#32 := by
    unfold k0_cond2; rw [crd_val]
  rw [hc]
  exact (by decide : ∀ n : Fin 129, Scalar.cmpi .ne (Scalar.extui (Scalar.cmpi .sgt (BitVec.ofNat 32 n.val) 0#32) : BitVec 32) 0#32 = 1#1 ↔ n.val ≠ 0) ⟨t.val, h⟩

/-- The first grid point. -/
def first : Fin cfg0.N := ⟨0, by decide⟩

/-- One of the two conditions holds at every point, so the seven results that both branches store are never idle. -/
theorem stored_always (t : Fin cfg0.N) : (!(k0_cond1 (grid0.coords t) == 1#1) && !(k0_cond2 (grid0.coords t) == 1#1)) = false := by
  by_cases h : t.val = 0
  · rw [(cond_iff t).mpr h]; rfl
  · rw [(cond2_iff t).mpr h, Bool.and_eq_false_iff]; exact Or.inr rfl

theorem idle5 (t : Fin cfg0.N) : cfg0.idle (5 : Fin 14) (cfg0.grid.coords t) = false := stored_always t

/-- The last two results are stored at the first point only. -/
theorem stored_first (t : Fin cfg0.N) : (!(k0_cond1 (grid0.coords t) == 1#1)) = decide (t.val ≠ 0) := by
  by_cases h : t.val = 0
  · rw [(cond_iff t).mpr h]; simp [h]
  · have := mt (cond_iff t).mp h
    simp [h, this]

theorem idle12 (t : Fin cfg0.N) : cfg0.idle (12 : Fin 14) (cfg0.grid.coords t) = decide (t.val ≠ 0) := stored_first t
theorem idle13 (t : Fin cfg0.N) : cfg0.idle (13 : Fin 14) (cfg0.grid.coords t) = decide (t.val ≠ 0) := stored_first t

/-- A result whose block never moves is written back after the last point only. -/
theorem flush_last (w : Fin 14) (hout : (cfg0.win w).isOut = true) (hix : ∀ s t : Fin cfg0.N, (cfg0.win w).index s = (cfg0.win w).index t)
    (t : Fin cfg0.N) : (cfg0.win w).flush t = decide (t.val + 1 = cfg0.N) := by
  unfold Pipeline.Window.flush
  rw [hout, Bool.true_and, Bool.or_eq_left_iff_imp.mpr]
  intro hx
  obtain ⟨_, hne⟩ := of_decide_eq_true hx
  exact absurd (hix _ _) hne

theorem flush12 (t : Fin cfg0.N) : (cfg0.win (12 : Fin 14)).flush t = decide (t.val + 1 = cfg0.N) := flush_last 12 rfl (fun _ _ => rfl) t
theorem flush13 (t : Fin cfg0.N) : (cfg0.win (13 : Fin 14)).flush t = decide (t.val + 1 = cfg0.N) := flush_last 13 rfl (fun _ _ => rfl) t

/-! ## What the region finds in the arrays, and the windows' blocks -/

/-- The contents at the region's entry: the host operations' results, every other buffer as launched. -/
abbrev V (c : Dev nD) (b : Ref sig .tc) : Buf (Elt F) ((c : Thread nD τ).loc b) :=
  StableHlo.after hostOps0 (fun b => m (c, b)) b

/-- Window `w`'s block at point `t`, read off its array. -/
def iblk (c : Dev nD) (w : Fin 14) (t : Fin cfg0.N) : ((cfg0.win w).xblock (grid0.coords t)).Idx → Elt F (cfg0.win w).elt :=
  ((cfg0.win w).blk t).view.read (Elt F) (V m c (Pipeline.arrRef spec0 w))

/-- The normalized rows of point `t`: those of the residual and those added to it, joined. -/
def rowsAt (c : Dev nD) (t : Fin cfg0.N) : S512x1024.Idx → Elt F .f32 :=
  tH (iblk m c (0 : Fin 14) t) (iblk m c (1 : Fin 14) t) (iblk m c (2 : Fin 14) t) (iblk m c (3 : Fin 14) t)

/-- The proof data of the pipeline on core `c`: every input buffer at its block, every result's at the point's tile, the
    last two at the first point's tiles. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 14) t
    | ⟨1, _⟩ => iblk m c (1 : Fin 14) t
    | ⟨2, _⟩ => iblk m c (2 : Fin 14) t
    | ⟨3, _⟩ => iblk m c (3 : Fin 14) t
    | ⟨4, _⟩ => iblk m c (4 : Fin 14) t
    | ⟨5, _⟩ => rowsAt m c t
    | ⟨6, _⟩ => tQ (iblk m c (4 : Fin 14) t) (rowsAt m c t)
    | ⟨7, _⟩ => tU (iblk m c (4 : Fin 14) t) (rowsAt m c t)
    | ⟨8, _⟩ => tKb (iblk m c (4 : Fin 14) t) (rowsAt m c t)
    | ⟨9, _⟩ => tVb (iblk m c (4 : Fin 14) t) (rowsAt m c t)
    | ⟨10, _⟩ => tK (iblk m c (4 : Fin 14) t) (rowsAt m c t)
    | ⟨11, _⟩ => tV (iblk m c (4 : Fin 14) t) (rowsAt m c t)
    | ⟨12, _⟩ => tKx (iblk m c (4 : Fin 14) first) (rowsAt m c first)
    | ⟨13, _⟩ => tVx (iblk m c (4 : Fin 14) first) (rowsAt m c first)
  Φ _ := Pipeline.ΦA spec0 c
  q _ := fullShare
  owed _ := 0

theorem after0 (c : Dev nD) (t : Fin cfg0.N) : (dats m 0 c).after (0 : Fin 14) t = iblk m c (0 : Fin 14) t := rfl
theorem after1 (c : Dev nD) (t : Fin cfg0.N) : (dats m 0 c).after (1 : Fin 14) t = iblk m c (1 : Fin 14) t := rfl
theorem after2 (c : Dev nD) (t : Fin cfg0.N) : (dats m 0 c).after (2 : Fin 14) t = iblk m c (2 : Fin 14) t := rfl
theorem after3 (c : Dev nD) (t : Fin cfg0.N) : (dats m 0 c).after (3 : Fin 14) t = iblk m c (3 : Fin 14) t := rfl
theorem after4 (c : Dev nD) (t : Fin cfg0.N) : (dats m 0 c).after (4 : Fin 14) t = iblk m c (4 : Fin 14) t := rfl
theorem after5 (c : Dev nD) (t : Fin cfg0.N) : (dats m 0 c).after (5 : Fin 14) t = rowsAt m c t := rfl
theorem after6 (c : Dev nD) (t : Fin cfg0.N) : (dats m 0 c).after (6 : Fin 14) t = tQ (iblk m c (4 : Fin 14) t) (rowsAt m c t) := rfl
theorem after7 (c : Dev nD) (t : Fin cfg0.N) : (dats m 0 c).after (7 : Fin 14) t = tU (iblk m c (4 : Fin 14) t) (rowsAt m c t) := rfl
theorem after8 (c : Dev nD) (t : Fin cfg0.N) : (dats m 0 c).after (8 : Fin 14) t = tKb (iblk m c (4 : Fin 14) t) (rowsAt m c t) := rfl
theorem after9 (c : Dev nD) (t : Fin cfg0.N) : (dats m 0 c).after (9 : Fin 14) t = tVb (iblk m c (4 : Fin 14) t) (rowsAt m c t) := rfl
theorem after10 (c : Dev nD) (t : Fin cfg0.N) : (dats m 0 c).after (10 : Fin 14) t = tK (iblk m c (4 : Fin 14) t) (rowsAt m c t) := rfl
theorem after11 (c : Dev nD) (t : Fin cfg0.N) : (dats m 0 c).after (11 : Fin 14) t = tV (iblk m c (4 : Fin 14) t) (rowsAt m c t) := rfl
theorem after12 (c : Dev nD) (t : Fin cfg0.N) : (dats m 0 c).after (12 : Fin 14) t = tKx (iblk m c (4 : Fin 14) first) (rowsAt m c first) := rfl
theorem after13 (c : Dev nD) (t : Fin cfg0.N) : (dats m 0 c).after (13 : Fin 14) t = tVx (iblk m c (4 : Fin 14) first) (rowsAt m c first) := rfl

/-! Every input's buffer holds its block when the body runs, fetched at that point or not. -/

theorem before0 (c : Dev nD) (t : Fin cfg0.N) (d) : (dats m 0 c).before (0 : Fin 14) t d = iblk m c (0 : Fin 14) t :=
  ((dats m 0 c).before_in_eq_fetched (0 : Fin 14) rfl (fun _ => rfl) (fun _ _ _ => rfl) (fun t => by rw [after0]; unfold Dat.blockOf iblk; rfl) t d).trans
    (by unfold Dat.fetched Dat.blockOf iblk; rfl)
theorem before1 (c : Dev nD) (t : Fin cfg0.N) (d) : (dats m 0 c).before (1 : Fin 14) t d = iblk m c (1 : Fin 14) t :=
  ((dats m 0 c).before_in_eq_fetched (1 : Fin 14) rfl (fun _ => rfl) (fun _ _ _ => rfl) (fun t => by rw [after1]; unfold Dat.blockOf iblk; rfl) t d).trans
    (by unfold Dat.fetched Dat.blockOf iblk; rfl)
theorem before2 (c : Dev nD) (t : Fin cfg0.N) (d) : (dats m 0 c).before (2 : Fin 14) t d = iblk m c (2 : Fin 14) t :=
  ((dats m 0 c).before_in_eq_fetched (2 : Fin 14) rfl (fun _ => rfl) (fun _ _ _ => rfl) (fun t => by rw [after2]; unfold Dat.blockOf iblk; rfl) t d).trans
    (by unfold Dat.fetched Dat.blockOf iblk; rfl)
theorem before3 (c : Dev nD) (t : Fin cfg0.N) (d) : (dats m 0 c).before (3 : Fin 14) t d = iblk m c (3 : Fin 14) t :=
  ((dats m 0 c).before_in_eq_fetched (3 : Fin 14) rfl (fun _ => rfl) (fun _ _ _ => rfl) (fun t => by rw [after3]; unfold Dat.blockOf iblk; rfl) t d).trans
    (by unfold Dat.fetched Dat.blockOf iblk; rfl)
theorem before4 (c : Dev nD) (t : Fin cfg0.N) (d) : (dats m 0 c).before (4 : Fin 14) t d = iblk m c (4 : Fin 14) t :=
  ((dats m 0 c).before_in_eq_fetched (4 : Fin 14) rfl (fun _ => rfl) (fun _ _ _ => rfl) (fun t => by rw [after4]; unfold Dat.blockOf iblk; rfl) t d).trans
    (by unfold Dat.fetched Dat.blockOf iblk; rfl)

/-- A buffer stored at the first point only, and written back after the last, holds what the first point left. -/
theorem fresh_kept (w : Fin 14) (hf : ∀ t : Fin cfg0.N, (cfg0.win w).flush t = decide (t.val + 1 = cfg0.N))
    (hi : ∀ t : Fin cfg0.N, cfg0.idle w (cfg0.grid.coords t) = decide (t.val ≠ 0)) (n : ℕ) (hn : n < cfg0.N) (h0 : n ≠ 0) :
    cfg0.fresh w n = false := by
  induction n with
  | zero => exact absurd rfl h0
  | succ n ih =>
    rw [Pipeline.Cfg.fresh_succ cfg0 w n (by omega), hf, hi]
    by_cases hz : n = 0
    · subst hz; rfl
    · rw [ih (by omega) hz, Bool.and_false, Bool.or_false]
      exact decide_eq_false (by show ¬ n + 1 = cfg0.N; omega)

theorem before12 (c : Dev nD) (t : Fin cfg0.N) (h0 : t.val ≠ 0) (d) : (dats m 0 c).before (12 : Fin 14) t d = tKx (iblk m c (4 : Fin 14) first) (rowsAt m c first) := by
  refine ((dats m 0 c).before_out_traj (12 : Fin 14) rfl (fun _ _ => rfl) (fun t _ _ _ => rfl) t.val t rfl d).trans ?_
  rw [fresh_kept 12 flush12 idle12 t.val t.isLt h0]
  rfl

theorem before13 (c : Dev nD) (t : Fin cfg0.N) (h0 : t.val ≠ 0) (d) : (dats m 0 c).before (13 : Fin 14) t d = tVx (iblk m c (4 : Fin 14) first) (rowsAt m c first) := by
  refine ((dats m 0 c).before_out_traj (13 : Fin 14) rfl (fun _ _ => rfl) (fun t _ _ _ => rfl) t.val t rfl d).trans ?_
  rw [fresh_kept 13 flush13 idle13 t.val t.isLt h0]
  rfl

/-! ## The staging buffers the body gets -/

abbrev ms0 (t : Fin cfg0.N) : Memref sig .tc .vmem S512x1024 .f32 := win0_0.stage (cfg0.slots t (0 : Fin 14))
abbrev hs0 (t : Fin cfg0.N) : (ms0 t).IsWhole := hstage0_0 ((cfg0.slots t (0 : Fin 14)).cast nbuf0_0)
abbrev ms1 (t : Fin cfg0.N) : Memref sig .tc .vmem S512x1024 .f32 := win0_1.stage (cfg0.slots t (1 : Fin 14))
abbrev hs1 (t : Fin cfg0.N) : (ms1 t).IsWhole := hstage0_1 ((cfg0.slots t (1 : Fin 14)).cast nbuf0_1)
abbrev ms2 (t : Fin cfg0.N) : Memref sig .tc .vmem S1x1024 .f32 := win0_2.stage (cfg0.slots t (2 : Fin 14))
abbrev hs2 (t : Fin cfg0.N) : (ms2 t).IsWhole := hstage0_2 ((cfg0.slots t (2 : Fin 14)).cast nbuf0_2)
abbrev ms3 (t : Fin cfg0.N) : Memref sig .tc .vmem S1x1024 .f32 := win0_3.stage (cfg0.slots t (3 : Fin 14))
abbrev hs3 (t : Fin cfg0.N) : (ms3 t).IsWhole := hstage0_3 ((cfg0.slots t (3 : Fin 14)).cast nbuf0_3)
abbrev ms4 (t : Fin cfg0.N) : Memref sig .tc .vmem S1024x2048 .bf16 := win0_4.stage (cfg0.slots t (4 : Fin 14))
abbrev hs4 (t : Fin cfg0.N) : (ms4 t).IsWhole := hstage0_4 ((cfg0.slots t (4 : Fin 14)).cast nbuf0_4)
abbrev ms5 (t : Fin cfg0.N) : Memref sig .tc .vmem S512x1024 .f32 := win0_5.stage (cfg0.slots t (5 : Fin 14))
abbrev hs5 (t : Fin cfg0.N) : (ms5 t).IsWhole := hstage0_5 ((cfg0.slots t (5 : Fin 14)).cast nbuf0_5)
abbrev ms6 (t : Fin cfg0.N) : Memref sig .tc .vmem S512x512 .bf16 := win0_6.stage (cfg0.slots t (6 : Fin 14))
abbrev hs6 (t : Fin cfg0.N) : (ms6 t).IsWhole := hstage0_6 ((cfg0.slots t (6 : Fin 14)).cast nbuf0_6)
abbrev ms7 (t : Fin cfg0.N) : Memref sig .tc .vmem S512x512 .f32 := win0_7.stage (cfg0.slots t (7 : Fin 14))
abbrev hs7 (t : Fin cfg0.N) : (ms7 t).IsWhole := hstage0_7 ((cfg0.slots t (7 : Fin 14)).cast nbuf0_7)
abbrev ms8 (t : Fin cfg0.N) : Memref sig .tc .vmem S512x512 .bf16 := win0_8.stage (cfg0.slots t (8 : Fin 14))
abbrev hs8 (t : Fin cfg0.N) : (ms8 t).IsWhole := hstage0_8 ((cfg0.slots t (8 : Fin 14)).cast nbuf0_8)
abbrev ms9 (t : Fin cfg0.N) : Memref sig .tc .vmem S512x512 .bf16 := win0_9.stage (cfg0.slots t (9 : Fin 14))
abbrev hs9 (t : Fin cfg0.N) : (ms9 t).IsWhole := hstage0_9 ((cfg0.slots t (9 : Fin 14)).cast nbuf0_9)
abbrev ms10 (t : Fin cfg0.N) : Memref sig .tc .vmem S1x1x512x4x128 .f32 := win0_10.stage (cfg0.slots t (10 : Fin 14))
abbrev hs10 (t : Fin cfg0.N) : (ms10 t).IsWhole := hstage0_10 ((cfg0.slots t (10 : Fin 14)).cast nbuf0_10)
abbrev ms11 (t : Fin cfg0.N) : Memref sig .tc .vmem S1x1x512x4x128 .f32 := win0_11.stage (cfg0.slots t (11 : Fin 14))
abbrev hs11 (t : Fin cfg0.N) : (ms11 t).IsWhole := hstage0_11 ((cfg0.slots t (11 : Fin 14)).cast nbuf0_11)
abbrev ms12 (t : Fin cfg0.N) : Memref sig .tc .vmem S512x512 .f32 := win0_12.stage (cfg0.slots t (12 : Fin 14))
abbrev hs12 (t : Fin cfg0.N) : (ms12 t).IsWhole := hstage0_12 ((cfg0.slots t (12 : Fin 14)).cast nbuf0_12)
abbrev ms13 (t : Fin cfg0.N) : Memref sig .tc .vmem S512x512 .f32 := win0_13.stage (cfg0.slots t (13 : Fin 14))
abbrev hs13 (t : Fin cfg0.N) : (ms13 t).IsWhole := hstage0_13 ((cfg0.slots t (13 : Fin 14)).cast nbuf0_13)

/-- The body at point `t`. -/
abbrev bodyAt (t : Fin cfg0.N) :=
  cc0_k1_next (F := F) (grid0.coords t) (ms0 t) (hs0 t) (ms1 t) (hs1 t) (ms2 t) (hs2 t) (ms3 t) (hs3 t) (ms4 t) (hs4 t) (Memref.whole main_arg5) (Memref.isWhole_whole _) (Memref.whole main_arg6) (Memref.isWhole_whole _) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)

/-! ## The body at every point -/

set_option maxHeartbeats 8000000 in
/-- The body keeps the inputs' blocks and leaves the point's tiles, at every point. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 14) t d))
        ∗ (∃ d, owns (c : Thread nD τ) (ms1 t) fullShare ((dats m 0 c).before (1 : Fin 14) t d))
        ∗ (∃ d, owns (c : Thread nD τ) (ms2 t) fullShare ((dats m 0 c).before (2 : Fin 14) t d))
        ∗ (∃ d, owns (c : Thread nD τ) (ms3 t) fullShare ((dats m 0 c).before (3 : Fin 14) t d))
        ∗ (∃ d, owns (c : Thread nD τ) (ms4 t) fullShare ((dats m 0 c).before (4 : Fin 14) t d))
        ∗ (∃ d, owns (c : Thread nD τ) (ms5 t) fullShare ((dats m 0 c).before (5 : Fin 14) t d))
        ∗ (∃ d, owns (c : Thread nD τ) (ms6 t) fullShare ((dats m 0 c).before (6 : Fin 14) t d))
        ∗ (∃ d, owns (c : Thread nD τ) (ms7 t) fullShare ((dats m 0 c).before (7 : Fin 14) t d))
        ∗ (∃ d, owns (c : Thread nD τ) (ms8 t) fullShare ((dats m 0 c).before (8 : Fin 14) t d))
        ∗ (∃ d, owns (c : Thread nD τ) (ms9 t) fullShare ((dats m 0 c).before (9 : Fin 14) t d))
        ∗ (∃ d, owns (c : Thread nD τ) (ms10 t) fullShare ((dats m 0 c).before (10 : Fin 14) t d))
        ∗ (∃ d, owns (c : Thread nD τ) (ms11 t) fullShare ((dats m 0 c).before (11 : Fin 14) t d))
        ∗ (∃ d, owns (c : Thread nD τ) (ms12 t) fullShare ((dats m 0 c).before (12 : Fin 14) t d))
        ∗ (∃ d, owns (c : Thread nD τ) (ms13 t) fullShare ((dats m 0 c).before (13 : Fin 14) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rewrite [idle5 t, idle12 t, flush12 t, flush13 t]
  simp only [before0, before1, before2, before3, before4, after0, after1, after2, after3, after4, after5, after6, after7, after8, after9, after10, after11, after12, after13]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  by_cases h0 : t.val = 0
  · rw [show decide (t.val ≠ 0) = false from decide_eq_false (not_not.mpr h0)]
    obtain rfl : t = first := Fin.ext h0
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords first) (ms0 first) (hs0 first) (ms1 first) (hs1 first) (ms2 first) (hs2 first) (ms3 first) (hs3 first) (ms4 first) (hs4 first) (Memref.whole main_arg5) (Memref.isWhole_whole _) (Memref.whole main_arg6) (Memref.isWhole_whole _) (ms5 first) (hs5 first) (ms6 first) (hs6 first) (ms7 first) (hs7 first) (ms8 first) (hs8 first) (ms9 first) (hs9 first) (ms10 first) (hs10 first) (ms11 first) (hs11 first) (ms12 first) (hs12 first) (ms13 first) (hs13 first)
      (iblk m c (0 : Fin 14) first) (iblk m c (1 : Fin 14) first) (iblk m c (2 : Fin 14) first) (iblk m c (3 : Fin 14) first) (iblk m c (4 : Fin 14) first) ((cond_iff first).mpr rfl) (fun h => (cond2_iff first).mp h rfl))
    unfold inputs free full
    isplitl [H0 H1 H2 H3 H4]
    · isplitl [H0]; · iapply rep_of_owns; iexact H0
      isplitl [H1]; · iapply rep_of_owns; iexact H1
      isplitl [H2]; · iapply rep_of_owns; iexact H2
      isplitl [H3]; · iapply rep_of_owns; iexact H3
      iapply rep_of_owns; iexact H4
    isplitl [H5 H6 H7 H8 H9 H10 H11]
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11
    isplitl [H12]; · iexists _; iexact H12
    isplitl [H13]; · iexists _; iexact H13
    iintro ⟨⟨H0, H1, H2, H3, H4⟩, ⟨H5, H6, H7, H8, H9, H10, H11⟩, H12, H13⟩
    isplitl [HA]; · iexact HA
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show decide (t.val ≠ 0) = true from decide_eq_true h0]
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_later c (grid0.coords t) (ms0 t) (hs0 t) (ms1 t) (hs1 t) (ms2 t) (hs2 t) (ms3 t) (hs3 t) (ms4 t) (hs4 t) (Memref.whole main_arg5) (Memref.isWhole_whole _) (Memref.whole main_arg6) (Memref.isWhole_whole _) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)
      (iblk m c (0 : Fin 14) t) (iblk m c (1 : Fin 14) t) (iblk m c (2 : Fin 14) t) (iblk m c (3 : Fin 14) t) (iblk m c (4 : Fin 14) t) (mt (cond_iff t).mp h0) ((cond2_iff t).mpr h0))
    unfold inputs free full
    isplitl [H0 H1 H2 H3 H4]
    · isplitl [H0]; · iapply rep_of_owns; iexact H0
      isplitl [H1]; · iapply rep_of_owns; iexact H1
      isplitl [H2]; · iapply rep_of_owns; iexact H2
      isplitl [H3]; · iapply rep_of_owns; iexact H3
      iapply rep_of_owns; iexact H4
    isplitl [H5 H6 H7 H8 H9 H10 H11]
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11
    iintro ⟨⟨H0, H1, H2, H3, H4⟩, ⟨H5, H6, H7, H8, H9, H10, H11⟩⟩
    isplitl [HA]; · iexact HA
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · cases hl : decide (t.val + 1 = cfg0.N)
      · iexists d12; iexact H12
      · rw [before12 m c t h0 d12]; iexact H12
    cases hl : decide (t.val + 1 = cfg0.N)
    · iexists d13; iexact H13
    · rw [before13 m c t h0 d13]; iexact H13

/-- The library's body obligation, at every point. -/
theorem body_obligation (c : Dev nD) : BodyObligation (dats m 0 c) (defs₀ (F := F)) Variants.none () Set.univ := fun t => by
  rw [bigSep_W0]
  exact sound_body m c t

/-! ## The launch -/

/-- No host operation allocates. -/
theorem hostOps_fresh : (hostOps0 : List (HloOp τ sig (Elt F))).Forall fun op => op.fresh = ∅ := by
  simp only [List.Forall]; repeat' constructor

/-- The whole valuation at the region's entry. -/
abbrev V0 (c : Dev nD) : Valuation τ sig (Elt F) := StableHlo.after hostOps0 (fun b => m (c, b))

theorem hmain : Pipeline.HMainK (Ix := Unit) (Name := ℕ) (U := UR sig nD τ) (Lvl := ℕ) cfgs 0 (defs₀ (F := F)) Variants.none m (main (F := F))
    (fun c b => V0 m c (Proc.devRef .tc b)) (fun _ => Pipeline.chain ([hostOps1].map StableHlo.seq)) :=
  Pipeline.hmain_around cfgs 0 defs₀ Variants.none m main [hostOps0] [hostOps1] hostOps0_sub hostOps_fresh main_chain

/-- The host operations write only their own results. -/
theorem V_of_not_written (c : Dev nD) (b : Ref sig .tc) (h0 : b ≠ main_v0) (h1 : b ≠ main_v1) (h2 : b ≠ main_v2) (h3 : b ≠ main_v3_5)
    (h4 : b ≠ main_v3_6) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The contents behind the launch: every array at what the points left in it, every other buffer as the region found it. -/
def leaves (c : Dev nD) : Valuation τ sig (Elt F) :=
  Pipeline.withArrays (cfgs (0 : Fin 1)).spec c (V0 m c) fun w => (dats m 0 c).arrAt w (cfgs (0 : Fin 1)).N

theorem leaves_arr (c : Dev nD) (w : Fin 14) : leaves m c (Proc.devRef .tc (Pipeline.arrRef spec0 w)) = (dats m 0 c).arrAt w cfg0.N :=
  Pipeline.withArrays_arr spec0 launch0.win.arr_inj c (V0 m c) (fun w => (dats m 0 c).arrAt w cfg0.N) w

theorem leaves_other (c : Dev nD) (b : Ref sig .tc) (h : ∀ w : Fin 14, Pipeline.arrRef spec0 w ≠ b) : leaves m c (Proc.devRef .tc b) = V m c b :=
  Pipeline.withArrays_of_ne spec0 c (V0 m c) (fun w => (dats m 0 c).arrAt w cfg0.N) b h

/-- The contents at the end: those behind the launch, and the operations' results. -/
theorem ends_eq (c : Dev nD) (b : Ref sig .tc) :
    Pipeline.afterTail₀ cfgs (dats m) 0 (V0 m) [hostOps1] c b = StableHlo.after hostOps1 (leaves m c) (Proc.devRef .tc b) := by
  unfold Pipeline.afterTail₀ leaves
  rw [List.flatten_cons, List.flatten_nil, List.append_nil]

/-- A buffer that is no array of the launch and no result of the operations behind it ends as the region found it. -/
theorem ends_other (c : Dev nD) (b : Ref sig .tc) (hb : b.idx.val < 22) (h : ∀ w : Fin 14, Pipeline.arrRef spec0 w ≠ b) :
    Pipeline.afterTail₀ cfgs (dats m) 0 (V0 m) [hostOps1] c b = V m c b :=
  (ends_eq m c b).trans ((tail_kept (leaves m c) b hb).trans (leaves_other m c b h))

set_option backward.isDefEq.respectTransparency.types false in
set_option maxHeartbeats 4000000 in
/-- The launch: every weakly fair execution ends, with every array at what the points left in it, every other buffer as
    the operations behind the launch leave it and every semaphore counter at zero. -/
theorem run_main : θ_run defs (onTc (τ := τ) (main (F := F))) (s₀ m ρ)
    (fun r => Pipeline.FramePost cfgs (dats m) (0 : Fin 1) (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := fun ops hops op hop => by
      obtain rfl := List.mem_singleton.mp hops
      exact Pipeline.sub_tailRefs Pipeline.Prefetch.none spec0 op ((List.forall_iff_forall_mem.mp hostOps1_sub) op hop) (fun k => k.elim0))
    (hfresh := fun ops hops op hop => by
      obtain rfl := List.mem_singleton.mp hops
      exact (List.forall_iff_forall_mem.mp tail_fresh) op hop)
    (hkeep := fun ops hops op hop w hw => by
      obtain rfl := List.mem_singleton.mp hops
      obtain ⟨y, hy, he⟩ := List.mem_map.mp (List.mem_toFinset.mp ((List.forall_iff_forall_mem.mp tail_writes) op hop hw))
      exact not_tail (Pipeline.arrRef spec0 w) ((by decide : ∀ w : Fin 14, (Pipeline.arrRef spec0 w).idx.val < 22) w) (Proc.devRef_injective _ he ▸ hy))
    (hmain := hmain m) (hA := fun _ _ => rfl) (hΦ := fun _ _ => rfl) (hQ' := fun _ h => h)

/-! ## What the run leaves -/

/-- The arguments are as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

theorem args_kept {r : PUnit × MemSt nD τ sig (Elt F)} (h : Pipeline.FramePost cfgs (dats m) (0 : Fin 1) (Pipeline.afterTail₀ cfgs (dats m) 0 (V0 m) [hostOps1]) r) :
    ArgsKept m r := fun c =>
  have other : ∀ b : Ref sig .tc, b ∈ Pipeline.restRefs sig spec0 → b.idx.val < 22 → (∀ w : Fin 14, Pipeline.arrRef spec0 w ≠ b) →
      r.2.mem ((c.tc : Thread nD τ).loc b) = V m c b := fun b hr hb hw => ((h c).2 b hr).trans (ends_other m c b hb hw)
  ⟨((h c).1 (0 : Fin 14)).trans (((dats m 0 c).arrAt_in (0 : Fin 14) rfl _).trans (V_of_not_written m c main_arg0 (by decide) (by decide) (by decide) (by decide) (by decide))),
   ((h c).1 (1 : Fin 14)).trans (((dats m 0 c).arrAt_in (1 : Fin 14) rfl _).trans (V_of_not_written m c main_arg1 (by decide) (by decide) (by decide) (by decide) (by decide))),
   (other main_arg2 (Pipeline.mem_restRefs_of main_arg2 (by decide) (by decide)) (by decide) (by decide)).trans (V_of_not_written m c main_arg2 (by decide) (by decide) (by decide) (by decide) (by decide)),
   (other main_arg3 (Pipeline.mem_restRefs_of main_arg3 (by decide) (by decide)) (by decide) (by decide)).trans (V_of_not_written m c main_arg3 (by decide) (by decide) (by decide) (by decide) (by decide)),
   (other main_arg4 (Pipeline.mem_restRefs_of main_arg4 (by decide) (by decide)) (by decide) (by decide)).trans (V_of_not_written m c main_arg4 (by decide) (by decide) (by decide) (by decide) (by decide)),
   (other main_arg5 (Pipeline.mem_restRefs_of main_arg5 (by decide) (by decide)) (by decide) (by decide)).trans (V_of_not_written m c main_arg5 (by decide) (by decide) (by decide) (by decide) (by decide)),
   (other main_arg6 (Pipeline.mem_restRefs_of main_arg6 (by decide) (by decide)) (by decide) (by decide)).trans (V_of_not_written m c main_arg6 (by decide) (by decide) (by decide) (by decide) (by decide)),
   (other main_arg7 (Pipeline.mem_restRefs_of main_arg7 (by decide) (by decide)) (by decide) (by decide)).trans (V_of_not_written m c main_arg7 (by decide) (by decide) (by decide) (by decide) (by decide)),
   (other main_arg8 (Pipeline.mem_restRefs_of main_arg8 (by decide) (by decide)) (by decide) (by decide)).trans (V_of_not_written m c main_arg8 (by decide) (by decide) (by decide) (by decide) (by decide)),
   (other main_arg9 (Pipeline.mem_restRefs_of main_arg9 (by decide) (by decide)) (by decide) (by decide)).trans (V_of_not_written m c main_arg9 (by decide) (by decide) (by decide) (by decide) (by decide))⟩

/-- THE FRAME: the kernel runs, its arguments end unchanged, every counter at zero. -/
theorem frame : θ_run defs (onTc (τ := τ) (main (F := F))) ⟨m, fun _ => 0, ρ⟩ (fun r => ArgsKept m r ∧ r.2.sem = fun _ => 0) :=
  (θ_run defs _ _).mono (fun _ h => ⟨args_kept m h.1, h.2⟩) (run_main m ρ)

/-- The results after the run: what the grid points left in them. -/
def outH (c : Dev nD) : Buf (Elt F) ((c : Thread nD τ).loc main_v3_0) := (dats m 0 c).arrAt (5 : Fin 14) cfg0.N
def outQ (c : Dev nD) : Buf (Elt F) ((c : Thread nD τ).loc main_v3_1) := (dats m 0 c).arrAt (6 : Fin 14) cfg0.N
def outU (c : Dev nD) : Buf (Elt F) ((c : Thread nD τ).loc main_v3_2) := (dats m 0 c).arrAt (7 : Fin 14) cfg0.N
def outKb (c : Dev nD) : Buf (Elt F) ((c : Thread nD τ).loc main_v3_3) := (dats m 0 c).arrAt (8 : Fin 14) cfg0.N
def outVb (c : Dev nD) : Buf (Elt F) ((c : Thread nD τ).loc main_v3_4) := (dats m 0 c).arrAt (9 : Fin 14) cfg0.N
def outK (c : Dev nD) : Buf (Elt F) ((c : Thread nD τ).loc main_v3_5) := (dats m 0 c).arrAt (10 : Fin 14) cfg0.N
def outV (c : Dev nD) : Buf (Elt F) ((c : Thread nD τ).loc main_v3_6) := (dats m 0 c).arrAt (11 : Fin 14) cfg0.N
def outKx (c : Dev nD) : Buf (Elt F) ((c : Thread nD τ).loc main_v3_7) := (dats m 0 c).arrAt (12 : Fin 14) cfg0.N
def outVx (c : Dev nD) : Buf (Elt F) ((c : Thread nD τ).loc main_v3_8) := (dats m 0 c).arrAt (13 : Fin 14) cfg0.N

/-- The results of the operations behind the launch: both layers' keys and values of the prompts, the last rows of both
    layers' mixer inputs, and both layers' keys and values of the samples. -/
def outKp (c : Dev nD) : Buf (Elt F) ((c : Thread nD τ).loc main_v86) :=
  promptBoth (promptRows (m ((c : Thread nD τ).loc main_arg7)) (half0 (outK m c))) (promptRows (outKx m c) (half1 (outK m c)))
def outVp (c : Dev nD) : Buf (Elt F) ((c : Thread nD τ).loc main_v89) :=
  promptBoth (promptRows (m ((c : Thread nD τ).loc main_arg8)) (half0 (outV m c))) (promptRows (outVx m c) (half1 (outV m c)))
def outPool (c : Dev nD) : Buf (Elt F) ((c : Thread nD τ).loc main_v92) :=
  lastBoth (lastRows (m ((c : Thread nD τ).loc main_arg9))) (lastRows (outU m c))
def outKs (c : Dev nD) : Buf (Elt F) ((c : Thread nD τ).loc main_v95) :=
  sampleBoth (sampleRows (m ((c : Thread nD τ).loc main_arg7))) (sampleRows (outKx m c))
def outVs (c : Dev nD) : Buf (Elt F) ((c : Thread nD τ).loc main_v98) :=
  sampleBoth (sampleRows (m ((c : Thread nD τ).loc main_arg8))) (sampleRows (outVx m c))

theorem leaves_arg7 (c : Dev nD) : leaves m c (Proc.devRef .tc main_arg7) = m ((c : Thread nD τ).loc main_arg7) :=
  (leaves_other m c main_arg7 (by decide)).trans (V_of_not_written m c main_arg7 (by decide) (by decide) (by decide) (by decide) (by decide))
theorem leaves_arg8 (c : Dev nD) : leaves m c (Proc.devRef .tc main_arg8) = m ((c : Thread nD τ).loc main_arg8) :=
  (leaves_other m c main_arg8 (by decide)).trans (V_of_not_written m c main_arg8 (by decide) (by decide) (by decide) (by decide) (by decide))
theorem leaves_arg9 (c : Dev nD) : leaves m c (Proc.devRef .tc main_arg9) = m ((c : Thread nD τ).loc main_arg9) :=
  (leaves_other m c main_arg9 (by decide)).trans (V_of_not_written m c main_arg9 (by decide) (by decide) (by decide) (by decide) (by decide))

theorem ends_kp (c : Dev nD) : Pipeline.afterTail₀ cfgs (dats m) 0 (V0 m) [hostOps1] c main_v86 = outKp m c := by
  rw [ends_eq, tail_kp, leaves_arg7, show leaves m c (Proc.devRef .tc main_v3_5) = outK m c from leaves_arr m c 10,
    show leaves m c (Proc.devRef .tc main_v3_7) = outKx m c from leaves_arr m c 12]
  rfl
theorem ends_vp (c : Dev nD) : Pipeline.afterTail₀ cfgs (dats m) 0 (V0 m) [hostOps1] c main_v89 = outVp m c := by
  rw [ends_eq, tail_vp, leaves_arg8, show leaves m c (Proc.devRef .tc main_v3_6) = outV m c from leaves_arr m c 11,
    show leaves m c (Proc.devRef .tc main_v3_8) = outVx m c from leaves_arr m c 13]
  rfl
theorem ends_pool (c : Dev nD) : Pipeline.afterTail₀ cfgs (dats m) 0 (V0 m) [hostOps1] c main_v92 = outPool m c := by
  rw [ends_eq, tail_pool, leaves_arg9, show leaves m c (Proc.devRef .tc main_v3_2) = outU m c from leaves_arr m c 7]
  rfl
theorem ends_ks (c : Dev nD) : Pipeline.afterTail₀ cfgs (dats m) 0 (V0 m) [hostOps1] c main_v95 = outKs m c := by
  rw [ends_eq, tail_ks, leaves_arg7, show leaves m c (Proc.devRef .tc main_v3_7) = outKx m c from leaves_arr m c 12]
  rfl
theorem ends_vs (c : Dev nD) : Pipeline.afterTail₀ cfgs (dats m) 0 (V0 m) [hostOps1] c main_v98 = outVs m c := by
  rw [ends_eq, tail_vs, leaves_arg8, show leaves m c (Proc.devRef .tc main_v3_8) = outVx m c from leaves_arr m c 13]
  rfl

/-- The run with its results named. -/
theorem run_value : θ_run defs (onTc (τ := τ) (main (F := F))) ⟨m, fun _ => 0, ρ⟩
    (fun r => (∀ c : Dev nD, r.2.mem ((c.tc : Thread nD τ).loc main_v3_0) = outH m c
      ∧ r.2.mem ((c.tc : Thread nD τ).loc main_v3_1) = outQ m c
      ∧ r.2.mem ((c.tc : Thread nD τ).loc main_v3_2) = outU m c
      ∧ r.2.mem ((c.tc : Thread nD τ).loc main_v3_3) = outKb m c
      ∧ r.2.mem ((c.tc : Thread nD τ).loc main_v3_4) = outVb m c
      ∧ r.2.mem ((c.tc : Thread nD τ).loc main_v3_5) = outK m c
      ∧ r.2.mem ((c.tc : Thread nD τ).loc main_v3_6) = outV m c
      ∧ r.2.mem ((c.tc : Thread nD τ).loc main_v3_7) = outKx m c
      ∧ r.2.mem ((c.tc : Thread nD τ).loc main_v3_8) = outVx m c
      ∧ r.2.mem ((c.tc : Thread nD τ).loc main_v86) = outKp m c
      ∧ r.2.mem ((c.tc : Thread nD τ).loc main_v89) = outVp m c
      ∧ r.2.mem ((c.tc : Thread nD τ).loc main_v92) = outPool m c
      ∧ r.2.mem ((c.tc : Thread nD τ).loc main_v95) = outKs m c
      ∧ r.2.mem ((c.tc : Thread nD τ).loc main_v98) = outVs m c) ∧ ArgsKept m r) :=
  (θ_run defs _ _).mono (fun _ h => ⟨fun c => ⟨(h.1 c).1 (5 : Fin 14), (h.1 c).1 (6 : Fin 14), (h.1 c).1 (7 : Fin 14), (h.1 c).1 (8 : Fin 14), (h.1 c).1 (9 : Fin 14), (h.1 c).1 (10 : Fin 14), (h.1 c).1 (11 : Fin 14), (h.1 c).1 (12 : Fin 14), (h.1 c).1 (13 : Fin 14),
    ((h.1 c).2 main_v86 (Pipeline.mem_restRefs_of main_v86 (by decide) (by decide))).trans (ends_kp m c),
    ((h.1 c).2 main_v89 (Pipeline.mem_restRefs_of main_v89 (by decide) (by decide))).trans (ends_vp m c),
    ((h.1 c).2 main_v92 (Pipeline.mem_restRefs_of main_v92 (by decide) (by decide))).trans (ends_pool m c),
    ((h.1 c).2 main_v95 (Pipeline.mem_restRefs_of main_v95 (by decide) (by decide))).trans (ends_ks m c),
    ((h.1 c).2 main_v98 (Pipeline.mem_restRefs_of main_v98 (by decide) (by decide))).trans (ends_vs m c)⟩, args_kept m h.1⟩) (run_main m ρ)

end Cert.Next.Tile

end
-- ==== Proof.NextNorm.lean ====
/-
  The second projection in extended reals, as the kernel's tiles compute it: the normalized rows times the weights'
  columns.
-/
module

public import proofs.«01_k».proof.Proof.ProjNorm
public import proofs.«01_k».proof.Proof.NextBody

@[expose] public section

set_option maxRecDepth 16384

open Idealize.ShloMosaic
open Idealize.ShloMosaic.TcCoe
open Idealize.SL.Sem

namespace Cert.Next.Value

open Cert.Next Cert.Next.Gen Cert.Next.Tile
open Cert.Proj.Value (col headCol)

attribute [local instance] Cert.Next.Gen.facts

/-- The normalized rows. -/
theorem tH_apply (x y : FVec Ideal S512x1024 .f32) (g b : FVec Ideal S1x1024 .f32) (r : Fin 512) (d : Fin 1024) :
    (tH (F := Ideal) x y g b : S512x1024.Idx → EReal) (ix2 r d)
      = Norm.row (Norm.resid (fun j => x (ix2 r j)) (fun j => y (ix2 r j))) (fun j => g (ix2 0 j)) (fun j => b (ix2 0 j)) d := by
  unfold tH
  pointwise [k0_pay1]
  rfl

variable (w : FVec Ideal S1024x2048 .bf16) (h : FVec Ideal S512x1024 .f32)

/-- Row `r` times column `e` of the weights. -/
noncomputable def tileProd (r : Fin 512) (e : Fin 2048) : EReal := ∑ d : Fin 1024, h (ix2 r d) * w (ix2 d e)

/-! The quarters of the weights at an index. -/

theorem wQ_apply (d : Fin 1024) (e : Fin 512) : (wQ (F := Ideal) w : S1024x512.Idx → EReal) (ix2 d e) = w (ix2 d (col 0 (by decide) e)) :=
  Cert.Proj.Value.wQ_apply w d e
theorem wK_apply (d : Fin 1024) (e : Fin 512) : (wK (F := Ideal) w : S1024x512.Idx → EReal) (ix2 d e) = w (ix2 d (col 512 (by decide) e)) :=
  Cert.Proj.Value.wK_apply w d e
theorem wV_apply (d : Fin 1024) (e : Fin 512) : (wV (F := Ideal) w : S1024x512.Idx → EReal) (ix2 d e) = w (ix2 d (col 1024 (by decide) e)) :=
  Cert.Proj.Value.wV_apply w d e
theorem wU_apply (d : Fin 1024) (e : Fin 512) : (wU (F := Ideal) w : S1024x512.Idx → EReal) (ix2 d e) = w (ix2 d (col 1536 (by decide) e)) :=
  Cert.Proj.Value.wU_apply w d e

/-- A tile's product: the rows times the quarter `v` of the weights that starts at column `o`. -/
theorem prod_apply (v : FVec Ideal S1024x512 .bf16) (o : ℕ) (ho : o + 512 ≤ 2048)
    (hv : ∀ d e, (v : S1024x512.Idx → EReal) (ix2 d e) = w (ix2 d (col o ho e))) (r e : Fin 512) :
    (k0_pay6 (F := Ideal) h v : S512x512.Idx → EReal) (ix2 r e) = tileProd w h r (col o ho e) := by
  unfold tileProd
  simp only [← hv]
  pointwise [k0_pay6, k0_pay4]

/-! The tiles, element by element. -/

theorem tQ_apply (r e : Fin 512) :
    (tQ (F := Ideal) w h : S512x512.Idx → EReal) (ix2 r e) = tileProd w h r (col 0 (by decide) e) * Norm.qScale := by
  rw [← prod_apply w h (wQ (F := Ideal) w) 0 (by decide) (wQ_apply w) r e]
  unfold tQ
  generalize wQ (F := Ideal) w = v
  pointwise [k0_pay5, k0_pay6, k0_pay4]
  rfl

theorem tU_apply (r e : Fin 512) : (tU (F := Ideal) w h : S512x512.Idx → EReal) (ix2 r e) = tileProd w h r (col 1536 (by decide) e) :=
  prod_apply w h (wU (F := Ideal) w) 1536 (by decide) (wU_apply w) r e

theorem tKx_apply (r e : Fin 512) : (tKx (F := Ideal) w h : S512x512.Idx → EReal) (ix2 r e) = tileProd w h r (col 512 (by decide) e) :=
  prod_apply w h (wK (F := Ideal) w) 512 (by decide) (wK_apply w) r e

theorem tVx_apply (r e : Fin 512) : (tVx (F := Ideal) w h : S512x512.Idx → EReal) (ix2 r e) = tileProd w h r (col 1024 (by decide) e) :=
  prod_apply w h (wV (F := Ideal) w) 1024 (by decide) (wV_apply w) r e

theorem tKb_apply (r e : Fin 512) : (tKb (F := Ideal) w h : S512x512.Idx → EReal) (ix2 r e) = tileProd w h r (col 512 (by decide) e) := tKx_apply w h r e

theorem tVb_apply (r e : Fin 512) : (tVb (F := Ideal) w h : S512x512.Idx → EReal) (ix2 r e) = tileProd w h r (col 1024 (by decide) e) := tVx_apply w h r e

/-- The rows of a tile laid out by heads. -/
theorem heads_apply (y : FVec Ideal S512x512 .f32) (r : Fin 512) (a : Fin 4) (e : Fin 128) :
    (k0_pay2 (F := Ideal) y : S1x1x512x4x128.Idx → EReal) (ix5 0 0 r a e) = y (ix2 r (headCol a e)) := by
  pointwise [k0_pay2]
  rfl

theorem tK_apply (r : Fin 512) (a : Fin 4) (e : Fin 128) :
    (tK (F := Ideal) w h : S1x1x512x4x128.Idx → EReal) (ix5 0 0 r a e) = tileProd w h r (col 512 (by decide) (headCol a e)) :=
  (heads_apply (tKx (F := Ideal) w h) r a e).trans (tKx_apply w h r _)

theorem tV_apply (r : Fin 512) (a : Fin 4) (e : Fin 128) :
    (tV (F := Ideal) w h : S1x1x512x4x128.Idx → EReal) (ix5 0 0 r a e) = tileProd w h r (col 1024 (by decide) (headCol a e)) :=
  (heads_apply (tVx (F := Ideal) w h) r a e).trans (tVx_apply w h r _)

end Cert.Next.Value
-- ==== Proof.NextOut.lean ====
/-
  The second projection's results, element by element: the normalized rows, the queries, the mixer's input, and the keys
  and values in their several formats. The cache results keep the arguments' first half, and the points write the second.
-/
module

public import Idealize.ShloMosaic.Lib.Pipeline.ValueKit
public import proofs.«01_k».proof.Proof.NextRun
public import proofs.«01_k».proof.Proof.NextNorm
public import proofs.«01_k».proof.Proof.ProjOut

@[expose] public section

set_option maxRecDepth 16384

noncomputable section

open Idealize.ShloMosaic
open Idealize.ShloMosaic.TcCoe

namespace Cert.Next.Value

open Cert.Next Cert.Next.Gen Cert.Next.Tile
open Cert.Proj.Value (col headCol seqRow extraRow)

attribute [local instance] Cert.Next.Gen.facts

variable (m : (ℓ : Loc nD τ sig) → Buf (Elt Ideal) ℓ) (c : Dev nD)

/-- The arguments as launched, as functions to the extended reals. -/
abbrev res : S66048x1024.Idx → EReal := m ((c : Thread nD τ).loc main_arg0)
abbrev add : S66048x1024.Idx → EReal := m ((c : Thread nD τ).loc main_arg1)
abbrev scale : S1024.Idx → EReal := m ((c : Thread nD τ).loc main_arg2)
abbrev shift : S1024.Idx → EReal := m ((c : Thread nD τ).loc main_arg3)
abbrev weights : S1024x2048.Idx → EReal := m ((c : Thread nD τ).loc main_arg4)
abbrev keys : S2x32x2048x4x128.Idx → EReal := m ((c : Thread nD τ).loc main_arg5)
abbrev vals : S2x32x2048x4x128.Idx → EReal := m ((c : Thread nD τ).loc main_arg6)

/-! ## What the host operations left in the arrays -/

theorem V_res : (V m c main_arg0 : S66048x1024.Idx → EReal) = res m c :=
  V_of_not_written m c main_arg0 (by decide) (by decide) (by decide) (by decide) (by decide)
theorem V_add : (V m c main_arg1 : S66048x1024.Idx → EReal) = add m c :=
  V_of_not_written m c main_arg1 (by decide) (by decide) (by decide) (by decide) (by decide)
theorem V_scale : (V m c main_v0 : S1x1024.Idx → EReal) = shapeCast S1x1024 (scale m c) shapeCasts_S1024_S1x1024 := by
  unfold_abbrev_sides
  after_results
  try rfl
theorem V_shift : (V m c main_v1 : S1x1024.Idx → EReal) = shapeCast S1x1024 (shift m c) shapeCasts_S1024_S1x1024 := by
  unfold_abbrev_sides
  after_results
  try rfl
theorem V_weights : (V m c main_v2 : S1024x2048.Idx → EReal) = weights m c := by
  unfold_abbrev_sides
  after_results
  try rfl
/-- The cache results start as the cache arguments. -/
theorem V_keys : (V m c main_v3_5 : S2x32x2048x4x128.Idx → EReal) = keys m c := by
  unfold_abbrev_sides
  after_results
  try rfl
theorem V_vals : (V m c main_v3_6 : S2x32x2048x4x128.Idx → EReal) = vals m c := by
  unfold_abbrev_sides
  after_results
  try rfl

/-! ## The blocks -/

/-- The row of the arguments that is row `r` of tile `t`. -/
def rowOf (t : Fin cfg0.N) (r : Fin 512) : Fin 66048 :=
  ⟨t.val * 512 + r.val, by have h : t.val < 129 := t.isLt; have := r.isLt; omega⟩

theorem word (t : Fin cfg0.N) : (BitVec.ofNat 32 (grid0.coords t 0).val).toNat = t.val := by
  have h : t.val < 129 := t.isLt
  rw [crd_val, BitVec.toNat_ofNat]; omega

/-- The block of a window over rows. -/
theorem word_rows (t : Fin cfg0.N) : (![(BitVec.ofNat 32 (grid0.coords t 0).val).toNat, (0#32 : BitVec 32).toNat] : Fin 2 → ℕ) = ![t.val, 0] := by
  rw [word]; rfl

theorem idx0 (t : Fin cfg0.N) : (cfg0.win (0 : Fin 14)).index t = ![t.val, 0] := word_rows t
theorem idx1 (t : Fin cfg0.N) : (cfg0.win (1 : Fin 14)).index t = ![t.val, 0] := word_rows t

theorem blk0 (t : Fin cfg0.N) (r : Fin 512) (j : Fin 1024) :
    (iblk m c (0 : Fin 14) t : S512x1024.Idx → EReal) (ix2 r j) = res m c (ix2 (rowOf t r) j) := by
  refine (congrFun (V_res m c) _).trans (congrArg (res m c) (funext fun a => Fin.ext ?_))
  refine (Pipeline.Window.rect_emb_val (cfg0.win (0 : Fin 14)) t _ _).trans ?_
  rw [idx0]
  fin_cases a <;> simp [rowOf]
theorem blk1 (t : Fin cfg0.N) (r : Fin 512) (j : Fin 1024) :
    (iblk m c (1 : Fin 14) t : S512x1024.Idx → EReal) (ix2 r j) = add m c (ix2 (rowOf t r) j) := by
  refine (congrFun (V_add m c) _).trans (congrArg (add m c) (funext fun a => Fin.ext ?_))
  refine (Pipeline.Window.rect_emb_val (cfg0.win (1 : Fin 14)) t _ _).trans ?_
  rw [idx1]
  fin_cases a <;> simp [rowOf]
theorem blk2 (t : Fin cfg0.N) (j : Fin 1024) :
    (iblk m c (2 : Fin 14) t : S1x1024.Idx → EReal) (ix2 0 j) = scale m c (ix1 j) := by
  refine (congrFun (V_scale m c) _).trans ?_
  rw [show ((cfg0.win (2 : Fin 14)).blk t).view.emb (ix2 0 j) = (ix2 0 j : S1x1024.Idx) from
    funext fun a => Fin.ext ((Pipeline.Window.rect_emb_val (cfg0.win (2 : Fin 14)) t _ _).trans (by
      rw [show (cfg0.win (2 : Fin 14)).index t = ![0, 0] from rfl]
      fin_cases a <;> simp))]
  pointwise
theorem blk3 (t : Fin cfg0.N) (j : Fin 1024) :
    (iblk m c (3 : Fin 14) t : S1x1024.Idx → EReal) (ix2 0 j) = shift m c (ix1 j) := by
  refine (congrFun (V_shift m c) _).trans ?_
  rw [show ((cfg0.win (3 : Fin 14)).blk t).view.emb (ix2 0 j) = (ix2 0 j : S1x1024.Idx) from
    funext fun a => Fin.ext ((Pipeline.Window.rect_emb_val (cfg0.win (3 : Fin 14)) t _ _).trans (by
      rw [show (cfg0.win (3 : Fin 14)).index t = ![0, 0] from rfl]
      fin_cases a <;> simp))]
  pointwise
theorem blk4 (t : Fin cfg0.N) (d : Fin 1024) (e : Fin 2048) :
    (iblk m c (4 : Fin 14) t : S1024x2048.Idx → EReal) (ix2 d e) = weights m c (ix2 d e) := by
  refine (congrFun (V_weights m c) _).trans (congrArg (weights m c) (funext fun a => Fin.ext ?_))
  refine (Pipeline.Window.rect_emb_val (cfg0.win (4 : Fin 14)) t _ _).trans ?_
  rw [show (cfg0.win (4 : Fin 14)).index t = ![0, 0] from rfl]
  fin_cases a <;> simp

/-! ## The tiles -/

/-- The normalized rows of the arguments, and their products with the weights' columns. -/
def hOf (n : Fin 66048) (d : Fin 1024) : EReal :=
  Norm.row (Norm.resid (fun j => res m c (ix2 n j)) (fun j => add m c (ix2 n j))) (fun j => scale m c (ix1 j)) (fun j => shift m c (ix1 j)) d
def pOf (n : Fin 66048) (e : Fin 2048) : EReal := ∑ d : Fin 1024, hOf m c n d * weights m c (ix2 d e)

/-- The queries, the keys, the values and the mixer's input: quarters of the products. -/
def qOf (n : Fin 66048) (e : Fin 512) : EReal := pOf m c n (col 0 (by decide) e) * Norm.qScale
def kOf (n : Fin 66048) (e : Fin 512) : EReal := pOf m c n (col 512 (by decide) e)
def vOf (n : Fin 66048) (e : Fin 512) : EReal := pOf m c n (col 1024 (by decide) e)
def uOf (n : Fin 66048) (e : Fin 512) : EReal := pOf m c n (col 1536 (by decide) e)

theorem rowsAt_apply (t : Fin cfg0.N) (r : Fin 512) (d : Fin 1024) :
    (rowsAt m c t : S512x1024.Idx → EReal) (ix2 r d) = hOf m c (rowOf t r) d := by
  refine (tH_apply (iblk m c (0 : Fin 14) t) (iblk m c (1 : Fin 14) t) (iblk m c (2 : Fin 14) t) (iblk m c (3 : Fin 14) t) r d).trans ?_
  simp only [blk0 m c t, blk1 m c t, blk2 m c t, blk3 m c t]
  rfl

theorem tile_prod (t : Fin cfg0.N) (r : Fin 512) (e : Fin 2048) :
    tileProd (iblk m c (4 : Fin 14) t) (rowsAt m c t) r e = pOf m c (rowOf t r) e := by
  unfold tileProd pOf
  simp only [rowsAt_apply m c t, blk4 m c t]

theorem tileQ (t : Fin cfg0.N) (r e : Fin 512) :
    ((dats m 0 c).after (6 : Fin 14) t : S512x512.Idx → EReal) (ix2 r e) = qOf m c (rowOf t r) e :=
  (tQ_apply (iblk m c (4 : Fin 14) t) (rowsAt m c t) r e).trans (congrArg (· * Norm.qScale) (tile_prod m c t r _))
theorem tileU (t : Fin cfg0.N) (r e : Fin 512) :
    ((dats m 0 c).after (7 : Fin 14) t : S512x512.Idx → EReal) (ix2 r e) = uOf m c (rowOf t r) e :=
  (tU_apply (iblk m c (4 : Fin 14) t) (rowsAt m c t) r e).trans (tile_prod m c t r _)
theorem tileKb (t : Fin cfg0.N) (r e : Fin 512) :
    ((dats m 0 c).after (8 : Fin 14) t : S512x512.Idx → EReal) (ix2 r e) = kOf m c (rowOf t r) e :=
  (tKb_apply (iblk m c (4 : Fin 14) t) (rowsAt m c t) r e).trans (tile_prod m c t r _)
theorem tileVb (t : Fin cfg0.N) (r e : Fin 512) :
    ((dats m 0 c).after (9 : Fin 14) t : S512x512.Idx → EReal) (ix2 r e) = vOf m c (rowOf t r) e :=
  (tVb_apply (iblk m c (4 : Fin 14) t) (rowsAt m c t) r e).trans (tile_prod m c t r _)
theorem tileK (t : Fin cfg0.N) (r : Fin 512) (a : Fin 4) (e : Fin 128) :
    ((dats m 0 c).after (10 : Fin 14) t : S1x1x512x4x128.Idx → EReal) (ix5 0 0 r a e) = kOf m c (rowOf t r) (headCol a e) :=
  (tK_apply (iblk m c (4 : Fin 14) t) (rowsAt m c t) r a e).trans (tile_prod m c t r _)
theorem tileV (t : Fin cfg0.N) (r : Fin 512) (a : Fin 4) (e : Fin 128) :
    ((dats m 0 c).after (11 : Fin 14) t : S1x1x512x4x128.Idx → EReal) (ix5 0 0 r a e) = vOf m c (rowOf t r) (headCol a e) :=
  (tV_apply (iblk m c (4 : Fin 14) t) (rowsAt m c t) r a e).trans (tile_prod m c t r _)
theorem tileKx (t : Fin cfg0.N) (r e : Fin 512) :
    ((dats m 0 c).after (12 : Fin 14) t : S512x512.Idx → EReal) (ix2 r e) = kOf m c (rowOf first r) e :=
  (tKx_apply (iblk m c (4 : Fin 14) first) (rowsAt m c first) r e).trans (tile_prod m c first r _)
theorem tileVx (t : Fin cfg0.N) (r e : Fin 512) :
    ((dats m 0 c).after (13 : Fin 14) t : S512x512.Idx → EReal) (ix2 r e) = vOf m c (rowOf first r) e :=
  (tVx_apply (iblk m c (4 : Fin 14) first) (rowsAt m c first) r e).trans (tile_prod m c first r _)

/-! ## The results of all rows -/

theorem idx5 (t : Fin cfg0.N) : (cfg0.win (5 : Fin 14)).index t = ![t.val, 0] := word_rows t

theorem outH_eq : (outH m c : S66048x1024.Idx → EReal) = fun i => hOf m c (i 0) (i 1) := by
  refine (dats m 0 c).arrAt_eq_of_covers (5 : Fin 14) (fun i => hOf m c (i 0) (i 1)) (by decide +kernel) (fun t _ y => ?_)
  have e0 : (((cfg0.win (5 : Fin 14)).blk t).view.emb y : S66048x1024.Idx) 0 = rowOf t (y 0) := Fin.ext
    ((Pipeline.Window.rect_emb_val (cfg0.win (5 : Fin 14)) t _ _).trans (by rw [idx5]; rfl))
  have e1 : (((cfg0.win (5 : Fin 14)).blk t).view.emb y : S66048x1024.Idx) 1 = y 1 := Fin.ext
    ((Pipeline.Window.rect_emb_val (cfg0.win (5 : Fin 14)) t _ _).trans (by rw [idx5]; simp))
  refine Eq.trans ?_ (congrArg₂ (hOf m c) e0.symm e1.symm)
  exact (congrArg ((dats m 0 c).after (5 : Fin 14) t) (eq_ix2 (y : S512x1024.Idx))).trans (rowsAt_apply m c t (y 0) (y 1))

theorem idx6 (t : Fin cfg0.N) : (cfg0.win (6 : Fin 14)).index t = ![t.val, 0] := word_rows t

theorem outQ_eq : (outQ m c : S66048x512.Idx → EReal) = fun i => qOf m c (i 0) (i 1) := by
  refine (dats m 0 c).arrAt_eq_of_covers (6 : Fin 14) (fun i => qOf m c (i 0) (i 1)) (by decide +kernel) (fun t _ y => ?_)
  have e0 : (((cfg0.win (6 : Fin 14)).blk t).view.emb y : S66048x512.Idx) 0 = rowOf t (y 0) := Fin.ext
    ((Pipeline.Window.rect_emb_val (cfg0.win (6 : Fin 14)) t _ _).trans (by rw [idx6]; rfl))
  have e1 : (((cfg0.win (6 : Fin 14)).blk t).view.emb y : S66048x512.Idx) 1 = y 1 := Fin.ext
    ((Pipeline.Window.rect_emb_val (cfg0.win (6 : Fin 14)) t _ _).trans (by rw [idx6]; simp))
  refine Eq.trans ?_ (congrArg₂ (qOf m c) e0.symm e1.symm)
  exact (congrArg ((dats m 0 c).after (6 : Fin 14) t) (eq_ix2 (y : S512x512.Idx))).trans (tileQ m c t (y 0) (y 1))

theorem idx7 (t : Fin cfg0.N) : (cfg0.win (7 : Fin 14)).index t = ![t.val, 0] := word_rows t

theorem outU_eq : (outU m c : S66048x512.Idx → EReal) = fun i => uOf m c (i 0) (i 1) := by
  refine (dats m 0 c).arrAt_eq_of_covers (7 : Fin 14) (fun i => uOf m c (i 0) (i 1)) (by decide +kernel) (fun t _ y => ?_)
  have e0 : (((cfg0.win (7 : Fin 14)).blk t).view.emb y : S66048x512.Idx) 0 = rowOf t (y 0) := Fin.ext
    ((Pipeline.Window.rect_emb_val (cfg0.win (7 : Fin 14)) t _ _).trans (by rw [idx7]; rfl))
  have e1 : (((cfg0.win (7 : Fin 14)).blk t).view.emb y : S66048x512.Idx) 1 = y 1 := Fin.ext
    ((Pipeline.Window.rect_emb_val (cfg0.win (7 : Fin 14)) t _ _).trans (by rw [idx7]; simp))
  refine Eq.trans ?_ (congrArg₂ (uOf m c) e0.symm e1.symm)
  exact (congrArg ((dats m 0 c).after (7 : Fin 14) t) (eq_ix2 (y : S512x512.Idx))).trans (tileU m c t (y 0) (y 1))

theorem idx8 (t : Fin cfg0.N) : (cfg0.win (8 : Fin 14)).index t = ![t.val, 0] := word_rows t

theorem outKb_eq : (outKb m c : S66048x512.Idx → EReal) = fun i => kOf m c (i 0) (i 1) := by
  refine (dats m 0 c).arrAt_eq_of_covers (8 : Fin 14) (fun i => kOf m c (i 0) (i 1)) (by decide +kernel) (fun t _ y => ?_)
  have e0 : (((cfg0.win (8 : Fin 14)).blk t).view.emb y : S66048x512.Idx) 0 = rowOf t (y 0) := Fin.ext
    ((Pipeline.Window.rect_emb_val (cfg0.win (8 : Fin 14)) t _ _).trans (by rw [idx8]; rfl))
  have e1 : (((cfg0.win (8 : Fin 14)).blk t).view.emb y : S66048x512.Idx) 1 = y 1 := Fin.ext
    ((Pipeline.Window.rect_emb_val (cfg0.win (8 : Fin 14)) t _ _).trans (by rw [idx8]; simp))
  refine Eq.trans ?_ (congrArg₂ (kOf m c) e0.symm e1.symm)
  exact (congrArg ((dats m 0 c).after (8 : Fin 14) t) (eq_ix2 (y : S512x512.Idx))).trans (tileKb m c t (y 0) (y 1))

theorem idx9 (t : Fin cfg0.N) : (cfg0.win (9 : Fin 14)).index t = ![t.val, 0] := word_rows t

theorem outVb_eq : (outVb m c : S66048x512.Idx → EReal) = fun i => vOf m c (i 0) (i 1) := by
  refine (dats m 0 c).arrAt_eq_of_covers (9 : Fin 14) (fun i => vOf m c (i 0) (i 1)) (by decide +kernel) (fun t _ y => ?_)
  have e0 : (((cfg0.win (9 : Fin 14)).blk t).view.emb y : S66048x512.Idx) 0 = rowOf t (y 0) := Fin.ext
    ((Pipeline.Window.rect_emb_val (cfg0.win (9 : Fin 14)) t _ _).trans (by rw [idx9]; rfl))
  have e1 : (((cfg0.win (9 : Fin 14)).blk t).view.emb y : S66048x512.Idx) 1 = y 1 := Fin.ext
    ((Pipeline.Window.rect_emb_val (cfg0.win (9 : Fin 14)) t _ _).trans (by rw [idx9]; simp))
  refine Eq.trans ?_ (congrArg₂ (vOf m c) e0.symm e1.symm)
  exact (congrArg ((dats m 0 c).after (9 : Fin 14) t) (eq_ix2 (y : S512x512.Idx))).trans (tileVb m c t (y 0) (y 1))

/-! ## The caches -/

/-- The grid's coordinates at point `n`. -/
def point (n : Fin 129) : grid0.Coords := fun | 0 => n | ⟨_ + 1, h⟩ => absurd h (Nat.not_lt.2 (Nat.le_add_left _ _))

theorem coords_eq (t : Fin cfg0.N) : grid0.coords t = point ⟨t.val, t.isLt⟩ := funext fun
  | 0 => Fin.ext (crd_val t)
  | ⟨_ + 1, h⟩ => absurd h (Nat.not_lt.2 (Nat.le_add_left _ _))

/-- The block of a later point, in the second layer's half: four points to a sequence. -/
theorem word_seq : ∀ n : Fin 129, cc0_transform_12 (point n) = ![1, (n.val - 1) / 4, (n.val - 1) % 4, 0, 0] := by decide

theorem idx10 (t : Fin cfg0.N) : (cfg0.win (10 : Fin 14)).index t = ![1, (t.val - 1) / 4, (t.val - 1) % 4, 0, 0] := by
  show cc0_transform_12 (grid0.coords t) = _
  rw [coords_eq, word_seq]
theorem idx11 (t : Fin cfg0.N) : (cfg0.win (11 : Fin 14)).index t = ![1, (t.val - 1) / 4, (t.val - 1) % 4, 0, 0] := by
  show cc0_transform_12 (grid0.coords t) = _
  rw [coords_eq, word_seq]

/-- The first point's block is the second's, and is written back with it. -/
theorem flush10 : ∀ t : Fin cfg0.N, (cfg0.win (10 : Fin 14)).flush t = true → t.val ≠ 0 := by decide +kernel
theorem flush11 : ∀ t : Fin cfg0.N, (cfg0.win (11 : Fin 14)).flush t = true → t.val ≠ 0 := by decide +kernel

/-- A cache after the run: the argument's first half, and the projected rows by sequences and heads. -/
def cache (old : S2x32x2048x4x128.Idx → EReal) (new : Fin 66048 → Fin 512 → EReal) (i : S2x32x2048x4x128.Idx) : EReal :=
  if (i 0).val = 0 then old i else new (seqRow (i 1) (i 2)) (headCol (i 3) (i 4))

theorem outK_eq : (outK m c : S2x32x2048x4x128.Idx → EReal) = cache (keys m c) (kOf m c) := by
  refine (dats m 0 c).arrAt_eq_of_coversWhere_of_agree (10 : Fin 14) (cache (keys m c) (kOf m c)) (fun β => β (0 : Fin 5) = 1) (by decide +kernel)
    (fun t ht y => ?_) (fun j hj => ?_)
  · have h0 : t.val ≠ 0 := flush10 t ht
    have hy0 : (y 0).val < 1 := (y 0).isLt
    have hy1 : (y 1).val < 1 := (y 1).isLt
    have e0 : ((((cfg0.win (10 : Fin 14)).blk t).view.emb y : S2x32x2048x4x128.Idx) 0).val = 1 * 1 + (y 0).val :=
      (Pipeline.Window.rect_emb_val (cfg0.win (10 : Fin 14)) t _ _).trans (by rw [idx10]; rfl)
    have e1 : ((((cfg0.win (10 : Fin 14)).blk t).view.emb y : S2x32x2048x4x128.Idx) 1).val = (t.val - 1) / 4 * 1 + (y 1).val :=
      (Pipeline.Window.rect_emb_val (cfg0.win (10 : Fin 14)) t _ _).trans (by rw [idx10]; rfl)
    have e2 : ((((cfg0.win (10 : Fin 14)).blk t).view.emb y : S2x32x2048x4x128.Idx) 2).val = (t.val - 1) % 4 * 512 + (y 2).val :=
      (Pipeline.Window.rect_emb_val (cfg0.win (10 : Fin 14)) t _ _).trans (by rw [idx10]; rfl)
    have e3 : (((cfg0.win (10 : Fin 14)).blk t).view.emb y : S2x32x2048x4x128.Idx) 3 = y 3 := Fin.ext
      ((Pipeline.Window.rect_emb_val (cfg0.win (10 : Fin 14)) t _ _).trans (by rw [idx10]; simp))
    have e4 : (((cfg0.win (10 : Fin 14)).blk t).view.emb y : S2x32x2048x4x128.Idx) 4 = y 4 := Fin.ext
      ((Pipeline.Window.rect_emb_val (cfg0.win (10 : Fin 14)) t _ _).trans (by rw [idx10]; simp))
    have er : rowOf t (y 2) = seqRow (((cfg0.win (10 : Fin 14)).blk t).view.emb y 1) (((cfg0.win (10 : Fin 14)).blk t).view.emb y 2) := Fin.ext (by
      show t.val * 512 + (y 2).val = 512 + (_ * 2048 + _)
      rw [e1, e2]; omega)
    refine Eq.trans ?_ ((congrArg₂ (kOf m c) er (congrArg₂ headCol e3.symm e4.symm)).trans (if_neg (show ¬ _ = 0 by rw [e0]; omega)).symm)
    refine (congrArg ((dats m 0 c).after (10 : Fin 14) t) ?_).trans (tileK m c t (y 2) (y 3) (y 4))
    refine (eq_ix5 (y : S1x1x512x4x128.Idx)).trans ?_
    exact congrArg₂ (fun u v : Fin 1 => (ix5 u v (y 2) (y 3) (y 4) : S1x1x512x4x128.Idx)) (Fin.ext (by show (y 0).val = 0; omega)) (Fin.ext (by show (y 1).val = 0; omega))
  · have hl : ((j : S2x32x2048x4x128.Idx) 0).val < 2 := ((j : S2x32x2048x4x128.Idx) 0).isLt
    have hc : ¬ ((j : S2x32x2048x4x128.Idx) 0).val / 1 = 1 := hj
    refine (congrFun (V_keys m c) _).trans (if_pos (show ((j : S2x32x2048x4x128.Idx) 0).val = 0 by omega)).symm

theorem outV_eq : (outV m c : S2x32x2048x4x128.Idx → EReal) = cache (vals m c) (vOf m c) := by
  refine (dats m 0 c).arrAt_eq_of_coversWhere_of_agree (11 : Fin 14) (cache (vals m c) (vOf m c)) (fun β => β (0 : Fin 5) = 1) (by decide +kernel)
    (fun t ht y => ?_) (fun j hj => ?_)
  · have h0 : t.val ≠ 0 := flush11 t ht
    have hy0 : (y 0).val < 1 := (y 0).isLt
    have hy1 : (y 1).val < 1 := (y 1).isLt
    have e0 : ((((cfg0.win (11 : Fin 14)).blk t).view.emb y : S2x32x2048x4x128.Idx) 0).val = 1 * 1 + (y 0).val :=
      (Pipeline.Window.rect_emb_val (cfg0.win (11 : Fin 14)) t _ _).trans (by rw [idx11]; rfl)
    have e1 : ((((cfg0.win (11 : Fin 14)).blk t).view.emb y : S2x32x2048x4x128.Idx) 1).val = (t.val - 1) / 4 * 1 + (y 1).val :=
      (Pipeline.Window.rect_emb_val (cfg0.win (11 : Fin 14)) t _ _).trans (by rw [idx11]; rfl)
    have e2 : ((((cfg0.win (11 : Fin 14)).blk t).view.emb y : S2x32x2048x4x128.Idx) 2).val = (t.val - 1) % 4 * 512 + (y 2).val :=
      (Pipeline.Window.rect_emb_val (cfg0.win (11 : Fin 14)) t _ _).trans (by rw [idx11]; rfl)
    have e3 : (((cfg0.win (11 : Fin 14)).blk t).view.emb y : S2x32x2048x4x128.Idx) 3 = y 3 := Fin.ext
      ((Pipeline.Window.rect_emb_val (cfg0.win (11 : Fin 14)) t _ _).trans (by rw [idx11]; simp))
    have e4 : (((cfg0.win (11 : Fin 14)).blk t).view.emb y : S2x32x2048x4x128.Idx) 4 = y 4 := Fin.ext
      ((Pipeline.Window.rect_emb_val (cfg0.win (11 : Fin 14)) t _ _).trans (by rw [idx11]; simp))
    have er : rowOf t (y 2) = seqRow (((cfg0.win (11 : Fin 14)).blk t).view.emb y 1) (((cfg0.win (11 : Fin 14)).blk t).view.emb y 2) := Fin.ext (by
      show t.val * 512 + (y 2).val = 512 + (_ * 2048 + _)
      rw [e1, e2]; omega)
    refine Eq.trans ?_ ((congrArg₂ (vOf m c) er (congrArg₂ headCol e3.symm e4.symm)).trans (if_neg (show ¬ _ = 0 by rw [e0]; omega)).symm)
    refine (congrArg ((dats m 0 c).after (11 : Fin 14) t) ?_).trans (tileV m c t (y 2) (y 3) (y 4))
    refine (eq_ix5 (y : S1x1x512x4x128.Idx)).trans ?_
    exact congrArg₂ (fun u v : Fin 1 => (ix5 u v (y 2) (y 3) (y 4) : S1x1x512x4x128.Idx)) (Fin.ext (by show (y 0).val = 0; omega)) (Fin.ext (by show (y 1).val = 0; omega))
  · have hl : ((j : S2x32x2048x4x128.Idx) 0).val < 2 := ((j : S2x32x2048x4x128.Idx) 0).isLt
    have hc : ¬ ((j : S2x32x2048x4x128.Idx) 0).val / 1 = 1 := hj
    refine (congrFun (V_vals m c) _).trans (if_pos (show ((j : S2x32x2048x4x128.Idx) 0).val = 0 by omega)).symm

/-! ## The first tile's keys and values -/

theorem outKx_eq : (outKx m c : S512x512.Idx → EReal) = fun i => kOf m c (extraRow (i 0)) (i 1) := by
  refine (dats m 0 c).arrAt_eq_of_covers (12 : Fin 14) (fun i => kOf m c (extraRow (i 0)) (i 1)) (by decide +kernel) (fun t _ y => ?_)
  have e0 : ((((cfg0.win (12 : Fin 14)).blk t).view.emb y : S512x512.Idx) 0).val = (y 0).val :=
    (Pipeline.Window.rect_emb_val (cfg0.win (12 : Fin 14)) t _ _).trans (by rw [show (cfg0.win (12 : Fin 14)).index t = ![0, 0] from rfl]; simp)
  have e1 : (((cfg0.win (12 : Fin 14)).blk t).view.emb y : S512x512.Idx) 1 = y 1 := Fin.ext
    ((Pipeline.Window.rect_emb_val (cfg0.win (12 : Fin 14)) t _ _).trans (by rw [show (cfg0.win (12 : Fin 14)).index t = ![0, 0] from rfl]; simp))
  have er : rowOf first (y 0) = extraRow (((cfg0.win (12 : Fin 14)).blk t).view.emb y 0) := Fin.ext (by
    show 0 * 512 + (y 0).val = _
    rw [Nat.zero_mul, Nat.zero_add]; exact e0.symm)
  refine Eq.trans ?_ (congrArg₂ (kOf m c) er e1.symm)
  exact (congrArg ((dats m 0 c).after (12 : Fin 14) t) (eq_ix2 (y : S512x512.Idx))).trans (tileKx m c t (y 0) (y 1))

theorem outVx_eq : (outVx m c : S512x512.Idx → EReal) = fun i => vOf m c (extraRow (i 0)) (i 1) := by
  refine (dats m 0 c).arrAt_eq_of_covers (13 : Fin 14) (fun i => vOf m c (extraRow (i 0)) (i 1)) (by decide +kernel) (fun t _ y => ?_)
  have e0 : ((((cfg0.win (13 : Fin 14)).blk t).view.emb y : S512x512.Idx) 0).val = (y 0).val :=
    (Pipeline.Window.rect_emb_val (cfg0.win (13 : Fin 14)) t _ _).trans (by rw [show (cfg0.win (13 : Fin 14)).index t = ![0, 0] from rfl]; simp)
  have e1 : (((cfg0.win (13 : Fin 14)).blk t).view.emb y : S512x512.Idx) 1 = y 1 := Fin.ext
    ((Pipeline.Window.rect_emb_val (cfg0.win (13 : Fin 14)) t _ _).trans (by rw [show (cfg0.win (13 : Fin 14)).index t = ![0, 0] from rfl]; simp))
  have er : rowOf first (y 0) = extraRow (((cfg0.win (13 : Fin 14)).blk t).view.emb y 0) := Fin.ext (by
    show 0 * 512 + (y 0).val = _
    rw [Nat.zero_mul, Nat.zero_add]; exact e0.symm)
  refine Eq.trans ?_ (congrArg₂ (vOf m c) er e1.symm)
  exact (congrArg ((dats m 0 c).after (13 : Fin 14) t) (eq_ix2 (y : S512x512.Idx))).trans (tileVx m c t (y 0) (y 1))

end Cert.Next.Value

end
-- ==== Proof.NextRefNorm.lean ====
/-
  The second projection in extended reals, as its reference computes it: the rows joined, normalized and multiplied by the
  weights, and the caches with the projected rows behind the first layer's.
-/
module

public import proofs.«01_k».proof.Proof.ProjRefNorm
public import proofs.«01_k».proof.Proof.NextOut
public import proofs.«01_k».proof.Proof.Gen.NextRefIdeal.Run

@[expose] public section

set_option maxRecDepth 16384

open Idealize.ShloMosaic
open Idealize.ShloMosaic.TcCoe
open Idealize.SL.Sem

namespace Cert.NextRefIdeal.Value

open Cert.NextRefIdeal Cert.NextRefIdeal.Gen
open Cert.Proj.Value (headCol seqRow)

attribute [local instance] Cert.NextRefIdeal.Gen.facts Cert.TailRefIdeal.Gen.facts

variable (x y : FVec Ideal S66048x1024 .f32) (g b : FVec Ideal S1024 .f32) (w : FVec Ideal S1024x2048 .f32)

/-- The normalized rows' products with the weights. -/
noncomputable def projected : FVec Ideal S66048x2048 .f32 :=
  Host.dotGeneral dot_S66048x1024_S1024x2048_S66048x2048_1_0_0_1_n_n none (Cert.TailRefIdeal.Value.normed x y g b) w

theorem projected_apply (n : Fin 66048) (e : Fin 2048) :
    projected x y g b w (ix2 n e) = ∑ d : Fin 1024,
      Norm.row (Norm.resid (fun j => x (ix2 n j)) (fun j => y (ix2 n j))) (fun j => g (ix1 j)) (fun j => b (ix1 j)) d * w (ix2 d e) := by
  unfold projected
  have hh := Cert.TailRefIdeal.Value.normed_apply x y g b n
  generalize Cert.TailRefIdeal.Value.normed x y g b = h at hh ⊢
  pointwise
  simp only [← hh]

/-- A cache: the argument's first half, and behind it the projected rows by sequences and heads. -/
theorem cache_apply (old : FVec Ideal S2x32x2048x4x128 .f32) (z : FVec Ideal S66048x512 .f32) (hs hc hb hl hr hcat)
    (l : Fin 2) (s : Fin 32) (r : Fin 2048) (a : Fin 4) (e : Fin 128) :
    (concatenate S2x32x2048x4x128 0
      [⟨S1x32x2048x4x128, broadcastInDim S1x32x2048x4x128 ![1, 2, 3, 4] hb
          (shapeCast S32x2048x4x128 (extractStridedSlice S1x32x2048x4x128 ![0, 0, 0, 0, 0] old hs) hc)⟩,
       ⟨S1x32x2048x4x128, broadcastInDim S1x32x2048x4x128 ![1, 2, 3, 4] hb
          (shapeCast S32x2048x4x128 (extractStridedSlice S65536x512 ![512, 0] z hl) hr)⟩] hcat : S2x32x2048x4x128.Idx → EReal) (ix5 l s r a e)
      = Cert.Next.Value.cache old (fun n e => z (ix2 n e)) (ix5 l s r a e) := by
  unfold Cert.Next.Value.cache
  pointwise
  by_cases h : l.val = 0
  · obtain rfl : l = 0 := Fin.ext h
    rfl
  · rw [dif_neg (show ¬ l.val < 1 by omega), if_neg h]
    rfl

end Cert.NextRefIdeal.Value
-- ==== Proof.NextShape.lean ====
module

public import proofs.«01_k».proof.Proof.NextTail
public import Idealize.ShloMosaic.Lib.Routing.BitFacts
public import Idealize.ShloMosaic.Lib.Routing.Ops
public import Idealize.ShloMosaic.Lib.ValueIdx
public import Idealize.ShloMosaic.Lib.Pointwise

/-! The results behind the second projection's launch, in plainer words: a layer's half of a cache that was put
together from two layers is that layer's part, and the rows taken by number are the end of every sequence. -/

@[expose] public section

set_option maxRecDepth 16384

noncomputable section

namespace Cert.Next.Tile

open Cert.Next Cert.Next.Gen
open Idealize.ShloMosaic
open Idealize.ShloMosaic.TcCoe

variable {α : Type}

/-- Two layers' rows put together: the halves are the two. -/
theorem half0_both (x y : S32x2048x4x128.Idx → α) (hb hcat) :
    half0 (concatenate S2x32x2048x4x128 0
      [⟨S1x32x2048x4x128, broadcastInDim S1x32x2048x4x128 ![1, 2, 3, 4] hb x⟩,
       ⟨S1x32x2048x4x128, broadcastInDim S1x32x2048x4x128 ![1, 2, 3, 4] hb y⟩] hcat) = x := by
  funext i
  obtain ⟨s, r, a, e, rfl⟩ : ∃ (s : Fin 32) (r : Fin 2048) (a : Fin 4) (e : Fin 128), i = ix4 s r a e := ⟨i 0, i 1, i 2, i 3, eq_ix4 i⟩
  unfold half0
  pointwise

theorem half1_both (x y : S32x2048x4x128.Idx → α) (hb hcat) :
    half1 (concatenate S2x32x2048x4x128 0
      [⟨S1x32x2048x4x128, broadcastInDim S1x32x2048x4x128 ![1, 2, 3, 4] hb x⟩,
       ⟨S1x32x2048x4x128, broadcastInDim S1x32x2048x4x128 ![1, 2, 3, 4] hb y⟩] hcat) = y := by
  funext i
  obtain ⟨s, r, a, e, rfl⟩ : ∃ (s : Fin 32) (r : Fin 2048) (a : Fin 4) (e : Fin 128), i = ix4 s r a e := ⟨i 0, i 1, i 2, i 3, eq_ix4 i⟩
  unfold half1
  pointwise

/-- The row number of the `j`-th row taken. -/
def lastRow (j : Fin 480) : Fin 66048 := ⟨512 + (j.val / 15 + 1) * 2048 - 15 + j.val % 15, by have := j.isLt; omega⟩

theorem lastNumbers_apply (j : Fin 480) : lastNumbers (ix1 j) = BitVec.ofNat 32 (lastRow j).val := by
  have hj := j.isLt
  unfold lastNumbers lastRow
  pointwise
  apply BitVec.eq_of_toNat_eq
  simp only [IntOp.addi, IntOp.subi, IntOp.muli, BitVec.toNat_add, BitVec.toNat_sub, BitVec.toNat_mul, BitVec.toNat_ofNat]
  omega

/-- No number is negative, so each is taken as it is. -/
theorem lastIndex_apply (j : Fin 480) : lastIndex (ix2 j (0 : Fin 1)) = BitVec.ofNat 32 (lastRow j).val := by
  unfold lastIndex
  pointwise
  rw [show (lastNumbers (ix1 j)) = _ from lastNumbers_apply j]
  have hneg : (BitVec.ofNat 32 (lastRow j).val).slt 0#32 = false :=
    (Routing.slt_ofNat32 (b := 0) (lt_trans (lastRow j).isLt (by norm_num)) (by norm_num)).trans (decide_eq_false (Nat.not_lt_zero _))
  simp [IntOp.cmpi, hneg, Scalar.select]

/-- The rows taken are the last fifteen of every sequence's 2048, which stand behind the extra positions. -/
theorem lastRows_eq (u : S66048x512.Idx → α) (hr hc hs) :
    lastRows u = extractStridedSlice S32x15x512 ![0, 2033, 0]
      (shapeCast (⟨3, ![32, 2048, 512]⟩ : Shape) (extractStridedSlice (⟨2, ![65536, 512]⟩ : Shape) ![512, 0] u hr) hc) hs := by
  funext i
  obtain ⟨s, r, e, rfl⟩ : ∃ (s : Fin 32) (r : Fin 15) (e : Fin 512), i = ix3 s r e := ⟨i 0, i 1, i 2, eq_ix3 i⟩
  unfold lastRows
  pointwise
  have hs := s.isLt
  have hr := r.isLt
  refine (Routing.gather_row gather_S66048x512_S480x1_S480x512_1_0_n_n_0_1_1512 rfl rfl rfl rfl rfl u lastIndex
    ⟨s.val * 15 + r.val, by omega⟩ e _ (lastIndex_apply _) (by norm_num)).trans ?_
  refine congrArg (fun n => u (ix2 n e)) (Fin.ext ?_)
  show 512 + ((s.val * 15 + r.val) / 15 + 1) * 2048 - 15 + (s.val * 15 + r.val) % 15 = 512 + (s.val * 2048 + (2033 + r.val))
  omega

end Cert.Next.Tile

end
-- ==== Proof.NextAlgebraic.lean ====
/-
  The second projection and its reference compute the same fourteen arrays: the launch's nine have both have been read as the normalized rows of the
  arguments and their products with the weights, the caches beside them as the first layer left them, and the two launches
  hold the same arguments; the five behind the launch are cut and joined from those nine and the arguments in the same way.
-/
module

public import proofs.«01_k».proof.Proof.NextOut
public import proofs.«01_k».proof.Proof.NextRefNorm
public import proofs.«01_k».proof.Proof.NextShape

@[expose] public section

set_option maxRecDepth 16384

noncomputable section

open Idealize.ShloMosaic
open Idealize.ShloMosaic.TcCoe
open Idealize.SL.Sem

namespace Cert.NextAlgebraic

attribute [local instance] Cert.Next.Gen.facts Cert.NextRefIdeal.Gen.facts Cert.TailRefIdeal.Gen.facts Cert.ProjRefIdeal.Gen.facts

variable (m : (ℓ : Loc Cert.Next.nD Cert.Next.τ Cert.Next.sig) → Buf (Elt Ideal) ℓ)
  (m' : (ℓ : Loc Cert.NextRefIdeal.nD Cert.NextRefIdeal.τ Cert.NextRefIdeal.sig) → Buf (Elt Ideal) ℓ)

/-- The reference is launched with the kernel's arguments. -/
def Agree : Prop := ∀ c : Dev Cert.Next.nD,
  m' ((c.tc : Thread Cert.NextRefIdeal.nD Cert.NextRefIdeal.τ).loc Cert.NextRefIdeal.main_arg0) = m ((c.tc : Thread Cert.Next.nD Cert.Next.τ).loc Cert.Next.main_arg0)
  ∧ m' ((c.tc : Thread Cert.NextRefIdeal.nD Cert.NextRefIdeal.τ).loc Cert.NextRefIdeal.main_arg1) = m ((c.tc : Thread Cert.Next.nD Cert.Next.τ).loc Cert.Next.main_arg1)
  ∧ m' ((c.tc : Thread Cert.NextRefIdeal.nD Cert.NextRefIdeal.τ).loc Cert.NextRefIdeal.main_arg2) = m ((c.tc : Thread Cert.Next.nD Cert.Next.τ).loc Cert.Next.main_arg2)
  ∧ m' ((c.tc : Thread Cert.NextRefIdeal.nD Cert.NextRefIdeal.τ).loc Cert.NextRefIdeal.main_arg3) = m ((c.tc : Thread Cert.Next.nD Cert.Next.τ).loc Cert.Next.main_arg3)
  ∧ m' ((c.tc : Thread Cert.NextRefIdeal.nD Cert.NextRefIdeal.τ).loc Cert.NextRefIdeal.main_arg4) = m ((c.tc : Thread Cert.Next.nD Cert.Next.τ).loc Cert.Next.main_arg4)
  ∧ m' ((c.tc : Thread Cert.NextRefIdeal.nD Cert.NextRefIdeal.τ).loc Cert.NextRefIdeal.main_arg5) = m ((c.tc : Thread Cert.Next.nD Cert.Next.τ).loc Cert.Next.main_arg5)
  ∧ m' ((c.tc : Thread Cert.NextRefIdeal.nD Cert.NextRefIdeal.τ).loc Cert.NextRefIdeal.main_arg6) = m ((c.tc : Thread Cert.Next.nD Cert.Next.τ).loc Cert.Next.main_arg6)
  ∧ m' ((c.tc : Thread Cert.NextRefIdeal.nD Cert.NextRefIdeal.τ).loc Cert.NextRefIdeal.main_arg7) = m ((c.tc : Thread Cert.Next.nD Cert.Next.τ).loc Cert.Next.main_arg7)
  ∧ m' ((c.tc : Thread Cert.NextRefIdeal.nD Cert.NextRefIdeal.τ).loc Cert.NextRefIdeal.main_arg8) = m ((c.tc : Thread Cert.Next.nD Cert.Next.τ).loc Cert.Next.main_arg8)
  ∧ m' ((c.tc : Thread Cert.NextRefIdeal.nD Cert.NextRefIdeal.τ).loc Cert.NextRefIdeal.main_arg9) = m ((c.tc : Thread Cert.Next.nD Cert.Next.τ).loc Cert.Next.main_arg9)

open Cert.Next.Value (res add scale shift weights keys vals hOf pOf qOf kOf vOf uOf)
open Cert.Proj.Value (col)

/-- The reference's normalized rows and their products, of the kernel's arguments. -/
abbrev refH (c : Dev Cert.Next.nD) : FVec Ideal Cert.NextRefIdeal.S66048x1024 .f32 :=
  Cert.TailRefIdeal.Value.normed (res m c) (add m c) (scale m c) (shift m c)
abbrev refP (c : Dev Cert.Next.nD) : FVec Ideal Cert.NextRefIdeal.S66048x2048 .f32 :=
  Cert.NextRefIdeal.Value.projected (res m c) (add m c) (scale m c) (shift m c) (weights m c)

theorem refH_apply (c : Dev Cert.Next.nD) (n : Fin 66048) (d : Fin 1024) : refH m c (ix2 n d) = hOf m c n d :=
  Cert.TailRefIdeal.Value.normed_apply _ _ _ _ n d
theorem refP_apply (c : Dev Cert.Next.nD) (n : Fin 66048) (e : Fin 2048) : refP m c (ix2 n e) = pOf m c n e :=
  Cert.NextRefIdeal.Value.projected_apply _ _ _ _ _ n e

/-- A quarter of the reference's products, element by element. -/
theorem quarter_eq (c : Dev Cert.Next.nD) (o : ℕ) (ho : o + 512 ≤ 2048) (h : Cert.NextRefIdeal.S66048x2048.Slices ![0, o] Cert.NextRefIdeal.S66048x512)
    (n : Fin 66048) (e : Fin 512) :
    (extractStridedSlice Cert.NextRefIdeal.S66048x512 ![0, o] (refP m c) h : Cert.NextRefIdeal.S66048x512.Idx → EReal) (ix2 n e) = pOf m c n (col o ho e) :=
  (Cert.ProjRefIdeal.Value.quarter_apply _ o ho h n e).trans (refP_apply m c n _)

/-! ## The results, one by one -/

open Cert.NextRefIdeal

theorem h_out (c : Dev Cert.Next.nD) : (refH m c : S66048x1024.Idx → EReal) = Cert.Next.Tile.outH m c := by
  rw [Cert.Next.Value.outH_eq]
  funext i
  exact (congrArg (refH m c) (eq_ix2 i)).trans (refH_apply m c _ _)

theorem q_out (c : Dev Cert.Next.nD) (h hb hw) :
    (truncf .bf16 (mulf (extractStridedSlice S66048x512 ![0, 0] (refP m c) h)
      (broadcastInDim S66048x512 ![] hb (constant S_ .f32 0x3E38AA3B#32))) hw : S66048x512.Idx → EReal) = Cert.Next.Tile.outQ m c := by
  rw [Cert.Next.Value.outQ_eq]
  funext i
  obtain ⟨n, e, rfl⟩ : ∃ (n : Fin 66048) (e : Fin 512), i = ix2 n e := ⟨i 0, i 1, eq_ix2 i⟩
  refine Eq.trans ?_ (congrArg (· * Norm.qScale) (quarter_eq m c 0 (by decide) h n e))
  generalize refP m c = z
  pointwise
  rfl

theorem u_out (c : Dev Cert.Next.nD) (h) : ((extractStridedSlice S66048x512 ![0, 1536] (refP m c) h) : S66048x512.Idx → EReal) = Cert.Next.Tile.outU m c := by
  rw [Cert.Next.Value.outU_eq]
  funext i
  obtain ⟨n, e, rfl⟩ : ∃ (n : Fin 66048) (e : Fin 512), i = ix2 n e := ⟨i 0, i 1, eq_ix2 i⟩
  exact quarter_eq m c 1536 (by decide) h n e

theorem kb_out (c : Dev Cert.Next.nD) (h hw) : (truncf .bf16 (extractStridedSlice S66048x512 ![0, 512] (refP m c) h) hw : S66048x512.Idx → EReal) = Cert.Next.Tile.outKb m c := by
  rw [Cert.Next.Value.outKb_eq]
  funext i
  obtain ⟨n, e, rfl⟩ : ∃ (n : Fin 66048) (e : Fin 512), i = ix2 n e := ⟨i 0, i 1, eq_ix2 i⟩
  refine Eq.trans ?_ (quarter_eq m c 512 (by decide) h n e)
  generalize (extractStridedSlice S66048x512 ![0, 512] (refP m c) h) = z
  pointwise

theorem k_out (c : Dev Cert.Next.nD) (h hs hc hb hl hr hcat) :
    (concatenate S2x32x2048x4x128 0
      [⟨S1x32x2048x4x128, broadcastInDim S1x32x2048x4x128 ![1, 2, 3, 4] hb
          (shapeCast S32x2048x4x128 (extractStridedSlice S1x32x2048x4x128 ![0, 0, 0, 0, 0] (keys m c) hs) hc)⟩,
       ⟨S1x32x2048x4x128, broadcastInDim S1x32x2048x4x128 ![1, 2, 3, 4] hb
          (shapeCast S32x2048x4x128 (extractStridedSlice S65536x512 ![512, 0] (extractStridedSlice S66048x512 ![0, 512] (refP m c) h) hl) hr)⟩] hcat
      : S2x32x2048x4x128.Idx → EReal) = Cert.Next.Tile.outK m c := by
  rw [Cert.Next.Value.outK_eq]
  funext i
  obtain ⟨l, s, r, a, e, rfl⟩ : ∃ (l : Fin 2) (s : Fin 32) (r : Fin 2048) (a : Fin 4) (e : Fin 128), i = ix5 l s r a e :=
    ⟨i 0, i 1, i 2, i 3, i 4, eq_ix5 i⟩
  refine (Value.cache_apply (keys m c) _ hs hc hb hl hr hcat l s r a e).trans ?_
  exact congrArg (fun f => Cert.Next.Value.cache (keys m c) f (ix5 l s r a e)) (funext fun n => funext fun e => quarter_eq m c 512 (by decide) h n e)

theorem kx_out (c : Dev Cert.Next.nD) (h hs) :
    (extractStridedSlice S512x512 ![0, 0] (extractStridedSlice S66048x512 ![0, 512] (refP m c) h) hs : S512x512.Idx → EReal) = Cert.Next.Tile.outKx m c := by
  rw [Cert.Next.Value.outKx_eq]
  funext i
  obtain ⟨r, e, rfl⟩ : ∃ (r e : Fin 512), i = ix2 r e := ⟨i 0, i 1, eq_ix2 i⟩
  exact (Cert.ProjRefIdeal.Value.first_apply _ r e).trans (quarter_eq m c 512 (by decide) h _ _)

theorem vb_out (c : Dev Cert.Next.nD) (h hw) : (truncf .bf16 (extractStridedSlice S66048x512 ![0, 1024] (refP m c) h) hw : S66048x512.Idx → EReal) = Cert.Next.Tile.outVb m c := by
  rw [Cert.Next.Value.outVb_eq]
  funext i
  obtain ⟨n, e, rfl⟩ : ∃ (n : Fin 66048) (e : Fin 512), i = ix2 n e := ⟨i 0, i 1, eq_ix2 i⟩
  refine Eq.trans ?_ (quarter_eq m c 1024 (by decide) h n e)
  generalize (extractStridedSlice S66048x512 ![0, 1024] (refP m c) h) = z
  pointwise

theorem v_out (c : Dev Cert.Next.nD) (h hs hc hb hl hr hcat) :
    (concatenate S2x32x2048x4x128 0
      [⟨S1x32x2048x4x128, broadcastInDim S1x32x2048x4x128 ![1, 2, 3, 4] hb
          (shapeCast S32x2048x4x128 (extractStridedSlice S1x32x2048x4x128 ![0, 0, 0, 0, 0] (vals m c) hs) hc)⟩,
       ⟨S1x32x2048x4x128, broadcastInDim S1x32x2048x4x128 ![1, 2, 3, 4] hb
          (shapeCast S32x2048x4x128 (extractStridedSlice S65536x512 ![512, 0] (extractStridedSlice S66048x512 ![0, 1024] (refP m c) h) hl) hr)⟩] hcat
      : S2x32x2048x4x128.Idx → EReal) = Cert.Next.Tile.outV m c := by
  rw [Cert.Next.Value.outV_eq]
  funext i
  obtain ⟨l, s, r, a, e, rfl⟩ : ∃ (l : Fin 2) (s : Fin 32) (r : Fin 2048) (a : Fin 4) (e : Fin 128), i = ix5 l s r a e :=
    ⟨i 0, i 1, i 2, i 3, i 4, eq_ix5 i⟩
  refine (Value.cache_apply (vals m c) _ hs hc hb hl hr hcat l s r a e).trans ?_
  exact congrArg (fun f => Cert.Next.Value.cache (vals m c) f (ix5 l s r a e)) (funext fun n => funext fun e => quarter_eq m c 1024 (by decide) h n e)

theorem vx_out (c : Dev Cert.Next.nD) (h hs) :
    (extractStridedSlice S512x512 ![0, 0] (extractStridedSlice S66048x512 ![0, 1024] (refP m c) h) hs : S512x512.Idx → EReal) = Cert.Next.Tile.outVx m c := by
  rw [Cert.Next.Value.outVx_eq]
  funext i
  obtain ⟨r, e, rfl⟩ : ∃ (r e : Fin 512), i = ix2 r e := ⟨i 0, i 1, eq_ix2 i⟩
  exact (Cert.ProjRefIdeal.Value.first_apply _ r e).trans (quarter_eq m c 1024 (by decide) h _ _)

/-! ## The results behind the launch -/

open Cert.Next.Tile (promptBoth promptRows half0 half1 half0_both half1_both lastBoth lastRows_eq sampleBoth sampleRows)

/-- Both layers' keys of the prompts: in front of a layer's frames stand the memory tokens' rows of that layer. -/
theorem kp_out (c : Dev Cert.Next.nD) (h hs hc hl hr hx) :
    (promptBoth
      (promptRows (m ((c.tc : Thread Cert.Next.nD Cert.Next.τ).loc Cert.Next.main_arg7))
        (shapeCast S32x2048x4x128 (extractStridedSlice S1x32x2048x4x128 ![0, 0, 0, 0, 0] (keys m c) hs) hc))
      (promptRows (extractStridedSlice S512x512 ![0, 0] (extractStridedSlice S66048x512 ![0, 512] (refP m c) h) hx)
        (shapeCast S32x2048x4x128 (extractStridedSlice S65536x512 ![512, 0] (extractStridedSlice S66048x512 ![0, 512] (refP m c) h) hl) hr))
      : S2x32x2064x4x128.Idx → EReal) = Cert.Next.Tile.outKp m c := by
  have e := (k_out m c h hs hc Facts₀.bcast_S32x2048x4x128_S1x32x2048x4x128_1_2_3_4 hl hr Facts₀.concatenates_S1x32x2048x4x128_S1x32x2048x4x128_S2x32x2048x4x128_d0).symm
  unfold Cert.Next.Tile.outKp
  rw [(congrArg half0 e).trans (half0_both _ _ _ _), (congrArg half1 e).trans (half1_both _ _ _ _), ← kx_out m c h hx]

/-- Both layers' values of the prompts. -/
theorem vp_out (c : Dev Cert.Next.nD) (h hs hc hl hr hx) :
    (promptBoth
      (promptRows (m ((c.tc : Thread Cert.Next.nD Cert.Next.τ).loc Cert.Next.main_arg8))
        (shapeCast S32x2048x4x128 (extractStridedSlice S1x32x2048x4x128 ![0, 0, 0, 0, 0] (vals m c) hs) hc))
      (promptRows (extractStridedSlice S512x512 ![0, 0] (extractStridedSlice S66048x512 ![0, 1024] (refP m c) h) hx)
        (shapeCast S32x2048x4x128 (extractStridedSlice S65536x512 ![512, 0] (extractStridedSlice S66048x512 ![0, 1024] (refP m c) h) hl) hr))
      : S2x32x2064x4x128.Idx → EReal) = Cert.Next.Tile.outVp m c := by
  have e := (v_out m c h hs hc Facts₀.bcast_S32x2048x4x128_S1x32x2048x4x128_1_2_3_4 hl hr Facts₀.concatenates_S1x32x2048x4x128_S1x32x2048x4x128_S2x32x2048x4x128_d0).symm
  unfold Cert.Next.Tile.outVp
  rw [(congrArg half0 e).trans (half0_both _ _ _ _), (congrArg half1 e).trans (half1_both _ _ _ _), ← vx_out m c h hx]

/-- The last rows of both layers' mixer inputs. -/
theorem pool_out (c : Dev Cert.Next.nD) (h hr hc hs) :
    (lastBoth
      (extractStridedSlice S32x15x512 ![0, 2033, 0] (shapeCast S32x2048x512 (extractStridedSlice S65536x512 ![512, 0]
        (m ((c.tc : Thread Cert.Next.nD Cert.Next.τ).loc Cert.Next.main_arg9)) hr) hc) hs)
      (extractStridedSlice S32x15x512 ![0, 2033, 0] (shapeCast S32x2048x512 (extractStridedSlice S65536x512 ![512, 0]
        (extractStridedSlice S66048x512 ![0, 1536] (refP m c) h) hr) hc) hs)
      : S2x32x15x512.Idx → EReal) = Cert.Next.Tile.outPool m c := by
  unfold Cert.Next.Tile.outPool
  rw [← u_out m c h, lastRows_eq _ hr hc hs, lastRows_eq _ hr hc hs]

/-- Both layers' keys of the samples. -/
theorem ks_out (c : Dev Cert.Next.nD) (h hx) :
    (sampleBoth (sampleRows (m ((c.tc : Thread Cert.Next.nD Cert.Next.τ).loc Cert.Next.main_arg7)))
      (sampleRows (extractStridedSlice S512x512 ![0, 0] (extractStridedSlice S66048x512 ![0, 512] (refP m c) h) hx))
      : S2x8x16x4x128.Idx → EReal) = Cert.Next.Tile.outKs m c := by
  unfold Cert.Next.Tile.outKs
  rw [← kx_out m c h hx]

/-- Both layers' values of the samples. -/
theorem vs_out (c : Dev Cert.Next.nD) (h hx) :
    (sampleBoth (sampleRows (m ((c.tc : Thread Cert.Next.nD Cert.Next.τ).loc Cert.Next.main_arg8)))
      (sampleRows (extractStridedSlice S512x512 ![0, 0] (extractStridedSlice S66048x512 ![0, 1024] (refP m c) h) hx))
      : S2x8x16x4x128.Idx → EReal) = Cert.Next.Tile.outVs m c := by
  unfold Cert.Next.Tile.outVs
  rw [← vx_out m c h hx]

set_option maxHeartbeats 4000000 in
/-- THE REFERENCE'S RUN from the kernel's arguments: its results are the kernel's arrays. -/
theorem ref_run (ha : Agree m m') (ρ : Dev Cert.NextRefIdeal.nD → PrngReg) :
    θ_run Cert.NextRefIdeal.defs (onTc (τ := Cert.NextRefIdeal.τ) (Cert.NextRefIdeal.main (F := Ideal))) ⟨m', fun _ => 0, ρ⟩ fun r => ∀ c : Dev Cert.NextRefIdeal.nD,
      r.2.mem ((c.tc : Thread Cert.NextRefIdeal.nD Cert.NextRefIdeal.τ).loc Cert.NextRefIdeal.main_v26) = Cert.Next.Tile.outH m c
      ∧ r.2.mem ((c.tc : Thread Cert.NextRefIdeal.nD Cert.NextRefIdeal.τ).loc Cert.NextRefIdeal.main_v40) = Cert.Next.Tile.outQ m c
      ∧ r.2.mem ((c.tc : Thread Cert.NextRefIdeal.nD Cert.NextRefIdeal.τ).loc Cert.NextRefIdeal.main_v31) = Cert.Next.Tile.outU m c
      ∧ r.2.mem ((c.tc : Thread Cert.NextRefIdeal.nD Cert.NextRefIdeal.τ).loc Cert.NextRefIdeal.main_v41) = Cert.Next.Tile.outKb m c
      ∧ r.2.mem ((c.tc : Thread Cert.NextRefIdeal.nD Cert.NextRefIdeal.τ).loc Cert.NextRefIdeal.main_v42) = Cert.Next.Tile.outVb m c
      ∧ r.2.mem ((c.tc : Thread Cert.NextRefIdeal.nD Cert.NextRefIdeal.τ).loc Cert.NextRefIdeal.main_v47) = Cert.Next.Tile.outK m c
      ∧ r.2.mem ((c.tc : Thread Cert.NextRefIdeal.nD Cert.NextRefIdeal.τ).loc Cert.NextRefIdeal.main_v52) = Cert.Next.Tile.outV m c
      ∧ r.2.mem ((c.tc : Thread Cert.NextRefIdeal.nD Cert.NextRefIdeal.τ).loc Cert.NextRefIdeal.main_v32) = Cert.Next.Tile.outKx m c
      ∧ r.2.mem ((c.tc : Thread Cert.NextRefIdeal.nD Cert.NextRefIdeal.τ).loc Cert.NextRefIdeal.main_v33) = Cert.Next.Tile.outVx m c
      ∧ r.2.mem ((c.tc : Thread Cert.NextRefIdeal.nD Cert.NextRefIdeal.τ).loc Cert.NextRefIdeal.main_v65) = Cert.Next.Tile.outKp m c
      ∧ r.2.mem ((c.tc : Thread Cert.NextRefIdeal.nD Cert.NextRefIdeal.τ).loc Cert.NextRefIdeal.main_v78) = Cert.Next.Tile.outVp m c
      ∧ r.2.mem ((c.tc : Thread Cert.NextRefIdeal.nD Cert.NextRefIdeal.τ).loc Cert.NextRefIdeal.main_v87) = Cert.Next.Tile.outPool m c
      ∧ r.2.mem ((c.tc : Thread Cert.NextRefIdeal.nD Cert.NextRefIdeal.τ).loc Cert.NextRefIdeal.main_v94) = Cert.Next.Tile.outKs m c
      ∧ r.2.mem ((c.tc : Thread Cert.NextRefIdeal.nD Cert.NextRefIdeal.τ).loc Cert.NextRefIdeal.main_v101) = Cert.Next.Tile.outVs m c
      ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5)
      ∧ r.2.mem ((c.tc : Thread Cert.NextRefIdeal.nD Cert.NextRefIdeal.τ).loc Cert.NextRefIdeal.main_arg6) = m' ((c.tc : Thread Cert.NextRefIdeal.nD Cert.NextRefIdeal.τ).loc Cert.NextRefIdeal.main_arg6)
      ∧ r.2.mem ((c.tc : Thread Cert.NextRefIdeal.nD Cert.NextRefIdeal.τ).loc Cert.NextRefIdeal.main_arg7) = m' ((c.tc : Thread Cert.NextRefIdeal.nD Cert.NextRefIdeal.τ).loc Cert.NextRefIdeal.main_arg7)
      ∧ r.2.mem ((c.tc : Thread Cert.NextRefIdeal.nD Cert.NextRefIdeal.τ).loc Cert.NextRefIdeal.main_arg8) = m' ((c.tc : Thread Cert.NextRefIdeal.nD Cert.NextRefIdeal.τ).loc Cert.NextRefIdeal.main_arg8)
      ∧ r.2.mem ((c.tc : Thread Cert.NextRefIdeal.nD Cert.NextRefIdeal.τ).loc Cert.NextRefIdeal.main_arg9) = m' ((c.tc : Thread Cert.NextRefIdeal.nD Cert.NextRefIdeal.τ).loc Cert.NextRefIdeal.main_arg9) := by
  refine (θ_run Cert.NextRefIdeal.defs _ _).mono (fun r hr c => ?_) (Cert.NextRefIdeal.Value.run m' ρ)
  have hc := hr c
  obtain ⟨h0, h1, h2, h3, h4, h5, h6, h7, h8, h9⟩ := ha c
  unfold Cert.NextRefIdeal.Value.res_main_v65 Cert.NextRefIdeal.Value.res_main_v78 at hc
  rw [h0, h1, h2, h3, h4, h5, h6, h7, h8, h9] at hc
  obtain ⟨rh, rq, ru, rkb, rvb, rk, rv, rkx, rvx, rkp, rvp, rpool, rks, rvs, hargs⟩ := hc
  exact ⟨rh.trans (h_out m c), rq.trans (q_out m c _ _ _), ru.trans (u_out m c _), rkb.trans (kb_out m c _ _), rvb.trans (vb_out m c _ _), rk.trans (k_out m c _ _ _ _ _ _ _), rv.trans (v_out m c _ _ _ _ _ _ _), rkx.trans (kx_out m c _ _), rvx.trans (vx_out m c _ _), rkp.trans (kp_out m c _ _ _ _ _ _), rvp.trans (vp_out m c _ _ _ _ _ _), rpool.trans (pool_out m c _ _ _ _), rks.trans (ks_out m c _ _), rvs.trans (vs_out m c _ _),
    by rw [h0, h1, h2, h3, h4, h5, h6, h7, h8, h9]; exact hargs⟩

end Cert.NextAlgebraic

end
-- ==== Proof.MixFormula.lean ====
/-
  One row of the pooling mixer and of the output projection behind it, in extended reals, as the kernel's tile and the
  reference both compute it.
-/
module

public import proofs.«01_k».proof.Proof.TailNorm

@[expose] public section

noncomputable section

open Idealize.ShloMosaic
open Idealize.ShloMosaic.TcCoe

namespace Cert.Norm

/-- A sum of `n + 1` terms from the first on. -/
def window (f : ℕ → EReal) : ℕ → EReal
  | 0 => f 0
  | n + 1 => window f n + f (n + 1)

/-- Column `k` of the group of columns that starts at column `q`. -/
def groupCol (q : ℕ) (hq : q + 128 ≤ 512) (k : Fin 128) : Fin 512 := ⟨q + k.val, by omega⟩

/-- A group's pooled columns times its weights `w`: the mean of `n + 1` rows, `c` its factor, less the newest row. `back i` is
    the row `i` rows before. -/
def pooled (c : EReal) (n q : ℕ) (hq : q + 128 ≤ 512) (back : ℕ → Fin 512 → EReal) (w : Fin 128 → Fin 128 → EReal) (e : Fin 128) : EReal :=
  ∑ k, (window (fun i => back i (groupCol q hq k)) n * c - back 0 (groupCol q hq k)) * w k e

/-- Four groups of columns side by side. -/
def side (p₀ p₁ p₂ p₃ : Fin 128 → EReal) (x : Fin 512) : EReal :=
  if h₀ : x.val < 128 then p₀ ⟨x.val, h₀⟩
  else if h₁ : x.val - 128 < 128 then p₁ ⟨x.val - 128, h₁⟩
  else if h₂ : x.val - 128 - 128 < 128 then p₂ ⟨x.val - 128 - 128, h₂⟩
  else p₃ ⟨x.val - 128 - 128 - 128, by omega⟩

/-- The four groups' pooled columns: windows of two, four, eight and sixteen rows. -/
def pools (back : ℕ → Fin 512 → EReal) (w : Fin 4 → Fin 128 → Fin 128 → EReal) : Fin 512 → EReal :=
  side (pooled (Ideal.ofBits .f32 0x3F000000#32) 1 0 (by decide) back (w 0)) (pooled (Ideal.ofBits .f32 0x3E800000#32) 3 128 (by decide) back (w 1))
    (pooled (Ideal.ofBits .f32 0x3E000000#32) 7 256 (by decide) back (w 2)) (pooled (Ideal.ofBits .f32 0x3D800000#32) 15 384 (by decide) back (w 3))

/-- The mixed row: the attention's columns `a`, and the columns `p` scaled. -/
def mixed (a p s : Fin 512 → EReal) (x : Fin 1024) : EReal :=
  if h : x.val < 512 then a ⟨x.val, h⟩ else p ⟨x.val - 512, by omega⟩ * s ⟨x.val - 512, by omega⟩

/-- The residual `h` scaled, plus the mixed row projected by `wo`, normalized. -/
def mixRow (a p s : Fin 512 → EReal) (h : Fin 1024 → EReal) (wo : Fin 1024 → Fin 1024 → EReal) (g b : Fin 1024 → EReal) : Fin 1024 → EReal :=
  row (resid h fun d => ∑ x, mixed a p s x * wo x d) g b

/-! ## The rows before a row -/

/-- The row of the arguments that is `i` rows before frame row `n`: within the sequence, and before its start the meta rows,
    the last of which is row 143. -/
def source (n i : ℕ) : ℕ := if n % 2048 < i then 144 + n % 2048 - i else 512 + n - i

/-- Row `n` of the arguments. -/
def rowAt (u : (⟨2, ![66048, 512]⟩ : Shape).Idx → EReal) (n : ℕ) (d : Fin 512) : EReal := if h : n < 66048 then u (ix2 ⟨n, h⟩ d) else 0

theorem rowAt_of_lt (u : (⟨2, ![66048, 512]⟩ : Shape).Idx → EReal) {n : ℕ} (h : n < 66048) (d : Fin 512) : rowAt u n d = u (ix2 ⟨n, h⟩ d) := dif_pos h

theorem window_congr (f g : ℕ → EReal) (n : ℕ) (h : ∀ i ≤ n, f i = g i) : window f n = window g n := by
  induction n with
  | zero => exact h 0 le_rfl
  | succ n ih => exact congrArg₂ (· + ·) (ih fun i hi => h i (hi.trans n.le_succ)) (h _ le_rfl)

theorem pooled_congr (c : EReal) (n q : ℕ) (hq : q + 128 ≤ 512) (f g : ℕ → Fin 512 → EReal) (w : Fin 128 → Fin 128 → EReal)
    (h : ∀ i ≤ n, ∀ d, f i d = g i d) : pooled c n q hq f w = pooled c n q hq g w := by
  funext e
  refine Finset.sum_congr rfl fun k _ => ?_
  rw [window_congr _ _ n (fun i hi => h i hi (groupCol q hq k)), h 0 (Nat.zero_le _)]

/-- The pooled columns read the row and fifteen rows before it. -/
theorem pools_congr (f g : ℕ → Fin 512 → EReal) (w : Fin 4 → Fin 128 → Fin 128 → EReal) (h : ∀ i ≤ 15, ∀ d, f i d = g i d) : pools f w = pools g w := by
  unfold pools
  rw [pooled_congr _ 1 _ _ f g _ fun i hi => h i (by omega), pooled_congr _ 3 _ _ f g _ fun i hi => h i (by omega),
    pooled_congr _ 7 _ _ f g _ fun i hi => h i (by omega), pooled_congr _ 15 _ _ f g _ h]

/-! ## The arrays after the call -/

/-- The arguments' row of frame row `n`. -/
def rowOf (n : ℕ) (h : n < 65536) : Fin 66048 := ⟨512 + n, by omega⟩

/-- Frame row `n` after the mixer, of the attention's rows `a`, the mixer's input `u`, its weights `wp` and scales `s`, the
    residual `h`, the output weights `wo` and the normalization's scale `g` and shift `b`. -/
def frame (a u : (⟨2, ![66048, 512]⟩ : Shape).Idx → EReal) (wp : (⟨3, ![4, 128, 128]⟩ : Shape).Idx → EReal) (s : (⟨1, ![512]⟩ : Shape).Idx → EReal)
    (h : (⟨2, ![66048, 1024]⟩ : Shape).Idx → EReal) (wo : (⟨2, ![1024, 1024]⟩ : Shape).Idx → EReal) (g b : (⟨1, ![1024]⟩ : Shape).Idx → EReal)
    (n : ℕ) (hn : n < 65536) : Fin 1024 → EReal :=
  mixRow (fun e => a (ix2 (rowOf n hn) e)) (pools (fun i d => rowAt u (source n i) d) (fun i k e => wp (ix3 i k e))) (fun e => s (ix1 e))
    (fun j => h (ix2 (rowOf n hn) j)) (fun x d => wo (ix2 x d)) (fun j => g (ix1 j)) (fun j => b (ix1 j))

/-- A result: the rows before the frames as they were in `old`, the frames' rows new. -/
def behind (old : (⟨2, ![66048, 1024]⟩ : Shape).Idx → EReal) (new : (n : ℕ) → n < 65536 → Fin 1024 → EReal) (i : (⟨2, ![66048, 1024]⟩ : Shape).Idx) : EReal :=
  if (i 0).val < 512 then old i else new ((i 0).val - 512) (by have h : (i 0).val < 66048 := (i 0).isLt; omega) (i 1)

theorem behind_of_lt (old : (⟨2, ![66048, 1024]⟩ : Shape).Idx → EReal) (new : (n : ℕ) → n < 65536 → Fin 1024 → EReal)
    (i : (⟨2, ![66048, 1024]⟩ : Shape).Idx) (h : (i 0).val < 512) : behind old new i = old i := if_pos h

theorem behind_row (old : (⟨2, ![66048, 1024]⟩ : Shape).Idx → EReal) (new : (n : ℕ) → n < 65536 → Fin 1024 → EReal)
    (i : (⟨2, ![66048, 1024]⟩ : Shape).Idx) (n : ℕ) (hn : n < 65536) (d : Fin 1024) (h0 : (i 0).val = 512 + n) (h1 : i 1 = d) :
    behind old new i = new n hn d := by
  have e : (i 0).val - 512 = n := by omega
  subst e h1
  exact if_neg (by omega)

end Cert.Norm

end
-- ==== Proof.MixTile.lean ====
/-
  What a point of the mixer's launch stores, as a formula of its blocks: the tile's rows behind sixteen earlier ones, read
  back at sixteen offsets, pooled, projected with the residual, and normalized.
-/
module

public import Idealize.ShloMosaic.Lib.Pipeline.ValueKit
public import Idealize.ShloMosaic.Lib.WritesUnit
public import proofs.«01_k».proof.Proof.MixFormula
public import proofs.«01_k».proof.Proof.Gen.MixIdeal.Value

@[expose] public section

set_option maxRecDepth 16384

noncomputable section

open Idealize.ShloMosaic
open Idealize.ShloMosaic.TcCoe

namespace Cert.MixIdeal.Value

open Cert.MixIdeal Cert.MixIdeal.Gen

attribute [local instance] Cert.MixIdeal.Gen.facts

/-! ## The scratch rows -/

/-- The scratch: sixteen rows `a`, and the tile's rows `b` behind them. -/
def ext (a : FVec Ideal S16x512 .f32) (b : FVec Ideal S512x512 .f32) (n : ℕ) (d : Fin 512) : EReal :=
  if h : n < 16 then a (ix2 ⟨n, h⟩ d) else if h' : n - 16 < 512 then b (ix2 ⟨n - 16, h'⟩ d) else 0

/-- The rows from row `o` on, the columns from column `q` on. -/
def tap (a : FVec Ideal S16x512 .f32) (b : FVec Ideal S512x512 .f32) (o q : ℕ) (hq : q + 128 ≤ 512) : FVec Ideal S512x128 .f32 :=
  fun j => ext a b (o + (j 0).val) ⟨q + (j 1).val, by have h : (j 1).val < 128 := (j 1).isLt; omega⟩

/-- What a load of the scratch reads after the two stores. -/
theorem load_eq (a : FVec Ideal S16x512 .f32) (b : FVec Ideal S512x512 .f32) (o q : ℕ) (ho : o ≤ 16) (hq : q + 128 ≤ 512)
    (h1 : ∀ x, (![16, 0] : Fin 2 → ℕ) x + (![512, 512] : Fin 2 → ℕ) x ≤ S528x512.size x)
    (h2 : ∀ x, (![0, 0] : Fin 2 → ℕ) x + (![16, 512] : Fin 2 → ℕ) x ≤ S528x512.size x)
    (h3 : ∀ x, (![o, q] : Fin 2 → ℕ) x + (![512, 128] : Fin 2 → ℕ) x ≤ S528x512.size x) :
    (View.whole cc0_scratch0).readCov (Val := Elt Ideal) [⟨Rect.unit (s := S528x512) ![16, 0] ![512, 512] h1, b⟩, ⟨Rect.unit (s := S528x512) ![0, 0] ![16, 512] h2, a⟩]
      (Rect.unit (s := S528x512) ![o, q] ![512, 128] h3).toLoadRect = tap a b o q hq := by
  funext j
  have hj0 : (j 0).val < 512 := (j 0).isLt
  have hj1 : (j 1).val < 128 := (j 1).isLt
  have e0 : (((Rect.unit (s := S528x512) ![o, q] ![512, 128] h3).toLoadRect.idx j : S528x512.Idx) 0).val = o + (j 0).val := by
    simp [LoadRect.idx]
  have e1 : (((Rect.unit (s := S528x512) ![o, q] ![512, 128] h3).toLoadRect.idx j : S528x512.Idx) 1).val = q + (j 1).val := by
    simp [LoadRect.idx]
  unfold View.readCov
  rw [View.readAt_eq_ld]
  show (View.whole cc0_scratch0).read (Elt Ideal) _ ((Rect.unit (s := S528x512) ![o, q] ![512, 128] h3).toLoadRect.idx j) = _
  generalize (Rect.unit (s := S528x512) ![o, q] ![512, 128] h3).toLoadRect.idx j = y at e0 e1 ⊢
  unfold tap ext
  by_cases hn : o + (j 0).val < 16
  · rw [dif_pos hn]
    refine (View.read_writes_cons_unit_of_not_mem (Val := Elt Ideal) (s := S528x512) (off' := ![16, 0]) (View.whole cc0_scratch0) (View.whole cc0_scratch0).junk h1 b _ y rfl 0 (.inl (e0.trans_lt hn))).trans ?_
    exact View.read_writes_cons_unit_of_mem (Val := Elt Ideal) (s := S528x512) (off' := ![0, 0]) (View.whole cc0_scratch0) (View.whole cc0_scratch0).junk h2 a [] y (ix2 ⟨o + (j 0).val, hn⟩ ⟨q + (j 1).val, by omega⟩ : S16x512.Idx) rfl
      (Fin.forall_fin_two.mpr ⟨e0.trans (Nat.zero_add _).symm, e1.trans (Nat.zero_add _).symm⟩)
  · rw [dif_neg hn, dif_pos (show o + (j 0).val - 16 < 512 by omega)]
    exact View.read_writes_cons_unit_of_mem (Val := Elt Ideal) (s := S528x512) (off' := ![16, 0]) (View.whole cc0_scratch0) (View.whole cc0_scratch0).junk h1 b _ y (ix2 ⟨o + (j 0).val - 16, by omega⟩ ⟨q + (j 1).val, by omega⟩ : S512x512.Idx) rfl
      (Fin.forall_fin_two.mpr ⟨e0.trans (show o + (j 0).val = 16 + (o + (j 0).val - 16) by omega), e1.trans (Nat.zero_add _).symm⟩)

/-! ## The payloads at an index -/

/-- The rows before row `r` of the tile, by how many rows before. -/
def back (a : FVec Ideal S16x512 .f32) (b : FVec Ideal S512x512 .f32) (r : Fin 512) (i : ℕ) (d : Fin 512) : EReal := ext a b (16 - i + r.val) d

/-- One matrix of the stack of four. -/
def weight (w : FVec Ideal S4x128x128 .bf16) (i : Fin 4) (k e : Fin 128) : EReal := w (ix3 i k e)

section Payloads

variable (a : FVec Ideal S16x512 .f32) (b : FVec Ideal S512x512 .f32) (w : FVec Ideal S4x128x128 .bf16) (r : Fin 512) (e : Fin 128)

/-- The first group, of two rows. -/
theorem group0 (h0 h1 hw) :
    (k0_pay4 (F := Ideal) (tap a b 16 0 h0) (tap a b 15 0 h1) (View.ld w (Rect.unit (s := S4x128x128) ![0, 0, 0] ![1, 128, 128] hw)) : S512x128.Idx → EReal) (ix2 r e)
      = Norm.pooled (Ideal.ofBits .f32 0x3F000000#32) 1 0 (by decide) (back a b r) (weight w 0) e := by
  generalize hx : tap a b 16 0 h0 = x
  generalize hy : tap a b 15 0 h1 = y
  pointwise [k0_pay4]
  subst hx hy
  rfl

/-- The second group, of four rows. -/
theorem group1 (h0 h1 h2 h3 hw) :
    (k0_pay5 (F := Ideal) (tap a b 16 128 h0) (tap a b 15 128 h1) (tap a b 14 128 h2) (tap a b 13 128 h3)
        (View.ld w (Rect.unit (s := S4x128x128) ![1, 0, 0] ![1, 128, 128] hw)) : S512x128.Idx → EReal) (ix2 r e)
      = Norm.pooled (Ideal.ofBits .f32 0x3E800000#32) 3 128 (by decide) (back a b r) (weight w 1) e := by
  generalize hx : tap a b 16 128 h0 = x
  generalize hy : tap a b 15 128 h1 = y
  generalize hz : tap a b 14 128 h2 = z
  generalize hu : tap a b 13 128 h3 = u
  pointwise [k0_pay5]
  subst hx hy hz hu
  rfl

/-- The third group, of eight rows. -/
theorem group2 (h0 h1 h2 h3 h4 h5 h6 h7 hw) :
    (k0_pay8 (F := Ideal) (tap a b 16 256 h0)
        (k0_pay6 (tap a b 16 256 h0) (tap a b 15 256 h1) (tap a b 14 256 h2) (tap a b 13 256 h3) (tap a b 12 256 h4) (tap a b 11 256 h5) (tap a b 10 256 h6) (tap a b 9 256 h7))
        k0_pay7 (View.ld w (Rect.unit (s := S4x128x128) ![2, 0, 0] ![1, 128, 128] hw)) : S512x128.Idx → EReal) (ix2 r e)
      = Norm.pooled (Ideal.ofBits .f32 0x3E000000#32) 7 256 (by decide) (back a b r) (weight w 2) e := by
  generalize hs : k0_pay6 (F := Ideal) (tap a b 16 256 h0) (tap a b 15 256 h1) (tap a b 14 256 h2) (tap a b 13 256 h3) (tap a b 12 256 h4) (tap a b 11 256 h5)
    (tap a b 10 256 h6) (tap a b 9 256 h7) = s
  generalize hx : tap a b 16 256 h0 = x
  pointwise [k0_pay8, k0_pay7]
  subst hs hx
  rfl

variable (x1 : FVec Ideal S512x512 .bf16) (x6 : FVec Ideal S1x512 .f32) (x7 : FVec Ideal S512x1024 .f32) (x8 : FVec Ideal S1024x1024 .bf16)
  (v30 v44 v66 : FVec Ideal S512x128 .f32) (d : Fin 1024)

/-- The projected rows with the residual, the first three groups given: the fourth group is of sixteen rows. -/
theorem project (h0 h1 h2 h3 h4 h5 h6 h7 h8 h9 h10 h11 h12 h13 h14 h15 hw) :
    (k0_pay10 (F := Ideal) v30 v44 v66 (tap a b 16 384 h0)
        (k0_pay9 (tap a b 16 384 h0) (tap a b 15 384 h1) (tap a b 14 384 h2) (tap a b 13 384 h3) (tap a b 12 384 h4) (tap a b 11 384 h5) (tap a b 10 384 h6)
          (tap a b 9 384 h7) (tap a b 8 384 h8) (tap a b 7 384 h9) (tap a b 6 384 h10) (tap a b 5 384 h11))
        (tap a b 4 384 h12) (tap a b 3 384 h13) (tap a b 2 384 h14) (tap a b 1 384 h15)
        (View.ld w (Rect.unit (s := S4x128x128) ![3, 0, 0] ![1, 128, 128] hw)) x6 x1 x7 x8 : S512x1024.Idx → EReal) (ix2 r d)
      = Norm.resid (fun j => x7 (ix2 r j)) (fun j => ∑ x, Norm.mixed (fun e => x1 (ix2 r e))
          (Norm.side (fun e => v30 (ix2 r e)) (fun e => v44 (ix2 r e)) (fun e => v66 (ix2 r e))
            (Norm.pooled (Ideal.ofBits .f32 0x3D800000#32) 15 384 (by decide) (back a b r) (weight w 3))) (fun e => x6 (ix2 0 e)) x * x8 (ix2 x j)) d := by
  generalize hs : k0_pay9 (F := Ideal) (tap a b 16 384 h0) (tap a b 15 384 h1) (tap a b 14 384 h2) (tap a b 13 384 h3) (tap a b 12 384 h4) (tap a b 11 384 h5)
    (tap a b 10 384 h6) (tap a b 9 384 h7) (tap a b 8 384 h8) (tap a b 7 384 h9) (tap a b 6 384 h10) (tap a b 5 384 h11) = s
  generalize hx : tap a b 16 384 h0 = x
  generalize hy : tap a b 4 384 h12 = y
  generalize hz : tap a b 3 384 h13 = z
  generalize hu : tap a b 2 384 h14 = u
  generalize hv : tap a b 1 384 h15 = v
  pointwise [k0_pay10]
  subst hs hx hy hz hu hv
  rfl

end Payloads

/-- The tile's rows, normalized. -/
theorem pay14_apply (v30 v44 v66 v67 v89 v90 v92 v94 v96 : FVec Ideal S512x128 .f32) (v102 : FVec Ideal S1x128x128 .bf16) (v106 : FVec Ideal S1x512 .f32)
   (v110 : FVec Ideal S512x512 .bf16) (v113 : FVec Ideal S512x1024 .f32) (v116 : FVec Ideal S1024x1024 .bf16) (g b : FVec Ideal S1x1024 .f32) (r : Fin 512) (d : Fin 1024) :
    (k0_pay14 (F := Ideal) (k0_pay10 v30 v44 v66 v67 v89 v90 v92 v94 v96 v102 v106 v110 v113 v116) (k0_pay11 g) (k0_pay12 b) (k0_pay13 v30 v44 v66 v67 v89 v90 v92 v94 v96 v102 v106 v110 v113 v116) : S512x1024.Idx → EReal) (ix2 r d)
      = Norm.row (fun j => k0_pay10 (F := Ideal) v30 v44 v66 v67 v89 v90 v92 v94 v96 v102 v106 v110 v113 v116 (ix2 r j)) (fun j => g (ix2 0 j)) (fun j => b (ix2 0 j)) d := by
  unfold k0_pay13
  generalize k0_pay10 (F := Ideal) v30 v44 v66 v67 v89 v90 v92 v94 v96 v102 v106 v110 v113 v116 = z
  pointwise [k0_pay14, k0_pay11, k0_pay12]
  rfl

/-! ## What a point stores -/

variable (m : (ℓ : Loc nD τ sig) → Buf (Elt Ideal) ℓ) (c : Dev nD) (t : Fin cfg0.N)

/-- The sixteen rows before the tile. -/
def before : FVec Ideal S16x512 .f32 := k0_pay2 (grid0.coords t) (iblk m c 4 t) (iblk m c 3 t)

/-- The tile's rows. -/
def own : FVec Ideal S512x512 .f32 := k0_pay3 (iblk m c 2 t)

/-- Row `r` of the tile that point `t` stores. -/
def tileRow (r : Fin 512) : Fin 1024 → EReal :=
  Norm.mixRow (fun e => (iblk m c 1 t : S512x512.Idx → EReal) (ix2 r e)) (Norm.pools (back (before m c t) (own m c t) r) (weight (iblk m c 5 t)))
    (fun e => (iblk m c 6 t : S1x512.Idx → EReal) (ix2 0 e)) (fun j => (iblk m c 7 t : S512x1024.Idx → EReal) (ix2 r j))
    (fun x d => (iblk m c 8 t : S1024x1024.Idx → EReal) (ix2 x d)) (fun j => (iblk m c 9 t : S1x1024.Idx → EReal) (ix2 0 j))
    (fun j => (iblk m c 10 t : S1x1024.Idx → EReal) (ix2 0 j))

theorem stored (r : Fin 512) (d : Fin 1024) : ((outsAt0 m c t).1 : S512x1024.Idx → EReal) (ix2 r d) = tileRow m c t r d := by
  unfold outsAt0
  dsimp only
  frame_out
  simp (disch := decide) only [load_eq (k0_pay2 (grid0.coords t) (iblk m c 4 t) (iblk m c 3 t)) (k0_pay3 (iblk m c 2 t))]
  rw [pay14_apply]
  simp only [project, group0, group1, group2]
  rfl

theorem stored_narrow (r : Fin 512) (d : Fin 1024) : ((outsAt0 m c t).2.1 : S512x1024.Idx → EReal) (ix2 r d) = tileRow m c t r d := by
  refine Eq.trans ?_ (stored m c t r d)
  unfold outsAt0
  dsimp only
  frame_out
  rfl

end Cert.MixIdeal.Value

end
-- ==== Proof.MixOut.lean ====
/-
  The mixer's two arrays of rows, element by element: the frames' rows from the points' tiles, the rows before them as the
  aliased arguments hold them.
-/
module

public import proofs.«01_k».proof.Proof.MixTile

@[expose] public section

set_option maxRecDepth 16384

noncomputable section

open Idealize.ShloMosaic
open Idealize.ShloMosaic.TcCoe

namespace Cert.MixIdeal.Value

open Cert.MixIdeal Cert.MixIdeal.Gen

attribute [local instance] Cert.MixIdeal.Gen.facts

variable (m : (ℓ : Loc nD τ sig) → Buf (Elt Ideal) ℓ) (c : Dev nD)

/-- The arguments as launched, as functions to the extended reals. -/
abbrev att : S66048x512.Idx → EReal := m ((c : Thread nD τ).loc main_arg1)
abbrev inp : S66048x512.Idx → EReal := m ((c : Thread nD τ).loc main_arg2)
abbrev wPool : S4x128x128.Idx → EReal := m ((c : Thread nD τ).loc main_arg3)
abbrev pScale : S512.Idx → EReal := m ((c : Thread nD τ).loc main_arg4)
abbrev hid : S66048x1024.Idx → EReal := m ((c : Thread nD τ).loc main_arg5)
abbrev wOut : S1024x1024.Idx → EReal := m ((c : Thread nD τ).loc main_arg6)
abbrev scale : S1024.Idx → EReal := m ((c : Thread nD τ).loc main_arg7)
abbrev shift : S1024.Idx → EReal := m ((c : Thread nD τ).loc main_arg8)
abbrev extra : S66048x1024.Idx → EReal := m ((c : Thread nD τ).loc main_arg10)
abbrev extraNarrow : S66048x1024.Idx → EReal := m ((c : Thread nD τ).loc main_arg11)

/-! ## What the host operations left in the arrays -/

theorem V_wPool : (V m c main_v0 : S4x128x128.Idx → EReal) = wPool m c := by
  unfold_abbrev_sides
  after_results
  try rfl
theorem V_pScale : (V m c main_v1 : S1x512.Idx → EReal) = shapeCast S1x512 (pScale m c) shapeCasts_S512_S1x512 := by
  unfold_abbrev_sides
  after_results
  try rfl
theorem V_wOut : (V m c main_v2 : S1024x1024.Idx → EReal) = wOut m c := by
  unfold_abbrev_sides
  after_results
  try rfl
theorem V_scale : (V m c main_v3 : S1x1024.Idx → EReal) = shapeCast S1x1024 (scale m c) shapeCasts_S1024_S1x1024 := by
  unfold_abbrev_sides
  after_results
  try rfl
theorem V_shift : (V m c main_v4 : S1x1024.Idx → EReal) = shapeCast S1x1024 (shift m c) shapeCasts_S1024_S1x1024 := by
  unfold_abbrev_sides
  after_results
  try rfl
/-- The results' arrays start as the aliased arguments. -/
theorem V_extra : (V m c main_v5_0 : S66048x1024.Idx → EReal) = extra m c := by
  unfold_abbrev_sides
  after_results
  try rfl
theorem V_extraNarrow : (V m c main_v5_1 : S66048x1024.Idx → EReal) = extraNarrow m c := by
  unfold_abbrev_sides
  after_results
  try rfl

/-! ## The blocks -/

/-- The grid's coordinates at point `n`. -/
def point (n : Fin 128) : grid0.Coords := fun | 0 => n | ⟨_ + 1, h⟩ => absurd h (Nat.not_lt.2 (Nat.le_add_left _ _))

theorem crd_val (t : Fin cfg0.N) : (grid0.coords t 0).val = t.val := by
  have h : t.val < 128 := t.isLt
  show t.val / grid0.stride 0 % 128 = t.val
  rw [show grid0.stride 0 = 1 from by decide]
  omega

theorem coords_eq (t : Fin cfg0.N) : grid0.coords t = point ⟨t.val, t.isLt⟩ := funext fun
  | 0 => Fin.ext (crd_val t)
  | ⟨_ + 1, h⟩ => absurd h (Nat.not_lt.2 (Nat.le_add_left _ _))

/-- A tile's rows are behind the 512 rows before the frames; the sixteen rows before a tile end the tile before it. -/
theorem word1 : ∀ n : Fin 128, cc0_transform_1 (point n) = ![n.val + 1, 0] := by decide
theorem word2 : ∀ n : Fin 128, cc0_transform_2 (point n) = ![n.val + 1, 0] := by decide
theorem word3 : ∀ n : Fin 128, cc0_transform_3 (point n) = ![(n.val + 1) * 32 - 1, 0] := by decide
theorem word7 : ∀ n : Fin 128, cc0_transform_7 (point n) = ![n.val + 1, 0] := by decide
theorem word12 : ∀ n : Fin 128, cc0_transform_17 (point n) = ![n.val + 1, 0] := by decide
theorem word13 : ∀ n : Fin 128, cc0_transform_18 (point n) = ![n.val + 1, 0] := by decide

theorem idx1 (t : Fin cfg0.N) : (cfg0.win (1 : Fin 17)).index t = ![t.val + 1, 0] := by
  show cc0_transform_1 (grid0.coords t) = _
  rw [coords_eq, word1]
theorem idx2 (t : Fin cfg0.N) : (cfg0.win (2 : Fin 17)).index t = ![t.val + 1, 0] := by
  show cc0_transform_2 (grid0.coords t) = _
  rw [coords_eq, word2]
theorem idx3 (t : Fin cfg0.N) : (cfg0.win (3 : Fin 17)).index t = ![(t.val + 1) * 32 - 1, 0] := by
  show cc0_transform_3 (grid0.coords t) = _
  rw [coords_eq, word3]
theorem idx7 (t : Fin cfg0.N) : (cfg0.win (7 : Fin 17)).index t = ![t.val + 1, 0] := by
  show cc0_transform_7 (grid0.coords t) = _
  rw [coords_eq, word7]
theorem idx12 (t : Fin cfg0.N) : (cfg0.win (12 : Fin 17)).index t = ![t.val + 1, 0] := by
  show cc0_transform_17 (grid0.coords t) = _
  rw [coords_eq, word12]
theorem idx13 (t : Fin cfg0.N) : (cfg0.win (13 : Fin 17)).index t = ![t.val + 1, 0] := by
  show cc0_transform_18 (grid0.coords t) = _
  rw [coords_eq, word13]

/-- The frame row that is row `r` of tile `t`. -/
def frameRow (t : Fin cfg0.N) (r : Fin 512) : ℕ := t.val * 512 + r.val

theorem frameRow_lt (t : Fin cfg0.N) (r : Fin 512) : frameRow t r < 65536 := by
  have h : t.val < 128 := t.isLt
  unfold frameRow; omega

theorem blk1 (t : Fin cfg0.N) (r e : Fin 512) :
    (iblk m c (1 : Fin 17) t : S512x512.Idx → EReal) (ix2 r e) = att m c (ix2 (Norm.rowOf _ (frameRow_lt t r)) e) := by
  refine (congrFun (V_main_arg1 m c) _).trans (congrArg (att m c) (funext fun a => Fin.ext ?_))
  refine (Pipeline.Window.rect_emb_val (cfg0.win (1 : Fin 17)) t _ _).trans ?_
  rw [idx1]
  fin_cases a <;> simp [Norm.rowOf, frameRow]
  omega
theorem blk2 (t : Fin cfg0.N) (r e : Fin 512) :
    (iblk m c (2 : Fin 17) t : S512x512.Idx → EReal) (ix2 r e) = inp m c (ix2 (Norm.rowOf _ (frameRow_lt t r)) e) := by
  refine (congrFun (V_main_arg2 m c) _).trans (congrArg (inp m c) (funext fun a => Fin.ext ?_))
  refine (Pipeline.Window.rect_emb_val (cfg0.win (2 : Fin 17)) t _ _).trans ?_
  rw [idx2]
  fin_cases a <;> simp [Norm.rowOf, frameRow]
  omega
theorem blk3 (t : Fin cfg0.N) (r : Fin 16) (e : Fin 512) :
    (iblk m c (3 : Fin 17) t : S16x512.Idx → EReal) (ix2 r e) = Norm.rowAt (inp m c) (496 + t.val * 512 + r.val) e := by
  have ht : t.val < 128 := t.isLt
  rw [Norm.rowAt_of_lt _ (show 496 + t.val * 512 + r.val < 66048 by omega)]
  refine (congrFun (V_main_arg2 m c) _).trans (congrArg (inp m c) (funext fun a => Fin.ext ?_))
  refine (Pipeline.Window.rect_emb_val (cfg0.win (3 : Fin 17)) t _ _).trans ?_
  rw [idx3]
  fin_cases a <;> simp
  omega
theorem blk4 (t : Fin cfg0.N) (r : Fin 16) (e : Fin 512) :
    (iblk m c (4 : Fin 17) t : S16x512.Idx → EReal) (ix2 r e) = Norm.rowAt (inp m c) (128 + r.val) e := by
  rw [Norm.rowAt_of_lt _ (show 128 + r.val < 66048 by omega)]
  refine (congrFun (V_main_arg2 m c) _).trans (congrArg (inp m c) (funext fun a => Fin.ext ?_))
  refine (Pipeline.Window.rect_emb_val (cfg0.win (4 : Fin 17)) t _ _).trans ?_
  rw [show (cfg0.win (4 : Fin 17)).index t = ![8, 0] from rfl]
  fin_cases a <;> simp
theorem blk5 (t : Fin cfg0.N) (i : Fin 4) (k e : Fin 128) :
    (iblk m c (5 : Fin 17) t : S4x128x128.Idx → EReal) (ix3 i k e) = wPool m c (ix3 i k e) := by
  refine (congrFun (V_wPool m c) _).trans (congrArg (wPool m c) (funext fun a => Fin.ext ?_))
  refine (Pipeline.Window.rect_emb_val (cfg0.win (5 : Fin 17)) t _ _).trans ?_
  rw [show (cfg0.win (5 : Fin 17)).index t = ![0, 0, 0] from rfl]
  fin_cases a <;> simp
theorem blk6 (t : Fin cfg0.N) (e : Fin 512) : (iblk m c (6 : Fin 17) t : S1x512.Idx → EReal) (ix2 0 e) = pScale m c (ix1 e) := by
  refine (congrFun (V_pScale m c) _).trans ?_
  rw [show ((cfg0.win (6 : Fin 17)).blk t).view.emb (ix2 0 e) = (ix2 0 e : S1x512.Idx) from
    funext fun a => Fin.ext ((Pipeline.Window.rect_emb_val (cfg0.win (6 : Fin 17)) t _ _).trans (by
      rw [show (cfg0.win (6 : Fin 17)).index t = ![0, 0] from rfl]
      fin_cases a <;> simp))]
  pointwise
theorem blk7 (t : Fin cfg0.N) (r : Fin 512) (j : Fin 1024) :
    (iblk m c (7 : Fin 17) t : S512x1024.Idx → EReal) (ix2 r j) = hid m c (ix2 (Norm.rowOf _ (frameRow_lt t r)) j) := by
  refine (congrFun (V_main_arg5 m c) _).trans (congrArg (hid m c) (funext fun a => Fin.ext ?_))
  refine (Pipeline.Window.rect_emb_val (cfg0.win (7 : Fin 17)) t _ _).trans ?_
  rw [idx7]
  fin_cases a <;> simp [Norm.rowOf, frameRow]
  omega
theorem blk8 (t : Fin cfg0.N) (x d : Fin 1024) :
    (iblk m c (8 : Fin 17) t : S1024x1024.Idx → EReal) (ix2 x d) = wOut m c (ix2 x d) := by
  refine (congrFun (V_wOut m c) _).trans (congrArg (wOut m c) (funext fun a => Fin.ext ?_))
  refine (Pipeline.Window.rect_emb_val (cfg0.win (8 : Fin 17)) t _ _).trans ?_
  rw [show (cfg0.win (8 : Fin 17)).index t = ![0, 0] from rfl]
  fin_cases a <;> simp
theorem blk9 (t : Fin cfg0.N) (j : Fin 1024) : (iblk m c (9 : Fin 17) t : S1x1024.Idx → EReal) (ix2 0 j) = scale m c (ix1 j) := by
  refine (congrFun (V_scale m c) _).trans ?_
  rw [show ((cfg0.win (9 : Fin 17)).blk t).view.emb (ix2 0 j) = (ix2 0 j : S1x1024.Idx) from
    funext fun a => Fin.ext ((Pipeline.Window.rect_emb_val (cfg0.win (9 : Fin 17)) t _ _).trans (by
      rw [show (cfg0.win (9 : Fin 17)).index t = ![0, 0] from rfl]
      fin_cases a <;> simp))]
  pointwise
theorem blk10 (t : Fin cfg0.N) (j : Fin 1024) : (iblk m c (10 : Fin 17) t : S1x1024.Idx → EReal) (ix2 0 j) = shift m c (ix1 j) := by
  refine (congrFun (V_shift m c) _).trans ?_
  rw [show ((cfg0.win (10 : Fin 17)).blk t).view.emb (ix2 0 j) = (ix2 0 j : S1x1024.Idx) from
    funext fun a => Fin.ext ((Pipeline.Window.rect_emb_val (cfg0.win (10 : Fin 17)) t _ _).trans (by
      rw [show (cfg0.win (10 : Fin 17)).index t = ![0, 0] from rfl]
      fin_cases a <;> simp))]
  pointwise

/-! ## The rows before a tile -/

/-- The kernel's test of whether a tile is the first of its sequence. -/
def firstOfSeq (n : Fin 128) : BitVec 1 :=
  Scalar.cmpi .eq (Scalar.select
    (Scalar.andi (Scalar.xori
        (Scalar.cmpi .slt (Scalar.remsi (BitVec.ofNat 32 (point n 0).val) (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi (BitVec.ofNat 32 (point n 0).val) (Scalar.select (Scalar.cmpi .eq 4#32 0#32) 1#32 4#32)) 0#32))
    (Scalar.addi (Scalar.remsi (BitVec.ofNat 32 (point n 0).val) (Scalar.select (Scalar.cmpi .eq 4#32 0#32) 1#32 4#32))
      (Scalar.select (Scalar.cmpi .eq 4#32 0#32) 1#32 4#32))
    (Scalar.remsi (BitVec.ofNat 32 (point n 0).val) (Scalar.select (Scalar.cmpi .eq 4#32 0#32) 1#32 4#32))) 0#32

theorem firstOfSeq_eq : ∀ n : Fin 128, firstOfSeq n = if n.val % 4 = 0 then 1#1 else 0#1 := by decide

theorem before_select (n : Fin 128) (x y : FVec Ideal S16x512 .f32) (r : Fin 16) (d : Fin 512) :
    (k0_pay2 (F := Ideal) (point n) x y : S16x512.Idx → EReal) (ix2 r d) = if n.val % 4 = 0 then x (ix2 r d) else y (ix2 r d) := by
  pointwise [k0_pay2]
  refine (show _ = Scalar.select (firstOfSeq n) (x (ix2 r d)) (y (ix2 r d)) from rfl).trans ?_
  rw [firstOfSeq_eq]
  by_cases h : n.val % 4 = 0
  · rw [if_pos h, if_pos h]; rfl
  · rw [if_neg h, if_neg h]; rfl

/-- The sixteen rows before a tile: the meta rows at the start of a sequence, the end of the tile before it elsewhere. -/
theorem before_apply (t : Fin cfg0.N) (r : Fin 16) (d : Fin 512) : (before m c t : S16x512.Idx → EReal) (ix2 r d) =
    Norm.rowAt (inp m c) (if t.val % 4 = 0 then 128 + r.val else 496 + t.val * 512 + r.val) d := by
  unfold before
  rw [coords_eq, before_select]
  by_cases h : t.val % 4 = 0
  · rw [if_pos h, if_pos h, blk4]
  · rw [if_neg h, if_neg h, blk3]

theorem own_apply (t : Fin cfg0.N) (r d : Fin 512) : (own m c t : S512x512.Idx → EReal) (ix2 r d) = Norm.rowAt (inp m c) (512 + frameRow t r) d := by
  unfold own
  pointwise [k0_pay3]
  rw [blk2, Norm.rowAt_of_lt _ (by have := frameRow_lt t r; omega)]
  rfl

/-- The row `i` rows before a tile's row is the argument's row `i` rows before it in its sequence. -/
theorem back_apply (t : Fin cfg0.N) (r : Fin 512) (i : ℕ) (hi : i ≤ 15) (d : Fin 512) :
    back (before m c t) (own m c t) r i d = Norm.rowAt (inp m c) (Norm.source (frameRow t r) i) d := by
  have ht : t.val < 128 := t.isLt
  have hr : r.val < 512 := r.isLt
  unfold back ext
  by_cases h : 16 - i + r.val < 16
  · rw [dif_pos h, before_apply]
    refine congrArg (fun k => Norm.rowAt (inp m c) k d) ?_
    unfold Norm.source frameRow
    split_ifs <;> simp only [] <;> omega
  · have h2 : 16 - i + r.val - 16 < 512 := by omega
    rw [dif_neg h, dif_pos h2, own_apply]
    refine congrArg (fun k => Norm.rowAt (inp m c) k d) ?_
    unfold Norm.source frameRow
    split_ifs <;> simp only [] <;> omega

/-! ## The results -/

/-- Frame row `n` after the call. -/
abbrev frameOf (n : ℕ) (hn : n < 65536) : Fin 1024 → EReal :=
  Norm.frame (att m c) (inp m c) (wPool m c) (pScale m c) (hid m c) (wOut m c) (scale m c) (shift m c) n hn

theorem tileRow_eq (t : Fin cfg0.N) (r : Fin 512) : tileRow m c t r = frameOf m c (frameRow t r) (frameRow_lt t r) := by
  unfold tileRow
  rw [Norm.pools_congr _ (fun i d => Norm.rowAt (inp m c) (Norm.source (frameRow t r) i) d) _ (back_apply m c t r)]
  rw [show weight (iblk m c 5 t) = fun i k e => wPool m c (ix3 i k e) from funext fun i => funext fun k => funext fun e => blk5 m c t i k e]
  simp only [blk1, blk6, blk7, blk8, blk9, blk10]
  rfl

theorem out_eq : ((dats m 0 c).arrAt (12 : Fin 17) cfg0.N : S66048x1024.Idx → EReal) = Norm.behind (extra m c) (frameOf m c) := by
  refine (dats m 0 c).arrAt_eq_of_coversWhere_of_agree (12 : Fin 17) (Norm.behind (extra m c) (frameOf m c)) (fun β => β (0 : Fin 2) ≠ 0) (by decide +kernel)
    (fun t _ y => ?_) (fun j hj => ?_)
  · have e0 : ((((cfg0.win (12 : Fin 17)).blk t).view.emb y : S66048x1024.Idx) 0).val = 512 + frameRow t (y 0) :=
      (Pipeline.Window.rect_emb_val (cfg0.win (12 : Fin 17)) t _ _).trans (by
        rw [idx12]; show (t.val + 1) * 512 + _ = 512 + (t.val * 512 + _); omega)
    have e1 : (((cfg0.win (12 : Fin 17)).blk t).view.emb y : S66048x1024.Idx) 1 = y 1 := Fin.ext
      ((Pipeline.Window.rect_emb_val (cfg0.win (12 : Fin 17)) t _ _).trans (by rw [idx12]; simp))
    refine Eq.trans ?_ (Norm.behind_row _ _ _ _ (frameRow_lt t (y 0)) _ e0 e1).symm
    refine (congrArg ((dats m 0 c).after (12 : Fin 17) t) (eq_ix2 (y : S512x1024.Idx))).trans ?_
    rw [after0_12]
    exact (stored m c t (y 0) (y 1)).trans (congrFun (tileRow_eq m c t (y 0)) (y 1))
  · have hc : ¬ ((j : S66048x1024.Idx) 0).val / 512 ≠ 0 := hj
    have hl : ((j : S66048x1024.Idx) 0).val < 512 := by omega
    exact (congrFun (V_extra m c) _).trans (Norm.behind_of_lt _ _ _ hl).symm

theorem outNarrow_eq : ((dats m 0 c).arrAt (13 : Fin 17) cfg0.N : S66048x1024.Idx → EReal) = Norm.behind (extraNarrow m c) (frameOf m c) := by
  refine (dats m 0 c).arrAt_eq_of_coversWhere_of_agree (13 : Fin 17) (Norm.behind (extraNarrow m c) (frameOf m c)) (fun β => β (0 : Fin 2) ≠ 0)
    (by decide +kernel) (fun t _ y => ?_) (fun j hj => ?_)
  · have e0 : ((((cfg0.win (13 : Fin 17)).blk t).view.emb y : S66048x1024.Idx) 0).val = 512 + frameRow t (y 0) :=
      (Pipeline.Window.rect_emb_val (cfg0.win (13 : Fin 17)) t _ _).trans (by
        rw [idx13]; show (t.val + 1) * 512 + _ = 512 + (t.val * 512 + _); omega)
    have e1 : (((cfg0.win (13 : Fin 17)).blk t).view.emb y : S66048x1024.Idx) 1 = y 1 := Fin.ext
      ((Pipeline.Window.rect_emb_val (cfg0.win (13 : Fin 17)) t _ _).trans (by rw [idx13]; simp))
    refine Eq.trans ?_ (Norm.behind_row _ _ _ _ (frameRow_lt t (y 0)) _ e0 e1).symm
    refine (congrArg ((dats m 0 c).after (13 : Fin 17) t) (eq_ix2 (y : S512x1024.Idx))).trans ?_
    rw [after0_13]
    exact (stored_narrow m c t (y 0) (y 1)).trans (congrFun (tileRow_eq m c t (y 0)) (y 1))
  · have hc : ¬ ((j : S66048x1024.Idx) 0).val / 512 ≠ 0 := hj
    have hl : ((j : S66048x1024.Idx) 0).val < 512 := by omega
    exact (congrFun (V_extraNarrow m c) _).trans (Norm.behind_of_lt _ _ _ hl).symm

end Cert.MixIdeal.Value

end
-- ==== Proof.MixBits.lean ====
/-
  The mixer's constants in extended reals: a mean over two, four, eight or sixteen rows, written as a quotient, is a product
  with the reciprocal.
-/
module

public import proofs.«01_k».proof.Proof.MoePre

@[expose] public section

noncomputable section

open Idealize.ShloMosaic
open Idealize.ShloMosaic.TcCoe

namespace Cert.Norm

theorem bits2 : Ideal.ofBits .f32 0x40000000#32 = ((2 : ℝ) : EReal) := by simp [Ideal.ofBits, Ideal.ieee, -EReal.coe_mul]; norm_num
theorem bits4 : Ideal.ofBits .f32 0x40800000#32 = ((4 : ℝ) : EReal) := by simp [Ideal.ofBits, Ideal.ieee, -EReal.coe_mul]; norm_num
theorem bits8 : Ideal.ofBits .f32 0x41000000#32 = ((8 : ℝ) : EReal) := by simp [Ideal.ofBits, Ideal.ieee, -EReal.coe_mul]; norm_num
theorem bits16 : Ideal.ofBits .f32 0x41800000#32 = ((16 : ℝ) : EReal) := by simp [Ideal.ofBits, Ideal.ieee, -EReal.coe_mul]; norm_num
theorem bitsHalf : Ideal.ofBits .f32 0x3F000000#32 = ((1 / 2 : ℝ) : EReal) := by simp [Ideal.ofBits, Ideal.ieee, -EReal.coe_mul]; norm_num
theorem bitsQuarter : Ideal.ofBits .f32 0x3E800000#32 = ((1 / 4 : ℝ) : EReal) := by simp [Ideal.ofBits, Ideal.ieee, -EReal.coe_mul]; norm_num
theorem bitsEighth : Ideal.ofBits .f32 0x3E000000#32 = ((1 / 8 : ℝ) : EReal) := by simp [Ideal.ofBits, Ideal.ieee, -EReal.coe_mul]; norm_num
theorem bitsSixteenth : Ideal.ofBits .f32 0x3D800000#32 = ((1 / 16 : ℝ) : EReal) := by simp [Ideal.ofBits, Ideal.ieee, -EReal.coe_mul]; norm_num

variable (x : EReal)

theorem div2 : Ideal.div x (Ideal.ofBits .f32 0x40000000#32) = x * Ideal.ofBits .f32 0x3F000000#32 := by
  rw [bits2, bitsHalf]; exact Ideal.div_coe (by norm_num) x
theorem div4 : Ideal.div x (Ideal.ofBits .f32 0x40800000#32) = x * Ideal.ofBits .f32 0x3E800000#32 := by
  rw [bits4, bitsQuarter]; exact Ideal.div_coe (by norm_num) x
theorem div8 : Ideal.div x (Ideal.ofBits .f32 0x41000000#32) = x * Ideal.ofBits .f32 0x3E000000#32 := by
  rw [bits8, bitsEighth]; exact Ideal.div_coe (by norm_num) x
theorem div16 : Ideal.div x (Ideal.ofBits .f32 0x41800000#32) = x * Ideal.ofBits .f32 0x3D800000#32 := by
  rw [bits16, bitsSixteenth]; exact Ideal.div_coe (by norm_num) x

end Cert.Norm

end
-- ==== Proof.MixRefStages.lean ====
/-
  The stages of the mixer's reference, element by element: the padded sequences, the means of windows, a group's pooled columns,
  and the normalized rows.
-/
module

public import proofs.«01_k».proof.Proof.MixFormula
public import proofs.«01_k».proof.Proof.MixBits
public import proofs.«01_k».proof.Proof.Gen.MixRefIdeal

@[expose] public section

set_option maxRecDepth 16384

noncomputable section

open Idealize.ShloMosaic
open Idealize.ShloMosaic.TcCoe

namespace Cert.MixRefIdeal.Value

open Cert.MixRefIdeal Cert.MixRefIdeal.Gen

attribute [local instance] Cert.MixRefIdeal.Gen.facts

/-! ## The normalization -/

/-- The stages of the layer norm: a row's mean, the centred rows, and the normalized rows. -/
def average (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_))
    (broadcastInDim S65536x1 ![] bcast_S_S65536x1 (constant S_ .f32 0x44800000#32))
def centre (z : FVec Ideal S65536x1024 .f32) : FVec Ideal S65536x1024 .f32 :=
  subf z (broadcastInDim S65536x1024 ![0, 1] bcast_S65536x1_S65536x1024_0_1 (average z))
def normedOf (g b : FVec Ideal S1024 .f32) (z : FVec Ideal S65536x1024 .f32) : FVec Ideal S65536x1024 .f32 :=
  addf (mulf (mulf (centre z) (broadcastInDim S65536x1024 ![0, 1] bcast_S65536x1_S65536x1024_0_1
      (Host.rsqrt (addf (average (mulf (centre z) (centre z))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem average_apply (z : FVec Ideal S65536x1024 .f32) (n : Fin 65536) : average z (ix2 n 0) = Norm.mean fun j => z (ix2 n j) := by
  pointwise [average]
  rfl

theorem centre_apply (z : FVec Ideal S65536x1024 .f32) (n : Fin 65536) (d : Fin 1024) :
    centre z (ix2 n d) = Norm.centred (fun j => z (ix2 n j)) d := by
  pointwise [centre]
  exact congrArg (z (ix2 n d) - ·) (average_apply z n)

theorem normedOf_apply (g b : FVec Ideal S1024 .f32) (z : FVec Ideal S65536x1024 .f32) (n : Fin 65536) (d : Fin 1024) :
    normedOf g b z (ix2 n d) = Norm.row (fun j => z (ix2 n j)) (fun j => g (ix1 j)) (fun j => b (ix1 j)) d := by
  unfold normedOf
  have hc : ∀ j, centre z (ix2 n j) = Norm.centred (fun j => z (ix2 n j)) j := centre_apply z n
  generalize centre z = y at hc ⊢
  have hv : average (mulf y y) (ix2 n 0) = Norm.mean (fun j => y (ix2 n j) * y (ix2 n j)) := average_apply _ n
  generalize average (mulf y y) = v at hv ⊢
  pointwise
  rw [hv]
  simp only [hc]
  rfl

/-! ## The padded sequences -/

/-- A padded sequence's row in the arguments: a meta row, or the sequence's row sixteen places before. -/
def extRow (b s : ℕ) : ℕ := if s < 16 then 128 + s else 512 + (b * 2048 + (s - 16))

/-- The row `i` rows before place `s` of sequence `b`. -/
theorem extRow_back (b s i : ℕ) (hs : s < 2048) (hi : i ≤ 16) : extRow b (16 - i + s) = Norm.source (b * 2048 + s) i := by
  unfold extRow Norm.source
  split_ifs <;> omega

/-- A group's columns of the meta rows, before each sequence's. -/
def padded (u : FVec Ideal S66048x512 .f32) (q : ℕ) (h1 : S66048x512.Slices ![128, q] S16x128) (h2 : S66048x512.Slices ![512, q] S65536x128) :
    FVec Ideal S32x2064x128 .f32 :=
  concatenate S32x2064x128 1 [⟨S32x16x128, (broadcastInDim S32x16x128 ![0, 1, 2] bcast_S1x16x128_S32x16x128_0_1_2
      (broadcastInDim S1x16x128 ![1, 2] bcast_S16x128_S1x16x128_1_2 (extractStridedSlice S16x128 ![128, q] u h1)))⟩,
    ⟨S32x2048x128, (shapeCast _ (extractStridedSlice S65536x128 ![512, q] u h2) shapeCasts_S65536x128_S32x2048x128)⟩] concatenates_S32x16x128_S32x2048x128_S32x2064x128_d1

theorem padded_apply (u : FVec Ideal S66048x512 .f32) (q : ℕ) (h1 : S66048x512.Slices ![128, q] S16x128) (h2 : S66048x512.Slices ![512, q] S65536x128)
    (hq : q + 128 ≤ 512) (b : Fin 32) (s : Fin 2064) (k : Fin 128) :
    (padded u q h1 h2 : S32x2064x128.Idx → EReal) (ix3 b s k) = Norm.rowAt u (extRow b.val s.val) (Norm.groupCol q hq k) := by
  have hb : b.val < 32 := b.isLt
  have hs : s.val < 2064 := s.isLt
  pointwise [padded]
  unfold extRow
  by_cases h : s.val < 16
  · rw [dif_pos h, if_pos h, Norm.rowAt_of_lt _ (by omega)]
    rfl
  · rw [dif_neg h, if_neg h, Norm.rowAt_of_lt _ (by omega)]
    rfl

/-! ## The means of windows -/

section Windows

variable (z : FVec Ideal S32x2064x128 .f32)

/-- The rows `i` places before the sequences' own. -/
def shifted (i : ℕ) (h : S32x2064x128.Slices ![0, 16 - i, 0] S32x2048x128) : FVec Ideal S32x2048x128 .f32 := extractStridedSlice S32x2048x128 ![0, 16 - i, 0] z h

theorem slices_shift (i : ℕ) : S32x2064x128.Slices ![0, 16 - i, 0] S32x2048x128 :=
  ⟨rfl, fun
    | 0 => (by show 0 + 32 ≤ 32; omega)
    | 1 => (by show 16 - i + 2048 ≤ 2064; omega)
    | 2 => (by show 0 + 128 ≤ 128; omega)⟩

theorem shifted_apply (i : ℕ) (h : S32x2064x128.Slices ![0, 16 - i, 0] S32x2048x128) (b : Fin 32) (s : Fin 2048) (k : Fin 128) :
    (shifted z i h : S32x2048x128.Idx → EReal) (ix3 b s k) = z (ix3 b ⟨16 - i + s.val, by omega⟩ k) := by
  pointwise [shifted]

/-- The sum of the rows and `n` rows before them. -/
def sumOf : ℕ → FVec Ideal S32x2048x128 .f32
  | 0 => addf (broadcastInDim S32x2048x128 ![] bcast_S_S32x2048x128 (constant S_ .f32 0x00000000#32)) (shifted z 0 (slices_shift 0))
  | n + 1 => addf (sumOf n) (shifted z (n + 1) (slices_shift (n + 1)))

theorem sumOf_apply (n : ℕ) (b : Fin 32) (s : Fin 2048) (k : Fin 128) :
    (sumOf z n : S32x2048x128.Idx → EReal) (ix3 b s k) = Norm.window (fun i => z (ix3 b ⟨16 - i + s.val, by omega⟩ k)) n := by
  induction n with
  | zero =>
    unfold sumOf
    have hs := shifted_apply z 0 (slices_shift 0) b s k
    generalize shifted z 0 (slices_shift 0) = y at hs ⊢
    pointwise
    exact hs
  | succ n ih =>
    unfold sumOf
    have hs := shifted_apply z (n + 1) (slices_shift (n + 1)) b s k
    generalize shifted z (n + 1) (slices_shift (n + 1)) = y at hs ⊢
    generalize sumOf z n = x at ih ⊢
    pointwise
    rw [ih, hs]
    rfl

/-- The mean less the rows themselves. -/
def meanLess (n : ℕ) (c : BitVec 32) : FVec Ideal S32x2048x128 .f32 :=
  subf (Host.divf (sumOf z n) (broadcastInDim S32x2048x128 ![] bcast_S_S32x2048x128 (constant S_ .f32 c))) (shifted z 0 (slices_shift 0))

theorem meanLess_apply (n : ℕ) (c : BitVec 32) (b : Fin 32) (s : Fin 2048) (k : Fin 128) : (meanLess z n c : S32x2048x128.Idx → EReal) (ix3 b s k) =
    Ideal.div (Norm.window (fun i => z (ix3 b ⟨16 - i + s.val, by omega⟩ k)) n) (Ideal.ofBits .f32 c) - z (ix3 b ⟨16 - 0 + s.val, by omega⟩ k) := by
  unfold meanLess
  have hs := shifted_apply z 0 (slices_shift 0) b s k
  have hw := sumOf_apply z n b s k
  generalize shifted z 0 (slices_shift 0) = y at hs ⊢
  generalize sumOf z n = x at hw ⊢
  pointwise
  rw [hs, hw]

end Windows

/-! ## A group's pooled columns -/

/-- The sequences' rows one behind the other. -/
def flat (y : FVec Ideal S32x2048x128 .f32) : FVec Ideal S65536x128 .f32 := shapeCast _ y shapeCasts_S32x2048x128_S65536x128

def seqOf (n : Fin 65536) : Fin 32 := ⟨n.val / 2048, by omega⟩
def placeOf (n : Fin 65536) : Fin 2048 := ⟨n.val % 2048, by omega⟩

theorem flat_apply (y : FVec Ideal S32x2048x128 .f32) (n : Fin 65536) (k : Fin 128) :
    (flat y : S65536x128.Idx → EReal) (ix2 n k) = y (ix3 (seqOf n) (placeOf n) k) := by
  pointwise [flat]
  rfl

/-- A group: its rows times its matrix, scaled. -/
def group (y : FVec Ideal S65536x128 .f32) (w : FVec Ideal S4x128x128 .f32) (sc : FVec Ideal S512 .f32) (i q : ℕ)
    (h3 : S4x128x128.Slices ![i, 0, 0] S1x128x128) (h4 : S512.Slices ![q] S128) : FVec Ideal S65536x128 .f32 :=
  mulf (Host.dotGeneral dot_S65536x128_S128x128_S65536x128_1_0_0_1_n_n none y
      (shapeCast _ (extractStridedSlice S1x128x128 ![i, 0, 0] w h3) shapeCasts_S1x128x128_S128x128))
    (broadcastInDim S65536x128 ![0, 1] bcast_S1x128_S65536x128_0_1 (broadcastInDim S1x128 ![1] bcast_S128_S1x128_1 (extractStridedSlice S128 ![q] sc h4)))

theorem group_apply (y : FVec Ideal S65536x128 .f32) (w : FVec Ideal S4x128x128 .f32) (sc : FVec Ideal S512 .f32) (i : Fin 4) (q : ℕ) (hq : q + 128 ≤ 512)
    (h3 : S4x128x128.Slices ![i.val, 0, 0] S1x128x128) (h4 : S512.Slices ![q] S128) (n : Fin 65536) (e : Fin 128) :
    (group y w sc i.val q h3 h4 : S65536x128.Idx → EReal) (ix2 n e) = (∑ k, y (ix2 n k) * w (ix3 i k e)) * sc (ix1 (Norm.groupCol q hq e)) := by
  pointwise [group]
  rfl

end Cert.MixRefIdeal.Value

end
-- ==== Proof.MixRefNorm.lean ====
/-
  The mixer's reference, element by element: the row formula of the arguments.
-/
module

public import proofs.«01_k».proof.Proof.MixRefStages
public import proofs.«01_k».proof.Proof.Gen.MixRefIdeal.Run

@[expose] public section

set_option maxRecDepth 16384

noncomputable section

open Idealize.ShloMosaic
open Idealize.ShloMosaic.TcCoe

namespace Cert.Norm

/-- Scaling the four groups is scaling the columns beside one another. -/
theorem side_scaled (p₀ p₁ p₂ p₃ : Fin 128 → EReal) (s : Fin 512 → EReal) (x : Fin 512) :
    side (fun e => p₀ e * s (groupCol 0 (by decide) e)) (fun e => p₁ e * s (groupCol 128 (by decide) e))
      (fun e => p₂ e * s (groupCol 256 (by decide) e)) (fun e => p₃ e * s (groupCol 384 (by decide) e)) x = side p₀ p₁ p₂ p₃ x * s x := by
  unfold side groupCol
  split_ifs <;> refine congrArg (fun k => _ * s k) (Fin.ext ?_) <;> simp only [] <;> omega

/-- A mixed row's product with a column: its two halves' products. -/
theorem sum_mixed (a p s : Fin 512 → EReal) (w : Fin 1024 → EReal) :
    ∑ x, mixed a p s x * w x = (∑ x : Fin 512, a x * w ⟨x.val, by omega⟩) + ∑ x : Fin 512, p x * s x * w ⟨512 + x.val, by omega⟩ := by
  refine (Fin.sum_univ_add (a := 512) (b := 512) fun x => mixed a p s x * w x).trans (congrArg₂ (· + ·) ?_ ?_)
  · exact Finset.sum_congr rfl fun x _ => congrArg (· * w ⟨x.val, by omega⟩) (dif_pos x.isLt)
  · refine Finset.sum_congr rfl fun x _ => congrArg (· * w ⟨512 + x.val, by omega⟩) ((dif_neg (show ¬ 512 + x.val < 512 by omega)).trans ?_)
    have e : (⟨512 + x.val - 512, by omega⟩ : Fin 512) = x := Fin.ext (Nat.add_sub_cancel_left _ _)
    exact congrArg (fun k => p k * s k) e

end Cert.Norm

namespace Cert.MixRefIdeal.Value

open Cert.MixRefIdeal Cert.MixRefIdeal.Gen

attribute [local instance] Cert.MixRefIdeal.Gen.facts

variable (V0 : Valuation τ sig (Elt Ideal))

/-- The arguments as launched. -/
abbrev att : FVec Ideal S66048x512 .f32 := (V0 (Proc.devRef .tc main_arg1) : S66048x512.Idx → EReal)
abbrev inp : FVec Ideal S66048x512 .f32 := V0 (Proc.devRef .tc main_arg2)
abbrev wPool : FVec Ideal S4x128x128 .f32 := V0 (Proc.devRef .tc main_arg3)
abbrev pScale : FVec Ideal S512 .f32 := V0 (Proc.devRef .tc main_arg4)
abbrev hid : FVec Ideal S66048x1024 .f32 := V0 (Proc.devRef .tc main_arg5)
abbrev wOut : FVec Ideal S1024x1024 .f32 := V0 (Proc.devRef .tc main_arg6)
abbrev scale : FVec Ideal S1024 .f32 := V0 (Proc.devRef .tc main_arg7)
abbrev shift : FVec Ideal S1024 .f32 := V0 (Proc.devRef .tc main_arg8)

/-! ## The four groups -/

/-- A group's pooled rows: the mean of `k + 1` rows, less the newest. -/
def pooledRows (q k : ℕ) (c : BitVec 32) (h1 : S66048x512.Slices ![128, q] S16x128) (h2 : S66048x512.Slices ![512, q] S65536x128) :
    FVec Ideal S65536x128 .f32 := flat (meanLess (padded (inp V0) q h1 h2) k c)

theorem pooledRows_apply (q k : ℕ) (hq : q + 128 ≤ 512) (hk : k ≤ 15) (c c' : BitVec 32) (hc : ∀ x, Ideal.div x (Ideal.ofBits .f32 c) = x * Ideal.ofBits .f32 c')
    (h1 : S66048x512.Slices ![128, q] S16x128) (h2 : S66048x512.Slices ![512, q] S65536x128) (n : Fin 65536) (j : Fin 128) :
    (pooledRows V0 q k c h1 h2 : S65536x128.Idx → EReal) (ix2 n j) =
      Norm.window (fun i => Norm.rowAt (inp V0) (Norm.source n.val i) (Norm.groupCol q hq j)) k * Ideal.ofBits .f32 c'
        - Norm.rowAt (inp V0) (Norm.source n.val 0) (Norm.groupCol q hq j) := by
  have back : ∀ i ≤ 16, (padded (inp V0) q h1 h2 : S32x2064x128.Idx → EReal) (ix3 (seqOf n) ⟨16 - i + (placeOf n).val, by omega⟩ j) =
      Norm.rowAt (inp V0) (Norm.source n.val i) (Norm.groupCol q hq j) := fun i hi => by
    rw [padded_apply _ _ _ _ hq]
    refine congrArg (fun r => Norm.rowAt (inp V0) r _) ((extRow_back _ _ i (placeOf n).isLt hi).trans (congrArg (fun r => Norm.source r i) ?_))
    show n.val / 2048 * 2048 + n.val % 2048 = n.val
    omega
  unfold pooledRows
  rw [flat_apply, meanLess_apply, hc, back 0 (by omega), Norm.window_congr _ _ k fun i hi => back i (by omega)]

/-- The pooled columns, scaled. -/
theorem v136_eq : (res_main_v136 V0 : FVec Ideal S65536x512 .f32) = concatenate S65536x512 1
    [⟨S65536x128, (group (pooledRows V0 0 1 0x40000000#32 slices_S66048x512_S16x128_128_0 slices_S66048x512_S65536x128_512_0) (wPool V0) (pScale V0) 0 0
        slices_S4x128x128_S1x128x128_0_0_0 slices_S512_S128_0 : S65536x128.Idx → EReal)⟩,
      ⟨S65536x128, (group (pooledRows V0 128 3 0x40800000#32 slices_S66048x512_S16x128_128_128 slices_S66048x512_S65536x128_512_128) (wPool V0) (pScale V0) 1 128
        slices_S4x128x128_S1x128x128_1_0_0 slices_S512_S128_128 : S65536x128.Idx → EReal)⟩,
      ⟨S65536x128, (group (pooledRows V0 256 7 0x41000000#32 slices_S66048x512_S16x128_128_256 slices_S66048x512_S65536x128_512_256) (wPool V0) (pScale V0) 2 256
        slices_S4x128x128_S1x128x128_2_0_0 slices_S512_S128_256 : S65536x128.Idx → EReal)⟩,
      ⟨S65536x128, (group (pooledRows V0 384 15 0x41800000#32 slices_S66048x512_S16x128_128_384 slices_S66048x512_S65536x128_512_384) (wPool V0) (pScale V0) 3 384
        slices_S4x128x128_S1x128x128_3_0_0 slices_S512_S128_384 : S65536x128.Idx → EReal)⟩]
    concatenates_S65536x128_S65536x128_S65536x128_S65536x128_S65536x512_d1 := rfl

/-- Four arrays beside one another. -/
theorem beside_apply (y0 y1 y2 y3 : FVec Ideal S65536x128 .f32) (n : Fin 65536) (x : Fin 512) :
    (concatenate S65536x512 1 [⟨S65536x128, y0⟩, ⟨S65536x128, y1⟩, ⟨S65536x128, y2⟩, ⟨S65536x128, y3⟩]
        concatenates_S65536x128_S65536x128_S65536x128_S65536x128_S65536x512_d1 : S65536x512.Idx → EReal) (ix2 n x) =
      Norm.side (fun e => y0 (ix2 n e)) (fun e => y1 (ix2 n e)) (fun e => y2 (ix2 n e)) (fun e => y3 (ix2 n e)) x := by
  pointwise
  rfl

/-- The pooled columns of frame row `n`. -/
abbrev poolsOf (n : ℕ) : Fin 512 → EReal :=
  Norm.pools (fun i d => Norm.rowAt (inp V0) (Norm.source n i) d) (fun i k e => wPool V0 (ix3 i k e))

theorem v136_apply (n : Fin 65536) (x : Fin 512) :
    (res_main_v136 V0 : S65536x512.Idx → EReal) (ix2 n x) = poolsOf V0 n.val x * pScale V0 (ix1 x) := by
  have g0 := fun e => group_apply (pooledRows V0 0 1 0x40000000#32 slices_S66048x512_S16x128_128_0 slices_S66048x512_S65536x128_512_0) (wPool V0) (pScale V0) 0 0
    (by decide) slices_S4x128x128_S1x128x128_0_0_0 slices_S512_S128_0 n e
  have g1 := fun e => group_apply (pooledRows V0 128 3 0x40800000#32 slices_S66048x512_S16x128_128_128 slices_S66048x512_S65536x128_512_128) (wPool V0) (pScale V0) 1 128
    (by decide) slices_S4x128x128_S1x128x128_1_0_0 slices_S512_S128_128 n e
  have g2 := fun e => group_apply (pooledRows V0 256 7 0x41000000#32 slices_S66048x512_S16x128_128_256 slices_S66048x512_S65536x128_512_256) (wPool V0) (pScale V0) 2 256
    (by decide) slices_S4x128x128_S1x128x128_2_0_0 slices_S512_S128_256 n e
  have g3 := fun e => group_apply (pooledRows V0 384 15 0x41800000#32 slices_S66048x512_S16x128_128_384 slices_S66048x512_S65536x128_512_384) (wPool V0) (pScale V0) 3 384
    (by decide) slices_S4x128x128_S1x128x128_3_0_0 slices_S512_S128_384 n e
  simp only [pooledRows_apply V0 0 1 (by decide) (by decide) _ _ Norm.div2] at g0
  simp only [pooledRows_apply V0 128 3 (by decide) (by decide) _ _ Norm.div4] at g1
  simp only [pooledRows_apply V0 256 7 (by decide) (by decide) _ _ Norm.div8] at g2
  simp only [pooledRows_apply V0 384 15 (by decide) (by decide) _ _ Norm.div16] at g3
  refine Eq.trans ?_ (Norm.side_scaled _ _ _ _ (fun x => pScale V0 (ix1 x)) x)
  rw [v136_eq, beside_apply]
  exact congrFun (congr (congr (congr (congrArg Norm.side (funext g0)) (funext g1)) (funext g2)) (funext g3)) x

theorem v144_apply (n : Fin 65536) (d : Fin 1024) : (res_main_v144 V0 : S65536x1024.Idx → EReal) (ix2 n d) =
    Norm.resid (fun j => hid V0 (ix2 (Norm.rowOf n.val n.isLt) j))
      (fun d => ∑ x, Norm.mixed (fun e => att V0 (ix2 (Norm.rowOf n.val n.isLt) e)) (poolsOf V0 n.val) (fun x => pScale V0 (ix1 x)) x * wOut V0 (ix2 x d)) d := by
  unfold res_main_v144
  have hp := v136_apply V0 n
  generalize res_main_v136 V0 = p at hp ⊢
  pointwise
  simp only [hp]
  exact congrArg (_ + ·) (Norm.sum_mixed _ _ (fun x => pScale V0 (ix1 x)) fun x => wOut V0 (ix2 x d)).symm

theorem v168_eq : res_main_v168 V0 = normedOf (V0 (Proc.devRef .tc main_arg7)) (V0 (Proc.devRef .tc main_arg8)) (res_main_v144 V0) := rfl

/-- The reference's rows are the frames' rows of the formula. -/
theorem v168_apply (n : Fin 65536) (d : Fin 1024) : (res_main_v168 V0 : S65536x1024.Idx → EReal) (ix2 n d) =
    Norm.frame (att V0) (inp V0) (wPool V0) (pScale V0) (hid V0) (wOut V0) (scale V0) (shift V0) n.val n.isLt d := by
  rw [v168_eq, normedOf_apply, show (fun j => (res_main_v144 V0 : S65536x1024.Idx → EReal) (ix2 n j)) = _ from funext (v144_apply V0 n)]
  rfl

end Cert.MixRefIdeal.Value

end
-- ==== Proof.MixAlgebraic.lean ====
/-
  The mixer and its reference compute the same two arrays: both have been read as one formula of the arguments, and the two
  launches hold the same arguments.
-/
module

public import proofs.«01_k».proof.Proof.MixOut
public import proofs.«01_k».proof.Proof.MixRefNorm

@[expose] public section

set_option maxRecDepth 16384

noncomputable section

open Idealize.ShloMosaic
open Idealize.ShloMosaic.TcCoe
open Idealize.SL.Sem

namespace Cert.MixAlgebraic

attribute [local instance] Cert.MixIdeal.Gen.facts Cert.MixRefIdeal.Gen.facts

/-- The reference's rows behind the first rows of `old`. -/
theorem rows_eq {φ : FTy} (old : FVec Ideal Cert.MixRefIdeal.S66048x1024 φ) (x : FVec Ideal Cert.MixRefIdeal.S65536x1024 φ) (new : (n : ℕ) → n < 65536 → Fin 1024 → EReal)
    (hx : ∀ (n : Fin 65536) (d : Fin 1024), (x : Cert.MixRefIdeal.S65536x1024.Idx → EReal) (ix2 n d) = new n.val n.isLt d) (hs hcat) :
    (concatenate Cert.MixRefIdeal.S66048x1024 0
      [⟨Cert.MixRefIdeal.S512x1024, extractStridedSlice Cert.MixRefIdeal.S512x1024 ![0, 0] old hs⟩, ⟨Cert.MixRefIdeal.S65536x1024, x⟩] hcat
      : Cert.MixRefIdeal.S66048x1024.Idx → EReal) = Norm.behind old new := by
  funext i
  obtain ⟨n, d, rfl⟩ : ∃ (n : Fin 66048) (d : Fin 1024), i = ix2 n d := ⟨i 0, i 1, eq_ix2 i⟩
  pointwise
  by_cases hn : n.val < 512
  · rw [dif_pos hn, Norm.behind_of_lt old new (ix2 n d) hn]
  · have hlt : n.val - 512 < 65536 := by have := n.isLt; omega
    rw [dif_neg hn, Norm.behind_row old new (ix2 n d) (n.val - 512) hlt d (by show n.val = 512 + (n.val - 512); omega) rfl]
    exact hx ⟨n.val - 512, hlt⟩ d

variable (m : (ℓ : Loc Cert.MixIdeal.nD Cert.MixIdeal.τ Cert.MixIdeal.sig) → Buf (Elt Ideal) ℓ)
  (m' : (ℓ : Loc Cert.MixRefIdeal.nD Cert.MixRefIdeal.τ Cert.MixRefIdeal.sig) → Buf (Elt Ideal) ℓ)

/-- The reference is launched with the kernel's arguments. -/
def Agree : Prop := ∀ c : Dev Cert.MixIdeal.nD,
  m' ((c.tc : Thread Cert.MixRefIdeal.nD Cert.MixRefIdeal.τ).loc Cert.MixRefIdeal.main_arg0) = m ((c.tc : Thread Cert.MixIdeal.nD Cert.MixIdeal.τ).loc Cert.MixIdeal.main_arg0)
  ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
  ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
  ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
  ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
  ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
  ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
  ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
  ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
  ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
  ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
  ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
  ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
  ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
  ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)

/-- The kernel's two arrays after its run. -/
abbrev out (c : Dev Cert.MixIdeal.nD) : Buf (Elt Ideal) ((c.tc : Thread Cert.MixIdeal.nD Cert.MixIdeal.τ).loc Cert.MixIdeal.main_v5_0) :=
  (Cert.MixIdeal.Gen.dats m 0 c).arrAt (12 : Fin 17) Cert.MixIdeal.cfg0.N
abbrev outNarrow (c : Dev Cert.MixIdeal.nD) : Buf (Elt Ideal) ((c.tc : Thread Cert.MixIdeal.nD Cert.MixIdeal.τ).loc Cert.MixIdeal.main_v5_1) :=
  (Cert.MixIdeal.Gen.dats m 0 c).arrAt (13 : Fin 17) Cert.MixIdeal.cfg0.N

open Idealize.ShloMosaic.StableHlo in
/-- The reference's row is the kernel's. -/
theorem row_eq (ha : Agree m m') (c : Dev Cert.MixIdeal.nD) (n : Fin 65536) (d : Fin 1024) :
    (Cert.MixRefIdeal.Value.res_main_v168 (launchContents m' c) : Cert.MixRefIdeal.S65536x1024.Idx → EReal) (ix2 n d) = Cert.MixIdeal.Value.frameOf m c n.val n.isLt d := by
  obtain ⟨_, h1, h2, h3, h4, h5, h6, h7, h8, _⟩ := ha c
  refine (Cert.MixRefIdeal.Value.v168_apply (launchContents m' c) n d).trans ?_
  show Norm.frame (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2))
    (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4))
    (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6))
    (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) n.val n.isLt d = _
  rw [h1, h2, h3, h4, h5, h6, h7, h8]

/-- THE REFERENCE'S RUN from the kernel's arguments: its results are the kernel's arrays. -/
theorem ref_run (ha : Agree m m') (ρ : Dev Cert.MixRefIdeal.nD → PrngReg) :
    θ_run Cert.MixRefIdeal.defs (onTc (τ := Cert.MixRefIdeal.τ) (Cert.MixRefIdeal.main (F := Ideal))) ⟨m', fun _ => 0, ρ⟩ fun r => ∀ c : Dev Cert.MixRefIdeal.nD,
      r.2.mem ((c.tc : Thread Cert.MixRefIdeal.nD Cert.MixRefIdeal.τ).loc Cert.MixRefIdeal.main_v170) = out m c
      ∧ r.2.mem ((c.tc : Thread Cert.MixRefIdeal.nD Cert.MixRefIdeal.τ).loc Cert.MixRefIdeal.main_v173) = outNarrow m c
      ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14) := by
  refine (θ_run Cert.MixRefIdeal.defs _ _).mono (fun r hr c => ?_) (Cert.MixRefIdeal.Value.run m' ρ)
  obtain ⟨r0, r1, hargs⟩ := hr c
  have h10 := (ha c).2.2.2.2.2.2.2.2.2.2.1
  have h11 := (ha c).2.2.2.2.2.2.2.2.2.2.2.1
  refine ⟨r0.trans ?_, r1.trans ?_, hargs⟩
  · refine (rows_eq (φ := .f32) _ _ _ (row_eq m m' ha c) _ _).trans (Eq.trans ?_ (Cert.MixIdeal.Value.out_eq m c).symm)
    exact congrArg (fun f => Norm.behind f _) h10
  · refine (rows_eq (φ := .bf16) _ _ (Cert.MixIdeal.Value.frameOf m c) (fun n d => Eq.trans ?_ (row_eq m m' ha c n d)) _ _).trans (Eq.trans ?_ (Cert.MixIdeal.Value.outNarrow_eq m c).symm)
    · rfl
    · exact congrArg (fun f => Norm.behind f _) h11

end Cert.MixAlgebraic

end
-- ==== Proof.DecSame.lean ====
module

public import proofs.«01_k».proof.Proof.Gen.Dec.Launch
public import proofs.«01_k».proof.Proof.Gen.DecIdeal.Launch

/-! The idealized decoding-step program is the program as printed: no rule was offered, so the two texts are one, at
every number system. What is proved of the one is read here of the other. -/

@[expose] public section

set_option maxRecDepth 100000

noncomputable section

namespace Cert.DecSame

open Idealize.ShloMosaic Idealize.ShloMosaic.TcCoe Idealize.SL.Sem

variable {F : FTy → Type} [FloatOps F]

attribute [local instance] Cert.Dec.Gen.facts Cert.DecIdeal.Gen.facts

set_option maxHeartbeats 1000000 in
theorem body_eq : @Cert.DecIdeal.cc0_extras_mix F _ _ = @Cert.Dec.cc0_extras_mix F _ _ := by
  unfold Cert.DecIdeal.cc0_extras_mix Cert.Dec.cc0_extras_mix
  rfl

set_option maxHeartbeats 1000000 in
theorem main_eq : @Cert.DecIdeal.main F _ _ = @Cert.Dec.main F _ _ := by
  unfold Cert.DecIdeal.main Cert.Dec.main
  rfl

set_option maxHeartbeats 1000000 in
/-- The bodies the pipelines call. -/
theorem defs₀_eq : @Cert.DecIdeal.defs₀ F _ _ = @Cert.Dec.defs₀ F _ _ := by
  unfold Cert.DecIdeal.defs₀ Cert.Dec.defs₀
  refine congrArg Defs.onTc (funext fun ℓ => funext fun a => ?_)
  rcases ℓ with ⟨_ | n, h⟩
  · obtain ⟨t, s⟩ := a
    dsimp only
    rw [body_eq]
    rfl
  · exact absurd h (Nat.not_lt.2 (Nat.le_add_left _ _))

set_option maxHeartbeats 4000000 in
/-- The programs' pipelines with their bodies. -/
theorem defs_eq : @Cert.DecIdeal.defs F _ _ = @Cert.Dec.defs F _ _ := by
  unfold Cert.DecIdeal.defs Cert.Dec.defs
  exact congrArg (Pipeline.defs Cert.Dec.pcfgs) defs₀_eq

set_option maxHeartbeats 4000000 in
/-- So the two programs have the same runs. -/
theorem run_eq (s : MemSt Cert.Dec.nD Cert.Dec.τ Cert.Dec.sig (Elt F)) :
    θ_run (Cert.DecIdeal.defs (F := F)) (onTc (τ := Cert.DecIdeal.τ) (Cert.DecIdeal.main (F := F))) s
      = θ_run (Cert.Dec.defs (F := F)) (onTc (τ := Cert.Dec.τ) (Cert.Dec.main (F := F))) s := by
  exact congrArg₂ (fun d p => θ_run d (onTc (τ := Cert.Dec.τ) p) s) defs_eq main_eq

end Cert.DecSame

end
-- ==== Proof.DecBody.lean ====
module

public import proofs.«01_k».proof.Proof.Gen.Dec.Frame.Runs
public import proofs.«01_k».proof.Proof.Whole
public import Idealize.ShloMosaic.Lib.WritesUnit
public import Idealize.ShloMosaic.Lib.Pipeline.ValueKit
public import Idealize.ShloMosaic.Lib.Pipeline.Quiescent
public import Idealize.ShloMosaic.Lib.Claim
public import Idealize.ShloMosaic.Lib.Pipeline.Kit
public import Idealize.ShloMosaic.Lib.Pipeline.Frame
public import Idealize.ShloMosaic.Lib.Ring
public import Idealize.ShloMosaic.Adequacy
public import Idealize.ShloMosaic.Init

/-! One grid point of the decoding step. The new pool state of a sample is what the body reads back from its rows buffer
after it has put the sample's sixteen rows of `u` there, so it is fifteen of these rows. The other outputs and the two
scratch buffers may hold anything before and after. Stated for every number system `F`. -/

@[expose] public section

set_option maxRecDepth 16384
set_option Elab.async false

noncomputable section

namespace Cert.Dec.Tile

open Cert.Dec Cert.Dec.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer with any contents is a buffer at some named contents. -/
theorem some_rep (c : Dev nD) {sp : Space} {sh : Shape} {e : EltTy} (M : Memref sig .tc sp sh e) (f) :
    (M.view.loc (c : Thread nD τ) ↦[M.view.set]{fullShare} f : sProp 𝕄)
      ⊢ ∃ d, M.view.loc (c : Thread nD τ) ↦[M.view.set]{fullShare} M.view.rep d := by
  simp only [← owns_eq_rep]
  unfold owns
  iintro H
  iexists _, f
  isplitr
  · ipureintro; rfl
  iexact H

/-- A buffer whose contents read as `X` is the buffer at `X`. -/
theorem put_rep (c : Dev nD) {sp : Space} {sh : Shape} {e : EltTy} (M : Memref sig .tc sp sh e) (X : sh.Idx → Elt F e) :
    (iprop(∃ f, ⌜M.view.read (Elt F) f = X⌝ ∗ (M.view.loc (c : Thread nD τ) ↦[M.view.set]{fullShare} f)) : sProp 𝕄)
      ⊢ M.view.loc (c : Thread nD τ) ↦[M.view.set]{fullShare} M.view.rep X := by
  rw [← owns_eq_rep]
  unfold owns
  exact .rfl

/-- The sixteen rows of `u` at point `i`. -/
def rows (i : grid0.Coords) (u : S512x512.Idx → Elt F .f32) : S16x512.Idx → Elt F .f32 :=
  k0_pay193 (View.ld u (Rect.unit (s := S512x512) (k0_off1 i) S16x512.size (k0_off1_inb i)))

/-- The pool's rows at point `i`: the rows behind the first of the sixteen. -/
def tile (i : grid0.Coords) (u : S512x512.Idx → Elt F .f32) : S1x15x512.Idx → Elt F .f32 :=
  k0_pay2 (fun j => rows i u (ix2 (⟨(j 0).val + 1, by have : (j 0).val < 15 := (j 0).isLt; omega⟩ : Fin 16) (j 1 : Fin 512)))

/-- Rows 17 to 31 of the rows buffer, read after rows 16 to 31 were stored. -/
theorem read_rows (M : Memref sig .tc .vmem S32x512 .f32) (f : M.view.ty.Contents (Elt F)) (X : S16x512.Idx → Elt F .f32)
    (L : List (View.Piece (Elt F) S32x512 .f32)) (inb : ∀ j, (![17, 0] : Fin 2 → Nat) j + S15x512.size j ≤ S32x512.size j)
    (inb' : ∀ j, (![16, 0] : Fin 2 → Nat) j + S16x512.size j ≤ S32x512.size j) :
    View.readAt (Elt F) M.view (Rect.unit (s := S32x512) ![17, 0] S15x512.size inb).toLoadRect
        (M.view.writes (Elt F) f (⟨Rect.unit (s := S32x512) ![16, 0] S16x512.size inb', X⟩ :: L))
      = fun j => X (ix2 (⟨(j 0).val + 1, by have : (j 0).val < 15 := (j 0).isLt; omega⟩ : Fin 16) (j 1 : Fin 512)) := by
  rw [View.readAt_eq_ld]
  funext j
  refine View.read_writes_cons_hit_of_coords M.view f (Rect.unit (s := S32x512) ![16, 0] S16x512.size inb') X L _ _ ?_
  intro a
  fin_cases a
  · show 17 + 1 * (j 0).val = 16 + 1 * ((j 0).val + 1)
    omega
  · show 0 + 1 * (j 1).val = 0 + 1 * (j 1).val
    omega

/-- What the last store into the pool's buffer leaves there. -/
theorem stored_tile (i : grid0.Coords) (M : Memref sig .tc .vmem S1x15x512 .f32) (N : Memref sig .tc .vmem S32x512 .f32)
    (U : Memref sig .tc .vmem S512x512 .f32) (f : M.view.ty.Contents (Elt F)) (g : N.view.ty.Contents (Elt F))
    (u : S512x512.Idx → Elt F .f32) (L : List (View.Piece (Elt F) S32x512 .f32))
    (inb : ∀ j, (![17, 0] : Fin 2 → Nat) j + S15x512.size j ≤ S32x512.size j)
    (inb' : ∀ j, (![16, 0] : Fin 2 → Nat) j + S16x512.size j ≤ S32x512.size j)
    (inb'' : ∀ j, (![0, 0, 0] : Fin 3 → Nat) j + S1x15x512.size j ≤ S1x15x512.size j) :
    M.view.read (Elt F) (M.view.writes (Elt F) f [⟨Rect.unit (s := S1x15x512) ![0, 0, 0] S1x15x512.size inb'',
      k0_pay2 (View.readAt (Elt F) N.view (Rect.unit (s := S32x512) ![17, 0] S15x512.size inb).toLoadRect
        (N.view.writes (Elt F) g (⟨Rect.unit (s := S32x512) ![16, 0] S16x512.size inb',
          k0_pay193 (View.readAt (Elt F) U.view (Rect.unit (s := S512x512) (k0_off1 i) S16x512.size (k0_off1_inb i)).toLoadRect
            (U.view.rep u))⟩ :: L)))⟩]) = tile i u := by
  rw [Cert.Whole.stored _ _ (by funext a; fin_cases a <;> rfl), read_rows, Cert.Whole.loadPart]
  rfl

set_option maxHeartbeats 16000000 in
/-- The body at grid point `i`. Whatever the outputs and the scratch rows hold before, the inputs are kept, and the buffer of
the pool's rows ends with the rows behind row `16 i` of `u`. Either condition may be taken, but not both at one point. -/
theorem wp_body (c : Dev nD) (i : grid0.Coords)
    (arg1 : Memref sig .tc .smem S4 .f32) (harg1 : arg1.IsWhole) (arg2 : Memref sig .tc .smem S1 .f32) (harg2 : arg2.IsWhole) (arg3 : Memref sig .tc .smem S16 .f32) (harg3 : arg3.IsWhole)
    (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole) (arg8 : Memref sig .tc .vmem S1x1x1024x512 .f32) (harg8 : arg8.IsWhole) (arg9 : Memref sig .tc .vmem S1x1x1024x512 .f32) (harg9 : arg9.IsWhole)
    (arg10 : Memref sig .tc .vmem S1x1x15x512 .f32) (harg10 : arg10.IsWhole) (arg11 : Memref sig .tc .vmem S1x128 .f32) (harg11 : arg11.IsWhole) (arg12 : Memref sig .tc .vmem S4x128x128 .bf16) (harg12 : arg12.IsWhole)
    (arg13 : Memref sig .tc .vmem S1x512 .f32) (harg13 : arg13.IsWhole) (arg14 : Memref sig .tc .vmem S512x1024 .f32) (harg14 : arg14.IsWhole) (arg15 : Memref sig .tc .vmem S1024x1024 .bf16) (harg15 : arg15.IsWhole)
    (arg16 : Memref sig .tc .vmem S1x1024 .f32) (harg16 : arg16.IsWhole) (arg17 : Memref sig .tc .vmem S1x1024 .f32) (harg17 : arg17.IsWhole) (arg18 : Memref sig .tc .vmem S1024x128 .bf16) (harg18 : arg18.IsWhole)
    (arg19 : Memref sig .tc .vmem S512x1024 .f32) (harg19 : arg19.IsWhole) (arg20 : Memref sig .tc .vmem S512x1024 .bf16) (harg20 : arg20.IsWhole) (arg21 : Memref sig .tc .vmem S1x1x512 .i32) (harg21 : arg21.IsWhole)
    (arg22 : Memref sig .tc .vmem S1x1x512 .f32) (harg22 : arg22.IsWhole) (arg23 : Memref sig .tc .vmem S1x1x512 .f32) (harg23 : arg23.IsWhole) (arg24 : Memref sig .tc .vmem S1x15x512 .f32) (harg24 : arg24.IsWhole)
    (arg25 : Memref sig .tc .vmem S512x1024 .bf16) (harg25 : arg25.IsWhole) (arg26 : Memref sig .tc .vmem S32x512 .f32) (harg26 : arg26.IsWhole)
    (x0 : Vec F S4 .f32) (x1 : Vec F S1 .f32) (x2 : Vec F S16 .f32) (x3 : Vec F S512x512 .bf16) (x4 : Vec F S512x512 .f32) (x5 : Vec F S512x512 .f32)
    (x6 : Vec F S512x512 .f32) (x7 : Vec F S1x1x1024x512 .f32) (x8 : Vec F S1x1x1024x512 .f32) (x9 : Vec F S1x1x15x512 .f32) (x10 : Vec F S1x128 .f32) (x11 : Vec F S4x128x128 .bf16)
    (x12 : Vec F S1x512 .f32) (x13 : Vec F S512x1024 .f32) (x14 : Vec F S1024x1024 .bf16) (x15 : Vec F S1x1024 .f32) (x16 : Vec F S1x1024 .f32) (x17 : Vec F S1024x128 .bf16) (hex : ¬(cond0_0 i ∧ cond0_1 i)) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ owns (c : Thread nD τ) arg8 fullShare x7 ∗ owns (c : Thread nD τ) arg9 fullShare x8
      ∗ owns (c : Thread nD τ) arg10 fullShare x9 ∗ owns (c : Thread nD τ) arg11 fullShare x10 ∗ owns (c : Thread nD τ) arg12 fullShare x11
      ∗ owns (c : Thread nD τ) arg13 fullShare x12 ∗ owns (c : Thread nD τ) arg14 fullShare x13 ∗ owns (c : Thread nD τ) arg15 fullShare x14
      ∗ owns (c : Thread nD τ) arg16 fullShare x15 ∗ owns (c : Thread nD τ) arg17 fullShare x16 ∗ owns (c : Thread nD τ) arg18 fullShare x17
      ∗ (∃ d, owns (c : Thread nD τ) arg19 fullShare d) ∗ (∃ d, owns (c : Thread nD τ) arg20 fullShare d) ∗ (∃ d, owns (c : Thread nD τ) arg21 fullShare d)
      ∗ (∃ d, owns (c : Thread nD τ) arg22 fullShare d) ∗ (∃ d, owns (c : Thread nD τ) arg23 fullShare d) ∗ (∃ d, owns (c : Thread nD τ) arg24 fullShare d)
      ∗ (∃ d, owns (c : Thread nD τ) arg25 fullShare d) ∗ (∃ d, owns (c : Thread nD τ) arg26 fullShare d)
      ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d) ∗ (∃ d, owns (c : Thread nD τ) arg21 fullShare d)
        ∗ (∃ d, owns (c : Thread nD τ) arg22 fullShare d) ∗ (∃ d, owns (c : Thread nD τ) arg23 fullShare d) ∗ owns (c : Thread nD τ) arg24 fullShare (tile i x6)
        ∗ (∃ d, owns (c : Thread nD τ) arg25 fullShare d) ∗ (∃ d, owns (c : Thread nD τ) arg26 fullShare d)) -∗ K ⟨⟩))
      ⊢ wp frame (wpE (defs₀ (F := F)) Variants.none c none) E (cc0_extras_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [owns_eq_rep]
  simp only [cc0_extras_mix_eq_skeleton]; unfold cc0_extras_mix_skel
  by_cases h0 : cond0_0 i <;> by_cases h1 : cond0_1 i
  · exact absurd ⟨h0, h1⟩ hex
  all_goals
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton]
    iintro ⟨H0, H1, H2, H3, H4, H5, H6, H7, H8, H9, H10, H11, H12, H13, H14, H15, H16, H17, ⟨%d18, H18⟩, ⟨%d19, H19⟩, ⟨%d20, H20⟩, ⟨%d21, H21⟩, ⟨%d22, H22⟩, ⟨%d23, H23⟩, ⟨%d24, H24⟩, ⟨%d25, H25⟩, Hk⟩
    sl_exec (disch := first | sl_exact h0 | sl_exact h1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iapply (some_rep c _ _); iexact H18
    isplitl [H19]; · iapply (some_rep c _ _); iexact H19
    isplitl [H20]; · iapply (some_rep c _ _); iexact H20
    isplitl [H21]; · iapply (some_rep c _ _); iexact H21
    isplitl [H22]; · iapply (some_rep c _ _); iexact H22
    isplitl [H23]
    · iapply put_rep
      iexists _
      isplitr
      rotate_left
      · iexact H23
      ipureintro
      sl_unfold_words
      exact stored_tile i _ _ _ _ _ x6 _ _ _ _
    isplitl [H24]; · iapply (some_rep c _ _); iexact H24
    iapply (some_rep c _ _); iexact H25

end Cert.Dec.Tile

end
-- ==== Proof.DecRun.lean ====
module

public import proofs.«01_k».proof.Proof.DecBody

/-! The run of the decoding step. From any memory the kernel runs to the end, every argument keeps its contents, and the
new pool states are what the grid points left in them, block by block. Of the other five outputs only their buffers are
followed, not their contents. Stated for every number system `F`. -/

@[expose] public section

set_option maxRecDepth 16384
set_option Elab.async false

noncomputable section

namespace Cert.Dec.Tile

open Cert.Dec Cert.Dec.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pool's rows that point `t` leaves. -/
def poolAt (c : Dev nD) (t : Fin cfg0.N) : S1x15x512.Idx → Elt F .f32 := tile (grid0.coords t) (iblk m c 6 t)

/-- The proof data of the pipeline on core `c`: every input buffer at its block, the pool's buffer at the point's rows, the
    other five outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => Dat.unnamed (cfg := cfg0) (18 : Fin 24) t
    | ⟨19, _⟩ => Dat.unnamed (cfg := cfg0) (19 : Fin 24) t
    | ⟨20, _⟩ => Dat.unnamed (cfg := cfg0) (20 : Fin 24) t
    | ⟨21, _⟩ => Dat.unnamed (cfg := cfg0) (21 : Fin 24) t
    | ⟨22, _⟩ => Dat.unnamed (cfg := cfg0) (22 : Fin 24) t
    | ⟨23, _⟩ => poolAt m c t
    | ⟨_ + 24, h⟩ => absurd h (Nat.not_lt.2 (Nat.le_add_left _ _))
  Φ _ := Pipeline.ΦA spec0 c
  q _ := fullShare
  owed _ := 0

/-- The five outputs whose contents are not followed. -/
def fgt (w : Fin 24) : Bool := match w with
  | ⟨18, _⟩ => true
  | ⟨19, _⟩ => true
  | ⟨20, _⟩ => true
  | ⟨21, _⟩ => true
  | ⟨22, _⟩ => true
  | _ => false

/-- No point is both the first and the last. -/
theorem not_both (t : Fin cfg0.N) : ¬(cond0_0 (grid0.coords t) ∧ cond0_1 (grid0.coords t)) := fun h => by
  have h0 := (hcond0_0 t).mp h.1
  have h1 := (hcond0_1 t).mp h.2
  omega

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d
theorem before6 (c : Dev nD) (t : Fin cfg0.N) (d) : (dats m 0 c).before 6 t d = iblk m c 6 t := before0_6_of m (dats m 0 c) rfl (fun _ => rfl) t d
theorem before7 (c : Dev nD) (t : Fin cfg0.N) (d) : (dats m 0 c).before 7 t d = iblk m c 7 t := before0_7_of m (dats m 0 c) rfl (fun _ => rfl) t d
theorem before8 (c : Dev nD) (t : Fin cfg0.N) (d) : (dats m 0 c).before 8 t d = iblk m c 8 t := before0_8_of m (dats m 0 c) rfl (fun _ => rfl) t d
theorem before9 (c : Dev nD) (t : Fin cfg0.N) (d) : (dats m 0 c).before 9 t d = iblk m c 9 t := before0_9_of m (dats m 0 c) rfl (fun _ => rfl) t d
theorem before10 (c : Dev nD) (t : Fin cfg0.N) (d) : (dats m 0 c).before 10 t d = iblk m c 10 t := before0_10_of m (dats m 0 c) rfl (fun _ => rfl) t d
theorem before11 (c : Dev nD) (t : Fin cfg0.N) (d) : (dats m 0 c).before 11 t d = iblk m c 11 t := before0_11_of m (dats m 0 c) rfl (fun _ => rfl) t d
theorem before12 (c : Dev nD) (t : Fin cfg0.N) (d) : (dats m 0 c).before 12 t d = iblk m c 12 t := before0_12_of m (dats m 0 c) rfl (fun _ => rfl) t d
theorem before13 (c : Dev nD) (t : Fin cfg0.N) (d) : (dats m 0 c).before 13 t d = iblk m c 13 t := before0_13_of m (dats m 0 c) rfl (fun _ => rfl) t d
theorem before14 (c : Dev nD) (t : Fin cfg0.N) (d) : (dats m 0 c).before 14 t d = iblk m c 14 t := before0_14_of m (dats m 0 c) rfl (fun _ => rfl) t d
theorem before15 (c : Dev nD) (t : Fin cfg0.N) (d) : (dats m 0 c).before 15 t d = iblk m c 15 t := before0_15_of m (dats m 0 c) rfl (fun _ => rfl) t d
theorem before16 (c : Dev nD) (t : Fin cfg0.N) (d) : (dats m 0 c).before 16 t d = iblk m c 16 t := before0_16_of m (dats m 0 c) rfl (fun _ => rfl) t d
theorem before17 (c : Dev nD) (t : Fin cfg0.N) (d) : (dats m 0 c).before 17 t d = iblk m c 17 t := before0_17_of m (dats m 0 c) rfl (fun _ => rfl) t d

set_option maxHeartbeats 8000000 in
/-- The body keeps the inputs' blocks and leaves the point's rows, at every point. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d))
        ∗ (∃ d, owns (c : Thread nD τ) (ms0_12 t) fullShare ((dats m 0 c).before 12 t d))
        ∗ (∃ d, owns (c : Thread nD τ) (ms0_13 t) fullShare ((dats m 0 c).before 13 t d))
        ∗ (∃ d, owns (c : Thread nD τ) (ms0_14 t) fullShare ((dats m 0 c).before 14 t d))
        ∗ (∃ d, owns (c : Thread nD τ) (ms0_15 t) fullShare ((dats m 0 c).before 15 t d))
        ∗ (∃ d, owns (c : Thread nD τ) (ms0_16 t) fullShare ((dats m 0 c).before 16 t d))
        ∗ (∃ d, owns (c : Thread nD τ) (ms0_17 t) fullShare ((dats m 0 c).before 17 t d))
        ∗ (∃ X, owns (c : Thread nD τ) (ms0_18 t) fullShare X)
        ∗ (∃ X, owns (c : Thread nD τ) (ms0_19 t) fullShare X)
        ∗ (∃ X, owns (c : Thread nD τ) (ms0_20 t) fullShare X)
        ∗ (∃ X, owns (c : Thread nD τ) (ms0_21 t) fullShare X)
        ∗ (∃ X, owns (c : Thread nD τ) (ms0_22 t) fullShare X)
        ∗ (∃ d, owns (c : Thread nD τ) (ms0_23 t) fullShare ((dats m 0 c).before 23 t d)))
      ⊢ wp frame (wpE (defs₀ (F := F)) Variants.none c none) Set.univ (bodyAt0 t) fun _ =>
          iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t)
        ∗ owns (c : Thread nD τ) (ms0_8 t) fullShare ((dats m 0 c).after 8 t)
        ∗ owns (c : Thread nD τ) (ms0_9 t) fullShare ((dats m 0 c).after 9 t)
        ∗ owns (c : Thread nD τ) (ms0_10 t) fullShare ((dats m 0 c).after 10 t)
        ∗ owns (c : Thread nD τ) (ms0_11 t) fullShare ((dats m 0 c).after 11 t)
        ∗ owns (c : Thread nD τ) (ms0_12 t) fullShare ((dats m 0 c).after 12 t)
        ∗ owns (c : Thread nD τ) (ms0_13 t) fullShare ((dats m 0 c).after 13 t)
        ∗ owns (c : Thread nD τ) (ms0_14 t) fullShare ((dats m 0 c).after 14 t)
        ∗ owns (c : Thread nD τ) (ms0_15 t) fullShare ((dats m 0 c).after 15 t)
        ∗ owns (c : Thread nD τ) (ms0_16 t) fullShare ((dats m 0 c).after 16 t)
        ∗ owns (c : Thread nD τ) (ms0_17 t) fullShare ((dats m 0 c).after 17 t)
        ∗ (∃ X, owns (c : Thread nD τ) (ms0_18 t) fullShare X)
        ∗ (∃ X, owns (c : Thread nD τ) (ms0_19 t) fullShare X)
        ∗ (∃ X, owns (c : Thread nD τ) (ms0_20 t) fullShare X)
        ∗ (∃ X, owns (c : Thread nD τ) (ms0_21 t) fullShare X)
        ∗ (∃ X, owns (c : Thread nD τ) (ms0_22 t) fullShare X)
        ∗ owns (c : Thread nD τ) (ms0_23 t) fullShare ((dats m 0 c).after 23 t)) := by
  simp only [before0, before1, before2, before3, before4, before5, before6, before7, before8, before9, before10, before11, before12, before13, before14, before15, before16, before17]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20, H21, H22, H23⟩
  iapply (wp_body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (not_both t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · icases H23 with ⟨%d, H⟩
    iexists _
    iexact H
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body at that point. -/
theorem row (t : Fin cfg0.N) : defs₀ (F := F) .tc cfg0.body (cfg0.bodyArgs t (cfg0.slots t)) = bodyAt0 t := by
  unfold defs₀; rw [Defs.onTc_tc]

set_option maxHeartbeats 4000000 in
/-- The library's body obligation, at every point. -/
theorem body_obligation (c : Dev nD) : BodyObligation (dats (F := F) m 0 c) (defs₀ (F := F)) Variants.none () Set.univ fgt := fun t => by
  rw [bigSep_W0, bigSep_W0, row]
  exact sound_body m c t

/-! ## The launch -/

set_option backward.isDefEq.respectTransparency.types false in
set_option maxHeartbeats 4000000 in
/-- The launch: every weakly fair execution ends, with every followed array at what the points left in it, every other
    buffer as the region found it and every semaphore counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl) (hQ' := fun _ h => h)

/-! ## What the run leaves -/

/-- The arguments are as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)

theorem args_kept {r : PUnit × MemSt nD τ sig (Elt F)} (h : RDat.FramePost cfg0 (fun c => (dats m 0 c).toRForget fgt) (V m) r) :
    ArgsKept m r := fun c =>
  ⟨(h.arr_in c (0 : Fin 24) rfl).trans (V_main_arg0 m c),
   (h.arr_in c (1 : Fin 24) rfl).trans (V_main_arg1 m c),
   (h.arr_in c (2 : Fin 24) rfl).trans (V_main_arg2 m c),
   (h.arr_in c (3 : Fin 24) rfl).trans (V_main_arg3 m c),
   (h.arr_in c (4 : Fin 24) rfl).trans (V_main_arg4 m c),
   (h.arr_in c (5 : Fin 24) rfl).trans (V_main_arg5 m c),
   (h.arr_in c (6 : Fin 24) rfl).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   (h.arr_in c (9 : Fin 24) rfl).trans (V_main_arg9 m c),
   (h.arr_in c (10 : Fin 24) rfl).trans (V_main_arg10 m c),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   (h.arr_in c (13 : Fin 24) rfl).trans (V_main_arg13 m c),
   ((h c).2 main_arg14 (Pipeline.mem_restRefs_of main_arg14 (by decide) (by decide))).trans (V_main_arg14 m c),
   ((h c).2 main_arg15 (Pipeline.mem_restRefs_of main_arg15 (by decide) (by decide))).trans (V_main_arg15 m c),
   ((h c).2 main_arg16 (Pipeline.mem_restRefs_of main_arg16 (by decide) (by decide))).trans (V_main_arg16 m c),
   (h.arr_in c (17 : Fin 24) rfl).trans (V_main_arg17 m c)⟩

/-- THE FRAME: the kernel runs, its arguments end unchanged, every counter at zero. -/
theorem frame : θ_run defs (onTc (τ := τ) (main (F := F))) ⟨m, fun _ => 0, ρ⟩ (fun r => ArgsKept m r ∧ r.2.sem = fun _ => 0) :=
  (θ_run defs _ _).mono (fun _ h => ⟨args_kept m h.1, h.2⟩) (run_main m ρ)

/-- The new pool states after the run: what the grid points left in them. -/
def outPool (c : Dev nD) : Buf (Elt F) ((c : Thread nD τ).loc main_v7_5) := (dats m 0 c).arrAt (23 : Fin 24) cfg0.N

/-- The run with the new pool states named. -/
theorem run_value : θ_run defs (onTc (τ := τ) (main (F := F))) ⟨m, fun _ => 0, ρ⟩
    (fun r => (∀ c : Dev nD, r.2.mem ((c.tc : Thread nD τ).loc main_v7_5) = outPool m c) ∧ ArgsKept m r) :=
  (θ_run defs _ _).mono (fun r h => ⟨fun c =>
    ((dats m 0 c).toRForget_arrAt_iff (fgt := fgt) (w := (23 : Fin 24)) rfl cfg0.N _).mp ((h.1 c).1 (23 : Fin 24)), args_kept m h.1⟩) (run_main m ρ)

end Cert.Dec.Tile

end
-- ==== Proof.DecOut.lean ====
/-
  The new pool states, element by element: row `j` of sample `s` is row `16 s + 1 + j` of the argument `u`.
-/
module

public import Idealize.ShloMosaic.Lib.Pipeline.ValueKit
public import proofs.«01_k».proof.Proof.DecRun
public import proofs.«01_k».proof.Proof.NextNorm

@[expose] public section

set_option maxRecDepth 16384

noncomputable section

open Idealize.ShloMosaic
open Idealize.ShloMosaic.TcCoe

namespace Cert.Dec.Value

open Cert.Dec Cert.Dec.Gen Cert.Dec.Tile

attribute [local instance] Cert.Dec.Gen.facts

variable (m : (ℓ : Loc nD τ sig) → Buf (Elt Ideal) ℓ) (c : Dev nD)

/-- The mixer's input as launched, as a function to the extended reals. -/
abbrev proj : S66048x512.Idx → EReal := m ((c : Thread nD τ).loc main_arg6)

/-- Point `t`'s coordinate is `t`. -/
theorem crd_val (t : Fin cfg0.N) : (grid0.coords t 0).val = t.val := by
  have h : t.val < 9 := t.isLt
  refine (Pipeline.Grid.coords_val (G := grid0) t 0 (S := 1) (B := 9) (by decide) (by decide)).trans ?_
  omega

theorem word (t : Fin cfg0.N) : (BitVec.ofNat 32 (grid0.coords t 0).val).toNat = t.val := by
  have h : t.val < 9 := t.isLt
  rw [crd_val, BitVec.toNat_ofNat]; omega

/-- The first of the sixteen rows at point `t`. -/
theorem off (t : Fin cfg0.N) : k0_off1 (grid0.coords t) = ![t.val * 16, 0] := by
  have h : t.val < 9 := t.isLt
  unfold k0_off1
  rw [crd_val]
  exact (by decide : ∀ n : Fin 9, (![(Scalar.indexCast (Scalar.muli (BitVec.ofNat 32 n.val) 16#32) : BitVec 32).toNat, (0#32 : BitVec 32).toNat] : Fin 2 → ℕ) = ![n.val * 16, 0]) ⟨t.val, h⟩

/-- The row of the argument that is row `r` of the sixteen at point `t`. -/
def rowOf (t : Fin 9) (r : Fin 16) : Fin 66048 := ⟨t.val * 16 + r.val, by have := t.isLt; have := r.isLt; omega⟩

/-- The block of the mixer's input is its first tile, at every point. -/
theorem blk6 (t : Fin cfg0.N) (r e : Fin 512) :
    (iblk m c 6 t : S512x512.Idx → EReal) (ix2 r e) = proj m c (ix2 (⟨r.val, by have := r.isLt; omega⟩ : Fin 66048) e) := by
  refine (congrFun (V_main_arg6 m c) _).trans (congrArg (proj m c) (funext fun a => Fin.ext ?_))
  refine (Pipeline.Window.rect_emb_val (cfg0.win (6 : Fin 24)) t _ _).trans ?_
  rw [show (cfg0.win (6 : Fin 24)).index t = ![0, 0] from rfl]
  fin_cases a <;> simp

/-- The sixteen rows at point `t`. -/
theorem rows_apply (t : Fin cfg0.N) (r : Fin 16) (e : Fin 512) :
    (rows (F := Ideal) (grid0.coords t) (iblk m c 6 t) : S16x512.Idx → EReal) (ix2 r e) = proj m c (ix2 (rowOf t r) e) := by
  have h : t.val < 9 := t.isLt
  have hr := r.isLt
  unfold rows k0_pay193
  dsimp only
  generalize hX : View.ld (iblk m c 6 t) (Rect.unit (s := S512x512) (k0_off1 (grid0.coords t)) S16x512.size (k0_off1_inb (grid0.coords t))) = X
  refine Eq.trans (b := (X : S16x512.Idx → EReal) (ix2 r e)) ?_ ?_
  · pointwise
  rw [← hX]
  refine (congrArg (iblk m c 6 t : S512x512.Idx → EReal) (a₂ := ix2 (⟨t.val * 16 + r.val, by omega⟩ : Fin 512) e) (funext fun a => Fin.ext ?_)).trans (blk6 m c t _ e)
  have h0 : k0_off1 (grid0.coords t) 0 = t.val * 16 := congrFun (off t) 0
  have h1 : k0_off1 (grid0.coords t) 1 = 0 := congrFun (off t) 1
  fin_cases a
  · show k0_off1 (grid0.coords t) 0 + 1 * r.val = t.val * 16 + r.val
    omega
  · show k0_off1 (grid0.coords t) 1 + 1 * e.val = e.val
    omega

/-- The pool's rows at point `t`. -/
theorem tile_apply (t : Fin cfg0.N) (j : Fin 15) (e : Fin 512) :
    (poolAt m c t : S1x15x512.Idx → EReal) (ix3 0 j e) = proj m c (ix2 (rowOf t ⟨j.val + 1, by have := j.isLt; omega⟩) e) := by
  refine Eq.trans ?_ (rows_apply m c t ⟨j.val + 1, by have := j.isLt; omega⟩ e)
  unfold poolAt tile k0_pay2
  generalize rows (F := Ideal) (grid0.coords t) (iblk m c 6 t) = z
  pointwise

theorem idx23 (t : Fin cfg0.N) : (cfg0.win (23 : Fin 24)).index t = ![t.val, 0, 0] := by
  show (![(BitVec.ofNat 32 (grid0.coords t 0).val).toNat, (0#32 : BitVec 32).toNat, (0#32 : BitVec 32).toNat] : Fin 3 → ℕ) = _
  rw [word]; rfl

/-- The row of the argument that is row `j` of sample `s`'s pool state. -/
def poolRow (s : Fin 9) (j : Fin 15) : Fin 66048 := rowOf s ⟨j.val + 1, by have := j.isLt; omega⟩

/-- The new pool states are rows of the argument. -/
theorem outPool_eq : (outPool m c : S9x15x512.Idx → EReal) = fun i => proj m c (ix2 (poolRow (i 0) (i 1)) (i 2)) := by
  refine (dats m 0 c).arrAt_eq_of_covers (23 : Fin 24) (fun i => proj m c (ix2 (poolRow (i 0) (i 1)) (i 2))) (by decide +kernel) (fun t _ y => ?_)
  obtain ⟨z, j, e, rfl⟩ : ∃ (z : Fin 1) (j : Fin 15) (e : Fin 512), y = (ix3 z j e : S1x15x512.Idx) := ⟨y 0, y 1, y 2, eq_ix3 y⟩
  obtain rfl : z = 0 := Subsingleton.elim _ _
  have e0 : (((cfg0.win (23 : Fin 24)).blk t).view.emb (ix3 0 j e : S1x15x512.Idx) : S9x15x512.Idx) 0 = t := Fin.ext
    ((Pipeline.Window.rect_emb_val (cfg0.win (23 : Fin 24)) t _ _).trans (by rw [idx23]; simp))
  have e1 : (((cfg0.win (23 : Fin 24)).blk t).view.emb (ix3 0 j e : S1x15x512.Idx) : S9x15x512.Idx) 1 = j := Fin.ext
    ((Pipeline.Window.rect_emb_val (cfg0.win (23 : Fin 24)) t _ _).trans (by rw [idx23]; simp))
  have e2 : (((cfg0.win (23 : Fin 24)).blk t).view.emb (ix3 0 j e : S1x15x512.Idx) : S9x15x512.Idx) 2 = e := Fin.ext
    ((Pipeline.Window.rect_emb_val (cfg0.win (23 : Fin 24)) t _ _).trans (by rw [idx23]; simp))
  refine Eq.trans (tile_apply m c t j e) ?_
  show proj m c (ix2 (poolRow t j) e) = proj m c (ix2 (poolRow (_ : Fin 9) (_ : Fin 15)) (_ : Fin 512))
  rw [e0, e1, e2]

end Cert.Dec.Value

end
-- ==== Proof.DecAlgebraic.lean ====
/-
  The decoding step's new pool states and their reference are the same rows of the argument `u`: the reference puts the old
  states before each sample's sixteen rows and takes the fifteen behind the first of these.
-/
module

public import proofs.«01_k».proof.Proof.DecOut
public import proofs.«01_k».proof.Proof.Gen.DecRefIdeal.Run

@[expose] public section

set_option maxRecDepth 16384

noncomputable section

open Idealize.ShloMosaic
open Idealize.ShloMosaic.TcCoe
open Idealize.SL.Sem

namespace Cert.DecAlgebraic

attribute [local instance] Cert.Dec.Gen.facts Cert.DecRefIdeal.Gen.facts

variable (m : (ℓ : Loc Cert.Dec.nD Cert.Dec.τ Cert.Dec.sig) → Buf (Elt Ideal) ℓ)
  (m' : (ℓ : Loc Cert.DecRefIdeal.nD Cert.DecRefIdeal.τ Cert.DecRefIdeal.sig) → Buf (Elt Ideal) ℓ)

/-- The reference is launched with the kernel's arguments. -/
def Agree : Prop := ∀ c : Dev Cert.Dec.nD,
  m' ((c.tc : Thread Cert.DecRefIdeal.nD Cert.DecRefIdeal.τ).loc Cert.DecRefIdeal.main_arg0) = m ((c.tc : Thread Cert.Dec.nD Cert.Dec.τ).loc Cert.Dec.main_arg0)
  ∧ m' ((c.tc : Thread Cert.DecRefIdeal.nD Cert.DecRefIdeal.τ).loc Cert.DecRefIdeal.main_arg1) = m ((c.tc : Thread Cert.Dec.nD Cert.Dec.τ).loc Cert.Dec.main_arg1)
  ∧ m' ((c.tc : Thread Cert.DecRefIdeal.nD Cert.DecRefIdeal.τ).loc Cert.DecRefIdeal.main_arg2) = m ((c.tc : Thread Cert.Dec.nD Cert.Dec.τ).loc Cert.Dec.main_arg2)
  ∧ m' ((c.tc : Thread Cert.DecRefIdeal.nD Cert.DecRefIdeal.τ).loc Cert.DecRefIdeal.main_arg3) = m ((c.tc : Thread Cert.Dec.nD Cert.Dec.τ).loc Cert.Dec.main_arg3)
  ∧ m' ((c.tc : Thread Cert.DecRefIdeal.nD Cert.DecRefIdeal.τ).loc Cert.DecRefIdeal.main_arg4) = m ((c.tc : Thread Cert.Dec.nD Cert.Dec.τ).loc Cert.Dec.main_arg4)
  ∧ m' ((c.tc : Thread Cert.DecRefIdeal.nD Cert.DecRefIdeal.τ).loc Cert.DecRefIdeal.main_arg5) = m ((c.tc : Thread Cert.Dec.nD Cert.Dec.τ).loc Cert.Dec.main_arg5)
  ∧ m' ((c.tc : Thread Cert.DecRefIdeal.nD Cert.DecRefIdeal.τ).loc Cert.DecRefIdeal.main_arg6) = m ((c.tc : Thread Cert.Dec.nD Cert.Dec.τ).loc Cert.Dec.main_arg6)
  ∧ m' ((c.tc : Thread Cert.DecRefIdeal.nD Cert.DecRefIdeal.τ).loc Cert.DecRefIdeal.main_arg7) = m ((c.tc : Thread Cert.Dec.nD Cert.Dec.τ).loc Cert.Dec.main_arg7)
  ∧ m' ((c.tc : Thread Cert.DecRefIdeal.nD Cert.DecRefIdeal.τ).loc Cert.DecRefIdeal.main_arg8) = m ((c.tc : Thread Cert.Dec.nD Cert.Dec.τ).loc Cert.Dec.main_arg8)
  ∧ m' ((c.tc : Thread Cert.DecRefIdeal.nD Cert.DecRefIdeal.τ).loc Cert.DecRefIdeal.main_arg9) = m ((c.tc : Thread Cert.Dec.nD Cert.Dec.τ).loc Cert.Dec.main_arg9)
  ∧ m' ((c.tc : Thread Cert.DecRefIdeal.nD Cert.DecRefIdeal.τ).loc Cert.DecRefIdeal.main_arg10) = m ((c.tc : Thread Cert.Dec.nD Cert.Dec.τ).loc Cert.Dec.main_arg10)
  ∧ m' ((c.tc : Thread Cert.DecRefIdeal.nD Cert.DecRefIdeal.τ).loc Cert.DecRefIdeal.main_arg11) = m ((c.tc : Thread Cert.Dec.nD Cert.Dec.τ).loc Cert.Dec.main_arg11)
  ∧ m' ((c.tc : Thread Cert.DecRefIdeal.nD Cert.DecRefIdeal.τ).loc Cert.DecRefIdeal.main_arg12) = m ((c.tc : Thread Cert.Dec.nD Cert.Dec.τ).loc Cert.Dec.main_arg12)
  ∧ m' ((c.tc : Thread Cert.DecRefIdeal.nD Cert.DecRefIdeal.τ).loc Cert.DecRefIdeal.main_arg13) = m ((c.tc : Thread Cert.Dec.nD Cert.Dec.τ).loc Cert.Dec.main_arg13)
  ∧ m' ((c.tc : Thread Cert.DecRefIdeal.nD Cert.DecRefIdeal.τ).loc Cert.DecRefIdeal.main_arg14) = m ((c.tc : Thread Cert.Dec.nD Cert.Dec.τ).loc Cert.Dec.main_arg14)
  ∧ m' ((c.tc : Thread Cert.DecRefIdeal.nD Cert.DecRefIdeal.τ).loc Cert.DecRefIdeal.main_arg15) = m ((c.tc : Thread Cert.Dec.nD Cert.Dec.τ).loc Cert.Dec.main_arg15)
  ∧ m' ((c.tc : Thread Cert.DecRefIdeal.nD Cert.DecRefIdeal.τ).loc Cert.DecRefIdeal.main_arg16) = m ((c.tc : Thread Cert.Dec.nD Cert.Dec.τ).loc Cert.Dec.main_arg16)
  ∧ m' ((c.tc : Thread Cert.DecRefIdeal.nD Cert.DecRefIdeal.τ).loc Cert.DecRefIdeal.main_arg17) = m ((c.tc : Thread Cert.Dec.nD Cert.Dec.τ).loc Cert.Dec.main_arg17)

open Cert.DecRefIdeal
open Cert.Dec.Value (proj poolRow)

/-- The rows the reference takes, element by element: they lie in the second part of the joined rows. -/
theorem taken_apply (a : S9x15x512.Idx → EReal) (u : S66048x512.Idx → EReal) (h h' hc hcat) (s : Fin 9) (j : Fin 15) (e : Fin 512) :
    (extractStridedSlice S9x15x512 ![0, 16, 0] (concatenate S9x31x512 1 [⟨S9x15x512, a⟩,
      ⟨S9x16x512, shapeCast S9x16x512 (extractStridedSlice S144x512 ![0, 0] u h') hc⟩] hcat) h : S9x15x512.Idx → EReal) (ix3 s j e)
      = u (ix2 (poolRow s j) e) := by
  pointwise
  refine (dif_neg (by omega)).trans (congrArg (fun r => u (ix2 r e)) (Fin.ext ?_))
  show s.val * 16 + (16 + j.val - 15) = s.val * 16 + (j.val + 1)
  omega

theorem pool_out (c : Dev Cert.Dec.nD) (a : S9x15x512.Idx → EReal) (h h' hc hcat) :
    (extractStridedSlice S9x15x512 ![0, 16, 0] (concatenate S9x31x512 1 [⟨S9x15x512, a⟩,
      ⟨S9x16x512, shapeCast S9x16x512 (extractStridedSlice S144x512 ![0, 0] (proj m c) h') hc⟩] hcat) h : S9x15x512.Idx → EReal)
      = Cert.Dec.Tile.outPool m c := by
  rw [Cert.Dec.Value.outPool_eq]
  funext i
  obtain ⟨s, j, e, rfl⟩ : ∃ (s : Fin 9) (j : Fin 15) (e : Fin 512), i = ix3 s j e := ⟨i 0, i 1, i 2, eq_ix3 i⟩
  exact taken_apply a (proj m c) h h' hc hcat s j e

set_option maxHeartbeats 4000000 in
/-- The reference's run, with its result named by the kernel's. -/
theorem ref_run (ha : Agree m m') (ρ : Dev Cert.DecRefIdeal.nD → PrngReg) :
    θ_run Cert.DecRefIdeal.defs (onTc (τ := Cert.DecRefIdeal.τ) (Cert.DecRefIdeal.main (F := Ideal))) ⟨m', fun _ => 0, ρ⟩ fun r => ∀ c : Dev Cert.DecRefIdeal.nD,
      r.2.mem ((c.tc : Thread Cert.DecRefIdeal.nD Cert.DecRefIdeal.τ).loc Cert.DecRefIdeal.main_v7) = Cert.Dec.Tile.outPool m c
      ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m' ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m' ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m' ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m' ((c.tc : Thread Cert.DecRefIdeal.nD Cert.DecRefIdeal.τ).loc Cert.DecRefIdeal.main_arg8)
      ∧ r.2.mem ((c.tc : Thread Cert.DecRefIdeal.nD Cert.DecRefIdeal.τ).loc Cert.DecRefIdeal.main_arg9) = m' ((c.tc : Thread Cert.DecRefIdeal.nD Cert.DecRefIdeal.τ).loc Cert.DecRefIdeal.main_arg9)
      ∧ r.2.mem ((c.tc : Thread Cert.DecRefIdeal.nD Cert.DecRefIdeal.τ).loc Cert.DecRefIdeal.main_arg10) = m' ((c.tc : Thread Cert.DecRefIdeal.nD Cert.DecRefIdeal.τ).loc Cert.DecRefIdeal.main_arg10)
      ∧ r.2.mem ((c.tc : Thread Cert.DecRefIdeal.nD Cert.DecRefIdeal.τ).loc Cert.DecRefIdeal.main_arg11) = m' ((c.tc : Thread Cert.DecRefIdeal.nD Cert.DecRefIdeal.τ).loc Cert.DecRefIdeal.main_arg11)
      ∧ r.2.mem ((c.tc : Thread Cert.DecRefIdeal.nD Cert.DecRefIdeal.τ).loc Cert.DecRefIdeal.main_arg12) = m' ((c.tc : Thread Cert.DecRefIdeal.nD Cert.DecRefIdeal.τ).loc Cert.DecRefIdeal.main_arg12)
      ∧ r.2.mem ((c.tc : Thread Cert.DecRefIdeal.nD Cert.DecRefIdeal.τ).loc Cert.DecRefIdeal.main_arg13) = m' ((c.tc : Thread Cert.DecRefIdeal.nD Cert.DecRefIdeal.τ).loc Cert.DecRefIdeal.main_arg13)
      ∧ r.2.mem ((c.tc : Thread Cert.DecRefIdeal.nD Cert.DecRefIdeal.τ).loc Cert.DecRefIdeal.main_arg14) = m' ((c.tc : Thread Cert.DecRefIdeal.nD Cert.DecRefIdeal.τ).loc Cert.DecRefIdeal.main_arg14)
      ∧ r.2.mem ((c.tc : Thread Cert.DecRefIdeal.nD Cert.DecRefIdeal.τ).loc Cert.DecRefIdeal.main_arg15) = m' ((c.tc : Thread Cert.DecRefIdeal.nD Cert.DecRefIdeal.τ).loc Cert.DecRefIdeal.main_arg15)
      ∧ r.2.mem ((c.tc : Thread Cert.DecRefIdeal.nD Cert.DecRefIdeal.τ).loc Cert.DecRefIdeal.main_arg16) = m' ((c.tc : Thread Cert.DecRefIdeal.nD Cert.DecRefIdeal.τ).loc Cert.DecRefIdeal.main_arg16)
      ∧ r.2.mem ((c.tc : Thread Cert.DecRefIdeal.nD Cert.DecRefIdeal.τ).loc Cert.DecRefIdeal.main_arg17) = m' ((c.tc : Thread Cert.DecRefIdeal.nD Cert.DecRefIdeal.τ).loc Cert.DecRefIdeal.main_arg17) := by
  refine (θ_run Cert.DecRefIdeal.defs _ _).mono (fun r hr c => ?_) (Cert.DecRefIdeal.Value.run m' ρ)
  obtain ⟨h0, h1, h2, h3, h4, h5, h6, -⟩ := ha c
  obtain ⟨hp, hargs⟩ := hr c
  rw [h6] at hp
  exact ⟨hp.trans (pool_out m c _ _ _ _ _), hargs⟩

end Cert.DecAlgebraic

end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.MoeRefIdeal.Run
public import proofs.«01_k».proof.Proof.Gen.Tail
public import proofs.«01_k».proof.Proof.Gen.Tail.Skeleton
public import proofs.«01_k».proof.Proof.Gen.Tail.Launch
public import proofs.«01_k».proof.Proof.Gen.TailIdeal
public import proofs.«01_k».proof.Proof.Gen.TailIdeal.Skeleton
public import proofs.«01_k».proof.Proof.Gen.TailIdeal.Launch
public import proofs.«01_k».proof.Proof.Gen.TailRefIdeal
public import proofs.«01_k».proof.Proof.Gen.TailRefIdeal.Run
public import proofs.«01_k».proof.Proof.Gen.Proj
public import proofs.«01_k».proof.Proof.Gen.Proj.Skeleton
public import proofs.«01_k».proof.Proof.Gen.Proj.Launch
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjRefIdeal
public import proofs.«01_k».proof.Proof.Gen.ProjRefIdeal.Run
public import proofs.«01_k».proof.Proof.Gen.Next
public import proofs.«01_k».proof.Proof.Gen.Next.Skeleton
public import proofs.«01_k».proof.Proof.Gen.Next.Launch
public import proofs.«01_k».proof.Proof.Gen.NextIdeal
public import proofs.«01_k».proof.Proof.Gen.NextIdeal.Skeleton
public import proofs.«01_k».proof.Proof.Gen.NextIdeal.Launch
public import proofs.«01_k».proof.Proof.Gen.NextRefIdeal
public import proofs.«01_k».proof.Proof.Gen.NextRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Dec
public import proofs.«01_k».proof.Proof.Gen.Dec.Skeleton
public import proofs.«01_k».proof.Proof.Gen.Dec.Launch
public import proofs.«01_k».proof.Proof.Gen.DecIdeal
public import proofs.«01_k».proof.Proof.Gen.DecIdeal.Skeleton
public import proofs.«01_k».proof.Proof.Gen.DecIdeal.Launch
public import proofs.«01_k».proof.Proof.Gen.DecRefIdeal
public import proofs.«01_k».proof.Proof.Gen.DecRefIdeal.Run
public import proofs.«01_k».proof.Proof.Gen.Pre_tables_in_range
public import proofs.«01_k».proof.Proof.Gen.Pre_tables_and_gates
public import proofs.«01_k».proof.Proof.MoeFrame
public import proofs.«01_k».proof.Proof.MoePre
public import proofs.«01_k».proof.Proof.MoeSame
public import proofs.«01_k».proof.Proof.MoeAlgebraic
public import proofs.«01_k».proof.Proof.TailSame
public import proofs.«01_k».proof.Proof.TailAlgebraic
public import proofs.«01_k».proof.Proof.ProjSame
public import proofs.«01_k».proof.Proof.ProjAlgebraic
public import proofs.«01_k».proof.Proof.NextSame
public import proofs.«01_k».proof.Proof.NextAlgebraic
public import proofs.«01_k».proof.Proof.MixAlgebraic
public import proofs.«01_k».proof.Proof.DecSame
public import proofs.«01_k».proof.Proof.DecAlgebraic
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Moe.Gen.facts Cert.MoeIdeal.Gen.facts Cert.MoeRefIdeal.Gen.facts
  Cert.Tail.Gen.facts Cert.TailIdeal.Gen.facts Cert.TailRefIdeal.Gen.facts
  Cert.Proj.Gen.facts Cert.ProjIdeal.Gen.facts Cert.ProjRefIdeal.Gen.facts
  Cert.Next.Gen.facts Cert.NextIdeal.Gen.facts Cert.NextRefIdeal.Gen.facts
  Cert.Mix.Gen.facts Cert.MixIdeal.Gen.facts Cert.MixRefIdeal.Gen.facts
  Cert.Dec.Gen.facts Cert.DecIdeal.Gen.facts Cert.DecRefIdeal.Gen.facts Cert.Pre_tables_in_range.Gen.facts Cert.Pre_tables_and_gates.Gen.facts

/-- The kernel's frame. -/
theorem frame_moe : Cert.quiescent_Moe := fun m g h => Cert.Moe.Tile.frame m g (Cert.Moe.Pre.tables_of_range m h)

/-- The idealized kernel's frame: its program is the kernel's, in extended reals. -/
theorem frame_ideal : Cert.quiescent_MoeIdeal := fun m g h => by
  rw [Cert.MoeSame.run_eq]
  exact Cert.Moe.Tile.frame (F := Ideal) m g (Cert.Moe.Pre.tables_of_range m h)

theorem frame_ideal_gates : Cert.quiescent_MoeIdeal_pre_tables_and_gates := fun m g h => by
  rw [Cert.MoeSame.run_eq]
  exact Cert.Moe.Tile.frame (F := Ideal) m g (Cert.Moe.Pre.tables_of_gates m h)

/-- The reference's run with its arguments kept; it declares no semaphore, so no counter can be off zero. -/
theorem frame_ref : Cert.quiescent_MoeRefIdeal := fun m g _ => (θ_run Cert.MoeRefIdeal.defs _ _).mono
  (fun r h => ⟨fun c => (h c).2, sem_eq_zero_of_no_sems (by rfl) r.2⟩) (Cert.MoeRefIdeal.Value.run m g)

theorem frame_ref_gates : Cert.quiescent_MoeRefIdeal_pre_tables_and_gates := fun m g _ => (θ_run Cert.MoeRefIdeal.defs _ _).mono
  (fun r h => ⟨fun c => (h c).2, sem_eq_zero_of_no_sems (by rfl) r.2⟩) (Cert.MoeRefIdeal.Value.run m g)

/-- The kernel's result is the reference's, the gates being nonnegative and finite. -/
theorem algebraic : Cert.algebraic_MoeIdeal_MoeRefIdeal_pre_tables_and_gates := fun m g m' g' h ha => by
  have hT := Cert.Moe.Pre.tables_of_gates m h
  refine ⟨fun c => Cert.Moe.Tile.out m hT c, ?_, ?_⟩
  · rw [Cert.MoeSame.run_eq]
    exact (θ_run Cert.Moe.defs _ _).mono (fun r hr c => ⟨hr.1 c, hr.2 c⟩) (Cert.Moe.Tile.run_value (F := Ideal) m g hT)
  · exact (θ_run Cert.MoeRefIdeal.defs _ _).mono
      (fun r hr c => ⟨(hr c).1.trans (Cert.MoeAlgebraic.result_out m m' ha h c), (hr c).2⟩)
      (Cert.MoeRefIdeal.Value.run_value m' g' (Cert.MoeAlgebraic.args_ok m m' ha h))

/-- The final normalization's frame. -/
theorem frame_tail : Cert.quiescent_Tail := fun m g _ => Cert.Tail.Tile.frame m g

/-- The idealized one's frame: its program is the same, in extended reals. -/
theorem frame_tail_ideal : Cert.quiescent_TailIdeal := fun m g _ => by
  rw [Cert.TailSame.run_eq]
  exact Cert.Tail.Tile.frame (F := Ideal) m g

theorem frame_tail_ref : Cert.quiescent_TailRefIdeal := fun m g _ => (θ_run Cert.TailRefIdeal.defs _ _).mono
  (fun r h => ⟨fun c => (h c).2.2, sem_eq_zero_of_no_sems (by rfl) r.2⟩) (Cert.TailRefIdeal.Value.run m g)

/-- The final normalization's two results are its reference's. -/
theorem algebraic_tail : Cert.algebraic_TailIdeal_TailRefIdeal := fun m g m' g' _ ha => by
  refine ⟨fun c => Cert.Tail.Tile.outFrames m c, fun c => Cert.Tail.Tile.outExtra m c, ?_, ?_⟩
  · rw [Cert.TailSame.run_eq]
    exact (θ_run Cert.Tail.defs _ _).mono (fun r hr c => ⟨(hr.1 c).1, (hr.1 c).2, hr.2 c⟩) (Cert.Tail.Tile.run_value (F := Ideal) m g)
  · exact Cert.TailAlgebraic.ref_run m m' ha g'

/-- The first projection's frame. -/
theorem frame_proj : Cert.quiescent_Proj := fun m g _ => Cert.Proj.Tile.frame m g

/-- The idealized one's frame: its program is the same, in extended reals. -/
theorem frame_proj_ideal : Cert.quiescent_ProjIdeal := fun m g _ => by
  rw [Cert.ProjSame.run_eq]
  exact Cert.Proj.Tile.frame (F := Ideal) m g

theorem frame_proj_ref : Cert.quiescent_ProjRefIdeal := fun m g _ => (θ_run Cert.ProjRefIdeal.defs _ _).mono
  (fun r h => ⟨fun c => (h c).2.2.2.2.2.2.2.2.2, sem_eq_zero_of_no_sems (by rfl) r.2⟩) (Cert.ProjRefIdeal.Value.run m g)

/-- The first projection's nine results are its reference's. -/
theorem algebraic_proj : Cert.algebraic_ProjIdeal_ProjRefIdeal := fun m g m' g' _ ha => by
  refine ⟨fun c => Cert.Proj.Tile.outH m c, fun c => Cert.Proj.Tile.outQ m c, fun c => Cert.Proj.Tile.outU m c, fun c => Cert.Proj.Tile.outKb m c, fun c => Cert.Proj.Tile.outVb m c, fun c => Cert.Proj.Tile.outK m c, fun c => Cert.Proj.Tile.outV m c, fun c => Cert.Proj.Tile.outKx m c, fun c => Cert.Proj.Tile.outVx m c, ?_, ?_⟩
  · rw [Cert.ProjSame.run_eq]
    exact (θ_run Cert.Proj.defs _ _).mono
      (fun r hr c => ⟨(hr.1 c).1, (hr.1 c).2.1, (hr.1 c).2.2.1, (hr.1 c).2.2.2.1, (hr.1 c).2.2.2.2.1, (hr.1 c).2.2.2.2.2.1, (hr.1 c).2.2.2.2.2.2.1, (hr.1 c).2.2.2.2.2.2.2.1, (hr.1 c).2.2.2.2.2.2.2.2, hr.2 c⟩)
      (Cert.Proj.Tile.run_value (F := Ideal) m g)
  · exact Cert.ProjAlgebraic.ref_run m m' ha g'

/-- The second projection's frame. -/
theorem frame_next : Cert.quiescent_Next := fun m g _ => Cert.Next.Tile.frame m g

/-- The idealized one's frame: its program is the same, in extended reals. -/
theorem frame_next_ideal : Cert.quiescent_NextIdeal := fun m g _ => by
  rw [Cert.NextSame.run_eq]
  exact Cert.Next.Tile.frame (F := Ideal) m g

theorem frame_next_ref : Cert.quiescent_NextRefIdeal := fun m g _ => (θ_run Cert.NextRefIdeal.defs _ _).mono
  (fun r h => ⟨fun c => (h c).2.2.2.2.2.2.2.2.2.2.2.2.2.2, sem_eq_zero_of_no_sems (by rfl) r.2⟩) (Cert.NextRefIdeal.Value.run m g)

/-- The second projection's fourteen results, five of them made behind the launch, are its reference's. -/
theorem algebraic_next : Cert.algebraic_NextIdeal_NextRefIdeal := fun m g m' g' _ ha => by
  refine ⟨fun c => Cert.Next.Tile.outH m c, fun c => Cert.Next.Tile.outQ m c, fun c => Cert.Next.Tile.outU m c, fun c => Cert.Next.Tile.outKb m c, fun c => Cert.Next.Tile.outVb m c, fun c => Cert.Next.Tile.outK m c, fun c => Cert.Next.Tile.outV m c, fun c => Cert.Next.Tile.outKx m c, fun c => Cert.Next.Tile.outVx m c, fun c => Cert.Next.Tile.outKp m c, fun c => Cert.Next.Tile.outVp m c, fun c => Cert.Next.Tile.outPool m c, fun c => Cert.Next.Tile.outKs m c, fun c => Cert.Next.Tile.outVs m c, ?_, ?_⟩
  · rw [Cert.NextSame.run_eq]
    exact (θ_run Cert.Next.defs _ _).mono
      (fun r hr c => ⟨(hr.1 c).1, (hr.1 c).2.1, (hr.1 c).2.2.1, (hr.1 c).2.2.2.1, (hr.1 c).2.2.2.2.1, (hr.1 c).2.2.2.2.2.1, (hr.1 c).2.2.2.2.2.2.1, (hr.1 c).2.2.2.2.2.2.2.1, (hr.1 c).2.2.2.2.2.2.2.2.1, (hr.1 c).2.2.2.2.2.2.2.2.2.1, (hr.1 c).2.2.2.2.2.2.2.2.2.2.1, (hr.1 c).2.2.2.2.2.2.2.2.2.2.2.1, (hr.1 c).2.2.2.2.2.2.2.2.2.2.2.2.1, (hr.1 c).2.2.2.2.2.2.2.2.2.2.2.2.2, hr.2 c⟩)
      (Cert.Next.Tile.run_value (F := Ideal) m g)
  · exact Cert.NextAlgebraic.ref_run m m' ha g'

/-- The mixer's frame. -/
theorem frame_mix : Cert.quiescent_Mix := fun m g _ => Cert.Mix.Gen.frame m g

/-- The idealized one's frame. -/
theorem frame_mix_ideal : Cert.quiescent_MixIdeal := fun m g _ => Cert.MixIdeal.Gen.frame m g

theorem frame_mix_ref : Cert.quiescent_MixRefIdeal := fun m g _ => (θ_run Cert.MixRefIdeal.defs _ _).mono
  (fun r h => ⟨fun c => (h c).2.2, sem_eq_zero_of_no_sems (by rfl) r.2⟩) (Cert.MixRefIdeal.Value.run m g)

/-- The mixer's two results, the residual rows in float32 and in bf16, are its reference's. -/
theorem algebraic_mix : Cert.algebraic_MixIdeal_MixRefIdeal := fun m g m' g' _ ha => by
  refine ⟨fun c => Cert.MixAlgebraic.out m c, fun c => Cert.MixAlgebraic.outNarrow m c, ?_, ?_⟩
  · exact (θ_run Cert.MixIdeal.defs _ _).mono
      (fun r hr c => ⟨(hr c).1, (hr c).2.1, (hr c).2.2.2.2.2⟩) (Cert.MixIdeal.Value.run_blocks m g)
  · exact Cert.MixAlgebraic.ref_run m m' ha g'

/-- The decoding step's frame. -/
theorem frame_dec : Cert.quiescent_Dec := fun m g _ => Cert.Dec.Tile.frame m g

/-- The idealized one's frame: its program is the same, in extended reals. -/
theorem frame_dec_ideal : Cert.quiescent_DecIdeal := fun m g _ => by
  rw [Cert.DecSame.run_eq]
  exact Cert.Dec.Tile.frame (F := Ideal) m g

theorem frame_dec_ref : Cert.quiescent_DecRefIdeal := fun m g _ => (θ_run Cert.DecRefIdeal.defs _ _).mono
  (fun r h => ⟨fun c => (h c).2, sem_eq_zero_of_no_sems (by rfl) r.2⟩) (Cert.DecRefIdeal.Value.run m g)

/-- The new pool states are the reference's. -/
theorem algebraic_dec : Cert.algebraic_DecIdeal_DecRefIdeal := fun m g m' g' _ ha => by
  refine ⟨fun c => Cert.Dec.Tile.outPool m c, ?_, ?_⟩
  · rw [Cert.DecSame.run_eq]
    exact (θ_run Cert.Dec.defs _ _).mono (fun r hr c => ⟨hr.1 c, hr.2 c⟩) (Cert.Dec.Tile.run_value (F := Ideal) m g)
  · exact Cert.DecAlgebraic.ref_run m m' ha g'

theorem claim : Cert.Claim := ⟨Cert.Moe.Gen.facts, Cert.MoeIdeal.Gen.facts, Cert.MoeRefIdeal.Gen.facts, Cert.Tail.Gen.facts, Cert.TailIdeal.Gen.facts, Cert.TailRefIdeal.Gen.facts,
  Cert.Proj.Gen.facts, Cert.ProjIdeal.Gen.facts, Cert.ProjRefIdeal.Gen.facts, Cert.Next.Gen.facts, Cert.NextIdeal.Gen.facts, Cert.NextRefIdeal.Gen.facts,
  Cert.Mix.Gen.facts, Cert.MixIdeal.Gen.facts, Cert.MixRefIdeal.Gen.facts,
  Cert.Dec.Gen.facts, Cert.DecIdeal.Gen.facts, Cert.DecRefIdeal.Gen.facts, Cert.Pre_tables_in_range.Gen.facts, Cert.Pre_tables_and_gates.Gen.facts,
  frame_moe, frame_ideal, frame_ideal_gates, frame_ref, frame_ref_gates, frame_tail, frame_tail_ideal, frame_tail_ref, frame_proj, frame_proj_ideal, frame_proj_ref,
  frame_next, frame_next_ideal, frame_next_ref, frame_mix, frame_mix_ideal, frame_mix_ref,
  frame_dec, frame_dec_ideal, frame_dec_ref,
  trivial, algebraic, trivial, algebraic_tail, trivial, algebraic_proj, trivial, algebraic_next, trivial, algebraic_mix, trivial, algebraic_dec⟩

end Cert.Proof

end
